-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)) (v5 : (c : Dev Cert.KernelIdeal.nD) → Buf (Elt Ideal) ((c.tc : Thread Cert.KernelIdeal.nD Cert.KernelIdeal.τ).loc Cert.KernelIdeal.main_v58_5)) (v6 : (c : Dev Cert.KernelIdeal.nD) → Buf (Elt Ideal) ((c.tc : Thread Cert.KernelIdeal.nD Cert.KernelIdeal.τ).loc Cert.KernelIdeal.main_v58_6)) (v7 : (c : Dev Cert.KernelIdeal.nD) → Buf (Elt Ideal) ((c.tc : Thread Cert.KernelIdeal.nD Cert.KernelIdeal.τ).loc Cert.KernelIdeal.main_v58_7)) (v8 : (c : Dev Cert.KernelIdeal.nD) → Buf (Elt Ideal) ((c.tc : Thread Cert.KernelIdeal.nD Cert.KernelIdeal.τ).loc Cert.KernelIdeal.main_v58_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_v58_5) = v5 c
          ∧ r.2.mem ((c.tc : Thread Cert.KernelIdeal.nD Cert.KernelIdeal.τ).loc Cert.KernelIdeal.main_v58_6) = v6 c
          ∧ r.2.mem ((c.tc : Thread Cert.KernelIdeal.nD Cert.KernelIdeal.τ).loc Cert.KernelIdeal.main_v58_7) = v7 c
          ∧ r.2.mem ((c.tc : Thread Cert.KernelIdeal.nD Cert.KernelIdeal.τ).loc Cert.KernelIdeal.main_v58_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_v173) = v4 c
          ∧ r.2.mem ((c.tc : Thread Cert.ReferenceIdeal.nD Cert.ReferenceIdeal.τ).loc Cert.ReferenceIdeal.main_v150) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_v174) = v7 c
          ∧ r.2.mem ((c.tc : Thread Cert.ReferenceIdeal.nD Cert.ReferenceIdeal.τ).loc Cert.ReferenceIdeal.main_v176) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v110) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v105) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)) (v10 : (c : Dev Cert.Kernel4Ideal.nD) → Buf (Elt Ideal) ((c.tc : Thread Cert.Kernel4Ideal.nD Cert.Kernel4Ideal.τ).loc Cert.Kernel4Ideal.main_v0_10)) (v11 : (c : Dev Cert.Kernel4Ideal.nD) → Buf (Elt Ideal) ((c.tc : Thread Cert.Kernel4Ideal.nD Cert.Kernel4Ideal.τ).loc Cert.Kernel4Ideal.main_v0_11)) (v12 : (c : Dev Cert.Kernel4Ideal.nD) → Buf (Elt Ideal) ((c.tc : Thread Cert.Kernel4Ideal.nD Cert.Kernel4Ideal.τ).loc Cert.Kernel4Ideal.main_v0_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_v0_10) = v10 c
          ∧ r.2.mem ((c.tc : Thread Cert.Kernel4Ideal.nD Cert.Kernel4Ideal.τ).loc Cert.Kernel4Ideal.main_v0_11) = v11 c
          ∧ r.2.mem ((c.tc : Thread Cert.Kernel4Ideal.nD Cert.Kernel4Ideal.τ).loc Cert.Kernel4Ideal.main_v0_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_arg0) = v0 c
          ∧ r.2.mem ((c.tc : Thread Cert.Reference4Ideal.nD Cert.Reference4Ideal.τ).loc Cert.Reference4Ideal.main_arg1) = v1 c
          ∧ r.2.mem ((c.tc : Thread Cert.Reference4Ideal.nD Cert.Reference4Ideal.τ).loc Cert.Reference4Ideal.main_v2) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_v74) = v5 c
          ∧ r.2.mem ((c.tc : Thread Cert.Reference4Ideal.nD Cert.Reference4Ideal.τ).loc Cert.Reference4Ideal.main_v7) = v6 c
          ∧ r.2.mem ((c.tc : Thread Cert.Reference4Ideal.nD Cert.Reference4Ideal.τ).loc Cert.Reference4Ideal.main_v31) = v7 c
          ∧ r.2.mem ((c.tc : Thread Cert.Reference4Ideal.nD Cert.Reference4Ideal.τ).loc Cert.Reference4Ideal.main_v55) = v8 c
          ∧ r.2.mem ((c.tc : Thread Cert.Reference4Ideal.nD Cert.Reference4Ideal.τ).loc Cert.Reference4Ideal.main_v13) = v9 c
          ∧ r.2.mem ((c.tc : Thread Cert.Reference4Ideal.nD Cert.Reference4Ideal.τ).loc Cert.Reference4Ideal.main_v37) = v10 c
          ∧ r.2.mem ((c.tc : Thread Cert.Reference4Ideal.nD Cert.Reference4Ideal.τ).loc Cert.Reference4Ideal.main_v61) = v11 c
          ∧ r.2.mem ((c.tc : Thread Cert.Reference4Ideal.nD Cert.Reference4Ideal.τ).loc Cert.Reference4Ideal.main_v78) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)) (v10 : (c : Dev Cert.Kernel5Ideal.nD) → Buf (Elt Ideal) ((c.tc : Thread Cert.Kernel5Ideal.nD Cert.Kernel5Ideal.τ).loc Cert.Kernel5Ideal.main_v0_10)) (v11 : (c : Dev Cert.Kernel5Ideal.nD) → Buf (Elt Ideal) ((c.tc : Thread Cert.Kernel5Ideal.nD Cert.Kernel5Ideal.τ).loc Cert.Kernel5Ideal.main_v0_11)) (v12 : (c : Dev Cert.Kernel5Ideal.nD) → Buf (Elt Ideal) ((c.tc : Thread Cert.Kernel5Ideal.nD Cert.Kernel5Ideal.τ).loc Cert.Kernel5Ideal.main_v0_12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_v0_10) = v10 c
          ∧ r.2.mem ((c.tc : Thread Cert.Kernel5Ideal.nD Cert.Kernel5Ideal.τ).loc Cert.Kernel5Ideal.main_v0_11) = v11 c
          ∧ r.2.mem ((c.tc : Thread Cert.Kernel5Ideal.nD Cert.Kernel5Ideal.τ).loc Cert.Kernel5Ideal.main_v0_12) = v12 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg0) = v0 c
          ∧ r.2.mem ((c.tc : Thread Cert.Reference5Ideal.nD Cert.Reference5Ideal.τ).loc Cert.Reference5Ideal.main_arg1) = v1 c
          ∧ r.2.mem ((c.tc : Thread Cert.Reference5Ideal.nD Cert.Reference5Ideal.τ).loc Cert.Reference5Ideal.main_v2) = v2 c
          ∧ r.2.mem ((c.tc : Thread Cert.Reference5Ideal.nD Cert.Reference5Ideal.τ).loc Cert.Reference5Ideal.main_v26) = v3 c
          ∧ r.2.mem ((c.tc : Thread Cert.Reference5Ideal.nD Cert.Reference5Ideal.τ).loc Cert.Reference5Ideal.main_v50) = v4 c
          ∧ r.2.mem ((c.tc : Thread Cert.Reference5Ideal.nD Cert.Reference5Ideal.τ).loc Cert.Reference5Ideal.main_v74) = v5 c
          ∧ r.2.mem ((c.tc : Thread Cert.Reference5Ideal.nD Cert.Reference5Ideal.τ).loc Cert.Reference5Ideal.main_v7) = v6 c
          ∧ r.2.mem ((c.tc : Thread Cert.Reference5Ideal.nD Cert.Reference5Ideal.τ).loc Cert.Reference5Ideal.main_v31) = v7 c
          ∧ r.2.mem ((c.tc : Thread Cert.Reference5Ideal.nD Cert.Reference5Ideal.τ).loc Cert.Reference5Ideal.main_v55) = v8 c
          ∧ r.2.mem ((c.tc : Thread Cert.Reference5Ideal.nD Cert.Reference5Ideal.τ).loc Cert.Reference5Ideal.main_v13) = v9 c
          ∧ r.2.mem ((c.tc : Thread Cert.Reference5Ideal.nD Cert.Reference5Ideal.τ).loc Cert.Reference5Ideal.main_v37) = v10 c
          ∧ r.2.mem ((c.tc : Thread Cert.Reference5Ideal.nD Cert.Reference5Ideal.τ).loc Cert.Reference5Ideal.main_v61) = v11 c
          ∧ r.2.mem ((c.tc : Thread Cert.Reference5Ideal.nD Cert.Reference5Ideal.τ).loc Cert.Reference5Ideal.main_v78) = v12 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)) (v12 : (c : Dev Cert.Kernel6Ideal.nD) → Buf (Elt Ideal) ((c.tc : Thread Cert.Kernel6Ideal.nD Cert.Kernel6Ideal.τ).loc Cert.Kernel6Ideal.main_v0_12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_v0_12) = v12 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg0) = v0 c
          ∧ r.2.mem ((c.tc : Thread Cert.Reference6Ideal.nD Cert.Reference6Ideal.τ).loc Cert.Reference6Ideal.main_arg1) = v1 c
          ∧ r.2.mem ((c.tc : Thread Cert.Reference6Ideal.nD Cert.Reference6Ideal.τ).loc Cert.Reference6Ideal.main_v2) = v2 c
          ∧ r.2.mem ((c.tc : Thread Cert.Reference6Ideal.nD Cert.Reference6Ideal.τ).loc Cert.Reference6Ideal.main_v26) = v3 c
          ∧ r.2.mem ((c.tc : Thread Cert.Reference6Ideal.nD Cert.Reference6Ideal.τ).loc Cert.Reference6Ideal.main_v50) = v4 c
          ∧ r.2.mem ((c.tc : Thread Cert.Reference6Ideal.nD Cert.Reference6Ideal.τ).loc Cert.Reference6Ideal.main_v74) = v5 c
          ∧ r.2.mem ((c.tc : Thread Cert.Reference6Ideal.nD Cert.Reference6Ideal.τ).loc Cert.Reference6Ideal.main_v7) = v6 c
          ∧ r.2.mem ((c.tc : Thread Cert.Reference6Ideal.nD Cert.Reference6Ideal.τ).loc Cert.Reference6Ideal.main_v31) = v7 c
          ∧ r.2.mem ((c.tc : Thread Cert.Reference6Ideal.nD Cert.Reference6Ideal.τ).loc Cert.Reference6Ideal.main_v55) = v8 c
          ∧ r.2.mem ((c.tc : Thread Cert.Reference6Ideal.nD Cert.Reference6Ideal.τ).loc Cert.Reference6Ideal.main_v13) = v9 c
          ∧ r.2.mem ((c.tc : Thread Cert.Reference6Ideal.nD Cert.Reference6Ideal.τ).loc Cert.Reference6Ideal.main_v37) = v10 c
          ∧ r.2.mem ((c.tc : Thread Cert.Reference6Ideal.nD Cert.Reference6Ideal.τ).loc Cert.Reference6Ideal.main_v61) = v11 c
          ∧ r.2.mem ((c.tc : Thread Cert.Reference6Ideal.nD Cert.Reference6Ideal.τ).loc Cert.Reference6Ideal.main_v78) = v12 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)) (v10 : (c : Dev Cert.Kernel7Ideal.nD) → Buf (Elt Ideal) ((c.tc : Thread Cert.Kernel7Ideal.nD Cert.Kernel7Ideal.τ).loc Cert.Kernel7Ideal.main_v0_10)) (v11 : (c : Dev Cert.Kernel7Ideal.nD) → Buf (Elt Ideal) ((c.tc : Thread Cert.Kernel7Ideal.nD Cert.Kernel7Ideal.τ).loc Cert.Kernel7Ideal.main_v0_11)) (v12 : (c : Dev Cert.Kernel7Ideal.nD) → Buf (Elt Ideal) ((c.tc : Thread Cert.Kernel7Ideal.nD Cert.Kernel7Ideal.τ).loc Cert.Kernel7Ideal.main_v0_12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_v0_10) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_v0_12) = v12 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg0) = v0 c
          ∧ r.2.mem ((c.tc : Thread Cert.Reference7Ideal.nD Cert.Reference7Ideal.τ).loc Cert.Reference7Ideal.main_arg1) = v1 c
          ∧ r.2.mem ((c.tc : Thread Cert.Reference7Ideal.nD Cert.Reference7Ideal.τ).loc Cert.Reference7Ideal.main_v2) = v2 c
          ∧ r.2.mem ((c.tc : Thread Cert.Reference7Ideal.nD Cert.Reference7Ideal.τ).loc Cert.Reference7Ideal.main_v26) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_v74) = v5 c
          ∧ r.2.mem ((c.tc : Thread Cert.Reference7Ideal.nD Cert.Reference7Ideal.τ).loc Cert.Reference7Ideal.main_v7) = v6 c
          ∧ r.2.mem ((c.tc : Thread Cert.Reference7Ideal.nD Cert.Reference7Ideal.τ).loc Cert.Reference7Ideal.main_v31) = v7 c
          ∧ r.2.mem ((c.tc : Thread Cert.Reference7Ideal.nD Cert.Reference7Ideal.τ).loc Cert.Reference7Ideal.main_v55) = v8 c
          ∧ r.2.mem ((c.tc : Thread Cert.Reference7Ideal.nD Cert.Reference7Ideal.τ).loc Cert.Reference7Ideal.main_v13) = v9 c
          ∧ r.2.mem ((c.tc : Thread Cert.Reference7Ideal.nD Cert.Reference7Ideal.τ).loc Cert.Reference7Ideal.main_v37) = v10 c
          ∧ r.2.mem ((c.tc : Thread Cert.Reference7Ideal.nD Cert.Reference7Ideal.τ).loc Cert.Reference7Ideal.main_v61) = v11 c
          ∧ r.2.mem ((c.tc : Thread Cert.Reference7Ideal.nD Cert.Reference7Ideal.τ).loc Cert.Reference7Ideal.main_v78) = v12 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)) (v10 : (c : Dev Cert.Kernel8Ideal.nD) → Buf (Elt Ideal) ((c.tc : Thread Cert.Kernel8Ideal.nD Cert.Kernel8Ideal.τ).loc Cert.Kernel8Ideal.main_v0_10)) (v11 : (c : Dev Cert.Kernel8Ideal.nD) → Buf (Elt Ideal) ((c.tc : Thread Cert.Kernel8Ideal.nD Cert.Kernel8Ideal.τ).loc Cert.Kernel8Ideal.main_v0_11)) (v12 : (c : Dev Cert.Kernel8Ideal.nD) → Buf (Elt Ideal) ((c.tc : Thread Cert.Kernel8Ideal.nD Cert.Kernel8Ideal.τ).loc Cert.Kernel8Ideal.main_v0_12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_v0_10) = v10 c
          ∧ r.2.mem ((c.tc : Thread Cert.Kernel8Ideal.nD Cert.Kernel8Ideal.τ).loc Cert.Kernel8Ideal.main_v0_11) = v11 c
          ∧ r.2.mem ((c.tc : Thread Cert.Kernel8Ideal.nD Cert.Kernel8Ideal.τ).loc Cert.Kernel8Ideal.main_v0_12) = v12 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg0) = v0 c
          ∧ r.2.mem ((c.tc : Thread Cert.Reference8Ideal.nD Cert.Reference8Ideal.τ).loc Cert.Reference8Ideal.main_arg1) = v1 c
          ∧ r.2.mem ((c.tc : Thread Cert.Reference8Ideal.nD Cert.Reference8Ideal.τ).loc Cert.Reference8Ideal.main_v2) = v2 c
          ∧ r.2.mem ((c.tc : Thread Cert.Reference8Ideal.nD Cert.Reference8Ideal.τ).loc Cert.Reference8Ideal.main_v26) = v3 c
          ∧ r.2.mem ((c.tc : Thread Cert.Reference8Ideal.nD Cert.Reference8Ideal.τ).loc Cert.Reference8Ideal.main_v50) = v4 c
          ∧ r.2.mem ((c.tc : Thread Cert.Reference8Ideal.nD Cert.Reference8Ideal.τ).loc Cert.Reference8Ideal.main_v74) = v5 c
          ∧ r.2.mem ((c.tc : Thread Cert.Reference8Ideal.nD Cert.Reference8Ideal.τ).loc Cert.Reference8Ideal.main_v7) = v6 c
          ∧ r.2.mem ((c.tc : Thread Cert.Reference8Ideal.nD Cert.Reference8Ideal.τ).loc Cert.Reference8Ideal.main_v31) = v7 c
          ∧ r.2.mem ((c.tc : Thread Cert.Reference8Ideal.nD Cert.Reference8Ideal.τ).loc Cert.Reference8Ideal.main_v55) = v8 c
          ∧ r.2.mem ((c.tc : Thread Cert.Reference8Ideal.nD Cert.Reference8Ideal.τ).loc Cert.Reference8Ideal.main_v13) = v9 c
          ∧ r.2.mem ((c.tc : Thread Cert.Reference8Ideal.nD Cert.Reference8Ideal.τ).loc Cert.Reference8Ideal.main_v37) = v10 c
          ∧ r.2.mem ((c.tc : Thread Cert.Reference8Ideal.nD Cert.Reference8Ideal.τ).loc Cert.Reference8Ideal.main_v61) = v11 c
          ∧ r.2.mem ((c.tc : Thread Cert.Reference8Ideal.nD Cert.Reference8Ideal.τ).loc Cert.Reference8Ideal.main_v78) = v12 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_2)) (v2 : (c : Dev Cert.Kernel9Ideal.nD) → Buf (Elt Ideal) ((c.tc : Thread Cert.Kernel9Ideal.nD Cert.Kernel9Ideal.τ).loc Cert.Kernel9Ideal.main_v1_4)) (v3 : (c : Dev Cert.Kernel9Ideal.nD) → Buf (Elt Ideal) ((c.tc : Thread Cert.Kernel9Ideal.nD Cert.Kernel9Ideal.τ).loc Cert.Kernel9Ideal.main_v1_6)) (v4 : (c : Dev Cert.Kernel9Ideal.nD) → Buf (Elt Ideal) ((c.tc : Thread Cert.Kernel9Ideal.nD Cert.Kernel9Ideal.τ).loc Cert.Kernel9Ideal.main_v1_1)) (v5 : (c : Dev Cert.Kernel9Ideal.nD) → Buf (Elt Ideal) ((c.tc : Thread Cert.Kernel9Ideal.nD Cert.Kernel9Ideal.τ).loc Cert.Kernel9Ideal.main_v1_3)) (v6 : (c : Dev Cert.Kernel9Ideal.nD) → Buf (Elt Ideal) ((c.tc : Thread Cert.Kernel9Ideal.nD Cert.Kernel9Ideal.τ).loc Cert.Kernel9Ideal.main_v1_5)) (v7 : (c : Dev Cert.Kernel9Ideal.nD) → Buf (Elt Ideal) ((c.tc : Thread Cert.Kernel9Ideal.nD Cert.Kernel9Ideal.τ).loc Cert.Kernel9Ideal.main_v1_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_2) = v1 c
          ∧ r.2.mem ((c.tc : Thread Cert.Kernel9Ideal.nD Cert.Kernel9Ideal.τ).loc Cert.Kernel9Ideal.main_v1_4) = v2 c
          ∧ r.2.mem ((c.tc : Thread Cert.Kernel9Ideal.nD Cert.Kernel9Ideal.τ).loc Cert.Kernel9Ideal.main_v1_6) = v3 c
          ∧ r.2.mem ((c.tc : Thread Cert.Kernel9Ideal.nD Cert.Kernel9Ideal.τ).loc Cert.Kernel9Ideal.main_v1_1) = v4 c
          ∧ r.2.mem ((c.tc : Thread Cert.Kernel9Ideal.nD Cert.Kernel9Ideal.τ).loc Cert.Kernel9Ideal.main_v1_3) = v5 c
          ∧ r.2.mem ((c.tc : Thread Cert.Kernel9Ideal.nD Cert.Kernel9Ideal.τ).loc Cert.Kernel9Ideal.main_v1_5) = v6 c
          ∧ r.2.mem ((c.tc : Thread Cert.Kernel9Ideal.nD Cert.Kernel9Ideal.τ).loc Cert.Kernel9Ideal.main_v1_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v79) = v1 c
          ∧ r.2.mem ((c.tc : Thread Cert.Reference9Ideal.nD Cert.Reference9Ideal.τ).loc Cert.Reference9Ideal.main_v60) = v2 c
          ∧ r.2.mem ((c.tc : Thread Cert.Reference9Ideal.nD Cert.Reference9Ideal.τ).loc Cert.Reference9Ideal.main_v66) = v3 c
          ∧ r.2.mem ((c.tc : Thread Cert.Reference9Ideal.nD Cert.Reference9Ideal.τ).loc Cert.Reference9Ideal.main_v55) = v4 c
          ∧ r.2.mem ((c.tc : Thread Cert.Reference9Ideal.nD Cert.Reference9Ideal.τ).loc Cert.Reference9Ideal.main_v103) = v5 c
          ∧ r.2.mem ((c.tc : Thread Cert.Reference9Ideal.nD Cert.Reference9Ideal.τ).loc Cert.Reference9Ideal.main_v84) = v6 c
          ∧ r.2.mem ((c.tc : Thread Cert.Reference9Ideal.nD Cert.Reference9Ideal.τ).loc Cert.Reference9Ideal.main_v90) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn_part1 {F : FTy → Type} [FloatOps F] (main_arg7 : FVec F S3x5632 .f32) (main_arg8 : FVec F S1x5632 .f32) (main_arg9 : FVec F S2816x1024 .f32) (main_arg10 : FVec F S8192x1024 .f32) (main_v2 : IVec S1x1024 1) (main_v5 : IVec S1x1024 1) (main_v8 : IVec S1x1024 1) (main_v11 : IVec S1x1024 1) (main_v14 : IVec S1x1024 1) (main_v17 : IVec S1024x5632 1) : IVec S1x1024 1 × IVec S1x1024 1 × IVec S1x1024 1 × IVec S1x1024 1 × IVec S1x1024 1 × IVec S1024x5632 1 × IVec S3x5632 1 × IVec S1x5632 1 × IVec S2816x1024 1 × IVec S8192x1024 1 :=
  let main_v18 : FVec F S3x5632 .f32 := Host.absf main_arg7
  let main_cst_5 : FVec F S_ .f32 := constant S_ .f32 0x7F800000#32
  let main_v19 : FVec F S3x5632 .f32 := broadcastInDim S3x5632 ![] bcast_S_S3x5632 main_cst_5
  let main_v20 : IVec S3x5632 1 := cmpf .olt main_v18 main_v19
  let main_v21 : FVec F S1x5632 .f32 := Host.absf main_arg8
  let main_cst_6 : FVec F S_ .f32 := constant S_ .f32 0x7F800000#32
  let main_v22 : FVec F S1x5632 .f32 := broadcastInDim S1x5632 ![] bcast_S_S1x5632 main_cst_6
  let main_v23 : IVec S1x5632 1 := cmpf .olt main_v21 main_v22
  let main_v24 : FVec F S2816x1024 .f32 := Host.absf main_arg9
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  let main_v27 : FVec F S8192x1024 .f32 := Host.absf main_arg10
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S3x5632 .f32) (main_arg8 : FVec F S1x5632 .f32) (main_arg9 : FVec F S2816x1024 .f32) (main_arg10 : FVec F S8192x1024 .f32) : IVec S1x1024 1 × IVec S1x1024 1 × IVec S1x1024 1 × IVec S1x1024 1 × IVec S1x1024 1 × IVec S1024x5632 1 × IVec S3x5632 1 × IVec S1x5632 1 × IVec S2816x1024 1 × IVec S8192x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg6
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg7 main_arg8 main_arg9 main_arg10 main_v2 main_v5 main_v8 main_v11 main_v14 main_v17
-- ==== Kernel.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8192x8x704 : Shape := ⟨3, ![8192, 8, 704]⟩
abbrev S8x8192x704 : Shape := ⟨3, ![8, 8192, 704]⟩
abbrev S6x1024 : Shape := ⟨2, ![6, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x704 : Shape := ⟨2, ![8, 704]⟩
abbrev S3x1024 : Shape := ⟨2, ![3, 1024]⟩
abbrev S256x1024 : Shape := ⟨2, ![256, 1024]⟩
abbrev S8x256x704 : Shape := ⟨3, ![8, 256, 704]⟩
abbrev S8x8x704 : Shape := ⟨3, ![8, 8, 704]⟩
abbrev S256 : Shape := ⟨1, ![256]⟩
abbrev S256x1 : Shape := ⟨2, ![256, 1]⟩
abbrev S1024 : Shape := ⟨1, ![1024]⟩
abbrev S704x1024 : Shape := ⟨2, ![704, 1024]⟩
abbrev S256x704 : Shape := ⟨2, ![256, 704]⟩
abbrev S1x8x704 : Shape := ⟨3, ![1, 8, 704]⟩
abbrev S1x256x704 : Shape := ⟨3, ![1, 256, 704]⟩
abbrev S1x3x704 : Shape := ⟨3, ![1, 3, 704]⟩
abbrev S3x704 : Shape := ⟨2, ![3, 704]⟩
abbrev S1x704 : Shape := ⟨2, ![1, 704]⟩
abbrev S248x704 : Shape := ⟨2, ![248, 704]⟩
abbrev S704 : Shape := ⟨1, ![704]⟩
abbrev S1x1x704 : Shape := ⟨3, ![1, 1, 704]⟩
abbrev S1x1024x704 : Shape := ⟨3, ![1, 1024, 704]⟩
abbrev S1024x704 : Shape := ⟨2, ![1024, 704]⟩

abbrev nBuf : Space → Nat
  | .hbm => 91
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S3x5632, .f32⟩
  | .hbm, ⟨8, _⟩ => ⟨S1x5632, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S_, .f32⟩
  | .hbm, ⟨35, _⟩ => ⟨S2x5632, .f32⟩
  | .hbm, ⟨36, _⟩ => ⟨S8194x5632, .f32⟩
  | .hbm, ⟨37, _⟩ => ⟨S8192x5632, .f32⟩
  | .hbm, ⟨38, _⟩ => ⟨S1x5632, .f32⟩
  | .hbm, ⟨39, _⟩ => ⟨S5632, .f32⟩
  | .hbm, ⟨40, _⟩ => ⟨S1x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S1x5632, .f32⟩
  | .hbm, ⟨47, _⟩ => ⟨S5632, .f32⟩
  | .hbm, ⟨48, _⟩ => ⟨S1x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S1x5632, .f32⟩
  | .hbm, ⟨54, _⟩ => ⟨S5632, .f32⟩
  | .hbm, ⟨55, _⟩ => ⟨S1x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S_, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x1024, .f32⟩
  | .hbm, ⟨72, _⟩ => ⟨S8192x8x704, .f32⟩
  | .hbm, ⟨73, _⟩ => ⟨S8x8192x704, .f32⟩
  | .hbm, ⟨74, _⟩ => ⟨S6x1024, .f32⟩
  | .hbm, ⟨75, _⟩ => ⟨S1024x8x704, .f32⟩
  | .hbm, ⟨76, _⟩ => ⟨S8x1024x704, .f32⟩
  | .hbm, ⟨77, _⟩ => ⟨S8x1024x704, .bf16⟩
  | .hbm, ⟨78, _⟩ => ⟨S3x8x704, .f32⟩
  | .hbm, ⟨79, _⟩ => ⟨S8x3x704, .f32⟩
  | .hbm, ⟨80, _⟩ => ⟨S8x704, .f32⟩
  | .hbm, ⟨81, _⟩ => ⟨S2816x1024, .bf16⟩
  | .hbm, ⟨82, _⟩ => ⟨S8192x1024, .f32⟩
  | .hbm, ⟨83, _⟩ => ⟨S8x8192x704, .bf16⟩
  | .hbm, ⟨84, _⟩ => ⟨S8192x1024, .bf16⟩
  | .hbm, ⟨85, _⟩ => ⟨S8192x1024, .bf16⟩
  | .hbm, ⟨86, _⟩ => ⟨S3x1024, .f32⟩
  | .hbm, ⟨87, _⟩ => ⟨S1x1024, .f32⟩
  | .hbm, ⟨88, _⟩ => ⟨S1x1024, .f32⟩
  | .hbm, ⟨89, _⟩ => ⟨S8x704, .f32⟩
  | .hbm, ⟨90, _⟩ => ⟨S8x3x704, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x704, .f32⟩
  | .local _ .vmem, ⟨7, _⟩ => ⟨S8x256x704, .f32⟩
  | .local _ .vmem, ⟨8, _⟩ => ⟨S8x8x704, .f32⟩
  | .local _ .vmem, ⟨9, _⟩ => ⟨S8x8x704, .f32⟩
  | .local _ .vmem, ⟨10, _⟩ => ⟨S6x1024, .f32⟩
  | .local _ .vmem, ⟨11, _⟩ => ⟨S1x1024, .f32⟩
  | .local _ .vmem, ⟨12, _⟩ => ⟨S1x1024, .f32⟩
  | .local _ .vmem, ⟨13, _⟩ => ⟨S8x1024x704, .bf16⟩
  | .local _ .vmem, ⟨14, _⟩ => ⟨S8x3x704, .f32⟩
  | .local _ .vmem, ⟨15, _⟩ => ⟨S8x704, .f32⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | .local _ .vmem, ⟨19, _⟩ => ⟨S8x256x704, .bf16⟩
  | .local _ .vmem, ⟨20, _⟩ => ⟨S8x256x704, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S3x1024, .f32⟩
  | .local _ .vmem, ⟨26, _⟩ => ⟨S1x1024, .f32⟩
  | .local _ .vmem, ⟨27, _⟩ => ⟨S1x1024, .f32⟩
  | .local _ .vmem, ⟨28, _⟩ => ⟨S8x704, .f32⟩
  | .local _ .vmem, ⟨29, _⟩ => ⟨S8x3x704, .f32⟩
  | .local _ .vmem, ⟨30, _⟩ => ⟨S8x8x704, .f32⟩
  | .local _ .vmem, ⟨31, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_v58_2 : Ref sig .tc := ⟨.hbm, 84, rfl⟩
abbrev main_v58_3 : Ref sig .tc := ⟨.hbm, 85, rfl⟩
abbrev main_v58_4 : Ref sig .tc := ⟨.hbm, 86, rfl⟩
abbrev main_v58_5 : Ref sig .tc := ⟨.hbm, 87, rfl⟩
abbrev main_v58_6 : Ref sig .tc := ⟨.hbm, 88, rfl⟩
abbrev main_v58_7 : Ref sig .tc := ⟨.hbm, 89, rfl⟩
abbrev main_v58_8 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x704 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x3x704 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S5632 : Shape := ⟨1, ![5632]⟩
abbrev S2x5632 : Shape := ⟨2, ![2, 5632]⟩
abbrev S8194x5632 : Shape := ⟨2, ![8194, 5632]⟩
abbrev S8192x2816 : Shape := ⟨2, ![8192, 2816]⟩
abbrev S1024 : Shape := ⟨1, ![1024]⟩
abbrev S8192x8x704 : Shape := ⟨3, ![8192, 8, 704]⟩
abbrev S8x8192x704 : Shape := ⟨3, ![8, 8192, 704]⟩
abbrev S3x1024 : Shape := ⟨2, ![3, 1024]⟩
abbrev S8x704 : Shape := ⟨2, ![8, 704]⟩
abbrev S3x8x704 : Shape := ⟨3, ![3, 8, 704]⟩
abbrev S8x3x704 : Shape := ⟨3, ![8, 3, 704]⟩

abbrev nBuf : Space → Nat
  | .hbm => 241
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1024x5632, .f32⟩
  | 7 => ⟨S3x5632, .f32⟩
  | 8 => ⟨S1x5632, .f32⟩
  | 9 => ⟨S2816x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S1x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S8192x5632, .f32⟩
  | 38 => ⟨S5632, .f32⟩
  | 39 => ⟨S_, .f32⟩
  | 40 => ⟨S2x5632, .f32⟩
  | 41 => ⟨S8194x5632, .f32⟩
  | 42 => ⟨S_, .f32⟩
  | 43 => ⟨S2x5632, .f32⟩
  | 44 => ⟨S8192x5632, .f32⟩
  | 45 => ⟨S1x5632, .f32⟩
  | 46 => ⟨S5632, .f32⟩
  | 47 => ⟨S1x5632, .f32⟩
  | 48 => ⟨S8192x5632, .f32⟩
  | 49 => ⟨S8192x5632, .f32⟩
  | 50 => ⟨S1x5632, .f32⟩
  | 51 => ⟨S8192x5632, .f32⟩
  | 52 => ⟨S8192x5632, .f32⟩
  | 53 => ⟨S8192x5632, .f32⟩
  | 54 => ⟨S1x5632, .f32⟩
  | 55 => ⟨S5632, .f32⟩
  | 56 => ⟨S1x5632, .f32⟩
  | 57 => ⟨S8192x5632, .f32⟩
  | 58 => ⟨S8192x5632, .f32⟩
  | 59 => ⟨S8192x5632, .f32⟩
  | 60 => ⟨S8192x5632, .f32⟩
  | 61 => ⟨S1x5632, .f32⟩
  | 62 => ⟨S5632, .f32⟩
  | 63 => ⟨S1x5632, .f32⟩
  | 64 => ⟨S8192x5632, .f32⟩
  | 65 => ⟨S8192x5632, .f32⟩
  | 66 => ⟨S8192x5632, .f32⟩
  | 67 => ⟨S8192x2816, .f32⟩
  | 68 => ⟨S8192x2816, .f32⟩
  | 69 => ⟨S8192x2816, .f32⟩
  | 70 => ⟨S8192x2816, .f32⟩
  | 71 => ⟨S_, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x1024, .f32⟩
  | 84 => ⟨S8192x1024, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x2816, .f32⟩
  | 9 => ⟨S8192x2816, .f32⟩
  | 10 => ⟨S8192x2816, .f32⟩
  | 11 => ⟨S8192x2816, .f32⟩
  | 12 => ⟨S8192x2816, .f32⟩
  | 13 => ⟨S8192x2816, .f32⟩
  | 14 => ⟨S8192x2816, .f32⟩
  | 15 => ⟨S_, .f32⟩
  | 16 => ⟨S8192x5632, .f32⟩
  | 17 => ⟨S_, .f32⟩
  | 18 => ⟨S8192x5632, .f32⟩
  | 19 => ⟨S8192x5632, .f32⟩
  | 20 => ⟨S8192x5632, .f32⟩
  | 21 => ⟨S_, .f32⟩
  | 22 => ⟨S5632, .f32⟩
  | 23 => ⟨S1x5632, .f32⟩
  | 24 => ⟨S8192x5632, .f32⟩
  | 25 => ⟨S8192x5632, .f32⟩
  | 26 => ⟨S_, .f32⟩
  | 27 => ⟨S5632, .f32⟩
  | 28 => ⟨S1x5632, .f32⟩
  | 29 => ⟨S_, .f32⟩
  | 30 => ⟨S3x5632, .f32⟩
  | 31 => ⟨S_, .f32⟩
  | 32 => ⟨S8194x5632, .f32⟩
  | 33 => ⟨S8192x5632, .f32⟩
  | 34 => ⟨S_, .f32⟩
  | 35 => ⟨S5632, .f32⟩
  | 36 => ⟨S1x5632, .f32⟩
  | 37 => ⟨S8192x5632, .f32⟩
  | 38 => ⟨S8192x5632, .f32⟩
  | 39 => ⟨S_, .f32⟩
  | 40 => ⟨S5632, .f32⟩
  | 41 => ⟨S1x5632, .f32⟩
  | 42 => ⟨S_, .f32⟩
  | 43 => ⟨S3x5632, .f32⟩
  | 44 => ⟨S3x5632, .f32⟩
  | 45 => ⟨S_, .f32⟩
  | 46 => ⟨S8194x5632, .f32⟩
  | 47 => ⟨S8194x5632, .f32⟩
  | 48 => ⟨S_, .f32⟩
  | 49 => ⟨S5632, .f32⟩
  | 50 => ⟨S1x5632, .f32⟩
  | 51 => ⟨S_, .f32⟩
  | 52 => ⟨S5632, .f32⟩
  | 53 => ⟨S8192x5632, .f32⟩
  | 54 => ⟨S_, .f32⟩
  | 55 => ⟨S5632, .f32⟩
  | 56 => ⟨S1x5632, .f32⟩
  | 57 => ⟨S8192x5632, .f32⟩
  | 58 => ⟨S8192x5632, .f32⟩
  | 59 => ⟨S_, .f32⟩
  | 60 => ⟨S5632, .f32⟩
  | 61 => ⟨S1x5632, .f32⟩
  | 62 => ⟨S_, .f32⟩
  | 63 => ⟨S3x5632, .f32⟩
  | 64 => ⟨S3x5632, .f32⟩
  | 65 => ⟨S_, .f32⟩
  | 66 => ⟨S8194x5632, .f32⟩
  | 67 => ⟨S8194x5632, .f32⟩
  | 68 => ⟨S2x5632, .f32⟩
  | 69 => ⟨S8192x5632, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x8x704, .f32⟩
  | 105 => ⟨S8x8192x704, .f32⟩
  | 106 => ⟨S8x8192x704, .bf16⟩
  | 107 => ⟨S8192x1024, .bf16⟩
  | 108 => ⟨S8192x1024, .bf16⟩
  | 109 => ⟨S3x1024, .f32⟩
  | 110 => ⟨S8x704, .f32⟩
  | 111 => ⟨S3x8x704, .f32⟩
  | 112 => ⟨S8x3x704, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v51_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v51_1 : Ref sig .tc := ⟨.hbm, 80, rfl⟩
abbrev main_v51_0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_12 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_13 : Ref sig .tc := ⟨.hbm, 126, rfl⟩
abbrev main_v89 : Ref sig .tc := ⟨.hbm, 127, rfl⟩
abbrev main_v90 : Ref sig .tc := ⟨.hbm, 128, rfl⟩
abbrev main_cst_14 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_v100 : Ref sig .tc := ⟨.hbm, 142, rfl⟩
abbrev main_cst_15 : Ref sig .tc := ⟨.hbm, 143, rfl⟩
abbrev main_v101 : Ref sig .tc := ⟨.hbm, 144, rfl⟩
abbrev main_cst_16 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_17 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_cst_19 : Ref sig .tc := ⟨.hbm, 157, rfl⟩
abbrev main_v111 : Ref sig .tc := ⟨.hbm, 158, rfl⟩
abbrev main_cst_20 : Ref sig .tc := ⟨.hbm, 159, rfl⟩
abbrev main_v112 : Ref sig .tc := ⟨.hbm, 160, rfl⟩
abbrev main_v113 : Ref sig .tc := ⟨.hbm, 161, rfl⟩
abbrev main_cst_21 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_22 : Ref sig .tc := ⟨.hbm, 167, rfl⟩
abbrev main_v118 : Ref sig .tc := ⟨.hbm, 168, rfl⟩
abbrev main_v119 : Ref sig .tc := ⟨.hbm, 169, rfl⟩
abbrev main_cst_23 : Ref sig .tc := ⟨.hbm, 170, rfl⟩
abbrev main_v120 : Ref sig .tc := ⟨.hbm, 171, rfl⟩
abbrev main_v121 : Ref sig .tc := ⟨.hbm, 172, rfl⟩
abbrev main_cst_24 : Ref sig .tc := ⟨.hbm, 173, rfl⟩
abbrev main_v122 : Ref sig .tc := ⟨.hbm, 174, rfl⟩
abbrev main_v123 : Ref sig .tc := ⟨.hbm, 175, rfl⟩
abbrev main_cst_25 : Ref sig .tc := ⟨.hbm, 176, rfl⟩
abbrev main_v124 : Ref sig .tc := ⟨.hbm, 177, rfl⟩
abbrev main_v125 : Ref sig .tc := ⟨.hbm, 178, rfl⟩
abbrev main_cst_26 : Ref sig .tc := ⟨.hbm, 179, rfl⟩
abbrev main_v126 : Ref sig .tc := ⟨.hbm, 180, rfl⟩
abbrev main_v127 : Ref sig .tc := ⟨.hbm, 181, rfl⟩
abbrev main_cst_27 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_28 : Ref sig .tc := ⟨.hbm, 187, rfl⟩
abbrev main_v132 : Ref sig .tc := ⟨.hbm, 188, rfl⟩
abbrev main_v133 : Ref sig .tc := ⟨.hbm, 189, rfl⟩
abbrev main_cst_29 : Ref sig .tc := ⟨.hbm, 190, rfl⟩
abbrev main_v134 : Ref sig .tc := ⟨.hbm, 191, rfl⟩
abbrev main_v135 : Ref sig .tc := ⟨.hbm, 192, rfl⟩
abbrev main_cst_30 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_31 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_32 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_33 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_34 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_35 : Ref sig .tc := ⟨.hbm, 221, rfl⟩
abbrev main_v159 : Ref sig .tc := ⟨.hbm, 222, rfl⟩
abbrev main_v160 : Ref sig .tc := ⟨.hbm, 223, rfl⟩
abbrev main_cst_36 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1024x1024 : Shape := ⟨2, ![1024, 1024]⟩
abbrev S4x1024x704 : Shape := ⟨3, ![4, 1024, 704]⟩
abbrev S4x704x1024 : Shape := ⟨3, ![4, 704, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x8x704, .f32⟩
  | .hbm, ⟨5, _⟩ => ⟨S8x8192x704, .f32⟩
  | .hbm, ⟨6, _⟩ => ⟨S8x8192x704, .bf16⟩
  | .hbm, ⟨7, _⟩ => ⟨S8x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x704x1024, .f32⟩
  | .local _ .vmem, ⟨5, _⟩ => ⟨S4x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S1024x8x704 : Shape := ⟨3, ![1024, 8, 704]⟩
abbrev S8x704x1024 : Shape := ⟨3, ![8, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x8x704, .f32⟩
  | .hbm, ⟨7, _⟩ => ⟨S8x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S6x1024 : Shape := ⟨2, ![6, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x704 : Shape := ⟨2, ![8, 704]⟩
abbrev S8x8192x704 : Shape := ⟨3, ![8, 8192, 704]⟩
abbrev S4x8192x704 : Shape := ⟨3, ![4, 8192, 704]⟩
abbrev S256x1024 : Shape := ⟨2, ![256, 1024]⟩
abbrev S8x256x704 : Shape := ⟨3, ![8, 256, 704]⟩
abbrev S4x256x704 : Shape := ⟨3, ![4, 256, 704]⟩
abbrev S8x8x704 : Shape := ⟨3, ![8, 8, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x8x704 : Shape := ⟨3, ![1, 8, 704]⟩
abbrev S1x3x704 : Shape := ⟨3, ![1, 3, 704]⟩
abbrev S3x704 : Shape := ⟨2, ![3, 704]⟩
abbrev S1x704 : Shape := ⟨2, ![1, 704]⟩
abbrev S248x704 : Shape := ⟨2, ![248, 704]⟩
abbrev S704x1024 : Shape := ⟨2, ![704, 1024]⟩
abbrev S1024 : Shape := ⟨1, ![1024]⟩

abbrev nBuf : Space → Nat
  | .hbm => 24
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S3x5632, .f32⟩
  | .hbm, ⟨9, _⟩ => ⟨S1x5632, .f32⟩
  | .hbm, ⟨10, _⟩ => ⟨S2816x1024, .f32⟩
  | .hbm, ⟨11, _⟩ => ⟨S6x1024, .f32⟩
  | .hbm, ⟨12, _⟩ => ⟨S1024x8x704, .f32⟩
  | .hbm, ⟨13, _⟩ => ⟨S8x1024x704, .f32⟩
  | .hbm, ⟨14, _⟩ => ⟨S8x1024x704, .bf16⟩
  | .hbm, ⟨15, _⟩ => ⟨S3x8x704, .f32⟩
  | .hbm, ⟨16, _⟩ => ⟨S8x3x704, .f32⟩
  | .hbm, ⟨17, _⟩ => ⟨S8x704, .f32⟩
  | .hbm, ⟨18, _⟩ => ⟨S2816x1024, .bf16⟩
  | .hbm, ⟨19, _⟩ => ⟨S8x8192x704, .f32⟩
  | .hbm, ⟨20, _⟩ => ⟨S4x8192x704, .bf16⟩
  | .hbm, ⟨21, _⟩ => ⟨S8192x1024, .f32⟩
  | .hbm, ⟨22, _⟩ => ⟨S8192x1024, .f32⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S1x1024, .f32⟩
  | .local _ .vmem, ⟨6, _⟩ => ⟨S1x1024, .f32⟩
  | .local _ .vmem, ⟨7, _⟩ => ⟨S8x1024x704, .bf16⟩
  | .local _ .vmem, ⟨8, _⟩ => ⟨S8x3x704, .f32⟩
  | .local _ .vmem, ⟨9, _⟩ => ⟨S8x704, .f32⟩
  | .local _ .vmem, ⟨10, _⟩ => ⟨S2816x1024, .bf16⟩
  | .local _ .vmem, ⟨11, _⟩ => ⟨S8x256x704, .f32⟩
  | .local _ .vmem, ⟨12, _⟩ => ⟨S8x256x704, .f32⟩
  | .local _ .vmem, ⟨13, _⟩ => ⟨S4x256x704, .bf16⟩
  | .local _ .vmem, ⟨14, _⟩ => ⟨S4x256x704, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S3x2816 : Shape := ⟨2, ![3, 2816]⟩
abbrev S1x2816 : Shape := ⟨2, ![1, 2816]⟩
abbrev S2x2816 : Shape := ⟨2, ![2, 2816]⟩
abbrev S8194x2816 : Shape := ⟨2, ![8194, 2816]⟩
abbrev S2816 : Shape := ⟨1, ![2816]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S1024 : Shape := ⟨1, ![1024]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x5632, .f32⟩
  | 8 => ⟨S3x5632, .f32⟩
  | 9 => ⟨S1x5632, .f32⟩
  | 10 => ⟨S2816x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S1x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S8192x5632, .f32⟩
  | 34 => ⟨S8192x2816, .f32⟩
  | 35 => ⟨S3x2816, .f32⟩
  | 36 => ⟨S1x2816, .f32⟩
  | 37 => ⟨S_, .f32⟩
  | 38 => ⟨S2x2816, .f32⟩
  | 39 => ⟨S8194x2816, .f32⟩
  | 40 => ⟨S8192x2816, .f32⟩
  | 41 => ⟨S1x2816, .f32⟩
  | 42 => ⟨S2816, .f32⟩
  | 43 => ⟨S1x2816, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S1x2816, .f32⟩
  | 50 => ⟨S2816, .f32⟩
  | 51 => ⟨S1x2816, .f32⟩
  | 52 => ⟨S8192x2816, .f32⟩
  | 53 => ⟨S8192x2816, .f32⟩
  | 54 => ⟨S8192x2816, .f32⟩
  | 55 => ⟨S8192x2816, .f32⟩
  | 56 => ⟨S1x2816, .f32⟩
  | 57 => ⟨S2816, .f32⟩
  | 58 => ⟨S1x2816, .f32⟩
  | 59 => ⟨S8192x2816, .f32⟩
  | 60 => ⟨S8192x2816, .f32⟩
  | 61 => ⟨S8192x2816, .f32⟩
  | 62 => ⟨S8192x2816, .f32⟩
  | 63 => ⟨S3x2816, .f32⟩
  | 64 => ⟨S1x2816, .f32⟩
  | 65 => ⟨S_, .f32⟩
  | 66 => ⟨S2x2816, .f32⟩
  | 67 => ⟨S8194x2816, .f32⟩
  | 68 => ⟨S8192x2816, .f32⟩
  | 69 => ⟨S1x2816, .f32⟩
  | 70 => ⟨S2816, .f32⟩
  | 71 => ⟨S1x2816, .f32⟩
  | 72 => ⟨S8192x2816, .f32⟩
  | 73 => ⟨S8192x2816, .f32⟩
  | 74 => ⟨S8192x2816, .f32⟩
  | 75 => ⟨S8192x2816, .f32⟩
  | 76 => ⟨S8192x2816, .f32⟩
  | 77 => ⟨S1x2816, .f32⟩
  | 78 => ⟨S2816, .f32⟩
  | 79 => ⟨S1x2816, .f32⟩
  | 80 => ⟨S8192x2816, .f32⟩
  | 81 => ⟨S8192x2816, .f32⟩
  | 82 => ⟨S8192x2816, .f32⟩
  | 83 => ⟨S8192x2816, .f32⟩
  | 84 => ⟨S1x2816, .f32⟩
  | 85 => ⟨S2816, .f32⟩
  | 86 => ⟨S1x2816, .f32⟩
  | 87 => ⟨S8192x2816, .f32⟩
  | 88 => ⟨S8192x2816, .f32⟩
  | 89 => ⟨S8192x2816, .f32⟩
  | 90 => ⟨S8192x2816, .f32⟩
  | 91 => ⟨S8192x2816, .f32⟩
  | 92 => ⟨S_, .f32⟩
  | 93 => ⟨S8192x2816, .f32⟩
  | 94 => ⟨S8192x2816, .f32⟩
  | 95 => ⟨S_, .f32⟩
  | 96 => ⟨S8192x2816, .f32⟩
  | 97 => ⟨S8192x2816, .f32⟩
  | 98 => ⟨S8192x2816, .f32⟩
  | 99 => ⟨S8192x2816, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S8192x1024, .f32⟩
  | 123 => ⟨S8192x1024, .f32⟩
  | 124 => ⟨S_, .f32⟩
  | 125 => ⟨S8192, .f32⟩
  | 126 => ⟨S_, .f32⟩
  | 127 => ⟨S8192, .f32⟩
  | _ => ⟨S8192x1024, .f32⟩

abbrev hbmTy0_1 (i : Nat) : BufTy := match i % 128 with
  | 0 => ⟨S8192, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8192, .f32⟩
  | 9 => ⟨S_, .f32⟩
  | 10 => ⟨S8192, .f32⟩
  | 11 => ⟨S8192, .f32⟩
  | 12 => ⟨S8192x1024, .f32⟩
  | 13 => ⟨S8192x1024, .f32⟩
  | 14 => ⟨S8192x8x704, .f32⟩
  | 15 => ⟨S8x8192x704, .f32⟩
  | 16 => ⟨S8192x4x704, .f32⟩
  | 17 => ⟨S4x8192x704, .f32⟩
  | 18 => ⟨S4x8192x704, .bf16⟩
  | 19 => ⟨S8192x1024, .f32⟩
  | 20 => ⟨S8192x1024, .f32⟩
  | 21 => ⟨S_, .f32⟩
  | 22 => ⟨S1024, .f32⟩
  | 23 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_5 : Ref sig .tc := ⟨.hbm, 102, rfl⟩
abbrev main_v77 : Ref sig .tc := ⟨.hbm, 103, rfl⟩
abbrev main_v78 : Ref sig .tc := ⟨.hbm, 104, rfl⟩
abbrev main_cst_6 : Ref sig .tc := ⟨.hbm, 105, rfl⟩
abbrev main_v79 : Ref sig .tc := ⟨.hbm, 106, rfl⟩
abbrev main_v80 : Ref sig .tc := ⟨.hbm, 107, rfl⟩
abbrev main_cst_7 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_8 : Ref sig .tc := ⟨.hbm, 121, rfl⟩
abbrev main_v93 : Ref sig .tc := ⟨.hbm, 122, rfl⟩
abbrev main_v94 : Ref sig .tc := ⟨.hbm, 123, rfl⟩
abbrev main_cst_9 : Ref sig .tc := ⟨.hbm, 124, rfl⟩
abbrev main_v95 : Ref sig .tc := ⟨.hbm, 125, rfl⟩
abbrev main_cst_10 : Ref sig .tc := ⟨.hbm, 126, rfl⟩
abbrev main_v96 : Ref sig .tc := ⟨.hbm, 127, rfl⟩
abbrev main_v97 : Ref sig .tc := ⟨.hbm, 128, rfl⟩
abbrev main_cst_11 : Ref sig .tc := ⟨.hbm, 129, rfl⟩
abbrev main_v98 : Ref sig .tc := ⟨.hbm, 130, rfl⟩
abbrev main_cst_12 : Ref sig .tc := ⟨.hbm, 131, rfl⟩
abbrev main_v99 : Ref sig .tc := ⟨.hbm, 132, rfl⟩
abbrev main_cst_13 : Ref sig .tc := ⟨.hbm, 133, rfl⟩
abbrev main_cst_14 : Ref sig .tc := ⟨.hbm, 134, rfl⟩
abbrev main_v100 : Ref sig .tc := ⟨.hbm, 135, rfl⟩
abbrev main_v101 : Ref sig .tc := ⟨.hbm, 136, rfl⟩
abbrev main_cst_15 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_16 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Kernel4.lean ====
abbrev S192x1024 : Shape := ⟨2, ![192, 1024]⟩
abbrev S128x1024 : Shape := ⟨2, ![128, 1024]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S192x1024, .f32⟩
  | .hbm, ⟨1, _⟩ => ⟨S128x1024, .f32⟩
  | .hbm, ⟨2, _⟩ => ⟨S192x1024, .f32⟩
  | .hbm, ⟨3, _⟩ => ⟨S128x1024, .f32⟩
  | .hbm, ⟨4, _⟩ => ⟨S192x1024, .f32⟩
  | .hbm, ⟨5, _⟩ => ⟨S128x1024, .f32⟩
  | .hbm, ⟨6, _⟩ => ⟨S192x1024, .f32⟩
  | .hbm, ⟨7, _⟩ => ⟨S128x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S192x1024, .f32⟩
  | .hbm, ⟨15, _⟩ => ⟨S128x1024, .f32⟩
  | .hbm, ⟨16, _⟩ => ⟨S1024x768, .f32⟩
  | .hbm, ⟨17, _⟩ => ⟨S192x1024, .f32⟩
  | .hbm, ⟨18, _⟩ => ⟨S128x1024, .f32⟩
  | .hbm, ⟨19, _⟩ => ⟨S1024x768, .f32⟩
  | .hbm, ⟨20, _⟩ => ⟨S192x1024, .f32⟩
  | .hbm, ⟨21, _⟩ => ⟨S128x1024, .f32⟩
  | .hbm, ⟨22, _⟩ => ⟨S1024x768, .f32⟩
  | .hbm, ⟨23, _⟩ => ⟨S192x1024, .f32⟩
  | .hbm, ⟨24, _⟩ => ⟨S128x1024, .f32⟩
  | .hbm, ⟨25, _⟩ => ⟨S1024x768, .f32⟩
  | .hbm, ⟨26, _⟩ => ⟨S1x1, .f32⟩
  | .local _ .vmem, ⟨0, _⟩ => ⟨S192x1024, .f32⟩
  | .local _ .vmem, ⟨1, _⟩ => ⟨S128x1024, .f32⟩
  | .local _ .vmem, ⟨2, _⟩ => ⟨S192x1024, .f32⟩
  | .local _ .vmem, ⟨3, _⟩ => ⟨S128x1024, .f32⟩
  | .local _ .vmem, ⟨4, _⟩ => ⟨S192x1024, .f32⟩
  | .local _ .vmem, ⟨5, _⟩ => ⟨S128x1024, .f32⟩
  | .local _ .vmem, ⟨6, _⟩ => ⟨S192x1024, .f32⟩
  | .local _ .vmem, ⟨7, _⟩ => ⟨S128x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S192x1024, .f32⟩
  | .local _ .vmem, ⟨15, _⟩ => ⟨S128x1024, .f32⟩
  | .local _ .vmem, ⟨16, _⟩ => ⟨S1024x768, .f32⟩
  | .local _ .vmem, ⟨17, _⟩ => ⟨S192x1024, .f32⟩
  | .local _ .vmem, ⟨18, _⟩ => ⟨S128x1024, .f32⟩
  | .local _ .vmem, ⟨19, _⟩ => ⟨S1024x768, .f32⟩
  | .local _ .vmem, ⟨20, _⟩ => ⟨S192x1024, .f32⟩
  | .local _ .vmem, ⟨21, _⟩ => ⟨S128x1024, .f32⟩
  | .local _ .vmem, ⟨22, _⟩ => ⟨S1024x768, .f32⟩
  | .local _ .vmem, ⟨23, _⟩ => ⟨S192x1024, .f32⟩
  | .local _ .vmem, ⟨24, _⟩ => ⟨S128x1024, .f32⟩
  | .local _ .vmem, ⟨25, _⟩ => ⟨S1024x768, .f32⟩
  | .local _ .vmem, ⟨26, _⟩ => ⟨S1x1, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S192x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S192x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S192x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S192x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Kernel4Ideal.lean ====
abbrev S192x1024 : Shape := ⟨2, ![192, 1024]⟩
abbrev S128x1024 : Shape := ⟨2, ![128, 1024]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S192x1024, .f32⟩
  | .hbm, ⟨1, _⟩ => ⟨S128x1024, .f32⟩
  | .hbm, ⟨2, _⟩ => ⟨S192x1024, .f32⟩
  | .hbm, ⟨3, _⟩ => ⟨S128x1024, .f32⟩
  | .hbm, ⟨4, _⟩ => ⟨S192x1024, .f32⟩
  | .hbm, ⟨5, _⟩ => ⟨S128x1024, .f32⟩
  | .hbm, ⟨6, _⟩ => ⟨S192x1024, .f32⟩
  | .hbm, ⟨7, _⟩ => ⟨S128x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S192x1024, .f32⟩
  | .hbm, ⟨15, _⟩ => ⟨S128x1024, .f32⟩
  | .hbm, ⟨16, _⟩ => ⟨S1024x768, .f32⟩
  | .hbm, ⟨17, _⟩ => ⟨S192x1024, .f32⟩
  | .hbm, ⟨18, _⟩ => ⟨S128x1024, .f32⟩
  | .hbm, ⟨19, _⟩ => ⟨S1024x768, .f32⟩
  | .hbm, ⟨20, _⟩ => ⟨S192x1024, .f32⟩
  | .hbm, ⟨21, _⟩ => ⟨S128x1024, .f32⟩
  | .hbm, ⟨22, _⟩ => ⟨S1024x768, .f32⟩
  | .hbm, ⟨23, _⟩ => ⟨S192x1024, .f32⟩
  | .hbm, ⟨24, _⟩ => ⟨S128x1024, .f32⟩
  | .hbm, ⟨25, _⟩ => ⟨S1024x768, .f32⟩
  | .hbm, ⟨26, _⟩ => ⟨S1x1, .f32⟩
  | .local _ .vmem, ⟨0, _⟩ => ⟨S192x1024, .f32⟩
  | .local _ .vmem, ⟨1, _⟩ => ⟨S128x1024, .f32⟩
  | .local _ .vmem, ⟨2, _⟩ => ⟨S192x1024, .f32⟩
  | .local _ .vmem, ⟨3, _⟩ => ⟨S128x1024, .f32⟩
  | .local _ .vmem, ⟨4, _⟩ => ⟨S192x1024, .f32⟩
  | .local _ .vmem, ⟨5, _⟩ => ⟨S128x1024, .f32⟩
  | .local _ .vmem, ⟨6, _⟩ => ⟨S192x1024, .f32⟩
  | .local _ .vmem, ⟨7, _⟩ => ⟨S128x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S192x1024, .f32⟩
  | .local _ .vmem, ⟨15, _⟩ => ⟨S128x1024, .f32⟩
  | .local _ .vmem, ⟨16, _⟩ => ⟨S1024x768, .f32⟩
  | .local _ .vmem, ⟨17, _⟩ => ⟨S192x1024, .f32⟩
  | .local _ .vmem, ⟨18, _⟩ => ⟨S128x1024, .f32⟩
  | .local _ .vmem, ⟨19, _⟩ => ⟨S1024x768, .f32⟩
  | .local _ .vmem, ⟨20, _⟩ => ⟨S192x1024, .f32⟩
  | .local _ .vmem, ⟨21, _⟩ => ⟨S128x1024, .f32⟩
  | .local _ .vmem, ⟨22, _⟩ => ⟨S1024x768, .f32⟩
  | .local _ .vmem, ⟨23, _⟩ => ⟨S192x1024, .f32⟩
  | .local _ .vmem, ⟨24, _⟩ => ⟨S128x1024, .f32⟩
  | .local _ .vmem, ⟨25, _⟩ => ⟨S1024x768, .f32⟩
  | .local _ .vmem, ⟨26, _⟩ => ⟨S1x1, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S192x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S192x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S192x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S192x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference4Ideal.lean ====
abbrev S192x1024 : Shape := ⟨2, ![192, 1024]⟩
abbrev S128x1024 : Shape := ⟨2, ![128, 1024]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S768x1024 : Shape := ⟨2, ![768, 1024]⟩
abbrev S_ : Shape := ⟨0, ![]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S128x1024, .f32⟩
  | .hbm, ⟨2, _⟩ => ⟨S192x1024, .f32⟩
  | .hbm, ⟨3, _⟩ => ⟨S128x1024, .f32⟩
  | .hbm, ⟨4, _⟩ => ⟨S192x1024, .f32⟩
  | .hbm, ⟨5, _⟩ => ⟨S128x1024, .f32⟩
  | .hbm, ⟨6, _⟩ => ⟨S192x1024, .f32⟩
  | .hbm, ⟨7, _⟩ => ⟨S128x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S192x1024, .f32⟩
  | .hbm, ⟨19, _⟩ => ⟨S192x1024, .f32⟩
  | .hbm, ⟨20, _⟩ => ⟨S_, .f32⟩
  | .hbm, ⟨21, _⟩ => ⟨S192x1024, .f32⟩
  | .hbm, ⟨22, _⟩ => ⟨S192x1024, .f32⟩
  | .hbm, ⟨23, _⟩ => ⟨S192x1024, .f32⟩
  | .hbm, ⟨24, _⟩ => ⟨S_, .f32⟩
  | .hbm, ⟨25, _⟩ => ⟨S192x1024, .f32⟩
  | .hbm, ⟨26, _⟩ => ⟨S192x1024, .f32⟩
  | .hbm, ⟨27, _⟩ => ⟨S192x1024, .f32⟩
  | .hbm, ⟨28, _⟩ => ⟨S_, .f32⟩
  | .hbm, ⟨29, _⟩ => ⟨S192x1024, .f32⟩
  | .hbm, ⟨30, _⟩ => ⟨S192x1024, .f32⟩
  | .hbm, ⟨31, _⟩ => ⟨S192x1024, .f32⟩
  | .hbm, ⟨32, _⟩ => ⟨S_, .f32⟩
  | .hbm, ⟨33, _⟩ => ⟨S192x1024, .f32⟩
  | .hbm, ⟨34, _⟩ => ⟨S192x1024, .f32⟩
  | .hbm, ⟨35, _⟩ => ⟨S_, .f32⟩
  | .hbm, ⟨36, _⟩ => ⟨S192x1024, .f32⟩
  | .hbm, ⟨37, _⟩ => ⟨S192x1024, .f32⟩
  | .hbm, ⟨38, _⟩ => ⟨S192x1024, .f32⟩
  | .hbm, ⟨39, _⟩ => ⟨S_, .f32⟩
  | .hbm, ⟨40, _⟩ => ⟨S192x1024, .f32⟩
  | .hbm, ⟨41, _⟩ => ⟨S192x1024, .f32⟩
  | .hbm, ⟨42, _⟩ => ⟨S192x1024, .f32⟩
  | .hbm, ⟨43, _⟩ => ⟨S_, .f32⟩
  | .hbm, ⟨44, _⟩ => ⟨S192x1024, .f32⟩
  | .hbm, ⟨45, _⟩ => ⟨S192x1024, .f32⟩
  | .hbm, ⟨46, _⟩ => ⟨S192x1024, .f32⟩
  | .hbm, ⟨47, _⟩ => ⟨S_, .f32⟩
  | .hbm, ⟨48, _⟩ => ⟨S192x1024, .f32⟩
  | .hbm, ⟨49, _⟩ => ⟨S192x1024, .f32⟩
  | .hbm, ⟨50, _⟩ => ⟨S_, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S_, .f32⟩
  | .hbm, ⟨66, _⟩ => ⟨S128x1024, .f32⟩
  | .hbm, ⟨67, _⟩ => ⟨S128x1024, .f32⟩
  | .hbm, ⟨68, _⟩ => ⟨S_, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S_, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128x1024, .f32⟩
  | .hbm, ⟨82, _⟩ => ⟨S128x1024, .f32⟩
  | .hbm, ⟨83, _⟩ => ⟨S_, .f32⟩
  | .hbm, ⟨84, _⟩ => ⟨S1024x768, .f32⟩
  | .hbm, ⟨85, _⟩ => ⟨S1024x768, .f32⟩
  | .hbm, ⟨86, _⟩ => ⟨S_, .f32⟩
  | .hbm, ⟨87, _⟩ => ⟨S1024x768, .f32⟩
  | .hbm, ⟨88, _⟩ => ⟨S1024x768, .f32⟩
  | .hbm, ⟨89, _⟩ => ⟨S1024x768, .f32⟩
  | .hbm, ⟨90, _⟩ => ⟨S_, .f32⟩
  | .hbm, ⟨91, _⟩ => ⟨S1024x768, .f32⟩
  | .hbm, ⟨92, _⟩ => ⟨S1024x768, .f32⟩
  | .hbm, ⟨93, _⟩ => ⟨S1024x768, .f32⟩
  | .hbm, ⟨94, _⟩ => ⟨S_, .f32⟩
  | .hbm, ⟨95, _⟩ => ⟨S1024x768, .f32⟩
  | .hbm, ⟨96, _⟩ => ⟨S1024x768, .f32⟩
  | .hbm, ⟨97, _⟩ => ⟨S1024x768, .f32⟩
  | .hbm, ⟨98, _⟩ => ⟨S_, .f32⟩
  | .hbm, ⟨99, _⟩ => ⟨S1024x768, .f32⟩
  | .hbm, ⟨100, _⟩ => ⟨S1024x768, .f32⟩
  | .hbm, ⟨101, _⟩ => ⟨S_, .f32⟩
  | .hbm, ⟨102, _⟩ => ⟨S1024x768, .f32⟩
  | .hbm, ⟨103, _⟩ => ⟨S1024x768, .f32⟩
  | .hbm, ⟨104, _⟩ => ⟨S1024x768, .f32⟩
  | .hbm, ⟨105, _⟩ => ⟨S_, .f32⟩
  | .hbm, ⟨106, _⟩ => ⟨S1024x768, .f32⟩
  | .hbm, ⟨107, _⟩ => ⟨S1024x768, .f32⟩
  | .hbm, ⟨108, _⟩ => ⟨S1024x768, .f32⟩
  | .hbm, ⟨109, _⟩ => ⟨S_, .f32⟩
  | .hbm, ⟨110, _⟩ => ⟨S1024x768, .f32⟩
  | .hbm, ⟨111, _⟩ => ⟨S1024x768, .f32⟩
  | .hbm, ⟨112, _⟩ => ⟨S1024x768, .f32⟩
  | .hbm, ⟨113, _⟩ => ⟨S_, .f32⟩
  | .hbm, ⟨114, _⟩ => ⟨S1024x768, .f32⟩
  | .hbm, ⟨115, _⟩ => ⟨S1024x768, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_cst_22 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_cst_27 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Kernel5.lean ====
abbrev S1x6144 : Shape := ⟨2, ![1, 6144]⟩
abbrev S1x1024 : Shape := ⟨2, ![1, 1024]⟩
abbrev S16x1024 : Shape := ⟨2, ![16, 1024]⟩
abbrev S16x768 : Shape := ⟨2, ![16, 768]⟩
abbrev S1024x768 : Shape := ⟨2, ![1024, 768]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x6144, .f32⟩
  | .hbm, ⟨3, _⟩ => ⟨S1x1024, .f32⟩
  | .hbm, ⟨4, _⟩ => ⟨S1x6144, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S1x6144, .f32⟩
  | .hbm, ⟨15, _⟩ => ⟨S1x1024, .f32⟩
  | .hbm, ⟨16, _⟩ => ⟨S1024x768, .f32⟩
  | .hbm, ⟨17, _⟩ => ⟨S1x6144, .f32⟩
  | .hbm, ⟨18, _⟩ => ⟨S1x1024, .f32⟩
  | .hbm, ⟨19, _⟩ => ⟨S1024x768, .f32⟩
  | .hbm, ⟨20, _⟩ => ⟨S1x6144, .f32⟩
  | .hbm, ⟨21, _⟩ => ⟨S1x1024, .f32⟩
  | .hbm, ⟨22, _⟩ => ⟨S1024x768, .f32⟩
  | .hbm, ⟨23, _⟩ => ⟨S1x6144, .f32⟩
  | .hbm, ⟨24, _⟩ => ⟨S1x1024, .f32⟩
  | .hbm, ⟨25, _⟩ => ⟨S1024x768, .f32⟩
  | .hbm, ⟨26, _⟩ => ⟨S1x1, .f32⟩
  | .local _ .vmem, ⟨0, _⟩ => ⟨S1x6144, .f32⟩
  | .local _ .vmem, ⟨1, _⟩ => ⟨S1x1024, .f32⟩
  | .local _ .vmem, ⟨2, _⟩ => ⟨S1x6144, .f32⟩
  | .local _ .vmem, ⟨3, _⟩ => ⟨S1x1024, .f32⟩
  | .local _ .vmem, ⟨4, _⟩ => ⟨S1x6144, .f32⟩
  | .local _ .vmem, ⟨5, _⟩ => ⟨S1x1024, .f32⟩
  | .local _ .vmem, ⟨6, _⟩ => ⟨S1x6144, .f32⟩
  | .local _ .vmem, ⟨7, _⟩ => ⟨S1x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S1x6144, .f32⟩
  | .local _ .vmem, ⟨15, _⟩ => ⟨S1x1024, .f32⟩
  | .local _ .vmem, ⟨16, _⟩ => ⟨S1024x768, .f32⟩
  | .local _ .vmem, ⟨17, _⟩ => ⟨S1x6144, .f32⟩
  | .local _ .vmem, ⟨18, _⟩ => ⟨S1x1024, .f32⟩
  | .local _ .vmem, ⟨19, _⟩ => ⟨S1024x768, .f32⟩
  | .local _ .vmem, ⟨20, _⟩ => ⟨S1x6144, .f32⟩
  | .local _ .vmem, ⟨21, _⟩ => ⟨S1x1024, .f32⟩
  | .local _ .vmem, ⟨22, _⟩ => ⟨S1024x768, .f32⟩
  | .local _ .vmem, ⟨23, _⟩ => ⟨S1x6144, .f32⟩
  | .local _ .vmem, ⟨24, _⟩ => ⟨S1x1024, .f32⟩
  | .local _ .vmem, ⟨25, _⟩ => ⟨S1024x768, .f32⟩
  | .local _ .vmem, ⟨26, _⟩ => ⟨S1x1, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x6144 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x6144 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x6144 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Kernel5Ideal.lean ====
abbrev S1x6144 : Shape := ⟨2, ![1, 6144]⟩
abbrev S1x1024 : Shape := ⟨2, ![1, 1024]⟩
abbrev S16x1024 : Shape := ⟨2, ![16, 1024]⟩
abbrev S16x768 : Shape := ⟨2, ![16, 768]⟩
abbrev S1024x768 : Shape := ⟨2, ![1024, 768]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x6144, .f32⟩
  | .hbm, ⟨3, _⟩ => ⟨S1x1024, .f32⟩
  | .hbm, ⟨4, _⟩ => ⟨S1x6144, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S1x6144, .f32⟩
  | .hbm, ⟨15, _⟩ => ⟨S1x1024, .f32⟩
  | .hbm, ⟨16, _⟩ => ⟨S1024x768, .f32⟩
  | .hbm, ⟨17, _⟩ => ⟨S1x6144, .f32⟩
  | .hbm, ⟨18, _⟩ => ⟨S1x1024, .f32⟩
  | .hbm, ⟨19, _⟩ => ⟨S1024x768, .f32⟩
  | .hbm, ⟨20, _⟩ => ⟨S1x6144, .f32⟩
  | .hbm, ⟨21, _⟩ => ⟨S1x1024, .f32⟩
  | .hbm, ⟨22, _⟩ => ⟨S1024x768, .f32⟩
  | .hbm, ⟨23, _⟩ => ⟨S1x6144, .f32⟩
  | .hbm, ⟨24, _⟩ => ⟨S1x1024, .f32⟩
  | .hbm, ⟨25, _⟩ => ⟨S1024x768, .f32⟩
  | .hbm, ⟨26, _⟩ => ⟨S1x1, .f32⟩
  | .local _ .vmem, ⟨0, _⟩ => ⟨S1x6144, .f32⟩
  | .local _ .vmem, ⟨1, _⟩ => ⟨S1x1024, .f32⟩
  | .local _ .vmem, ⟨2, _⟩ => ⟨S1x6144, .f32⟩
  | .local _ .vmem, ⟨3, _⟩ => ⟨S1x1024, .f32⟩
  | .local _ .vmem, ⟨4, _⟩ => ⟨S1x6144, .f32⟩
  | .local _ .vmem, ⟨5, _⟩ => ⟨S1x1024, .f32⟩
  | .local _ .vmem, ⟨6, _⟩ => ⟨S1x6144, .f32⟩
  | .local _ .vmem, ⟨7, _⟩ => ⟨S1x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S1x6144, .f32⟩
  | .local _ .vmem, ⟨15, _⟩ => ⟨S1x1024, .f32⟩
  | .local _ .vmem, ⟨16, _⟩ => ⟨S1024x768, .f32⟩
  | .local _ .vmem, ⟨17, _⟩ => ⟨S1x6144, .f32⟩
  | .local _ .vmem, ⟨18, _⟩ => ⟨S1x1024, .f32⟩
  | .local _ .vmem, ⟨19, _⟩ => ⟨S1024x768, .f32⟩
  | .local _ .vmem, ⟨20, _⟩ => ⟨S1x6144, .f32⟩
  | .local _ .vmem, ⟨21, _⟩ => ⟨S1x1024, .f32⟩
  | .local _ .vmem, ⟨22, _⟩ => ⟨S1024x768, .f32⟩
  | .local _ .vmem, ⟨23, _⟩ => ⟨S1x6144, .f32⟩
  | .local _ .vmem, ⟨24, _⟩ => ⟨S1x1024, .f32⟩
  | .local _ .vmem, ⟨25, _⟩ => ⟨S1024x768, .f32⟩
  | .local _ .vmem, ⟨26, _⟩ => ⟨S1x1, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x6144 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x6144 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x6144 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference5Ideal.lean ====
abbrev S1x6144 : Shape := ⟨2, ![1, 6144]⟩
abbrev S1x1024 : Shape := ⟨2, ![1, 1024]⟩
abbrev S16x1024 : Shape := ⟨2, ![16, 1024]⟩
abbrev S16x768 : Shape := ⟨2, ![16, 768]⟩
abbrev S1024x768 : Shape := ⟨2, ![1024, 768]⟩
abbrev S768x1024 : Shape := ⟨2, ![768, 1024]⟩
abbrev S_ : Shape := ⟨0, ![]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x1024, .f32⟩
  | .hbm, ⟨2, _⟩ => ⟨S1x6144, .f32⟩
  | .hbm, ⟨3, _⟩ => ⟨S1x1024, .f32⟩
  | .hbm, ⟨4, _⟩ => ⟨S1x6144, .f32⟩
  | .hbm, ⟨5, _⟩ => ⟨S1x1024, .f32⟩
  | .hbm, ⟨6, _⟩ => ⟨S1x6144, .f32⟩
  | .hbm, ⟨7, _⟩ => ⟨S1x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1x6144, .f32⟩
  | .hbm, ⟨19, _⟩ => ⟨S1x6144, .f32⟩
  | .hbm, ⟨20, _⟩ => ⟨S_, .f32⟩
  | .hbm, ⟨21, _⟩ => ⟨S1x6144, .f32⟩
  | .hbm, ⟨22, _⟩ => ⟨S1x6144, .f32⟩
  | .hbm, ⟨23, _⟩ => ⟨S1x6144, .f32⟩
  | .hbm, ⟨24, _⟩ => ⟨S_, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S_, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S_, .f32⟩
  | .hbm, ⟨33, _⟩ => ⟨S1x6144, .f32⟩
  | .hbm, ⟨34, _⟩ => ⟨S1x6144, .f32⟩
  | .hbm, ⟨35, _⟩ => ⟨S_, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S_, .f32⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S_, .f32⟩
  | .hbm, ⟨44, _⟩ => ⟨S1x6144, .f32⟩
  | .hbm, ⟨45, _⟩ => ⟨S1x6144, .f32⟩
  | .hbm, ⟨46, _⟩ => ⟨S1x6144, .f32⟩
  | .hbm, ⟨47, _⟩ => ⟨S_, .f32⟩
  | .hbm, ⟨48, _⟩ => ⟨S1x6144, .f32⟩
  | .hbm, ⟨49, _⟩ => ⟨S1x6144, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1024x768, .f32⟩
  | .hbm, ⟨85, _⟩ => ⟨S1024x768, .f32⟩
  | .hbm, ⟨86, _⟩ => ⟨S_, .f32⟩
  | .hbm, ⟨87, _⟩ => ⟨S1024x768, .f32⟩
  | .hbm, ⟨88, _⟩ => ⟨S1024x768, .f32⟩
  | .hbm, ⟨89, _⟩ => ⟨S1024x768, .f32⟩
  | .hbm, ⟨90, _⟩ => ⟨S_, .f32⟩
  | .hbm, ⟨91, _⟩ => ⟨S1024x768, .f32⟩
  | .hbm, ⟨92, _⟩ => ⟨S1024x768, .f32⟩
  | .hbm, ⟨93, _⟩ => ⟨S1024x768, .f32⟩
  | .hbm, ⟨94, _⟩ => ⟨S_, .f32⟩
  | .hbm, ⟨95, _⟩ => ⟨S1024x768, .f32⟩
  | .hbm, ⟨96, _⟩ => ⟨S1024x768, .f32⟩
  | .hbm, ⟨97, _⟩ => ⟨S1024x768, .f32⟩
  | .hbm, ⟨98, _⟩ => ⟨S_, .f32⟩
  | .hbm, ⟨99, _⟩ => ⟨S1024x768, .f32⟩
  | .hbm, ⟨100, _⟩ => ⟨S1024x768, .f32⟩
  | .hbm, ⟨101, _⟩ => ⟨S_, .f32⟩
  | .hbm, ⟨102, _⟩ => ⟨S1024x768, .f32⟩
  | .hbm, ⟨103, _⟩ => ⟨S1024x768, .f32⟩
  | .hbm, ⟨104, _⟩ => ⟨S1024x768, .f32⟩
  | .hbm, ⟨105, _⟩ => ⟨S_, .f32⟩
  | .hbm, ⟨106, _⟩ => ⟨S1024x768, .f32⟩
  | .hbm, ⟨107, _⟩ => ⟨S1024x768, .f32⟩
  | .hbm, ⟨108, _⟩ => ⟨S1024x768, .f32⟩
  | .hbm, ⟨109, _⟩ => ⟨S_, .f32⟩
  | .hbm, ⟨110, _⟩ => ⟨S1024x768, .f32⟩
  | .hbm, ⟨111, _⟩ => ⟨S1024x768, .f32⟩
  | .hbm, ⟨112, _⟩ => ⟨S1024x768, .f32⟩
  | .hbm, ⟨113, _⟩ => ⟨S_, .f32⟩
  | .hbm, ⟨114, _⟩ => ⟨S1024x768, .f32⟩
  | .hbm, ⟨115, _⟩ => ⟨S1024x768, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_cst_22 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_cst_27 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Kernel6.lean ====
abbrev S4x128x128 : Shape := ⟨3, ![4, 128, 128]⟩
abbrev S4x128 : Shape := ⟨2, ![4, 128]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S4x128x128, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S4x128, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S4x128x128, .f32⟩
  | .hbm, ⟨15, _⟩ => ⟨S4x128, .f32⟩
  | .hbm, ⟨16, _⟩ => ⟨S1024x768, .f32⟩
  | .hbm, ⟨17, _⟩ => ⟨S4x128x128, .f32⟩
  | .hbm, ⟨18, _⟩ => ⟨S4x128, .f32⟩
  | .hbm, ⟨19, _⟩ => ⟨S1024x768, .f32⟩
  | .hbm, ⟨20, _⟩ => ⟨S4x128x128, .f32⟩
  | .hbm, ⟨21, _⟩ => ⟨S4x128, .f32⟩
  | .hbm, ⟨22, _⟩ => ⟨S1024x768, .f32⟩
  | .hbm, ⟨23, _⟩ => ⟨S4x128x128, .f32⟩
  | .hbm, ⟨24, _⟩ => ⟨S4x128, .f32⟩
  | .hbm, ⟨25, _⟩ => ⟨S1024x768, .f32⟩
  | .hbm, ⟨26, _⟩ => ⟨S1x1, .f32⟩
  | .local _ .vmem, ⟨0, _⟩ => ⟨S4x128x128, .f32⟩
  | .local _ .vmem, ⟨1, _⟩ => ⟨S4x128, .f32⟩
  | .local _ .vmem, ⟨2, _⟩ => ⟨S4x128x128, .f32⟩
  | .local _ .vmem, ⟨3, _⟩ => ⟨S4x128, .f32⟩
  | .local _ .vmem, ⟨4, _⟩ => ⟨S4x128x128, .f32⟩
  | .local _ .vmem, ⟨5, _⟩ => ⟨S4x128, .f32⟩
  | .local _ .vmem, ⟨6, _⟩ => ⟨S4x128x128, .f32⟩
  | .local _ .vmem, ⟨7, _⟩ => ⟨S4x128, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S4x128x128, .f32⟩
  | .local _ .vmem, ⟨15, _⟩ => ⟨S4x128, .f32⟩
  | .local _ .vmem, ⟨16, _⟩ => ⟨S1024x768, .f32⟩
  | .local _ .vmem, ⟨17, _⟩ => ⟨S4x128x128, .f32⟩
  | .local _ .vmem, ⟨18, _⟩ => ⟨S4x128, .f32⟩
  | .local _ .vmem, ⟨19, _⟩ => ⟨S1024x768, .f32⟩
  | .local _ .vmem, ⟨20, _⟩ => ⟨S4x128x128, .f32⟩
  | .local _ .vmem, ⟨21, _⟩ => ⟨S4x128, .f32⟩
  | .local _ .vmem, ⟨22, _⟩ => ⟨S1024x768, .f32⟩
  | .local _ .vmem, ⟨23, _⟩ => ⟨S4x128x128, .f32⟩
  | .local _ .vmem, ⟨24, _⟩ => ⟨S4x128, .f32⟩
  | .local _ .vmem, ⟨25, _⟩ => ⟨S1024x768, .f32⟩
  | .local _ .vmem, ⟨26, _⟩ => ⟨S1x1, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Kernel6Ideal.lean ====
abbrev S4x128x128 : Shape := ⟨3, ![4, 128, 128]⟩
abbrev S4x128 : Shape := ⟨2, ![4, 128]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S4x128x128, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S4x128, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S4x128x128, .f32⟩
  | .hbm, ⟨15, _⟩ => ⟨S4x128, .f32⟩
  | .hbm, ⟨16, _⟩ => ⟨S1024x768, .f32⟩
  | .hbm, ⟨17, _⟩ => ⟨S4x128x128, .f32⟩
  | .hbm, ⟨18, _⟩ => ⟨S4x128, .f32⟩
  | .hbm, ⟨19, _⟩ => ⟨S1024x768, .f32⟩
  | .hbm, ⟨20, _⟩ => ⟨S4x128x128, .f32⟩
  | .hbm, ⟨21, _⟩ => ⟨S4x128, .f32⟩
  | .hbm, ⟨22, _⟩ => ⟨S1024x768, .f32⟩
  | .hbm, ⟨23, _⟩ => ⟨S4x128x128, .f32⟩
  | .hbm, ⟨24, _⟩ => ⟨S4x128, .f32⟩
  | .hbm, ⟨25, _⟩ => ⟨S1024x768, .f32⟩
  | .hbm, ⟨26, _⟩ => ⟨S1x1, .f32⟩
  | .local _ .vmem, ⟨0, _⟩ => ⟨S4x128x128, .f32⟩
  | .local _ .vmem, ⟨1, _⟩ => ⟨S4x128, .f32⟩
  | .local _ .vmem, ⟨2, _⟩ => ⟨S4x128x128, .f32⟩
  | .local _ .vmem, ⟨3, _⟩ => ⟨S4x128, .f32⟩
  | .local _ .vmem, ⟨4, _⟩ => ⟨S4x128x128, .f32⟩
  | .local _ .vmem, ⟨5, _⟩ => ⟨S4x128, .f32⟩
  | .local _ .vmem, ⟨6, _⟩ => ⟨S4x128x128, .f32⟩
  | .local _ .vmem, ⟨7, _⟩ => ⟨S4x128, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S4x128x128, .f32⟩
  | .local _ .vmem, ⟨15, _⟩ => ⟨S4x128, .f32⟩
  | .local _ .vmem, ⟨16, _⟩ => ⟨S1024x768, .f32⟩
  | .local _ .vmem, ⟨17, _⟩ => ⟨S4x128x128, .f32⟩
  | .local _ .vmem, ⟨18, _⟩ => ⟨S4x128, .f32⟩
  | .local _ .vmem, ⟨19, _⟩ => ⟨S1024x768, .f32⟩
  | .local _ .vmem, ⟨20, _⟩ => ⟨S4x128x128, .f32⟩
  | .local _ .vmem, ⟨21, _⟩ => ⟨S4x128, .f32⟩
  | .local _ .vmem, ⟨22, _⟩ => ⟨S1024x768, .f32⟩
  | .local _ .vmem, ⟨23, _⟩ => ⟨S4x128x128, .f32⟩
  | .local _ .vmem, ⟨24, _⟩ => ⟨S4x128, .f32⟩
  | .local _ .vmem, ⟨25, _⟩ => ⟨S1024x768, .f32⟩
  | .local _ .vmem, ⟨26, _⟩ => ⟨S1x1, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference6Ideal.lean ====
abbrev S4x128x128 : Shape := ⟨3, ![4, 128, 128]⟩
abbrev S4x128 : Shape := ⟨2, ![4, 128]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S768x1024 : Shape := ⟨2, ![768, 1024]⟩
abbrev S_ : Shape := ⟨0, ![]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4x128, .f32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S4x128, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S4x128x128, .f32⟩
  | .hbm, ⟨19, _⟩ => ⟨S4x128x128, .f32⟩
  | .hbm, ⟨20, _⟩ => ⟨S_, .f32⟩
  | .hbm, ⟨21, _⟩ => ⟨S4x128x128, .f32⟩
  | .hbm, ⟨22, _⟩ => ⟨S4x128x128, .f32⟩
  | .hbm, ⟨23, _⟩ => ⟨S4x128x128, .f32⟩
  | .hbm, ⟨24, _⟩ => ⟨S_, .f32⟩
  | .hbm, ⟨25, _⟩ => ⟨S4x128x128, .f32⟩
  | .hbm, ⟨26, _⟩ => ⟨S4x128x128, .f32⟩
  | .hbm, ⟨27, _⟩ => ⟨S4x128x128, .f32⟩
  | .hbm, ⟨28, _⟩ => ⟨S_, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S4x128x128, .f32⟩
  | .hbm, ⟨34, _⟩ => ⟨S4x128x128, .f32⟩
  | .hbm, ⟨35, _⟩ => ⟨S_, .f32⟩
  | .hbm, ⟨36, _⟩ => ⟨S4x128x128, .f32⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S4x128x128, .f32⟩
  | .hbm, ⟨41, _⟩ => ⟨S4x128x128, .f32⟩
  | .hbm, ⟨42, _⟩ => ⟨S4x128x128, .f32⟩
  | .hbm, ⟨43, _⟩ => ⟨S_, .f32⟩
  | .hbm, ⟨44, _⟩ => ⟨S4x128x128, .f32⟩
  | .hbm, ⟨45, _⟩ => ⟨S4x128x128, .f32⟩
  | .hbm, ⟨46, _⟩ => ⟨S4x128x128, .f32⟩
  | .hbm, ⟨47, _⟩ => ⟨S_, .f32⟩
  | .hbm, ⟨48, _⟩ => ⟨S4x128x128, .f32⟩
  | .hbm, ⟨49, _⟩ => ⟨S4x128x128, .f32⟩
  | .hbm, ⟨50, _⟩ => ⟨S_, .f32⟩
  | .hbm, ⟨51, _⟩ => ⟨S4x128, .f32⟩
  | .hbm, ⟨52, _⟩ => ⟨S4x128, .f32⟩
  | .hbm, ⟨53, _⟩ => ⟨S_, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S_, .f32⟩
  | .hbm, ⟨58, _⟩ => ⟨S4x128, .f32⟩
  | .hbm, ⟨59, _⟩ => ⟨S4x128, .f32⟩
  | .hbm, ⟨60, _⟩ => ⟨S4x128, .f32⟩
  | .hbm, ⟨61, _⟩ => ⟨S_, .f32⟩
  | .hbm, ⟨62, _⟩ => ⟨S4x128, .f32⟩
  | .hbm, ⟨63, _⟩ => ⟨S4x128, .f32⟩
  | .hbm, ⟨64, _⟩ => ⟨S4x128, .f32⟩
  | .hbm, ⟨65, _⟩ => ⟨S_, .f32⟩
  | .hbm, ⟨66, _⟩ => ⟨S4x128, .f32⟩
  | .hbm, ⟨67, _⟩ => ⟨S4x128, .f32⟩
  | .hbm, ⟨68, _⟩ => ⟨S_, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S_, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S_, .f32⟩
  | .hbm, ⟨77, _⟩ => ⟨S4x128, .f32⟩
  | .hbm, ⟨78, _⟩ => ⟨S4x128, .f32⟩
  | .hbm, ⟨79, _⟩ => ⟨S4x128, .f32⟩
  | .hbm, ⟨80, _⟩ => ⟨S_, .f32⟩
  | .hbm, ⟨81, _⟩ => ⟨S4x128, .f32⟩
  | .hbm, ⟨82, _⟩ => ⟨S4x128, .f32⟩
  | .hbm, ⟨83, _⟩ => ⟨S_, .f32⟩
  | .hbm, ⟨84, _⟩ => ⟨S1024x768, .f32⟩
  | .hbm, ⟨85, _⟩ => ⟨S1024x768, .f32⟩
  | .hbm, ⟨86, _⟩ => ⟨S_, .f32⟩
  | .hbm, ⟨87, _⟩ => ⟨S1024x768, .f32⟩
  | .hbm, ⟨88, _⟩ => ⟨S1024x768, .f32⟩
  | .hbm, ⟨89, _⟩ => ⟨S1024x768, .f32⟩
  | .hbm, ⟨90, _⟩ => ⟨S_, .f32⟩
  | .hbm, ⟨91, _⟩ => ⟨S1024x768, .f32⟩
  | .hbm, ⟨92, _⟩ => ⟨S1024x768, .f32⟩
  | .hbm, ⟨93, _⟩ => ⟨S1024x768, .f32⟩
  | .hbm, ⟨94, _⟩ => ⟨S_, .f32⟩
  | .hbm, ⟨95, _⟩ => ⟨S1024x768, .f32⟩
  | .hbm, ⟨96, _⟩ => ⟨S1024x768, .f32⟩
  | .hbm, ⟨97, _⟩ => ⟨S1024x768, .f32⟩
  | .hbm, ⟨98, _⟩ => ⟨S_, .f32⟩
  | .hbm, ⟨99, _⟩ => ⟨S1024x768, .f32⟩
  | .hbm, ⟨100, _⟩ => ⟨S1024x768, .f32⟩
  | .hbm, ⟨101, _⟩ => ⟨S_, .f32⟩
  | .hbm, ⟨102, _⟩ => ⟨S1024x768, .f32⟩
  | .hbm, ⟨103, _⟩ => ⟨S1024x768, .f32⟩
  | .hbm, ⟨104, _⟩ => ⟨S1024x768, .f32⟩
  | .hbm, ⟨105, _⟩ => ⟨S_, .f32⟩
  | .hbm, ⟨106, _⟩ => ⟨S1024x768, .f32⟩
  | .hbm, ⟨107, _⟩ => ⟨S1024x768, .f32⟩
  | .hbm, ⟨108, _⟩ => ⟨S1024x768, .f32⟩
  | .hbm, ⟨109, _⟩ => ⟨S_, .f32⟩
  | .hbm, ⟨110, _⟩ => ⟨S1024x768, .f32⟩
  | .hbm, ⟨111, _⟩ => ⟨S1024x768, .f32⟩
  | .hbm, ⟨112, _⟩ => ⟨S1024x768, .f32⟩
  | .hbm, ⟨113, _⟩ => ⟨S_, .f32⟩
  | .hbm, ⟨114, _⟩ => ⟨S1024x768, .f32⟩
  | .hbm, ⟨115, _⟩ => ⟨S1024x768, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_cst_22 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_cst_27 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Kernel7.lean ====
abbrev S3x704 : Shape := ⟨2, ![3, 704]⟩
abbrev S1x5632 : Shape := ⟨2, ![1, 5632]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S3x704, .f32⟩
  | .hbm, ⟨1, _⟩ => ⟨S1x5632, .f32⟩
  | .hbm, ⟨2, _⟩ => ⟨S3x704, .f32⟩
  | .hbm, ⟨3, _⟩ => ⟨S1x5632, .f32⟩
  | .hbm, ⟨4, _⟩ => ⟨S3x704, .f32⟩
  | .hbm, ⟨5, _⟩ => ⟨S1x5632, .f32⟩
  | .hbm, ⟨6, _⟩ => ⟨S3x704, .f32⟩
  | .hbm, ⟨7, _⟩ => ⟨S1x5632, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S3x704, .f32⟩
  | .hbm, ⟨15, _⟩ => ⟨S1x5632, .f32⟩
  | .hbm, ⟨16, _⟩ => ⟨S1024x768, .f32⟩
  | .hbm, ⟨17, _⟩ => ⟨S3x704, .f32⟩
  | .hbm, ⟨18, _⟩ => ⟨S1x5632, .f32⟩
  | .hbm, ⟨19, _⟩ => ⟨S1024x768, .f32⟩
  | .hbm, ⟨20, _⟩ => ⟨S3x704, .f32⟩
  | .hbm, ⟨21, _⟩ => ⟨S1x5632, .f32⟩
  | .hbm, ⟨22, _⟩ => ⟨S1024x768, .f32⟩
  | .hbm, ⟨23, _⟩ => ⟨S3x704, .f32⟩
  | .hbm, ⟨24, _⟩ => ⟨S1x5632, .f32⟩
  | .hbm, ⟨25, _⟩ => ⟨S1024x768, .f32⟩
  | .hbm, ⟨26, _⟩ => ⟨S1x1, .f32⟩
  | .local _ .vmem, ⟨0, _⟩ => ⟨S3x704, .f32⟩
  | .local _ .vmem, ⟨1, _⟩ => ⟨S1x5632, .f32⟩
  | .local _ .vmem, ⟨2, _⟩ => ⟨S3x704, .f32⟩
  | .local _ .vmem, ⟨3, _⟩ => ⟨S1x5632, .f32⟩
  | .local _ .vmem, ⟨4, _⟩ => ⟨S3x704, .f32⟩
  | .local _ .vmem, ⟨5, _⟩ => ⟨S1x5632, .f32⟩
  | .local _ .vmem, ⟨6, _⟩ => ⟨S3x704, .f32⟩
  | .local _ .vmem, ⟨7, _⟩ => ⟨S1x5632, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S3x704, .f32⟩
  | .local _ .vmem, ⟨15, _⟩ => ⟨S1x5632, .f32⟩
  | .local _ .vmem, ⟨16, _⟩ => ⟨S1024x768, .f32⟩
  | .local _ .vmem, ⟨17, _⟩ => ⟨S3x704, .f32⟩
  | .local _ .vmem, ⟨18, _⟩ => ⟨S1x5632, .f32⟩
  | .local _ .vmem, ⟨19, _⟩ => ⟨S1024x768, .f32⟩
  | .local _ .vmem, ⟨20, _⟩ => ⟨S3x704, .f32⟩
  | .local _ .vmem, ⟨21, _⟩ => ⟨S1x5632, .f32⟩
  | .local _ .vmem, ⟨22, _⟩ => ⟨S1024x768, .f32⟩
  | .local _ .vmem, ⟨23, _⟩ => ⟨S3x704, .f32⟩
  | .local _ .vmem, ⟨24, _⟩ => ⟨S1x5632, .f32⟩
  | .local _ .vmem, ⟨25, _⟩ => ⟨S1024x768, .f32⟩
  | .local _ .vmem, ⟨26, _⟩ => ⟨S1x1, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x704 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x5632 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x704 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x5632 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Kernel7Ideal.lean ====
abbrev S3x704 : Shape := ⟨2, ![3, 704]⟩
abbrev S1x5632 : Shape := ⟨2, ![1, 5632]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S3x704, .f32⟩
  | .hbm, ⟨1, _⟩ => ⟨S1x5632, .f32⟩
  | .hbm, ⟨2, _⟩ => ⟨S3x704, .f32⟩
  | .hbm, ⟨3, _⟩ => ⟨S1x5632, .f32⟩
  | .hbm, ⟨4, _⟩ => ⟨S3x704, .f32⟩
  | .hbm, ⟨5, _⟩ => ⟨S1x5632, .f32⟩
  | .hbm, ⟨6, _⟩ => ⟨S3x704, .f32⟩
  | .hbm, ⟨7, _⟩ => ⟨S1x5632, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S3x704, .f32⟩
  | .hbm, ⟨15, _⟩ => ⟨S1x5632, .f32⟩
  | .hbm, ⟨16, _⟩ => ⟨S1024x768, .f32⟩
  | .hbm, ⟨17, _⟩ => ⟨S3x704, .f32⟩
  | .hbm, ⟨18, _⟩ => ⟨S1x5632, .f32⟩
  | .hbm, ⟨19, _⟩ => ⟨S1024x768, .f32⟩
  | .hbm, ⟨20, _⟩ => ⟨S3x704, .f32⟩
  | .hbm, ⟨21, _⟩ => ⟨S1x5632, .f32⟩
  | .hbm, ⟨22, _⟩ => ⟨S1024x768, .f32⟩
  | .hbm, ⟨23, _⟩ => ⟨S3x704, .f32⟩
  | .hbm, ⟨24, _⟩ => ⟨S1x5632, .f32⟩
  | .hbm, ⟨25, _⟩ => ⟨S1024x768, .f32⟩
  | .hbm, ⟨26, _⟩ => ⟨S1x1, .f32⟩
  | .local _ .vmem, ⟨0, _⟩ => ⟨S3x704, .f32⟩
  | .local _ .vmem, ⟨1, _⟩ => ⟨S1x5632, .f32⟩
  | .local _ .vmem, ⟨2, _⟩ => ⟨S3x704, .f32⟩
  | .local _ .vmem, ⟨3, _⟩ => ⟨S1x5632, .f32⟩
  | .local _ .vmem, ⟨4, _⟩ => ⟨S3x704, .f32⟩
  | .local _ .vmem, ⟨5, _⟩ => ⟨S1x5632, .f32⟩
  | .local _ .vmem, ⟨6, _⟩ => ⟨S3x704, .f32⟩
  | .local _ .vmem, ⟨7, _⟩ => ⟨S1x5632, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S3x704, .f32⟩
  | .local _ .vmem, ⟨15, _⟩ => ⟨S1x5632, .f32⟩
  | .local _ .vmem, ⟨16, _⟩ => ⟨S1024x768, .f32⟩
  | .local _ .vmem, ⟨17, _⟩ => ⟨S3x704, .f32⟩
  | .local _ .vmem, ⟨18, _⟩ => ⟨S1x5632, .f32⟩
  | .local _ .vmem, ⟨19, _⟩ => ⟨S1024x768, .f32⟩
  | .local _ .vmem, ⟨20, _⟩ => ⟨S3x704, .f32⟩
  | .local _ .vmem, ⟨21, _⟩ => ⟨S1x5632, .f32⟩
  | .local _ .vmem, ⟨22, _⟩ => ⟨S1024x768, .f32⟩
  | .local _ .vmem, ⟨23, _⟩ => ⟨S3x704, .f32⟩
  | .local _ .vmem, ⟨24, _⟩ => ⟨S1x5632, .f32⟩
  | .local _ .vmem, ⟨25, _⟩ => ⟨S1024x768, .f32⟩
  | .local _ .vmem, ⟨26, _⟩ => ⟨S1x1, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x704 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x5632 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x704 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x5632 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference7Ideal.lean ====
abbrev S3x704 : Shape := ⟨2, ![3, 704]⟩
abbrev S1x5632 : Shape := ⟨2, ![1, 5632]⟩
abbrev S16x1024 : Shape := ⟨2, ![16, 1024]⟩
abbrev S16x768 : Shape := ⟨2, ![16, 768]⟩
abbrev S1024x768 : Shape := ⟨2, ![1024, 768]⟩
abbrev S1x1024 : Shape := ⟨2, ![1, 1024]⟩
abbrev S768x1024 : Shape := ⟨2, ![768, 1024]⟩
abbrev S_ : Shape := ⟨0, ![]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S1x5632, .f32⟩
  | .hbm, ⟨2, _⟩ => ⟨S3x704, .f32⟩
  | .hbm, ⟨3, _⟩ => ⟨S1x5632, .f32⟩
  | .hbm, ⟨4, _⟩ => ⟨S3x704, .f32⟩
  | .hbm, ⟨5, _⟩ => ⟨S1x5632, .f32⟩
  | .hbm, ⟨6, _⟩ => ⟨S3x704, .f32⟩
  | .hbm, ⟨7, _⟩ => ⟨S1x5632, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S_, .f32⟩
  | .hbm, ⟨21, _⟩ => ⟨S3x704, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S_, .f32⟩
  | .hbm, ⟨36, _⟩ => ⟨S3x704, .f32⟩
  | .hbm, ⟨37, _⟩ => ⟨S3x704, .f32⟩
  | .hbm, ⟨38, _⟩ => ⟨S3x704, .f32⟩
  | .hbm, ⟨39, _⟩ => ⟨S_, .f32⟩
  | .hbm, ⟨40, _⟩ => ⟨S3x704, .f32⟩
  | .hbm, ⟨41, _⟩ => ⟨S3x704, .f32⟩
  | .hbm, ⟨42, _⟩ => ⟨S3x704, .f32⟩
  | .hbm, ⟨43, _⟩ => ⟨S_, .f32⟩
  | .hbm, ⟨44, _⟩ => ⟨S3x704, .f32⟩
  | .hbm, ⟨45, _⟩ => ⟨S3x704, .f32⟩
  | .hbm, ⟨46, _⟩ => ⟨S3x704, .f32⟩
  | .hbm, ⟨47, _⟩ => ⟨S_, .f32⟩
  | .hbm, ⟨48, _⟩ => ⟨S3x704, .f32⟩
  | .hbm, ⟨49, _⟩ => ⟨S3x704, .f32⟩
  | .hbm, ⟨50, _⟩ => ⟨S_, .f32⟩
  | .hbm, ⟨51, _⟩ => ⟨S1x5632, .f32⟩
  | .hbm, ⟨52, _⟩ => ⟨S1x5632, .f32⟩
  | .hbm, ⟨53, _⟩ => ⟨S_, .f32⟩
  | .hbm, ⟨54, _⟩ => ⟨S1x5632, .f32⟩
  | .hbm, ⟨55, _⟩ => ⟨S1x5632, .f32⟩
  | .hbm, ⟨56, _⟩ => ⟨S1x5632, .f32⟩
  | .hbm, ⟨57, _⟩ => ⟨S_, .f32⟩
  | .hbm, ⟨58, _⟩ => ⟨S1x5632, .f32⟩
  | .hbm, ⟨59, _⟩ => ⟨S1x5632, .f32⟩
  | .hbm, ⟨60, _⟩ => ⟨S1x5632, .f32⟩
  | .hbm, ⟨61, _⟩ => ⟨S_, .f32⟩
  | .hbm, ⟨62, _⟩ => ⟨S1x5632, .f32⟩
  | .hbm, ⟨63, _⟩ => ⟨S1x5632, .f32⟩
  | .hbm, ⟨64, _⟩ => ⟨S1x5632, .f32⟩
  | .hbm, ⟨65, _⟩ => ⟨S_, .f32⟩
  | .hbm, ⟨66, _⟩ => ⟨S1x5632, .f32⟩
  | .hbm, ⟨67, _⟩ => ⟨S1x5632, .f32⟩
  | .hbm, ⟨68, _⟩ => ⟨S_, .f32⟩
  | .hbm, ⟨69, _⟩ => ⟨S1x5632, .f32⟩
  | .hbm, ⟨70, _⟩ => ⟨S1x5632, .f32⟩
  | .hbm, ⟨71, _⟩ => ⟨S1x5632, .f32⟩
  | .hbm, ⟨72, _⟩ => ⟨S_, .f32⟩
  | .hbm, ⟨73, _⟩ => ⟨S1x5632, .f32⟩
  | .hbm, ⟨74, _⟩ => ⟨S1x5632, .f32⟩
  | .hbm, ⟨75, _⟩ => ⟨S1x5632, .f32⟩
  | .hbm, ⟨76, _⟩ => ⟨S_, .f32⟩
  | .hbm, ⟨77, _⟩ => ⟨S1x5632, .f32⟩
  | .hbm, ⟨78, _⟩ => ⟨S1x5632, .f32⟩
  | .hbm, ⟨79, _⟩ => ⟨S1x5632, .f32⟩
  | .hbm, ⟨80, _⟩ => ⟨S_, .f32⟩
  | .hbm, ⟨81, _⟩ => ⟨S1x5632, .f32⟩
  | .hbm, ⟨82, _⟩ => ⟨S1x5632, .f32⟩
  | .hbm, ⟨83, _⟩ => ⟨S_, .f32⟩
  | .hbm, ⟨84, _⟩ => ⟨S1024x768, .f32⟩
  | .hbm, ⟨85, _⟩ => ⟨S1024x768, .f32⟩
  | .hbm, ⟨86, _⟩ => ⟨S_, .f32⟩
  | .hbm, ⟨87, _⟩ => ⟨S1024x768, .f32⟩
  | .hbm, ⟨88, _⟩ => ⟨S1024x768, .f32⟩
  | .hbm, ⟨89, _⟩ => ⟨S1024x768, .f32⟩
  | .hbm, ⟨90, _⟩ => ⟨S_, .f32⟩
  | .hbm, ⟨91, _⟩ => ⟨S1024x768, .f32⟩
  | .hbm, ⟨92, _⟩ => ⟨S1024x768, .f32⟩
  | .hbm, ⟨93, _⟩ => ⟨S1024x768, .f32⟩
  | .hbm, ⟨94, _⟩ => ⟨S_, .f32⟩
  | .hbm, ⟨95, _⟩ => ⟨S1024x768, .f32⟩
  | .hbm, ⟨96, _⟩ => ⟨S1024x768, .f32⟩
  | .hbm, ⟨97, _⟩ => ⟨S1024x768, .f32⟩
  | .hbm, ⟨98, _⟩ => ⟨S_, .f32⟩
  | .hbm, ⟨99, _⟩ => ⟨S1024x768, .f32⟩
  | .hbm, ⟨100, _⟩ => ⟨S1024x768, .f32⟩
  | .hbm, ⟨101, _⟩ => ⟨S_, .f32⟩
  | .hbm, ⟨102, _⟩ => ⟨S1024x768, .f32⟩
  | .hbm, ⟨103, _⟩ => ⟨S1024x768, .f32⟩
  | .hbm, ⟨104, _⟩ => ⟨S1024x768, .f32⟩
  | .hbm, ⟨105, _⟩ => ⟨S_, .f32⟩
  | .hbm, ⟨106, _⟩ => ⟨S1024x768, .f32⟩
  | .hbm, ⟨107, _⟩ => ⟨S1024x768, .f32⟩
  | .hbm, ⟨108, _⟩ => ⟨S1024x768, .f32⟩
  | .hbm, ⟨109, _⟩ => ⟨S_, .f32⟩
  | .hbm, ⟨110, _⟩ => ⟨S1024x768, .f32⟩
  | .hbm, ⟨111, _⟩ => ⟨S1024x768, .f32⟩
  | .hbm, ⟨112, _⟩ => ⟨S1024x768, .f32⟩
  | .hbm, ⟨113, _⟩ => ⟨S_, .f32⟩
  | .hbm, ⟨114, _⟩ => ⟨S1024x768, .f32⟩
  | .hbm, ⟨115, _⟩ => ⟨S1024x768, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_cst_22 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_cst_27 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Kernel8.lean ====
abbrev S1x512 : Shape := ⟨2, ![1, 512]⟩
abbrev S1x1024 : Shape := ⟨2, ![1, 1024]⟩
abbrev S16x1024 : Shape := ⟨2, ![16, 1024]⟩
abbrev S16x768 : Shape := ⟨2, ![16, 768]⟩
abbrev S1024x768 : Shape := ⟨2, ![1024, 768]⟩
abbrev S1x1 : Shape := ⟨2, ![1, 1]⟩
abbrev S1 : Shape := ⟨1, ![1]⟩

abbrev nBuf : Space → Nat
  | .hbm => 27
  | .vmem => 27
  | .smem => 0
  | _ => 0

abbrev bufTy : (tb : Table) → Fin (tcTables nBuf tb) → BufTy
  | .hbm, ⟨0, _⟩ => ⟨S1x512, .f32⟩
  | .hbm, ⟨1, _⟩ => ⟨S1x1024, .f32⟩
  | .hbm, ⟨2, _⟩ => ⟨S1x512, .f32⟩
  | .hbm, ⟨3, _⟩ => ⟨S1x1024, .f32⟩
  | .hbm, ⟨4, _⟩ => ⟨S1x512, .f32⟩
  | .hbm, ⟨5, _⟩ => ⟨S1x1024, .f32⟩
  | .hbm, ⟨6, _⟩ => ⟨S1x512, .f32⟩
  | .hbm, ⟨7, _⟩ => ⟨S1x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S1x512, .f32⟩
  | .hbm, ⟨15, _⟩ => ⟨S1x1024, .f32⟩
  | .hbm, ⟨16, _⟩ => ⟨S1024x768, .f32⟩
  | .hbm, ⟨17, _⟩ => ⟨S1x512, .f32⟩
  | .hbm, ⟨18, _⟩ => ⟨S1x1024, .f32⟩
  | .hbm, ⟨19, _⟩ => ⟨S1024x768, .f32⟩
  | .hbm, ⟨20, _⟩ => ⟨S1x512, .f32⟩
  | .hbm, ⟨21, _⟩ => ⟨S1x1024, .f32⟩
  | .hbm, ⟨22, _⟩ => ⟨S1024x768, .f32⟩
  | .hbm, ⟨23, _⟩ => ⟨S1x512, .f32⟩
  | .hbm, ⟨24, _⟩ => ⟨S1x1024, .f32⟩
  | .hbm, ⟨25, _⟩ => ⟨S1024x768, .f32⟩
  | .hbm, ⟨26, _⟩ => ⟨S1x1, .f32⟩
  | .local _ .vmem, ⟨0, _⟩ => ⟨S1x512, .f32⟩
  | .local _ .vmem, ⟨1, _⟩ => ⟨S1x1024, .f32⟩
  | .local _ .vmem, ⟨2, _⟩ => ⟨S1x512, .f32⟩
  | .local _ .vmem, ⟨3, _⟩ => ⟨S1x1024, .f32⟩
  | .local _ .vmem, ⟨4, _⟩ => ⟨S1x512, .f32⟩
  | .local _ .vmem, ⟨5, _⟩ => ⟨S1x1024, .f32⟩
  | .local _ .vmem, ⟨6, _⟩ => ⟨S1x512, .f32⟩
  | .local _ .vmem, ⟨7, _⟩ => ⟨S1x1024, .f32⟩
  | .local _ .vmem, ⟨8, _⟩ => ⟨S16x1024, .f32⟩
  | .local _ .vmem, ⟨9, _⟩ => ⟨S16x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1x1024, .f32⟩
  | .local _ .vmem, ⟨14, _⟩ => ⟨S1x512, .f32⟩
  | .local _ .vmem, ⟨15, _⟩ => ⟨S1x1024, .f32⟩
  | .local _ .vmem, ⟨16, _⟩ => ⟨S1024x768, .f32⟩
  | .local _ .vmem, ⟨17, _⟩ => ⟨S1x512, .f32⟩
  | .local _ .vmem, ⟨18, _⟩ => ⟨S1x1024, .f32⟩
  | .local _ .vmem, ⟨19, _⟩ => ⟨S1024x768, .f32⟩
  | .local _ .vmem, ⟨20, _⟩ => ⟨S1x512, .f32⟩
  | .local _ .vmem, ⟨21, _⟩ => ⟨S1x1024, .f32⟩
  | .local _ .vmem, ⟨22, _⟩ => ⟨S1024x768, .f32⟩
  | .local _ .vmem, ⟨23, _⟩ => ⟨S1x512, .f32⟩
  | .local _ .vmem, ⟨24, _⟩ => ⟨S1x1024, .f32⟩
  | .local _ .vmem, ⟨25, _⟩ => ⟨S1024x768, .f32⟩
  | .local _ .vmem, ⟨26, _⟩ => ⟨S1x1, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference8Ideal.lean ====
abbrev S1x512 : Shape := ⟨2, ![1, 512]⟩
abbrev S1x1024 : Shape := ⟨2, ![1, 1024]⟩
abbrev S16x1024 : Shape := ⟨2, ![16, 1024]⟩
abbrev S16x768 : Shape := ⟨2, ![16, 768]⟩
abbrev S1024x768 : Shape := ⟨2, ![1024, 768]⟩
abbrev S768x1024 : Shape := ⟨2, ![768, 1024]⟩
abbrev S_ : Shape := ⟨0, ![]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x1024, .f32⟩
  | .hbm, ⟨2, _⟩ => ⟨S1x512, .f32⟩
  | .hbm, ⟨3, _⟩ => ⟨S1x1024, .f32⟩
  | .hbm, ⟨4, _⟩ => ⟨S1x512, .f32⟩
  | .hbm, ⟨5, _⟩ => ⟨S1x1024, .f32⟩
  | .hbm, ⟨6, _⟩ => ⟨S1x512, .f32⟩
  | .hbm, ⟨7, _⟩ => ⟨S1x1024, .f32⟩
  | .hbm, ⟨8, _⟩ => ⟨S16x1024, .f32⟩
  | .hbm, ⟨9, _⟩ => ⟨S16x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S_, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1024x768, .f32⟩
  | .hbm, ⟨85, _⟩ => ⟨S1024x768, .f32⟩
  | .hbm, ⟨86, _⟩ => ⟨S_, .f32⟩
  | .hbm, ⟨87, _⟩ => ⟨S1024x768, .f32⟩
  | .hbm, ⟨88, _⟩ => ⟨S1024x768, .f32⟩
  | .hbm, ⟨89, _⟩ => ⟨S1024x768, .f32⟩
  | .hbm, ⟨90, _⟩ => ⟨S_, .f32⟩
  | .hbm, ⟨91, _⟩ => ⟨S1024x768, .f32⟩
  | .hbm, ⟨92, _⟩ => ⟨S1024x768, .f32⟩
  | .hbm, ⟨93, _⟩ => ⟨S1024x768, .f32⟩
  | .hbm, ⟨94, _⟩ => ⟨S_, .f32⟩
  | .hbm, ⟨95, _⟩ => ⟨S1024x768, .f32⟩
  | .hbm, ⟨96, _⟩ => ⟨S1024x768, .f32⟩
  | .hbm, ⟨97, _⟩ => ⟨S1024x768, .f32⟩
  | .hbm, ⟨98, _⟩ => ⟨S_, .f32⟩
  | .hbm, ⟨99, _⟩ => ⟨S1024x768, .f32⟩
  | .hbm, ⟨100, _⟩ => ⟨S1024x768, .f32⟩
  | .hbm, ⟨101, _⟩ => ⟨S_, .f32⟩
  | .hbm, ⟨102, _⟩ => ⟨S1024x768, .f32⟩
  | .hbm, ⟨103, _⟩ => ⟨S1024x768, .f32⟩
  | .hbm, ⟨104, _⟩ => ⟨S1024x768, .f32⟩
  | .hbm, ⟨105, _⟩ => ⟨S_, .f32⟩
  | .hbm, ⟨106, _⟩ => ⟨S1024x768, .f32⟩
  | .hbm, ⟨107, _⟩ => ⟨S1024x768, .f32⟩
  | .hbm, ⟨108, _⟩ => ⟨S1024x768, .f32⟩
  | .hbm, ⟨109, _⟩ => ⟨S_, .f32⟩
  | .hbm, ⟨110, _⟩ => ⟨S1024x768, .f32⟩
  | .hbm, ⟨111, _⟩ => ⟨S1024x768, .f32⟩
  | .hbm, ⟨112, _⟩ => ⟨S1024x768, .f32⟩
  | .hbm, ⟨113, _⟩ => ⟨S_, .f32⟩
  | .hbm, ⟨114, _⟩ => ⟨S1024x768, .f32⟩
  | .hbm, ⟨115, _⟩ => ⟨S1024x768, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_cst_22 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_cst_27 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Kernel9.lean ====
abbrev S3 : Shape := ⟨1, ![3]⟩
abbrev S2x2x704x1024 : Shape := ⟨4, ![2, 2, 704, 1024]⟩
abbrev S2x2x352x1024 : Shape := ⟨4, ![2, 2, 352, 1024]⟩
abbrev S3x704x1024 : Shape := ⟨3, ![3, 704, 1024]⟩
abbrev S3x352x1024 : Shape := ⟨3, ![3, 352, 1024]⟩
abbrev S704x1024 : Shape := ⟨2, ![704, 1024]⟩
abbrev S352x1024 : Shape := ⟨2, ![352, 1024]⟩
abbrev S_ : Shape := ⟨0, ![]⟩
abbrev S1x1x176x1024 : Shape := ⟨4, ![1, 1, 176, 1024]⟩
abbrev S1 : Shape := ⟨1, ![1]⟩
abbrev S1x1x88x1024 : Shape := ⟨4, ![1, 1, 88, 1024]⟩
abbrev S3x176x1024 : Shape := ⟨3, ![3, 176, 1024]⟩
abbrev S3x88x1024 : Shape := ⟨3, ![3, 88, 1024]⟩
abbrev S176x1024 : Shape := ⟨2, ![176, 1024]⟩
abbrev S88x1024 : Shape := ⟨2, ![88, 1024]⟩
abbrev S1x176x1024 : Shape := ⟨3, ![1, 176, 1024]⟩
abbrev S1x88x1024 : Shape := ⟨3, ![1, 88, 1024]⟩

abbrev nBuf : Space → Nat
  | .hbm => 26
  | .vmem => 36
  | .smem => 1
  | _ => 0

abbrev bufTy : (tb : Table) → Fin (tcTables nBuf tb) → BufTy
  | .hbm, ⟨0, _⟩ => ⟨S3, .i32⟩
  | .hbm, ⟨1, _⟩ => ⟨S2x2x704x1024, .f32⟩
  | .hbm, ⟨2, _⟩ => ⟨S2x2x352x1024, .f32⟩
  | .hbm, ⟨3, _⟩ => ⟨S3x704x1024, .bf16⟩
  | .hbm, ⟨4, _⟩ => ⟨S3x352x1024, .bf16⟩
  | .hbm, ⟨5, _⟩ => ⟨S704x1024, .f32⟩
  | .hbm, ⟨6, _⟩ => ⟨S352x1024, .f32⟩
  | .hbm, ⟨7, _⟩ => ⟨S704x1024, .f32⟩
  | .hbm, ⟨8, _⟩ => ⟨S352x1024, .f32⟩
  | .hbm, ⟨9, _⟩ => ⟨S704x1024, .f32⟩
  | .hbm, ⟨10, _⟩ => ⟨S352x1024, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S704x1024, .f32⟩
  | .hbm, ⟨19, _⟩ => ⟨S352x1024, .f32⟩
  | .hbm, ⟨20, _⟩ => ⟨S704x1024, .f32⟩
  | .hbm, ⟨21, _⟩ => ⟨S352x1024, .f32⟩
  | .hbm, ⟨22, _⟩ => ⟨S704x1024, .f32⟩
  | .hbm, ⟨23, _⟩ => ⟨S352x1024, .f32⟩
  | .hbm, ⟨24, _⟩ => ⟨S704x1024, .f32⟩
  | .hbm, ⟨25, _⟩ => ⟨S352x1024, .f32⟩
  | .local _ .vmem, ⟨0, _⟩ => ⟨S1x1x176x1024, .f32⟩
  | .local _ .vmem, ⟨1, _⟩ => ⟨S1x1x176x1024, .f32⟩
  | .local _ .vmem, ⟨2, _⟩ => ⟨S1x1x88x1024, .f32⟩
  | .local _ .vmem, ⟨3, _⟩ => ⟨S1x1x88x1024, .f32⟩
  | .local _ .vmem, ⟨4, _⟩ => ⟨S3x176x1024, .bf16⟩
  | .local _ .vmem, ⟨5, _⟩ => ⟨S3x176x1024, .bf16⟩
  | .local _ .vmem, ⟨6, _⟩ => ⟨S3x88x1024, .bf16⟩
  | .local _ .vmem, ⟨7, _⟩ => ⟨S3x88x1024, .bf16⟩
  | .local _ .vmem, ⟨8, _⟩ => ⟨S176x1024, .f32⟩
  | .local _ .vmem, ⟨9, _⟩ => ⟨S176x1024, .f32⟩
  | .local _ .vmem, ⟨10, _⟩ => ⟨S88x1024, .f32⟩
  | .local _ .vmem, ⟨11, _⟩ => ⟨S88x1024, .f32⟩
  | .local _ .vmem, ⟨12, _⟩ => ⟨S176x1024, .f32⟩
  | .local _ .vmem, ⟨13, _⟩ => ⟨S176x1024, .f32⟩
  | .local _ .vmem, ⟨14, _⟩ => ⟨S88x1024, .f32⟩
  | .local _ .vmem, ⟨15, _⟩ => ⟨S88x1024, .f32⟩
  | .local _ .vmem, ⟨16, _⟩ => ⟨S176x1024, .f32⟩
  | .local _ .vmem, ⟨17, _⟩ => ⟨S176x1024, .f32⟩
  | .local _ .vmem, ⟨18, _⟩ => ⟨S88x1024, .f32⟩
  | .local _ .vmem, ⟨19, _⟩ => ⟨S88x1024, .f32⟩
  | .local _ .vmem, ⟨20, _⟩ => ⟨S176x1024, .f32⟩
  | .local _ .vmem, ⟨21, _⟩ => ⟨S176x1024, .f32⟩
  | .local _ .vmem, ⟨22, _⟩ => ⟨S88x1024, .f32⟩
  | .local _ .vmem, ⟨23, _⟩ => ⟨S88x1024, .f32⟩
  | .local _ .vmem, ⟨24, _⟩ => ⟨S176x1024, .f32⟩
  | .local _ .vmem, ⟨25, _⟩ => ⟨S176x1024, .f32⟩
  | .local _ .vmem, ⟨26, _⟩ => ⟨S88x1024, .f32⟩
  | .local _ .vmem, ⟨27, _⟩ => ⟨S88x1024, .f32⟩
  | .local _ .vmem, ⟨28, _⟩ => ⟨S176x1024, .f32⟩
  | .local _ .vmem, ⟨29, _⟩ => ⟨S176x1024, .f32⟩
  | .local _ .vmem, ⟨30, _⟩ => ⟨S88x1024, .f32⟩
  | .local _ .vmem, ⟨31, _⟩ => ⟨S88x1024, .f32⟩
  | .local _ .vmem, ⟨32, _⟩ => ⟨S176x1024, .f32⟩
  | .local _ .vmem, ⟨33, _⟩ => ⟨S176x1024, .f32⟩
  | .local _ .vmem, ⟨34, _⟩ => ⟨S88x1024, .f32⟩
  | .local _ .vmem, ⟨35, _⟩ => ⟨S88x1024, .f32⟩
  | .local _ .smem, ⟨0, _⟩ => ⟨S3, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev main_v1_4 : Ref sig .tc := ⟨.hbm, 22, rfl⟩
abbrev main_v1_5 : Ref sig .tc := ⟨.hbm, 23, rfl⟩
abbrev main_v1_6 : Ref sig .tc := ⟨.hbm, 24, rfl⟩
abbrev main_v1_7 : Ref sig .tc := ⟨.hbm, 25, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S3) ![0] S1.size inb_S3_S1_0) numel1_S1
  let c1 : Index := 1#32
  let v1 : BitVec 32 := pf.at 0 (Rect.unit (s := S3) ![1] S1.size inb_S3_S1_1) numel1_S1
  let c0_i32 : BitVec 32 := 0#32
  let c0_i32_0 : BitVec 32 := 0#32
  ![v0.toNat, v1.toNat, arg0.toNat, c0_i32.toNat]

def cc0_transform_1 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S3) ![0] S1.size inb_S3_S1_0) numel1_S1
  let c1 : Index := 1#32
  let v1 : BitVec 32 := pf.at 0 (Rect.unit (s := S3) ![1] S1.size inb_S3_S1_1) numel1_S1
  let c0_i32 : BitVec 32 := 0#32
  let c0_i32_0 : BitVec 32 := 0#32
  ![v0.toNat, v1.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x88x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference9Ideal.lean ====
abbrev S3 : Shape := ⟨1, ![3]⟩
abbrev S2x2x704x1024 : Shape := ⟨4, ![2, 2, 704, 1024]⟩
abbrev S2x2x352x1024 : Shape := ⟨4, ![2, 2, 352, 1024]⟩
abbrev S3x704x1024 : Shape := ⟨3, ![3, 704, 1024]⟩
abbrev S3x352x1024 : Shape := ⟨3, ![3, 352, 1024]⟩
abbrev S704x1024 : Shape := ⟨2, ![704, 1024]⟩
abbrev S352x1024 : Shape := ⟨2, ![352, 1024]⟩
abbrev S1 : Shape := ⟨1, ![1]⟩
abbrev S_ : Shape := ⟨0, ![]⟩
abbrev S1x2x704x1024 : Shape := ⟨4, ![1, 2, 704, 1024]⟩
abbrev S2x704x1024 : Shape := ⟨3, ![2, 704, 1024]⟩
abbrev S1x704x1024 : Shape := ⟨3, ![1, 704, 1024]⟩
abbrev S1x2x352x1024 : Shape := ⟨4, ![1, 2, 352, 1024]⟩
abbrev S2x352x1024 : Shape := ⟨3, ![2, 352, 1024]⟩
abbrev S1x352x1024 : Shape := ⟨3, ![1, 352, 1024]⟩

abbrev nBuf : Space → Nat
  | .hbm => 137
  | .vmem => 0
  | .smem => 0
  | _ => 0

abbrev hbmTy0_0 (i : Nat) : BufTy := match i % 128 with
  | 0 => ⟨S3, .i32⟩
  | 1 => ⟨S2x2x704x1024, .f32⟩
  | 2 => ⟨S2x2x352x1024, .f32⟩
  | 3 => ⟨S3x704x1024, .bf16⟩
  | 4 => ⟨S3x352x1024, .bf16⟩
  | 5 => ⟨S704x1024, .f32⟩
  | 6 => ⟨S352x1024, .f32⟩
  | 7 => ⟨S704x1024, .f32⟩
  | 8 => ⟨S352x1024, .f32⟩
  | 9 => ⟨S704x1024, .f32⟩
  | 10 => ⟨S352x1024, .f32⟩
  | 11 => ⟨S1, .i32⟩
  | 12 => ⟨S_, .i32⟩
  | 13 => ⟨S_, .i32⟩
  | 14 => ⟨S_, .i1⟩
  | 15 => ⟨S1x2x704x1024, .f32⟩
  | 16 => ⟨S2x704x1024, .f32⟩
  | 17 => ⟨S1x2x704x1024, .f32⟩
  | 18 => ⟨S2x704x1024, .f32⟩
  | 19 => ⟨S2x704x1024, .f32⟩
  | 20 => ⟨S1, .i32⟩
  | 21 => ⟨S_, .i32⟩
  | 22 => ⟨S_, .i32⟩
  | 23 => ⟨S_, .i1⟩
  | 24 => ⟨S1x704x1024, .f32⟩
  | 25 => ⟨S704x1024, .f32⟩
  | 26 => ⟨S1x704x1024, .f32⟩
  | 27 => ⟨S704x1024, .f32⟩
  | 28 => ⟨S704x1024, .f32⟩
  | 29 => ⟨S1x704x1024, .bf16⟩
  | 30 => ⟨S704x1024, .bf16⟩
  | 31 => ⟨S704x1024, .f32⟩
  | 32 => ⟨S704x1024, .f32⟩
  | 33 => ⟨S1x704x1024, .bf16⟩
  | 34 => ⟨S704x1024, .bf16⟩
  | 35 => ⟨S704x1024, .f32⟩
  | 36 => ⟨S704x1024, .f32⟩
  | 37 => ⟨S1x704x1024, .bf16⟩
  | 38 => ⟨S704x1024, .bf16⟩
  | 39 => ⟨S704x1024, .f32⟩
  | 40 => ⟨S704x1024, .f32⟩
  | 41 => ⟨S1, .i32⟩
  | 42 => ⟨S_, .i32⟩
  | 43 => ⟨S_, .i32⟩
  | 44 => ⟨S_, .i1⟩
  | 45 => ⟨S1x2x352x1024, .f32⟩
  | 46 => ⟨S2x352x1024, .f32⟩
  | 47 => ⟨S1x2x352x1024, .f32⟩
  | 48 => ⟨S2x352x1024, .f32⟩
  | 49 => ⟨S2x352x1024, .f32⟩
  | 50 => ⟨S1, .i32⟩
  | 51 => ⟨S_, .i32⟩
  | 52 => ⟨S_, .i32⟩
  | 53 => ⟨S_, .i1⟩
  | 54 => ⟨S1x352x1024, .f32⟩
  | 55 => ⟨S352x1024, .f32⟩
  | 56 => ⟨S1x352x1024, .f32⟩
  | 57 => ⟨S352x1024, .f32⟩
  | 58 => ⟨S352x1024, .f32⟩
  | 59 => ⟨S1x352x1024, .bf16⟩
  | 60 => ⟨S352x1024, .bf16⟩
  | 61 => ⟨S352x1024, .f32⟩
  | 62 => ⟨S352x1024, .f32⟩
  | 63 => ⟨S1x352x1024, .bf16⟩
  | 64 => ⟨S352x1024, .bf16⟩
  | 65 => ⟨S352x1024, .f32⟩
  | 66 => ⟨S352x1024, .f32⟩
  | 67 => ⟨S1x352x1024, .bf16⟩
  | 68 => ⟨S352x1024, .bf16⟩
  | 69 => ⟨S352x1024, .f32⟩
  | 70 => ⟨S352x1024, .f32⟩
  | 71 => ⟨S_, .f32⟩
  | 72 => ⟨S704x1024, .f32⟩
  | 73 => ⟨S704x1024, .f32⟩
  | 74 => ⟨S_, .f32⟩
  | 75 => ⟨S704x1024, .f32⟩
  | 76 => ⟨S704x1024, .f32⟩
  | 77 => ⟨S704x1024, .f32⟩
  | 78 => ⟨S_, .f32⟩
  | 79 => ⟨S704x1024, .f32⟩
  | 80 => ⟨S704x1024, .f32⟩
  | 81 => ⟨S704x1024, .f32⟩
  | 82 => ⟨S_, .f32⟩
  | 83 => ⟨S704x1024, .f32⟩
  | 84 => ⟨S704x1024, .f32⟩
  | 85 => ⟨S704x1024, .f32⟩
  | 86 => ⟨S_, .f32⟩
  | 87 => ⟨S704x1024, .f32⟩
  | 88 => ⟨S704x1024, .f32⟩
  | 89 => ⟨S_, .f32⟩
  | 90 => ⟨S704x1024, .f32⟩
  | 91 => ⟨S704x1024, .f32⟩
  | 92 => ⟨S704x1024, .f32⟩
  | 93 => ⟨S_, .f32⟩
  | 94 => ⟨S704x1024, .f32⟩
  | 95 => ⟨S704x1024, .f32⟩
  | 96 => ⟨S704x1024, .f32⟩
  | 97 => ⟨S_, .f32⟩
  | 98 => ⟨S704x1024, .f32⟩
  | 99 => ⟨S704x1024, .f32⟩
  | 100 => ⟨S704x1024, .f32⟩
  | 101 => ⟨S_, .f32⟩
  | 102 => ⟨S704x1024, .f32⟩
  | 103 => ⟨S704x1024, .f32⟩
  | 104 => ⟨S_, .f32⟩
  | 105 => ⟨S352x1024, .f32⟩
  | 106 => ⟨S352x1024, .f32⟩
  | 107 => ⟨S_, .f32⟩
  | 108 => ⟨S352x1024, .f32⟩
  | 109 => ⟨S352x1024, .f32⟩
  | 110 => ⟨S352x1024, .f32⟩
  | 111 => ⟨S_, .f32⟩
  | 112 => ⟨S352x1024, .f32⟩
  | 113 => ⟨S352x1024, .f32⟩
  | 114 => ⟨S352x1024, .f32⟩
  | 115 => ⟨S_, .f32⟩
  | 116 => ⟨S352x1024, .f32⟩
  | 117 => ⟨S352x1024, .f32⟩
  | 118 => ⟨S352x1024, .f32⟩
  | 119 => ⟨S_, .f32⟩
  | 120 => ⟨S352x1024, .f32⟩
  | 121 => ⟨S352x1024, .f32⟩
  | 122 => ⟨S_, .f32⟩
  | 123 => ⟨S352x1024, .f32⟩
  | 124 => ⟨S352x1024, .f32⟩
  | 125 => ⟨S352x1024, .f32⟩
  | 126 => ⟨S_, .f32⟩
  | 127 => ⟨S352x1024, .f32⟩
  | _ => ⟨S3, .i32⟩

abbrev hbmTy0_1 (i : Nat) : BufTy := match i % 128 with
  | 0 => ⟨S352x1024, .f32⟩
  | 1 => ⟨S352x1024, .f32⟩
  | 2 => ⟨S_, .f32⟩
  | 3 => ⟨S352x1024, .f32⟩
  | 4 => ⟨S352x1024, .f32⟩
  | 5 => ⟨S352x1024, .f32⟩
  | 6 => ⟨S_, .f32⟩
  | 7 => ⟨S352x1024, .f32⟩
  | 8 => ⟨S352x1024, .f32⟩
  | _ => ⟨S3, .i32⟩

abbrev hbmTy (i : Nat) : BufTy := match i / 128 with
  | 0 => hbmTy0_0 i
  | 1 => hbmTy0_1 i
  | _ => ⟨S3, .i32⟩

abbrev bufTy : (tb : Table) → Fin (tcTables nBuf tb) → BufTy
  | .hbm, ⟨i, _⟩ => hbmTy i
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_4 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_v92 : Ref sig .tc := ⟨.hbm, 121, rfl⟩
abbrev main_cst_16 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_19 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Proof.Contents.lean ====
/-
  What the body leaves in each output's staging buffer and in the carried scratch, in each of its two cases
  (A: the first grid point, B: every later one): the pieces the body's run finds, read back, and the fact that
  they cover the buffer.  The long argument lists are section variables, and the two steps (`stepA`, `stepB`) are named.
-/
module

public import proofs.«01_k».proof.Proof.Gen.KernelIdeal.Frame.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section CaseA

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S8x256x704 .f32) (harg4 : arg4.IsWhole)
  (arg5 : Memref sig .tc .vmem S8x8x704 .f32) (harg5 : arg5.IsWhole)
  (arg6 : Memref sig .tc .vmem S6x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S8x1024x704 .bf16) (harg9 : arg9.IsWhole)
  (arg10 : Memref sig .tc .vmem S8x3x704 .f32) (harg10 : arg10.IsWhole)
  (arg11 : Memref sig .tc .vmem S8x704 .f32) (harg11 : arg11.IsWhole)
  (arg12 : Memref sig .tc .vmem S2816x1024 .bf16) (harg12 : arg12.IsWhole)
  (arg13 : Memref sig .tc .vmem S256x1024 .f32) (harg13 : arg13.IsWhole)
  (arg14 : Memref sig .tc .vmem S8x256x704 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S3x1024 .f32) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S8x704 .f32) (harg20 : arg20.IsWhole)
  (arg21 : Memref sig .tc .vmem S8x3x704 .f32) (harg21 : arg21.IsWhole)
  (arg22 : Memref sig .tc .vmem S8x8x704 .f32) (harg22 : arg22.IsWhole)
  (arg23 : Memref sig .tc .vmem S256x1024 .f32) (harg23 : arg23.IsWhole)
  (hc0 : cond0_0 i)
  (x0 : Vec F S256x1024 .f32)
  (x1 : Vec F S256x1024 .f32)
  (x2 : Vec F S256x1024 .f32)
  (x3 : Vec F S8x256x704 .f32)
  (x4 : Vec F S8x8x704 .f32)
  (x5 : Vec F S6x1024 .f32)
  (x6 : Vec F S1x1024 .f32)
  (x7 : Vec F S1x1024 .f32)
  (x8 : Vec F S8x1024x704 .bf16)
  (x9 : Vec F S8x3x704 .f32)
  (x10 : Vec F S8x704 .f32)
  (x11 : Vec F S2816x1024 .bf16)

/-- Case A's pieces for output 12 cover its block. -/
theorem cover0_A_12 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1 S256x1024.size (by sl_kernel_rfl) y

/-- What case A leaves in output 12. -/
def out0_A_12 : Vec F S256x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1)

/-- Case A's pieces for output 13 cover its block. -/
theorem cover0_A_13 (y : S8x256x704.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1 S1x256x704.size (by sl_kernel_rfl) y

/-- What case A leaves in output 13. -/
def out0_A_13 : Vec F S8x256x704 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1)

/-- Case A's pieces for output 14 cover its block. -/
theorem cover0_A_14 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1 S256x1024.size (by sl_kernel_rfl) y

/-- What case A leaves in output 14. -/
def out0_A_14 : Vec F S256x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1)

/-- Case A's pieces for output 15 cover its block. -/
theorem cover0_A_15 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1 S256x1024.size (by sl_kernel_rfl) y

/-- What case A leaves in output 15. -/
def out0_A_15 : Vec F S256x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1)

/-- Case A's pieces for output 16 cover its block. -/
theorem cover0_A_16 (y : S3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1 ![1, 1024] (by sl_kernel_rfl) y

/-- What case A leaves in output 16. -/
def out0_A_16 : Vec F S3x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1)

/-- Case A's pieces for output 17 cover its block. -/
theorem cover0_A_17 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1 S1x1024.size (by sl_kernel_rfl) y

/-- What case A leaves in output 17. -/
def out0_A_17 : Vec F S1x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1)

/-- Case A's pieces for output 18 cover its block. -/
theorem cover0_A_18 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1 S1x1024.size (by sl_kernel_rfl) y

/-- What case A leaves in output 18. -/
def out0_A_18 : Vec F S1x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1)

/-- Case A's pieces for output 19 cover its block. -/
theorem cover0_A_19 (y : S8x704.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1 ![1, 704] (by sl_kernel_rfl) y

/-- What case A leaves in output 19. -/
def out0_A_19 : Vec F S8x704 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1)

/-- Case A's pieces for output 20 cover its block. -/
theorem cover0_A_20 (y : S8x3x704.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1 ![1, 1, 704] (by sl_kernel_rfl) y

/-- What case A leaves in output 20. -/
def out0_A_20 : Vec F S8x3x704 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1)

/-- Case A's pieces for carried scratch 0 cover its block. -/
theorem scover0_A_0 (y : S8x8x704.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1 (by sl_whole_mem) y

/-- What case A leaves in carried scratch 0. -/
def sout0_A_0 : Vec F S8x8x704 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1)

end CaseA

section CaseB

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S8x256x704 .f32) (harg4 : arg4.IsWhole)
  (arg5 : Memref sig .tc .vmem S8x8x704 .f32) (harg5 : arg5.IsWhole)
  (arg6 : Memref sig .tc .vmem S6x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S8x1024x704 .bf16) (harg9 : arg9.IsWhole)
  (arg10 : Memref sig .tc .vmem S8x3x704 .f32) (harg10 : arg10.IsWhole)
  (arg11 : Memref sig .tc .vmem S8x704 .f32) (harg11 : arg11.IsWhole)
  (arg12 : Memref sig .tc .vmem S2816x1024 .bf16) (harg12 : arg12.IsWhole)
  (arg13 : Memref sig .tc .vmem S256x1024 .f32) (harg13 : arg13.IsWhole)
  (arg14 : Memref sig .tc .vmem S8x256x704 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S3x1024 .f32) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S8x704 .f32) (harg20 : arg20.IsWhole)
  (arg21 : Memref sig .tc .vmem S8x3x704 .f32) (harg21 : arg21.IsWhole)
  (arg22 : Memref sig .tc .vmem S8x8x704 .f32) (harg22 : arg22.IsWhole)
  (arg23 : Memref sig .tc .vmem S256x1024 .f32) (harg23 : arg23.IsWhole)
  (hc0 : ¬cond0_0 i)
  (x0 : Vec F S256x1024 .f32)
  (x1 : Vec F S256x1024 .f32)
  (x2 : Vec F S256x1024 .f32)
  (x3 : Vec F S8x256x704 .f32)
  (x4 : Vec F S8x8x704 .f32)
  (x5 : Vec F S6x1024 .f32)
  (x6 : Vec F S1x1024 .f32)
  (x7 : Vec F S1x1024 .f32)
  (x8 : Vec F S8x1024x704 .bf16)
  (x9 : Vec F S8x3x704 .f32)
  (x10 : Vec F S8x704 .f32)
  (x11 : Vec F S2816x1024 .bf16)
  (xo16 : Vec F S3x1024 .f32)
  (xo17 : Vec F S1x1024 .f32)
  (xo18 : Vec F S1x1024 .f32)
  (xo19 : Vec F S8x704 .f32)
  (xo20 : Vec F S8x3x704 .f32)
  (xs0 : Vec F S8x8x704 .f32)

/-- Case B's pieces for output 12 cover its block. -/
theorem cover0_B_12 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).1 S256x1024.size (by sl_kernel_rfl) y

/-- What case B leaves in output 12. -/
def out0_B_12 : Vec F S256x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).1)

/-- Case B's pieces for output 13 cover its block. -/
theorem cover0_B_13 (y : S8x256x704.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.1 S1x256x704.size (by sl_kernel_rfl) y

/-- What case B leaves in output 13. -/
def out0_B_13 : Vec F S8x256x704 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.1)

/-- Case B's pieces for output 14 cover its block. -/
theorem cover0_B_14 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.1 S256x1024.size (by sl_kernel_rfl) y

/-- What case B leaves in output 14. -/
def out0_B_14 : Vec F S256x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.1)

/-- Case B's pieces for output 15 cover its block. -/
theorem cover0_B_15 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.1 S256x1024.size (by sl_kernel_rfl) y

/-- What case B leaves in output 15. -/
def out0_B_15 : Vec F S256x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.1)

/-- Case B's pieces for output 16 cover its block. -/
theorem cover0_B_16 (y : S3x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.1 S1x1024.size (by sl_kernel_rfl) y

/-- What case B leaves in output 16. -/
def out0_B_16 : Vec F S3x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.1)

/-- Case B's pieces for output 17 cover its block. -/
theorem cover0_B_17 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.1 S1x1024.size (by sl_kernel_rfl) y

/-- What case B leaves in output 17. -/
def out0_B_17 : Vec F S1x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.1)

/-- Case B's pieces for output 18 cover its block. -/
theorem cover0_B_18 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.1 S1x1024.size (by sl_kernel_rfl) y

/-- What case B leaves in output 18. -/
def out0_B_18 : Vec F S1x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.1)

/-- Case B's pieces for output 19 cover its block. -/
theorem cover0_B_19 (y : S8x704.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.1 S1x704.size (by sl_kernel_rfl) y

/-- What case B leaves in output 19. -/
def out0_B_19 : Vec F S8x704 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.1)

/-- Case B's pieces for output 20 cover its block. -/
theorem cover0_B_20 (y : S8x3x704.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.1 S1x1x704.size (by sl_kernel_rfl) y

/-- What case B leaves in output 20. -/
def out0_B_20 : Vec F S8x3x704 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.1)

/-- Case B's pieces for carried scratch 0 cover its block. -/
theorem scover0_B_0 (y : S8x8x704.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.2.1 S1x8x704.size (by sl_kernel_rfl) y

/-- What case B leaves in carried scratch 0. -/
def sout0_B_0 : Vec F S8x8x704 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo16 xo17 xo18 xo19 xo20 xs0).2.2.2.2.2.2.2.2.2.1)

end CaseB

variable (m : (ℓ : Loc nD τ sig) → Buf (Elt F) ℓ)

/-- The contents after a point: the nine outputs' staging buffers, then the carried scratch. -/
abbrev Outs (F : FTy → Type) [FloatOps F] : Type := Vec F S256x1024 .f32 ×
  Vec F S8x256x704 .bf16 ×
  Vec F S256x1024 .bf16 ×
  Vec F S256x1024 .bf16 ×
  Vec F S3x1024 .f32 ×
  Vec F S1x1024 .f32 ×
  Vec F S1x1024 .f32 ×
  Vec F S8x704 .f32 ×
  Vec F S8x3x704 .f32 ×
  Vec F S8x8x704 .f32

/-- out0_A_12 at point `t`'s buffers and blocks. -/
def oA12 (c : Dev nD) (t : Fin cfg0.N) (h0 : t.val % 32 = 0) :=
  out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_13 at point `t`'s buffers and blocks. -/
def oA13 (c : Dev nD) (t : Fin cfg0.N) (h0 : t.val % 32 = 0) :=
  out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_14 at point `t`'s buffers and blocks. -/
def oA14 (c : Dev nD) (t : Fin cfg0.N) (h0 : t.val % 32 = 0) :=
  out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_15 at point `t`'s buffers and blocks. -/
def oA15 (c : Dev nD) (t : Fin cfg0.N) (h0 : t.val % 32 = 0) :=
  out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_16 at point `t`'s buffers and blocks. -/
def oA16 (c : Dev nD) (t : Fin cfg0.N) (h0 : t.val % 32 = 0) :=
  out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_17 at point `t`'s buffers and blocks. -/
def oA17 (c : Dev nD) (t : Fin cfg0.N) (h0 : t.val % 32 = 0) :=
  out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_18 at point `t`'s buffers and blocks. -/
def oA18 (c : Dev nD) (t : Fin cfg0.N) (h0 : t.val % 32 = 0) :=
  out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_19 at point `t`'s buffers and blocks. -/
def oA19 (c : Dev nD) (t : Fin cfg0.N) (h0 : t.val % 32 = 0) :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_A_20 at point `t`'s buffers and blocks. -/
def oA20 (c : Dev nD) (t : Fin cfg0.N) (h0 : t.val % 32 = 0) :=
  out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- sout0_A_0 at point `t`'s buffers and blocks. -/
def sA0 (c : Dev nD) (t : Fin cfg0.N) (h0 : t.val % 32 = 0) :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- out0_B_12 at point `t`'s buffers and blocks. -/
def oB12 (c : Dev nD) (t : Fin cfg0.N) (h0 : ¬t.val % 32 = 0) (p : Outs F) :=
  out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_13 at point `t`'s buffers and blocks. -/
def oB13 (c : Dev nD) (t : Fin cfg0.N) (h0 : ¬t.val % 32 = 0) (p : Outs F) :=
  out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_14 at point `t`'s buffers and blocks. -/
def oB14 (c : Dev nD) (t : Fin cfg0.N) (h0 : ¬t.val % 32 = 0) (p : Outs F) :=
  out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_15 at point `t`'s buffers and blocks. -/
def oB15 (c : Dev nD) (t : Fin cfg0.N) (h0 : ¬t.val % 32 = 0) (p : Outs F) :=
  out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_16 at point `t`'s buffers and blocks. -/
def oB16 (c : Dev nD) (t : Fin cfg0.N) (h0 : ¬t.val % 32 = 0) (p : Outs F) :=
  out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_17 at point `t`'s buffers and blocks. -/
def oB17 (c : Dev nD) (t : Fin cfg0.N) (h0 : ¬t.val % 32 = 0) (p : Outs F) :=
  out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_18 at point `t`'s buffers and blocks. -/
def oB18 (c : Dev nD) (t : Fin cfg0.N) (h0 : ¬t.val % 32 = 0) (p : Outs F) :=
  out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_19 at point `t`'s buffers and blocks. -/
def oB19 (c : Dev nD) (t : Fin cfg0.N) (h0 : ¬t.val % 32 = 0) (p : Outs F) :=
  out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- out0_B_20 at point `t`'s buffers and blocks. -/
def oB20 (c : Dev nD) (t : Fin cfg0.N) (h0 : ¬t.val % 32 = 0) (p : Outs F) :=
  out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- sout0_B_0 at point `t`'s buffers and blocks. -/
def sB0 (c : Dev nD) (t : Fin cfg0.N) (h0 : ¬t.val % 32 = 0) (p : Outs F) :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.1 p.2.2.2.2.2.1 p.2.2.2.2.2.2.1 p.2.2.2.2.2.2.2.1 p.2.2.2.2.2.2.2.2.1 p.2.2.2.2.2.2.2.2.2

/-- What the first point leaves. -/
def stepA (c : Dev nD) (t : Fin cfg0.N) (h0 : t.val % 32 = 0) : Outs F :=
  (oA12 m c t h0, oA13 m c t h0, oA14 m c t h0, oA15 m c t h0, oA16 m c t h0, oA17 m c t h0, oA18 m c t h0, oA19 m c t h0, oA20 m c t h0, sA0 m c t h0)

/-- What a later point leaves, over what the point before left. -/
def stepB (c : Dev nD) (t : Fin cfg0.N) (h0 : ¬t.val % 32 = 0) (p : Outs F) : Outs F :=
  (oB12 m c t h0 p, oB13 m c t h0 p, oB14 m c t h0 p, oB15 m c t h0 p, oB16 m c t h0 p, oB17 m c t h0 p, oB18 m c t h0 p, oB19 m c t h0 p, oB20 m c t h0 p, sB0 m c t h0 p)

/-- What the outputs' staging buffers and the carried scratch hold after the body at position `n`. -/
def outsAt0 (c : Dev nD) : (n : ℕ) → n < cfg0.N → Outs F
  | 0, hn => stepA m c ⟨0, hn⟩ (Nat.zero_mod _)
  | n + 1, hn =>
    if h0 : (n + 1) % 32 = 0 then stepA m c ⟨n + 1, hn⟩ h0
    else stepB m c ⟨n + 1, hn⟩ h0 (outsAt0 c n (Nat.lt_of_succ_lt hn))

/-- At a point of case A: that case's contents. -/
theorem outsAt0_A (c : Dev nD) (t : Fin cfg0.N) (h0 : t.val % 32 = 0) :
    outsAt0 m c t.val t.isLt = stepA m c t h0 := by
  obtain ⟨n, hn⟩ := t
  cases n with
  | zero => rfl
  | succ n => rw [outsAt0]; exact dif_pos h0

/-- At a point of case B: that case's contents, over what the point before left. -/
theorem outsAt0_B (c : Dev nD) (t : Fin cfg0.N) (h0 : ¬t.val % 32 = 0) :
    outsAt0 m c t.val t.isLt
      = stepB m c t h0 (outsAt0 m c (t.val - 1) (Nat.lt_of_le_of_lt (Nat.sub_le _ _) t.isLt)) := by
  obtain ⟨n, hn⟩ := t
  cases n with
  | zero => exact absurd (Nat.zero_mod _) h0
  | succ n => rw [outsAt0]; exact dif_neg h0

end Cert.KernelIdeal.Own

end
-- ==== Proof.IdealFrame.lean ====
/-
  The run of the idealized kernel with what its outputs hold named (`outsAt0`): the proof data, the body's
  obligation at a generic point, and the launch.
-/
module

public import proofs.«01_k».proof.Proof.Contents

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (`ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨_ + 21, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 16's current staging buffer holds what the body left at the point before: the point is
    not the first, the buffer was not written back between (`flush0_16`), the window is live and uncut (`Dat.before_out_kept`). -/
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (`Dat.before_out_kept`). -/
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (`Dat.before_out_kept`). -/
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case B output 19's current staging buffer holds what the body left at the point before: the point is
    not the first, the buffer was not written back between (`flush0_19`), the window is live and uncut (`Dat.before_out_kept`). -/
theorem before0_19_B (c : Dev nD) (t : Fin cfg0.N) (h0 : ¬t.val % 32 = 0) (d) :
    (dats m 0 c).before 19 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (`Dat.before_out_kept`). -/
theorem before0_20_B (c : Dev nD) (t : Fin cfg0.N) (h0 : ¬t.val % 32 = 0) (d) :
    (dats m 0 c).before 20 t d = (outsAt0 m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

/-- What the body is called with at point `t` (the body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold stepA oA12 oA13 oA14 oA15 oA16 oA17 oA18 oA19 oA20 sA0 out0_A_12 out0_A_13 out0_A_14 out0_A_15 out0_A_16 out0_A_17 out0_A_18 out0_A_19 out0_A_20 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_16_B m c t h0, before0_17_B m c t h0, before0_18_B m c t h0, before0_19_B m c t h0, before0_20_B m c t h0]
      unfold stepB oB12 oB13 oB14 oB15 oB16 oB17 oB18 oB19 oB20 sB0 out0_B_12 out0_B_13 out0_B_14 out0_B_15 out0_B_16 out0_B_17 out0_B_18 out0_B_19 out0_B_20 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexact H16
      isplitl [H17]; · iexact H17
      isplitl [H18]; · iexact H18
      isplitl [H19]; · iexact H19
      isplitl [H20]; · iexact H20
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch: every fair execution ends with each array at what the proof data says, and with every semaphore counter
    at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters: each output array holds what the proof data says, every other buffer what the region
    found in it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame over any float values: every fair execution ends, with the arguments as they were and every counter at
    zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Own

end
-- ==== Proof.Tile.lean ====
/-
  One grid point of the kernel, in vector operations over the blocks it loads: the two row rolls, the depthwise
  convolution of a column chunk, the gated activation's derivative, the transposed convolution and the running sums.
  Each of the body's eight column chunks is the same function at its own chunk number.
-/
module

public import proofs.«01_k».proof.Proof.Contents
public import Idealize.ShloMosaic.Lib.Pipeline.Value
public import Idealize.ShloMosaic.Lib.Pipeline.ValueKit.Acc
public import Idealize.ShloMosaic.Lib.Pipeline.ReadBack
public import Idealize.ShloMosaic.PureOps.Ideal

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

/-- The blocks one grid point loads: cotangent, saved down-projection, input, up-projection and its halo rows, the
    modulation rows, the two norm gains, the up weight, the convolution's taps and bias, the down weight, and the
    factor that clears the halo of the topmost tile. -/
structure Ops where
  ct : Vec Ideal S256x1024 .f32
  f : Vec Ideal S256x1024 .f32
  x : Vec Ideal S256x1024 .f32
  up : Vec Ideal S8x256x704 .f32
  halo : Vec Ideal S8x8x704 .f32
  md : Vec Ideal S6x1024 .f32
  g3 : Vec Ideal S1x1024 .f32
  g4 : Vec Ideal S1x1024 .f32
  wu : Vec Ideal S8x1024x704 .bf16
  cw : Vec Ideal S8x3x704 .f32
  cb : Vec Ideal S8x704 .f32
  wd : Vec Ideal S2816x1024 .bf16
  keep : Ideal .f32

theorem inbU (j : Fin 8) : ∀ a : Fin 3, (![j.val, 0, 0] : Fin 3 → ℕ) a + (![1, 256, 704] : Fin 3 → ℕ) a ≤ S8x256x704.size a := by
  have := j.isLt
  intro a; match a with
  | ⟨0, _⟩ => show j.val + 1 ≤ 8; omega
  | ⟨1, _⟩ => show 0 + 256 ≤ 256; omega
  | ⟨2, _⟩ => show 0 + 704 ≤ 704; omega
theorem inbH (j : Fin 8) : ∀ a : Fin 3, (![j.val, 0, 0] : Fin 3 → ℕ) a + (![1, 8, 704] : Fin 3 → ℕ) a ≤ S8x8x704.size a := by
  have := j.isLt
  intro a; match a with
  | ⟨0, _⟩ => show j.val + 1 ≤ 8; omega
  | ⟨1, _⟩ => show 0 + 8 ≤ 8; omega
  | ⟨2, _⟩ => show 0 + 704 ≤ 704; omega
theorem inbW (j : Fin 8) : ∀ a : Fin 3, (![j.val, 0, 0] : Fin 3 → ℕ) a + (![1, 3, 704] : Fin 3 → ℕ) a ≤ S8x3x704.size a := by
  have := j.isLt
  intro a; match a with
  | ⟨0, _⟩ => show j.val + 1 ≤ 8; omega
  | ⟨1, _⟩ => show 0 + 3 ≤ 3; omega
  | ⟨2, _⟩ => show 0 + 704 ≤ 704; omega
theorem inbT (j : Fin 8) (k : Fin 3) : ∀ a : Fin 3, (![j.val, k.val, 0] : Fin 3 → ℕ) a + (![1, 1, 704] : Fin 3 → ℕ) a ≤ S8x3x704.size a := by
  have := j.isLt
  have := k.isLt
  intro a; match a with
  | ⟨0, _⟩ => show j.val + 1 ≤ 8; omega
  | ⟨1, _⟩ => show k.val + 1 ≤ 3; omega
  | ⟨2, _⟩ => show 0 + 704 ≤ 704; omega
theorem inbC (j : Fin 8) : ∀ a : Fin 2, (![j.val, 0] : Fin 2 → ℕ) a + (![1, 704] : Fin 2 → ℕ) a ≤ S8x704.size a := by
  have := j.isLt
  intro a; match a with
  | ⟨0, _⟩ => show j.val + 1 ≤ 8; omega
  | ⟨1, _⟩ => show 0 + 704 ≤ 704; omega
theorem inbWU (j : Fin 8) : ∀ a : Fin 3, (![j.val, 0, 0] : Fin 3 → ℕ) a + (![1, 1024, 704] : Fin 3 → ℕ) a ≤ S8x1024x704.size a := by
  have := j.isLt
  intro a; match a with
  | ⟨0, _⟩ => show j.val + 1 ≤ 8; omega
  | ⟨1, _⟩ => show 0 + 1024 ≤ 1024; omega
  | ⟨2, _⟩ => show 0 + 704 ≤ 704; omega
theorem inbWD (j : Fin 4) : ∀ a : Fin 2, (![704 * j.val, 0] : Fin 2 → ℕ) a + (![704, 1024] : Fin 2 → ℕ) a ≤ S2816x1024.size a := by
  have := j.isLt
  intro a; match a with
  | ⟨0, _⟩ => show 704 * j.val + 704 ≤ 2816; omega
  | ⟨1, _⟩ => show 0 + 1024 ≤ 1024; omega
theorem inbM (j : Fin 6) : ∀ a : Fin 2, (![j.val, 0] : Fin 2 → ℕ) a + (![1, 1024] : Fin 2 → ℕ) a ≤ S6x1024.size a := by
  have := j.isLt
  intro a; match a with
  | ⟨0, _⟩ => show j.val + 1 ≤ 6; omega
  | ⟨1, _⟩ => show 0 + 1024 ≤ 1024; omega
theorem inbD (j : Fin 3) : ∀ a : Fin 2, (![j.val, 0] : Fin 2 → ℕ) a + (![1, 1024] : Fin 2 → ℕ) a ≤ S3x1024.size a := by
  have := j.isLt
  intro a; match a with
  | ⟨0, _⟩ => show j.val + 1 ≤ 3; omega
  | ⟨1, _⟩ => show 0 + 1024 ≤ 1024; omega

/-! ### Shifts of rows across the tile's edge -/

/-- The tile moved down by two rows, the two top rows taken from the last rows of `b`. -/
def shDn2 (v : FVec Ideal S256x704 .f32) (b : FVec Ideal S8x704 .f32) : FVec Ideal S256x704 .f32 :=
  concatenate S256x704 0
    [⟨S8x704, select (cmpi .slt (iota .tc S8x704 32 [0] iota_S8x704_d0_w32) (broadcast S8x704 2#32))
        (dynamicRotate 0 2#32 none b rotates_S8x704_d0)
        (extractStridedSlice S8x704 ![0, 0] (dynamicRotate 0 2#32 none v rotates_S256x704_d0) slices_S256x704_o0_0_S8x704)⟩,
     ⟨S248x704, extractStridedSlice S248x704 ![8, 0] (dynamicRotate 0 2#32 none v rotates_S256x704_d0) slices_S256x704_o8_0_S248x704⟩]
    concatenates_S8x704_S248x704_S256x704_d0

/-- The tile moved down by one row, the top row taken from the last row of `b`. -/
def shDn1 (v : FVec Ideal S256x704 .f32) (b : FVec Ideal S8x704 .f32) : FVec Ideal S256x704 .f32 :=
  concatenate S256x704 0
    [⟨S8x704, select (cmpi .slt (iota .tc S8x704 32 [0] iota_S8x704_d0_w32) (broadcast S8x704 1#32))
        (dynamicRotate 0 1#32 none b rotates_S8x704_d0)
        (extractStridedSlice S8x704 ![0, 0] (dynamicRotate 0 1#32 none v rotates_S256x704_d0) slices_S256x704_o0_0_S8x704)⟩,
     ⟨S248x704, extractStridedSlice S248x704 ![8, 0] (dynamicRotate 0 1#32 none v rotates_S256x704_d0) slices_S256x704_o8_0_S248x704⟩]
    concatenates_S8x704_S248x704_S256x704_d0

/-- The tile moved up by one row, the last row taken from the first row of `a`. -/
def shUp1 (v : FVec Ideal S256x704 .f32) (a : FVec Ideal S8x704 .f32) : FVec Ideal S256x704 .f32 :=
  concatenate S256x704 0
    [⟨S248x704, extractStridedSlice S248x704 ![0, 0] (dynamicRotate 0 255#32 none v rotates_S256x704_d0) slices_S256x704_o0_0_S248x704⟩,
     ⟨S8x704, select (cmpi .sge (iota .tc S8x704 32 [0] iota_S8x704_d0_w32) (broadcast S8x704 7#32))
        (dynamicRotate 0 7#32 none a rotates_S8x704_d0)
        (extractStridedSlice S8x704 ![248, 0] (dynamicRotate 0 255#32 none v rotates_S256x704_d0) slices_S256x704_o248_0_S8x704)⟩]
    concatenates_S248x704_S8x704_S256x704_d0

/-- The tile moved up by two rows, the last two rows taken from the first rows of `a`. -/
def shUp2 (v : FVec Ideal S256x704 .f32) (a : FVec Ideal S8x704 .f32) : FVec Ideal S256x704 .f32 :=
  concatenate S256x704 0
    [⟨S248x704, extractStridedSlice S248x704 ![0, 0] (dynamicRotate 0 254#32 none v rotates_S256x704_d0) slices_S256x704_o0_0_S248x704⟩,
     ⟨S8x704, select (cmpi .sge (iota .tc S8x704 32 [0] iota_S8x704_d0_w32) (broadcast S8x704 6#32))
        (dynamicRotate 0 6#32 none a rotates_S8x704_d0)
        (extractStridedSlice S8x704 ![248, 0] (dynamicRotate 0 254#32 none v rotates_S256x704_d0) slices_S256x704_o248_0_S8x704)⟩]
    concatenates_S248x704_S8x704_S256x704_d0

/-! ### The chunk's functions -/

/-- A tap's row broadcast over the tile. -/
def tap0 (w : FVec Ideal S3x704 .f32) : FVec Ideal S256x704 .f32 :=
  broadcastTo S256x704 (extractStridedSlice S1x704 ![0, 0] w slices_S3x704_o0_0_S1x704) broadcasts_S1x704_S256x704
def tap1 (w : FVec Ideal S3x704 .f32) : FVec Ideal S256x704 .f32 :=
  broadcastTo S256x704 (extractStridedSlice S1x704 ![1, 0] w slices_S3x704_o1_0_S1x704) broadcasts_S1x704_S256x704
def tap2 (w : FVec Ideal S3x704 .f32) : FVec Ideal S256x704 .f32 :=
  broadcastTo S256x704 (extractStridedSlice S1x704 ![2, 0] w slices_S3x704_o2_0_S1x704) broadcasts_S1x704_S256x704

/-- The chunk's rows of the up-projection, and the halo's, cleared at the top. -/
def upT (O : Ops) (j : Fin 8) : FVec Ideal S256x704 .f32 :=
  shapeCast S256x704 (View.ld O.up (Rect.unit ![j.val, 0, 0] ![1, 256, 704] (inbU j)) : Vec Ideal S1x256x704 .f32) shapeCasts_S1x256x704_S256x704
def haloT (O : Ops) (j : Fin 8) : FVec Ideal S8x704 .f32 :=
  mulf (shapeCast S8x704 (View.ld O.halo (Rect.unit ![j.val, 0, 0] ![1, 8, 704] (inbH j)) : Vec Ideal S1x8x704 .f32) shapeCasts_S1x8x704_S8x704)
    (broadcast S8x704 O.keep)
def cwT (O : Ops) (j : Fin 8) : FVec Ideal S3x704 .f32 :=
  shapeCast S3x704 (View.ld O.cw (Rect.unit ![j.val, 0, 0] ![1, 3, 704] (inbW j)) : Vec Ideal S1x3x704 .f32) shapeCasts_S1x3x704_S3x704
def cbT (O : Ops) (j : Fin 8) : FVec Ideal S1x704 .f32 :=
  shapeCast S1x704 (View.ld O.cb (Rect.unit ![j.val, 0] ![1, 704] (inbC j)) : Vec Ideal S1x704 .f32) shapeCasts_S1x704_S1x704

/-- The convolution of a chunk. -/
def yT (O : Ops) (j : Fin 8) : FVec Ideal S256x704 .f32 :=
  addf (addf (addf (broadcastTo S256x704 (cbT O j) broadcasts_S1x704_S256x704)
      (mulf (shDn2 (upT O j) (haloT O j)) (tap0 (cwT O j))))
      (mulf (shDn1 (upT O j) (haloT O j)) (tap1 (cwT O j))))
    (mulf (upT O j) (tap2 (cwT O j)))

/-- The sigmoid as the kernel writes it. -/
def sigT (g : FVec Ideal S256x704 .f32) : FVec Ideal S256x704 .f32 :=
  addf (mulf (broadcast S256x704 (Scalar.ofBits .f32 0x3F000000#32))
      (tanh (mulf (broadcast S256x704 (Scalar.ofBits .f32 0x3F000000#32)) g)))
    (broadcast S256x704 (Scalar.ofBits .f32 0x3F000000#32))

/-- The cotangent of the down-projection's value, of one tile. -/
def dfT (O : Ops) : FVec Ideal S256x1024 .bf16 :=
  k0_pay19 O.ct (k0_pay11 (View.ld O.md (Rect.unit ![5, 0] ![1, 1024] inb_S6x1024_S1x1024_5_0))) O.g4 (k0_pay12 O.f) (k0_pay13 O.f)

/-- The cotangent of the activation, of one chunk. -/
def dactT (O : Ops) (j : Fin 4) : FVec Ideal S256x704 .f32 :=
  matmul (φ₂ := .bf16) dot_S256x1024_S704x1024_S256x704_1_1_0_0_n_n none (dfT O)
    (shapeCast S704x1024 (View.ld O.wd (Rect.unit ![704 * j.val, 0] ![704, 1024] (inbWD j)) : Vec Ideal S704x1024 .bf16) shapeCasts_S704x1024_S704x1024)
    (constant S256x704 .f32 0x00000000#32)

def lo8 (j : Fin 4) : Fin 8 := ⟨j.val, by omega⟩
def hi8 (j : Fin 4) : Fin 8 := ⟨j.val + 4, by omega⟩

/-- The cotangents of the gate's and of the value's convolution. -/
def dGT (O : Ops) (j : Fin 4) : FVec Ideal S256x704 .f32 :=
  mulf (mulf (dactT O j) (yT O (hi8 j)))
    (addf (sigT (yT O (lo8 j)))
      (mulf (mulf (yT O (lo8 j)) (sigT (yT O (lo8 j))))
        (subf (broadcast S256x704 (Scalar.ofBits .f32 0x3F800000#32)) (sigT (yT O (lo8 j))))))
def dVT (O : Ops) (j : Fin 4) : FVec Ideal S256x704 .f32 :=
  mulf (dactT O j) (mulf (yT O (lo8 j)) (sigT (yT O (lo8 j))))

/-- The rows below the tile that a chunk's carried block holds. -/
def belowT (cy : Vec Ideal S8x8x704 .f32) (j : Fin 8) : FVec Ideal S8x704 .f32 :=
  shapeCast S8x704 (View.ld cy (Rect.unit ![j.val, 0, 0] ![1, 8, 704] (inbH j)) : Vec Ideal S1x8x704 .f32) shapeCasts_S1x8x704_S8x704

/-- The cotangent of the up-projection: the transposed convolution. -/
def dupT (w : FVec Ideal S3x704 .f32) (dy : FVec Ideal S256x704 .f32) (b : FVec Ideal S8x704 .f32) : FVec Ideal S256x704 .bf16 :=
  truncf .bf16 (addf (addf (mulf dy (tap2 w)) (mulf (shUp1 dy b) (tap1 w))) (mulf (shUp2 dy b) (tap0 w))) bitsLt_bf16_f32

/-- One chunk's share of the cotangent of the up-projection's input, added to what the chunks before gave. -/
def hStep (O : Ops) (j : Fin 8) (d : FVec Ideal S256x704 .bf16) (acc : FVec Ideal S256x1024 .f32) : FVec Ideal S256x1024 .f32 :=
  shapeCast S256x1024 (addf acc (matmul (φ₂ := .bf16) dot_S256x704_S1024x704_S256x1024_1_1_0_0_n_n none d
      (shapeCast S1024x704 (View.ld O.wu (Rect.unit ![j.val, 0, 0] ![1, 1024, 704] (inbWU j)) : Vec Ideal S1x1024x704 .bf16) shapeCasts_S1x1024x704_S1024x704)
      (constant S256x1024 .f32 0x00000000#32))) shapeCasts_S256x1024_S256x1024

/-- A row of column sums added to a running row. -/
def sumT (acc : FVec Ideal S1x704 .f32) (v : FVec Ideal S256x704 .f32) : FVec Ideal S1x704 .f32 :=
  addf acc (shapeCast S1x704 (multiReduction .add [0] S704 v 0x00000000#32 reduces_S256x704_S704 (.inl rfl) rfl) shapeCasts_S704_S1x704)

/-- The order in which the body takes the chunks, and its reverse. -/
def order : List (Fin 8) := [0, 4, 1, 5, 2, 6, 3, 7]
def redro : List (Fin 8) := [7, 3, 6, 2, 5, 1, 4, 0]

/-- A running row of lane sums over the model's width. -/
def sumM (acc : FVec Ideal S1x1024 .f32) (v : FVec Ideal S256x1024 .f32) : FVec Ideal S1x1024 .f32 :=
  addf acc (shapeCast S1x1024 (multiReduction .add [0] S1024 v 0x00000000#32 reduces_S256x1024_S1024 (.inl rfl) rfl) shapeCasts_S1024_S1x1024)

variable (O : Ops) (cy : Vec Ideal S8x8x704 .f32)

/-- The cotangent of the convolution of a chunk: the gate's in the first four, the value's in the last four. -/
def dyT (j : Fin 8) : FVec Ideal S256x704 .f32 :=
  if h : j.val < 4 then dGT O ⟨j.val, h⟩ else dVT O ⟨j.val - 4, by omega⟩

/-- The cotangent of the up-projection of a chunk. -/
def dupC (j : Fin 8) : FVec Ideal S256x704 .bf16 := dupT (cwT O j) (dyT O j) (belowT cy j)

/-- The cotangent of the up-projection's input over all chunks, in the body's order. -/
def dhT : FVec Ideal S256x1024 .f32 := order.foldl (fun acc j => hStep O j (dupC O cy j) acc) k0_pay26

/-- The modulation rows. -/
def shT : FVec Ideal S1x1024 .f32 := k0_pay9 (View.ld O.md (Rect.unit ![3, 0] ![1, 1024] inb_S6x1024_S1x1024_3_0))
def scT : FVec Ideal S1x1024 .f32 := k0_pay10 (View.ld O.md (Rect.unit ![4, 0] ![1, 1024] inb_S6x1024_S1x1024_4_0))
def gfT : FVec Ideal S1x1024 .f32 := k0_pay11 (View.ld O.md (Rect.unit ![5, 0] ![1, 1024] inb_S6x1024_S1x1024_5_0))

/-- The blocks of grid point `t`. -/
def opsAt (m : (ℓ : Loc nD τ sig) → Buf (Elt Ideal) ℓ) (c : Dev nD) (t : Fin cfg0.N) : Ops where
  ct := iblk m c 0 t
  f := iblk m c 1 t
  x := iblk m c 2 t
  up := iblk m c 3 t
  halo := iblk m c 4 t
  md := iblk m c 5 t
  g3 := iblk m c 6 t
  g4 := iblk m c 7 t
  wu := iblk m c 8 t
  cw := iblk m c 9 t
  cb := iblk m c 10 t
  wd := iblk m c 11 t
  keep := k0_pay27 (Scalar.subi (31#32) (BitVec.ofNat 32 (grid0.coords t 0).val))

/-! ### What the body leaves in each buffer -/

abbrev upRect (j : Fin 8) : Rect S8x256x704 := Rect.unit ![j.val, 0, 0] ![1, 256, 704] (inbU j)
abbrev haloRect (j : Fin 8) : Rect S8x8x704 := Rect.unit ![j.val, 0, 0] ![1, 8, 704] (inbH j)
abbrev rowRect (j : Fin 8) : Rect S8x704 := Rect.unit ![j.val, 0] ![1, 704] (inbC j)
abbrev tapRect (j : Fin 8) (k : Fin 3) : Rect S8x3x704 := Rect.unit ![j.val, k.val, 0] ![1, 1, 704] (inbT j k)
abbrev modRect (j : Fin 3) : Rect S3x1024 := Rect.unit ![j.val, 0] ![1, 1024] (inbD j)

/-- The cotangent of the sub-layer's input. -/
def out12 : Vec Ideal S256x1024 .f32 :=
  k0_pay1 O.ct (k0_pay20 O.x) (k0_pay21 O.x) (k0_pay204 (scT O) O.g3 (dhT O cy)) (k0_pay205 (scT O) O.g3 (k0_pay21 O.x) (dhT O cy))

/-- The cotangent of the up-projection, all chunks. -/
def out13 : Vec Ideal S8x256x704 .bf16 :=
  View.canon (redro.map fun j => ⟨upRect j, shapeCast S1x256x704 (dupC O cy j) shapeCasts_S256x704_S1x256x704⟩)

/-- The normalised, modulated input that the up-projection takes. -/
def out15 : Vec Ideal S256x1024 .bf16 := k0_pay25 (k0_pay23 O.x (scT O) O.g3) (k0_pay24 (shT O))

/-- The term of each modulation row's sum. -/
def modTerm (k : Fin 3) : FVec Ideal S256x1024 .f32 :=
  if k.val = 0 then dhT O cy
  else if k.val = 1 then mulf (dhT O cy) (k0_pay22 O.x O.g3)
  else mulf O.ct (mulf (k0_pay13 O.f) (broadcastTo S256x1024 O.g4 broadcasts_S1x1024_S256x1024))

/-- The modulation's running rows. -/
def out16 (a : Vec Ideal S3x1024 .f32) (L : List (View.Piece (Elt Ideal) S3x1024 .f32)) : Vec Ideal S3x1024 .f32 :=
  View.canon ((([1, 0, 2] : List (Fin 3)).map fun k =>
    ⟨modRect k, sumM (shapeCast S1x1024 (View.ld a (modRect k) : Vec Ideal S1x1024 .f32) shapeCasts_S1x1024_S1x1024) (modTerm O cy k)⟩) ++ L)
/-- The two norm gains' running rows. -/
def out17 (a : Vec Ideal S1x1024 .f32) : Vec Ideal S1x1024 .f32 := k0_pay203 (scT O) (k0_pay21 O.x) (dhT O cy) a
def out18 (a : Vec Ideal S1x1024 .f32) : Vec Ideal S1x1024 .f32 := k0_pay18 O.ct (gfT O) (k0_pay13 O.f) a

/-- The convolution bias's running rows. -/
def out19 (a : Vec Ideal S8x704 .f32) (L : List (View.Piece (Elt Ideal) S8x704 .f32)) : Vec Ideal S8x704 .f32 :=
  View.canon ((redro.map fun j =>
    ⟨rowRect j, sumT (shapeCast S1x704 (View.ld a (rowRect j) : Vec Ideal S1x704 .f32) shapeCasts_S1x704_S1x704) (dyT O j)⟩) ++ L)
/-- The shifted cotangent that a tap meets. -/
def tapDy (j : Fin 8) (k : Fin 3) : FVec Ideal S256x704 .f32 :=
  if k.val = 0 then shUp2 (dyT O j) (belowT cy j)
  else if k.val = 1 then shUp1 (dyT O j) (belowT cy j)
  else dyT O j

/-- The taps' running rows. -/
def out20 (a : Vec Ideal S8x3x704 .f32) (L : List (View.Piece (Elt Ideal) S8x3x704 .f32)) : Vec Ideal S8x3x704 .f32 :=
  View.canon ((redro.flatMap fun j => ([2, 1, 0] : List (Fin 3)).map fun k =>
    ⟨tapRect j k, shapeCast S1x1x704 (sumT (shapeCast S1x704 (View.ld a (tapRect j k) : Vec Ideal S1x1x704 .f32) shapeCasts_S1x1x704_S1x704)
      (mulf (tapDy O cy j k) (upT O j))) shapeCasts_S1x704_S1x1x704⟩) ++ L)
/-- The rows that the next grid point takes from below. -/
def outS (L : List (View.Piece (Elt Ideal) S8x8x704 .f32)) : Vec Ideal S8x8x704 .f32 :=
  View.canon ((redro.map fun j =>
    ⟨haloRect j, shapeCast S1x8x704 (extractStridedSlice S8x704 ![0, 0] (dyT O j) slices_S256x704_o0_0_S8x704) shapeCasts_S8x704_S1x8x704⟩) ++ L)

end Cert.KernelIdeal.Own
-- ==== Proof.Cases.lean ====
/-
  What the body leaves in every buffer, in its two cases (A: the first grid point, whose carried rows and running sums
  are the zero blocks it stores; B: every later point), as the functions of `Tile`.
-/
module

public import proofs.«01_k».proof.Proof.Tile
public import Idealize.ShloMosaic.Lib.Pointwise.Tactic
@[expose] public section
set_option maxRecDepth 16384
set_option maxHeartbeats 400000
noncomputable section
namespace Cert.KernelIdeal.Own
open Cert.KernelIdeal Cert.KernelIdeal.Gen Idealize.ShloMosaic Idealize.ShloMosaic.TcCoe Idealize.SL.Sem
open Idealize.ShloMosaic.Pipeline (Dat)
theorem dyT_0 (O : Ops) : dyT O 0 = dGT O 0 := rfl
theorem dyT_1 (O : Ops) : dyT O 1 = dGT O 1 := rfl
theorem dyT_2 (O : Ops) : dyT O 2 = dGT O 2 := rfl
theorem dyT_3 (O : Ops) : dyT O 3 = dGT O 3 := rfl
theorem dyT_4 (O : Ops) : dyT O 4 = dVT O 0 := rfl
theorem dyT_5 (O : Ops) : dyT O 5 = dVT O 1 := rfl
theorem dyT_6 (O : Ops) : dyT O 6 = dVT O 2 := rfl
theorem dyT_7 (O : Ops) : dyT O 7 = dVT O 3 := rfl
theorem modTerm_0 (O : Ops) (cy : Vec Ideal S8x8x704 .f32) : modTerm O cy 0 = dhT O cy := rfl
theorem modTerm_1 (O : Ops) (cy : Vec Ideal S8x8x704 .f32) : modTerm O cy 1 = mulf (dhT O cy) (k0_pay22 O.x O.g3) := rfl
theorem modTerm_2 (O : Ops) (cy : Vec Ideal S8x8x704 .f32) :
    modTerm O cy 2 = mulf O.ct (mulf (k0_pay13 O.f) (broadcastTo S256x1024 O.g4 broadcasts_S1x1024_S256x1024)) := rfl
theorem tapDy_0 (O : Ops) (cy : Vec Ideal S8x8x704 .f32) (j : Fin 8) : tapDy O cy j 0 = shUp2 (dyT O j) (belowT cy j) := rfl
theorem tapDy_1 (O : Ops) (cy : Vec Ideal S8x8x704 .f32) (j : Fin 8) : tapDy O cy j 1 = shUp1 (dyT O j) (belowT cy j) := rfl
theorem tapDy_2 (O : Ops) (cy : Vec Ideal S8x8x704 .f32) (j : Fin 8) : tapDy O cy j 2 = dyT O j := rfl
variable (m : (ℓ : Loc nD τ sig) → Buf (Elt Ideal) ℓ)

/-! ### Case A -/

theorem oA12_eq (c : Dev nD) (t : Fin cfg0.N) (h0 : t.val % 32 = 0) :
    oA12 m c t h0 = out12 (opsAt m c t) (k0_pay7 (F := Ideal)) := by
  unfold oA12 out0_A_12
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oA13_eq (c : Dev nD) (t : Fin cfg0.N) (h0 : t.val % 32 = 0) :
    oA13 m c t h0 = out13 (opsAt m c t) (k0_pay7 (F := Ideal)) := by
  unfold oA13 out0_A_13
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oA14_eq (c : Dev nD) (t : Fin cfg0.N) (h0 : t.val % 32 = 0) :
    oA14 m c t h0 = dfT (opsAt m c t) := by
  unfold oA14 out0_A_14
  frame_open
  simp (disch := decide) only [↓View.readCov_skip, ↓View.readCov_fill]
  frame_out
  rfl

theorem oA15_eq (c : Dev nD) (t : Fin cfg0.N) (h0 : t.val % 32 = 0) :
    oA15 m c t h0 = out15 (opsAt m c t) := by
  unfold oA15 out0_A_15
  frame_open
  simp (disch := decide) only [↓View.readCov_skip, ↓View.readCov_fill]
  frame_out
  rfl

theorem oA16_eq (c : Dev nD) (t : Fin cfg0.N) (h0 : t.val % 32 = 0) :
    oA16 m c t h0 = out16 (opsAt m c t) (k0_pay7 (F := Ideal)) (k0_pay2 (F := Ideal)) [⟨Rect.unit ![0, 0] S3x1024.size inb_S3x1024_S3x1024_0_0, (k0_pay2 (F := Ideal))⟩] := by
  unfold oA16 out0_A_16
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oA17_eq (c : Dev nD) (t : Fin cfg0.N) (h0 : t.val % 32 = 0) :
    oA17 m c t h0 = out17 (opsAt m c t) (k0_pay7 (F := Ideal)) (k0_pay3 (F := Ideal)) := by
  unfold oA17 out0_A_17
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oA18_eq (c : Dev nD) (t : Fin cfg0.N) (h0 : t.val % 32 = 0) :
    oA18 m c t h0 = out18 (opsAt m c t) (k0_pay4 (F := Ideal)) := by
  unfold oA18 out0_A_18
  frame_open
  simp (disch := decide) only [↓View.readCov_skip, ↓View.readCov_fill]
  frame_out
  rfl

theorem oA19_eq (c : Dev nD) (t : Fin cfg0.N) (h0 : t.val % 32 = 0) :
    oA19 m c t h0 = out19 (opsAt m c t) (k0_pay5 (F := Ideal)) [⟨Rect.unit ![0, 0] S8x704.size inb_S8x704_S8x704_0_0, (k0_pay5 (F := Ideal))⟩] := by
  unfold oA19 out0_A_19
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oA20_eq (c : Dev nD) (t : Fin cfg0.N) (h0 : t.val % 32 = 0) :
    oA20 m c t h0 = out20 (opsAt m c t) (k0_pay7 (F := Ideal)) (k0_pay6 (F := Ideal)) [⟨Rect.unit ![0, 0, 0] S8x3x704.size inb_S8x3x704_S8x3x704_0_0_0, (k0_pay6 (F := Ideal))⟩] := by
  unfold oA20 out0_A_20
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem sA0_eq (c : Dev nD) (t : Fin cfg0.N) (h0 : t.val % 32 = 0) :
    sA0 m c t h0 = outS (opsAt m c t) [⟨Rect.unit ![0, 0, 0] S8x8x704.size inb_S8x8x704_S8x8x704_0_0_0, (k0_pay7 (F := Ideal))⟩] := by
  unfold sA0 sout0_A_0
  frame_open
  simp (disch := decide) only [↓View.readCov_skip, ↓View.readCov_fill]
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

/-! ### Case B -/

theorem oB12_eq (c : Dev nD) (t : Fin cfg0.N) (h0 : ¬t.val % 32 = 0) (p : Outs Ideal) :
    oB12 m c t h0 p = out12 (opsAt m c t) p.2.2.2.2.2.2.2.2.2 := by
  unfold oB12 out0_B_12
  frame_open
  frame_out
  simp only [read_unread_whole]
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oB13_eq (c : Dev nD) (t : Fin cfg0.N) (h0 : ¬t.val % 32 = 0) (p : Outs Ideal) :
    oB13 m c t h0 p = out13 (opsAt m c t) p.2.2.2.2.2.2.2.2.2 := by
  unfold oB13 out0_B_13
  frame_open
  frame_out
  simp only [read_unread_whole]
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oB14_eq (c : Dev nD) (t : Fin cfg0.N) (h0 : ¬t.val % 32 = 0) (p : Outs Ideal) :
    oB14 m c t h0 p = dfT (opsAt m c t) := by
  unfold oB14 out0_B_14
  frame_open
  frame_out
  rfl

theorem oB15_eq (c : Dev nD) (t : Fin cfg0.N) (h0 : ¬t.val % 32 = 0) (p : Outs Ideal) :
    oB15 m c t h0 p = out15 (opsAt m c t) := by
  unfold oB15 out0_B_15
  frame_open
  frame_out
  rfl

theorem oB16_eq (c : Dev nD) (t : Fin cfg0.N) (h0 : ¬t.val % 32 = 0) (p : Outs Ideal) :
    oB16 m c t h0 p = out16 (opsAt m c t) p.2.2.2.2.2.2.2.2.2 p.2.2.2.2.1 [] := by
  unfold oB16 out0_B_16
  frame_open
  frame_out
  simp only [read_unread_whole]
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oB17_eq (c : Dev nD) (t : Fin cfg0.N) (h0 : ¬t.val % 32 = 0) (p : Outs Ideal) :
    oB17 m c t h0 p = out17 (opsAt m c t) p.2.2.2.2.2.2.2.2.2 p.2.2.2.2.2.1 := by
  unfold oB17 out0_B_17
  frame_open
  frame_out
  simp only [read_unread_whole]
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oB18_eq (c : Dev nD) (t : Fin cfg0.N) (h0 : ¬t.val % 32 = 0) (p : Outs Ideal) :
    oB18 m c t h0 p = out18 (opsAt m c t) p.2.2.2.2.2.2.1 := by
  unfold oB18 out0_B_18
  frame_open
  frame_out
  rfl

theorem oB19_eq (c : Dev nD) (t : Fin cfg0.N) (h0 : ¬t.val % 32 = 0) (p : Outs Ideal) :
    oB19 m c t h0 p = out19 (opsAt m c t) p.2.2.2.2.2.2.2.1 [] := by
  unfold oB19 out0_B_19
  frame_open
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem oB20_eq (c : Dev nD) (t : Fin cfg0.N) (h0 : ¬t.val % 32 = 0) (p : Outs Ideal) :
    oB20 m c t h0 p = out20 (opsAt m c t) p.2.2.2.2.2.2.2.2.2 p.2.2.2.2.2.2.2.2.1 [] := by
  unfold oB20 out0_B_20
  frame_open
  frame_out
  simp only [read_unread_whole]
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

theorem sB0_eq (c : Dev nD) (t : Fin cfg0.N) (h0 : ¬t.val % 32 = 0) (p : Outs Ideal) :
    sB0 m c t h0 p = outS (opsAt m c t) [] := by
  unfold sB0 sout0_B_0
  frame_open
  frame_out
  unfold_payloads
  simp only [out19, outS, out12, out13, out15, out16, out17, out18, out20, redro, order, List.map, List.flatMap_cons,
    List.flatMap_nil, List.foldl, List.append_nil, List.cons_append, List.nil_append, modTerm_0, modTerm_1, modTerm_2,
    tapDy_0, tapDy_1, tapDy_2, dhT, hStep, sumM, shT, scT, gfT, dupC, dyT_0, dyT_1, dyT_2, dyT_3, dyT_4, dyT_5, dyT_6, dyT_7,
    dVT, dGT, dactT, dfT, sumT, dupT, sigT, yT, shDn1, shDn2, shUp1, shUp2, tap0, tap1, tap2, upT, haloT, cwT, cbT, belowT,
    opsAt]
  rfl

end Cert.KernelIdeal.Own
-- ==== Proof.Spec.lean ====
/-
  The sub-layer's backward step in plain formulas over the extended reals: rows are numbered by naturals (a position
  of the sequence), the hidden width by a chunk of 704 lanes and a lane.
-/
module

public import Idealize.ShloMosaic.PureOps.Ideal
public import Mathlib.Algebra.BigOperators.Fin

@[expose] public section

noncomputable section

namespace Cert.Own.Spec

open Idealize.ShloMosaic

/-- The model's width, the norm's small constant, a half and one, as the programs spell them. -/
def width : EReal := Ideal.ofBits .f32 0x44800000#32
def eps : EReal := Ideal.ofBits .f32 0x358637BD#32

/-- The reciprocal root mean square of a row. -/
def rms (v : Fin 1024 → EReal) : EReal := Ideal.rsqrt (Ideal.div (∑ e, v e * v e) width + eps)

/-- The normalised row. -/
def hat (v : Fin 1024 → EReal) (d : Fin 1024) : EReal := v d * rms v

/-- The normalisation's cotangent: of the row `v`, from the cotangent `a` of the normalised row. -/
def bwd (v a : Fin 1024 → EReal) (d : Fin 1024) : EReal :=
  rms v * (a d - hat v d * Ideal.div (∑ e, a e * hat v e) width)

/-- What the step takes: the cotangent of the sub-layer's result, the saved down-projection, the input and the
    up-projection, the modulation rows, the norms' gains, the weights, the convolution's taps and bias. -/
structure Data where
  ct : ℕ → Fin 1024 → EReal
  f : ℕ → Fin 1024 → EReal
  x : ℕ → Fin 1024 → EReal
  up : Fin 8 → ℕ → Fin 704 → EReal
  sh : Fin 1024 → EReal
  sc : Fin 1024 → EReal
  gf : Fin 1024 → EReal
  g3 : Fin 1024 → EReal
  g4 : Fin 1024 → EReal
  wu : Fin 8 → Fin 1024 → Fin 704 → EReal
  cw : Fin 8 → Fin 3 → Fin 704 → EReal
  cb : Fin 8 → Fin 704 → EReal
  wd : Fin 4 → Fin 704 → Fin 1024 → EReal

variable (G : Data)

/-- The normalised and modulated input. -/
def h2 (s : ℕ) (d : Fin 1024) : EReal := hat (G.x s) d * G.g3 d * (1 + G.sc d) + G.sh d

/-- The up-projection `k` positions earlier, zero before the sequence's start. -/
def upS (k : ℕ) (j : Fin 8) (s : ℕ) (q : Fin 704) : EReal := if s < k then 0 else G.up j (s - k) q

/-- The causal convolution. -/
def y (j : Fin 8) (s : ℕ) (q : Fin 704) : EReal :=
  G.cb j q + upS G 2 j s q * G.cw j 0 q + upS G 1 j s q * G.cw j 1 q + G.up j s q * G.cw j 2 q

/-- The down-projection's cotangent. -/
def df (s : ℕ) (d : Fin 1024) : EReal := bwd (G.f s) (fun e => G.ct s e * G.gf e * G.g4 e) d

/-- The activation's cotangent. -/
def dact (j : Fin 4) (s : ℕ) (q : Fin 704) : EReal := ∑ d, df G s d * G.wd j q d

/-- The gate's chunk and the value's chunk of an activation chunk. -/
def lo (j : Fin 4) : Fin 8 := ⟨j.val, by omega⟩
def hi (j : Fin 4) : Fin 8 := ⟨j.val + 4, by omega⟩

/-- The cotangents of the gate and of the value. -/
def dg (j : Fin 4) (s : ℕ) (q : Fin 704) : EReal :=
  dact G j s q * y G (hi j) s q *
    (Ideal.logistic (y G (lo j) s q) + y G (lo j) s q * Ideal.logistic (y G (lo j) s q) * (1 - Ideal.logistic (y G (lo j) s q)))
def dv (j : Fin 4) (s : ℕ) (q : Fin 704) : EReal :=
  dact G j s q * (y G (lo j) s q * Ideal.logistic (y G (lo j) s q))

/-- The convolution's cotangent. -/
def dy (j : Fin 8) (s : ℕ) (q : Fin 704) : EReal :=
  if h : j.val < 4 then dg G ⟨j.val, h⟩ s q else dv G ⟨j.val - 4, by omega⟩ s q

/-- The same `k` positions later, zero past the sequence's end. -/
def dyS (k : ℕ) (j : Fin 8) (s : ℕ) (q : Fin 704) : EReal := if s + k < 8192 then dy G j (s + k) q else 0

/-- The up-projection's cotangent. -/
def dup (j : Fin 8) (s : ℕ) (q : Fin 704) : EReal :=
  dy G j s q * G.cw j 2 q + dyS G 1 j s q * G.cw j 1 q + dyS G 2 j s q * G.cw j 0 q

/-- The cotangent of the up-projection's input. -/
def dh (s : ℕ) (d : Fin 1024) : EReal := ∑ j, ∑ q, dup G j s q * G.wu j d q

/-- The cotangent of the sub-layer's input. -/
def dx (s : ℕ) (d : Fin 1024) : EReal := G.ct s d + bwd (G.x s) (fun e => dh G s e * (1 + G.sc e) * G.g3 e) d

/-- One row's terms of the modulation's, the gains', the bias's and the taps' cotangents. -/
def modTerm (k : Fin 3) (s : ℕ) (d : Fin 1024) : EReal :=
  if k.val = 0 then dh G s d
  else if k.val = 1 then dh G s d * (hat (G.x s) d * G.g3 d)
  else G.ct s d * (hat (G.f s) d * G.g4 d)
def g3Term (s : ℕ) (d : Fin 1024) : EReal := dh G s d * (1 + G.sc d) * hat (G.x s) d
def g4Term (s : ℕ) (d : Fin 1024) : EReal := G.ct s d * G.gf d * hat (G.f s) d
def tapTerm (j : Fin 8) (k : Fin 3) (s : ℕ) (q : Fin 704) : EReal := dyS G (2 - k.val) j s q * G.up j s q

end Cert.Own.Spec
-- ==== Proof.Point.lean ====
/-
  One grid point's vector functions read at an index: each is the plain formula of `Spec.lean` at the tile's rows.
-/
module

public import proofs.«01_k».proof.Proof.Tile
public import proofs.«01_k».proof.Proof.Spec
public import Idealize.ShloMosaic.Lib.ValueLayout
public import Idealize.ShloMosaic.Lib.Pipeline.ValueKit.Tiles
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.KernelIdeal.Own

open Cert.KernelIdeal Cert.KernelIdeal.Gen Idealize.ShloMosaic Idealize.ShloMosaic.TcCoe Idealize.SL.Sem
open Cert.Own
open Cert.Own.Spec (Data)

/-! ### Blocks read through a chunk's rectangle -/

theorem ld3 {A B C a b c : ℕ} {e : EltTy} (X : Vec Ideal ⟨3, ![A, B, C]⟩ e) (o₀ o₁ o₂ : ℕ)
    (inb : ∀ x : Fin 3, (![o₀, o₁, o₂] : Fin 3 → ℕ) x + (![a, b, c] : Fin 3 → ℕ) x ≤ (⟨3, ![A, B, C]⟩ : Shape).size x)
    (i : Fin a) (j : Fin b) (k : Fin c) (i' : Fin A) (j' : Fin B) (k' : Fin C)
    (hi : i'.val = o₀ + i) (hj : j'.val = o₁ + j) (hk : k'.val = o₂ + k) :
    View.ld X (Rect.unit (s := ⟨3, ![A, B, C]⟩) ![o₀, o₁, o₂] ![a, b, c] inb) (ix3 i j k) = X (ix3 i' j' k') :=
  View.ld_unit_apply_of (S := ⟨3, ![A, B, C]⟩) X ![o₀, o₁, o₂] ![a, b, c] inb (ix3 i j k) (ix3 i' j' k')
    (fun x => match x with | ⟨0, _⟩ => hi | ⟨1, _⟩ => hj | ⟨2, _⟩ => hk)

theorem ld2 {A B a b : ℕ} {e : EltTy} (X : Vec Ideal ⟨2, ![A, B]⟩ e) (o₀ o₁ : ℕ)
    (inb : ∀ x : Fin 2, (![o₀, o₁] : Fin 2 → ℕ) x + (![a, b] : Fin 2 → ℕ) x ≤ (⟨2, ![A, B]⟩ : Shape).size x)
    (i : Fin a) (j : Fin b) (i' : Fin A) (j' : Fin B)
    (hi : i'.val = o₀ + i) (hj : j'.val = o₁ + j) :
    View.ld X (Rect.unit (s := ⟨2, ![A, B]⟩) ![o₀, o₁] ![a, b] inb) (ix2 i j) = X (ix2 i' j') :=
  View.ld_unit_apply_of (S := ⟨2, ![A, B]⟩) X ![o₀, o₁] ![a, b] inb (ix2 i j) (ix2 i' j')
    (fun x => match x with | ⟨0, _⟩ => hi | ⟨1, _⟩ => hj)

theorem cast3 {a b : ℕ} {e : EltTy} (x : Vec Ideal ⟨3, ![1, a, b]⟩ e) (h : (⟨3, ![1, a, b]⟩ : Shape).ShapeCasts ⟨2, ![a, b]⟩)
    (i : Fin a) (j : Fin b) : shapeCast ⟨2, ![a, b]⟩ x h (ix2 i j) = x (ix3 0 i j) :=
  ValueIdx.shapeCast_1ab_ab_apply x h i j

variable (O : Ops) (cy : Vec Ideal S8x8x704 .f32)

theorem upT_apply (j : Fin 8) (p : Fin 256) (q : Fin 704) : upT O j (ix2 p q) = O.up (ix3 j p q) := by
  unfold upT
  exact (cast3 _ _ _ _).trans (ld3 _ _ _ _ _ _ _ _ _ _ _ (by simp) (by simp) (by simp))
theorem haloT_apply (j : Fin 8) (p : Fin 8) (q : Fin 704) : haloT O j (ix2 p q) = O.halo (ix3 j p q) * O.keep := by
  unfold haloT
  exact congrArg (· * O.keep) ((cast3 _ _ _ _).trans (ld3 _ _ _ _ _ _ _ _ _ _ _ (by simp) (by simp) (by simp)))
theorem belowT_apply (j : Fin 8) (p : Fin 8) (q : Fin 704) : belowT cy j (ix2 p q) = cy (ix3 j p q) := by
  unfold belowT
  exact (cast3 _ _ _ _).trans (ld3 _ _ _ _ _ _ _ _ _ _ _ (by simp) (by simp) (by simp))
theorem cwT_apply (j : Fin 8) (k : Fin 3) (q : Fin 704) : cwT O j (ix2 k q) = O.cw (ix3 j k q) := by
  unfold cwT
  exact (cast3 _ _ _ _).trans (ld3 _ _ _ _ _ _ _ _ _ _ _ (by simp) (by simp) (by simp))
theorem cbT_apply (j : Fin 8) (q : Fin 704) : cbT O j (ix2 0 q) = O.cb (ix2 j q) := by
  unfold cbT
  exact (congrFun (shapeCast_self (s := S1x704) _ _) _).trans (ld2 _ _ _ _ _ _ _ _ (by simp) (by simp))

/-! ### The row shifts -/

theorem shDn2_apply (v : FVec Ideal S256x704 .f32) (b : FVec Ideal S8x704 .f32) (p : Fin 256) (q : Fin 704) :
    shDn2 v b (ix2 p q) = if h : p.val < 2 then b (ix2 ⟨p + 6, by omega⟩ q) else v (ix2 ⟨p - 2, by omega⟩ q) := by
  unfold shDn2
  pointwise
  by_cases h : p.val < 2
  · rw [dif_pos (by omega), dif_pos h, show IntOp.cmpi CmpIPredicate.slt (BitVec.ofNat 32 p.val) 2#32 = 1#1 from by
      obtain ⟨p, hp⟩ := p; (have : p = 0 ∨ p = 1 := by simp at h; omega); rcases this with rfl | rfl <;> rfl]
    show b _ = b _
    congr 2; exact Fin.ext (by simp only; omega)
  · rw [dif_neg h]
    by_cases h8 : p.val < 8
    · rw [dif_pos h8, show IntOp.cmpi CmpIPredicate.slt (BitVec.ofNat 32 p.val) 2#32 = 0#1 from by
        obtain ⟨p, hp⟩ := p; simp only at h h8 ⊢; interval_cases p <;> rfl]
      show v _ = v _
      congr 2; exact Fin.ext (by simp only; omega)
    · rw [dif_neg h8]
      congr 2; exact Fin.ext (by simp only; omega)

theorem shDn1_apply (v : FVec Ideal S256x704 .f32) (b : FVec Ideal S8x704 .f32) (p : Fin 256) (q : Fin 704) :
    shDn1 v b (ix2 p q) = if h : p.val < 1 then b (ix2 ⟨p + 7, by omega⟩ q) else v (ix2 ⟨p - 1, by omega⟩ q) := by
  unfold shDn1
  pointwise
  by_cases h : p.val < 1
  · rw [dif_pos (by omega), dif_pos h, show IntOp.cmpi CmpIPredicate.slt (BitVec.ofNat 32 p.val) 1#32 = 1#1 from by
      obtain ⟨p, hp⟩ := p; (have : p = 0 := by simp at h; omega); subst this; rfl]
    show b _ = b _
    congr 2; exact Fin.ext (by simp only; omega)
  · rw [dif_neg h]
    by_cases h8 : p.val < 8
    · rw [dif_pos h8, show IntOp.cmpi CmpIPredicate.slt (BitVec.ofNat 32 p.val) 1#32 = 0#1 from by
        obtain ⟨p, hp⟩ := p; simp only at h h8 ⊢; interval_cases p <;> rfl]
      show v _ = v _
      congr 2; exact Fin.ext (by simp only; omega)
    · rw [dif_neg h8]
      congr 2; exact Fin.ext (by simp only; omega)

theorem shUp1_apply (v : FVec Ideal S256x704 .f32) (b : FVec Ideal S8x704 .f32) (p : Fin 256) (q : Fin 704) :
    shUp1 v b (ix2 p q) = if h : p.val < 255 then v (ix2 ⟨p + 1, by omega⟩ q) else b (ix2 ⟨p - 255, by omega⟩ q) := by
  unfold shUp1
  pointwise
  by_cases h : p.val < 248
  · rw [dif_pos h, dif_pos (by omega)]
    congr 2; exact Fin.ext (by simp only; omega)
  · rw [dif_neg h]
    by_cases h8 : p.val < 255
    · rw [dif_pos h8, show IntOp.cmpi CmpIPredicate.sge (BitVec.ofNat 32 (p.val - 248)) 7#32 = 0#1 from by
        obtain ⟨p, hp⟩ := p; simp only at h h8 ⊢; interval_cases p <;> rfl]
      show v _ = v _
      congr 2; exact Fin.ext (by simp only; omega)
    · rw [dif_neg h8, show IntOp.cmpi CmpIPredicate.sge (BitVec.ofNat 32 (p.val - 248)) 7#32 = 1#1 from by
        obtain ⟨p, hp⟩ := p; simp only at h h8 ⊢; interval_cases p <;> rfl]
      show b _ = b _
      congr 2; exact Fin.ext (by simp only; omega)

theorem shUp2_apply (v : FVec Ideal S256x704 .f32) (b : FVec Ideal S8x704 .f32) (p : Fin 256) (q : Fin 704) :
    shUp2 v b (ix2 p q) = if h : p.val < 254 then v (ix2 ⟨p + 2, by omega⟩ q) else b (ix2 ⟨p - 254, by omega⟩ q) := by
  unfold shUp2
  pointwise
  by_cases h : p.val < 248
  · rw [dif_pos h, dif_pos (by omega)]
    congr 2; exact Fin.ext (by simp only; omega)
  · rw [dif_neg h]
    by_cases h8 : p.val < 254
    · rw [dif_pos h8, show IntOp.cmpi CmpIPredicate.sge (BitVec.ofNat 32 (p.val - 248)) 6#32 = 0#1 from by
        obtain ⟨p, hp⟩ := p; simp only at h h8 ⊢; interval_cases p <;> rfl]
      show v _ = v _
      congr 2; exact Fin.ext (by simp only; omega)
    · rw [dif_neg h8, show IntOp.cmpi CmpIPredicate.sge (BitVec.ofNat 32 (p.val - 248)) 6#32 = 1#1 from by
        obtain ⟨p, hp⟩ := p; simp only at h h8 ⊢; interval_cases p <;> rfl]
      show b _ = b _
      congr 2; exact Fin.ext (by simp only; omega)

/-! ### A chunk's functions -/

theorem yT_apply (j : Fin 8) (p : Fin 256) (q : Fin 704) : yT O j (ix2 p q)
    = cbT O j (ix2 0 q) + shDn2 (upT O j) (haloT O j) (ix2 p q) * cwT O j (ix2 0 q)
      + shDn1 (upT O j) (haloT O j) (ix2 p q) * cwT O j (ix2 1 q) + upT O j (ix2 p q) * cwT O j (ix2 2 q) := by
  unfold yT tap0 tap1 tap2
  pointwise

/-- The half of the kernel's sigmoid. -/
theorem sigT_apply (g : FVec Ideal S256x704 .f32) (p : Fin 256) (q : Fin 704) : sigT g (ix2 p q)
    = Ideal.ofBits .f32 0x3F000000#32 * Ideal.tanh (Ideal.ofBits .f32 0x3F000000#32 * g (ix2 p q)) + Ideal.ofBits .f32 0x3F000000#32 := by
  unfold sigT
  pointwise

theorem dfT_apply (p : Fin 256) (d : Fin 1024) : dfT O (ix2 p d)
    = Spec.bwd (fun e => O.f (ix2 p e)) (fun e => O.ct (ix2 p e) * O.md (ix2 5 e) * O.g4 (ix2 0 e)) d := by
  unfold dfT Spec.bwd Spec.hat Spec.rms Spec.width Spec.eps
  unfold_payloads
  pointwise

theorem dactT_apply (j : Fin 4) (p : Fin 256) (q : Fin 704) :
    dactT O j (ix2 p q) = ∑ d, dfT O (ix2 p d) * O.wd (ix2 ⟨704 * j + q, by omega⟩ d) := by
  unfold dactT
  pointwise

theorem dGT_apply (j : Fin 4) (p : Fin 256) (q : Fin 704) : dGT O j (ix2 p q)
    = dactT O j (ix2 p q) * yT O (hi8 j) (ix2 p q) * (sigT (yT O (lo8 j)) (ix2 p q)
      + yT O (lo8 j) (ix2 p q) * sigT (yT O (lo8 j)) (ix2 p q) * (1 - sigT (yT O (lo8 j)) (ix2 p q))) := by
  unfold dGT
  pointwise
theorem dVT_apply (j : Fin 4) (p : Fin 256) (q : Fin 704) : dVT O j (ix2 p q)
    = dactT O j (ix2 p q) * (yT O (lo8 j) (ix2 p q) * sigT (yT O (lo8 j)) (ix2 p q)) := by
  unfold dVT
  pointwise

theorem dupT_apply (w : FVec Ideal S3x704 .f32) (dy : FVec Ideal S256x704 .f32) (b : FVec Ideal S8x704 .f32) (p : Fin 256) (q : Fin 704) :
    dupT w dy b (ix2 p q) = dy (ix2 p q) * w (ix2 2 q) + shUp1 dy b (ix2 p q) * w (ix2 1 q) + shUp2 dy b (ix2 p q) * w (ix2 0 q) := by
  unfold dupT tap0 tap1 tap2
  pointwise

theorem hStep_apply (j : Fin 8) (d : FVec Ideal S256x704 .bf16) (acc : FVec Ideal S256x1024 .f32) (p : Fin 256) (e : Fin 1024) :
    hStep O j d acc (ix2 p e) = acc (ix2 p e) + ∑ q, d (ix2 p q) * O.wu (ix3 j e q) := by
  unfold hStep
  rw [shapeCast_self]
  have hw : (shapeCast S1024x704 (View.ld O.wu (Rect.unit ![j.val, 0, 0] ![1, 1024, 704] (inbWU j)) : Vec Ideal S1x1024x704 .bf16) shapeCasts_S1x1024x704_S1024x704)
      = fun i => O.wu (ix3 j (i 0) (i 1)) := by
    funext i
    obtain ⟨a, b, rfl⟩ : ∃ a b, i = ix2 a b := ⟨i 0, i 1, (ix2_eta i).symm⟩
    exact (cast3 _ _ _ _).trans (ld3 _ _ _ _ _ _ _ _ _ _ _ (by simp) (by simp) (by simp))
  rw [hw]
  pointwise

theorem sumT_apply (acc : FVec Ideal S1x704 .f32) (v : FVec Ideal S256x704 .f32) (q : Fin 704) :
    sumT acc v (ix2 0 q) = acc (ix2 0 q) + ∑ p, v (ix2 p q) := by
  unfold sumT
  pointwise
theorem sumM_apply (acc : FVec Ideal S1x1024 .f32) (v : FVec Ideal S256x1024 .f32) (q : Fin 1024) :
    sumM acc v (ix2 0 q) = acc (ix2 0 q) + ∑ p, v (ix2 p q) := by
  unfold sumM
  pointwise

theorem dhT_apply (p : Fin 256) (e : Fin 1024) :
    dhT O cy (ix2 p e) = ∑ j, ∑ q, dupC O cy j (ix2 p q) * O.wu (ix3 j e q) := by
  unfold dhT order
  simp only [List.foldl_cons, List.foldl_nil, hStep_apply]
  rw [Fin.sum_univ_eight]
  rw [show (k0_pay26 : FVec Ideal S256x1024 .f32) (ix2 p e) = 0 from by unfold_payloads; pointwise]
  generalize (∑ q, dupC O cy 0 (ix2 p q) * O.wu (ix3 0 e q)) = a0
  abel

theorem shT_apply (d : Fin 1024) : shT O (ix2 0 d) = O.md (ix2 3 d) := by
  unfold shT; unfold_payloads; pointwise
theorem scT_apply (d : Fin 1024) : scT O (ix2 0 d) = O.md (ix2 4 d) := by
  unfold scT; unfold_payloads; pointwise
theorem gfT_apply (d : Fin 1024) : gfT O (ix2 0 d) = O.md (ix2 5 d) := by
  unfold gfT; unfold_payloads; pointwise

end Cert.KernelIdeal.Own
-- ==== Proof.Scalar.lean ====
/-
  The scalar identities over the extended reals: the programs' constants and the sigmoid's two spellings.
-/
module

public import proofs.«01_k».proof.Proof.Spec
public import Idealize.ShloMosaic.Lib.IdealHost
public import Mathlib.Analysis.SpecialFunctions.Trigonometric.DerivHyp

@[expose] public section

noncomputable section

namespace Cert.Own.Scalar

open Idealize.ShloMosaic

theorem half_eq : Ideal.ofBits .f32 0x3F000000#32 = ((1 / 2 : ℝ) : EReal) := by
  simp [Ideal.ofBits, Ideal.ieee, -EReal.coe_mul]; norm_num
theorem width_eq : Spec.width = ((1024 : ℝ) : EReal) := by
  unfold Spec.width
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul, -EReal.coe_neg]; norm_num
theorem eps_eq : ∃ e : ℝ, 0 < e ∧ Spec.eps = (e : EReal) := by
  refine ⟨_, ?_, by unfold Spec.eps; simp [Ideal.ofBits, Ideal.ieee, -EReal.coe_mul]; rfl⟩
  norm_num

/-- The sigmoid by the hyperbolic tangent of half its argument. -/
theorem sigmoid_tanh (g : EReal) :
    Ideal.ofBits .f32 0x3F000000#32 * Ideal.tanh (Ideal.ofBits .f32 0x3F000000#32 * g) + Ideal.ofBits .f32 0x3F000000#32
      = Ideal.logistic g := by
  rw [half_eq]
  have hp : (0 : ℝ) < 1 / 2 := by norm_num
  induction g using EReal.rec with
  | bot =>
    rw [EReal.coe_mul_bot_of_pos hp, Ideal.tanh_bot, Ideal.logistic_bot]
    rw [show (-1 : EReal) = ((-1 : ℝ) : EReal) by norm_num, ← EReal.coe_mul, ← EReal.coe_add]
    norm_num
  | top =>
    rw [EReal.coe_mul_top_of_pos hp, Ideal.tanh_top, Ideal.logistic_top]
    rw [show (1 : EReal) = ((1 : ℝ) : EReal) by norm_num, ← EReal.coe_mul, ← EReal.coe_add]
    norm_num
  | coe g =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (-g) = Real.exp (-(1 / 2 * g)) * Real.exp (-(1 / 2 * g)) := by
      rw [← Real.exp_add]; congr 1; ring
    have e2 : Real.exp (1 / 2 * g) * Real.exp (-(1 / 2 * g)) = 1 := by
      rw [← Real.exp_add]; simp
    have p1 := Real.exp_pos (1 / 2 * g)
    have p2 := Real.exp_pos (-(1 / 2 * g))
    rw [e1]
    generalize Real.exp (1 / 2 * g) = a at *
    generalize Real.exp (-(1 / 2 * g)) = b at *
    have : (1 + b * b) ≠ 0 := by positivity
    have : a + b ≠ 0 := by positivity
    field_simp
    linear_combination 2 * b * e2

end Cert.Own.Scalar
-- ==== Proof.TileValue.lean ====
/-
  What one grid point computes, as the plain formulas at the tile's rows.
-/
module

public import proofs.«01_k».proof.Proof.Point
public import proofs.«01_k».proof.Proof.Scalar

@[expose] public section

set_option maxRecDepth 16384

noncomputable section

namespace Cert.KernelIdeal.Own

open Cert.KernelIdeal Cert.KernelIdeal.Gen Idealize.ShloMosaic Idealize.ShloMosaic.TcCoe Idealize.SL.Sem
open Cert.Own
open Cert.Own.Spec (Data)

/-- The blocks `O` are tile `r` of the data: rows `256 r … 256 r + 255`, the halo the eight rows before. -/
structure IsTile (O : Ops) (G : Data) (r : ℕ) : Prop where
  ct : ∀ p d, O.ct (ix2 p d) = G.ct (256 * r + p.val) d
  f : ∀ p d, O.f (ix2 p d) = G.f (256 * r + p.val) d
  x : ∀ p d, O.x (ix2 p d) = G.x (256 * r + p.val) d
  up : ∀ j p q, O.up (ix3 j p q) = G.up j (256 * r + p.val) q
  halo : ∀ j p q, O.halo (ix3 j p q) * O.keep = if r = 0 then 0 else G.up j (256 * r + p.val - 8) q
  sh : ∀ d, O.md (ix2 3 d) = G.sh d
  sc : ∀ d, O.md (ix2 4 d) = G.sc d
  gf : ∀ d, O.md (ix2 5 d) = G.gf d
  g3 : ∀ d, O.g3 (ix2 0 d) = G.g3 d
  g4 : ∀ d, O.g4 (ix2 0 d) = G.g4 d
  wu : ∀ j d q, O.wu (ix3 j d q) = G.wu j d q
  cw : ∀ j k q, O.cw (ix3 j k q) = G.cw j k q
  cb : ∀ j q, O.cb (ix2 j q) = G.cb j q
  wd : ∀ (j : Fin 4) (q : Fin 704) d, O.wd (ix2 ⟨704 * j + q, by omega⟩ d) = G.wd j q d

/-- The carried rows are the convolution's cotangents at the eight rows after tile `r`, zero past the end. -/
def IsBelow (cy : Vec Ideal S8x8x704 .f32) (G : Data) (r : ℕ) : Prop :=
  ∀ (j : Fin 8) (p : Fin 8) (q : Fin 704), cy (ix3 j p q) = if 256 * (r + 1) + p.val < 8192 then Spec.dy G j (256 * (r + 1) + p.val) q else 0

variable {O : Ops} {cy : Vec Ideal S8x8x704 .f32} {G : Data} {r : ℕ}

theorem upS2_tile (h : IsTile O G r) (j : Fin 8) (p : Fin 256) (q : Fin 704) :
    shDn2 (upT O j) (haloT O j) (ix2 p q) = Spec.upS G 2 j (256 * r + p.val) q := by
  rw [shDn2_apply]
  unfold Spec.upS
  by_cases hp : p.val < 2
  · rw [dif_pos hp, haloT_apply, h.halo]
    by_cases hr : r = 0
    · rw [if_pos hr, if_pos (by subst hr; omega)]
    · rw [if_neg hr, if_neg (by omega)]
      congr 1
  · rw [dif_neg hp, upT_apply, h.up, if_neg (by omega)]
    congr 1
    show 256 * r + (p.val - 2) = _
    omega

theorem upS1_tile (h : IsTile O G r) (j : Fin 8) (p : Fin 256) (q : Fin 704) :
    shDn1 (upT O j) (haloT O j) (ix2 p q) = Spec.upS G 1 j (256 * r + p.val) q := by
  rw [shDn1_apply]
  unfold Spec.upS
  by_cases hp : p.val < 1
  · rw [dif_pos hp, haloT_apply, h.halo]
    by_cases hr : r = 0
    · rw [if_pos hr, if_pos (by subst hr; omega)]
    · rw [if_neg hr, if_neg (by omega)]
      congr 1
  · rw [dif_neg hp, upT_apply, h.up, if_neg (by omega)]
    congr 1
    show 256 * r + (p.val - 1) = _
    omega

theorem yT_tile (h : IsTile O G r) (j : Fin 8) (p : Fin 256) (q : Fin 704) :
    yT O j (ix2 p q) = Spec.y G j (256 * r + p.val) q := by
  rw [yT_apply, upS2_tile h, upS1_tile h, cbT_apply, cwT_apply, cwT_apply, cwT_apply, upT_apply, h.up, h.cw, h.cw, h.cw, h.cb]
  rfl

theorem dfT_tile (h : IsTile O G r) (p : Fin 256) (d : Fin 1024) :
    dfT O (ix2 p d) = Spec.df G (256 * r + p.val) d := by
  rw [dfT_apply]
  simp only [h.f, h.ct, h.gf, h.g4]
  rfl

theorem dactT_tile (h : IsTile O G r) (j : Fin 4) (p : Fin 256) (q : Fin 704) :
    dactT O j (ix2 p q) = Spec.dact G j (256 * r + p.val) q := by
  rw [dactT_apply]
  simp only [dfT_tile h, h.wd]
  rfl

theorem dyT_tile (h : IsTile O G r) (j : Fin 8) (p : Fin 256) (q : Fin 704) :
    dyT O j (ix2 p q) = Spec.dy G j (256 * r + p.val) q := by
  unfold dyT Spec.dy
  by_cases hj : j.val < 4
  · rw [dif_pos hj, dif_pos hj, dGT_apply, sigT_apply, Scalar.sigmoid_tanh, yT_tile h, yT_tile h, dactT_tile h]
    rfl
  · rw [dif_neg hj, dif_neg hj, dVT_apply, sigT_apply, Scalar.sigmoid_tanh, yT_tile h, dactT_tile h]
    rfl

theorem dyS1_tile (h : IsTile O G r) (hc : IsBelow cy G r) (hr : r < 32) (j : Fin 8) (p : Fin 256) (q : Fin 704) :
    shUp1 (dyT O j) (belowT cy j) (ix2 p q) = Spec.dyS G 1 j (256 * r + p.val) q := by
  rw [shUp1_apply]
  unfold Spec.dyS
  by_cases hp : p.val < 255
  · rw [dif_pos hp, dyT_tile h, if_pos (by omega)]
    rfl
  · rw [dif_neg hp, belowT_apply, hc]
    have e : 256 * (r + 1) + (p.val - 255) = 256 * r + p.val + 1 := by omega
    show (if 256 * (r + 1) + (p.val - 255) < 8192 then Spec.dy G j (256 * (r + 1) + (p.val - 255)) q else 0) = _
    rw [e]

theorem dyS2_tile (h : IsTile O G r) (hc : IsBelow cy G r) (hr : r < 32) (j : Fin 8) (p : Fin 256) (q : Fin 704) :
    shUp2 (dyT O j) (belowT cy j) (ix2 p q) = Spec.dyS G 2 j (256 * r + p.val) q := by
  rw [shUp2_apply]
  unfold Spec.dyS
  by_cases hp : p.val < 254
  · rw [dif_pos hp, dyT_tile h, if_pos (by omega)]
    rfl
  · rw [dif_neg hp, belowT_apply, hc]
    have e : 256 * (r + 1) + (p.val - 254) = 256 * r + p.val + 2 := by omega
    show (if 256 * (r + 1) + (p.val - 254) < 8192 then Spec.dy G j (256 * (r + 1) + (p.val - 254)) q else 0) = _
    rw [e]

theorem dupC_tile (h : IsTile O G r) (hc : IsBelow cy G r) (hr : r < 32) (j : Fin 8) (p : Fin 256) (q : Fin 704) :
    dupC O cy j (ix2 p q) = Spec.dup G j (256 * r + p.val) q := by
  unfold dupC
  rw [dupT_apply, dyT_tile h, dyS1_tile h hc hr, dyS2_tile h hc hr, cwT_apply, cwT_apply, cwT_apply, h.cw, h.cw, h.cw]
  rfl

theorem dhT_tile (h : IsTile O G r) (hc : IsBelow cy G r) (hr : r < 32) (p : Fin 256) (d : Fin 1024) :
    dhT O cy (ix2 p d) = Spec.dh G (256 * r + p.val) d := by
  rw [dhT_apply]
  simp only [dupC_tile h hc hr, h.wu]
  rfl

theorem tapDy_tile (h : IsTile O G r) (hc : IsBelow cy G r) (hr : r < 32) (j : Fin 8) (k : Fin 3) (p : Fin 256) (q : Fin 704) :
    tapDy O cy j k (ix2 p q) = Spec.dyS G (2 - k.val) j (256 * r + p.val) q := by
  unfold tapDy
  match k with
  | ⟨0, _⟩ => exact dyS2_tile h hc hr j p q
  | ⟨1, _⟩ => exact dyS1_tile h hc hr j p q
  | ⟨2, _⟩ =>
    refine (dyT_tile h j p q).trans ?_
    unfold Spec.dyS
    rw [if_pos (by show 256 * r + p.val + 0 < 8192; omega)]
    rfl

/-! ### The blocks a grid point writes -/

theorem out12_tile (h : IsTile O G r) (hc : IsBelow cy G r) (hr : r < 32) (p : Fin 256) (d : Fin 1024) :
    out12 O cy (ix2 p d) = Spec.dx G (256 * r + p.val) d := by
  have e : out12 O cy (ix2 p d) = O.ct (ix2 p d) + Spec.bwd (fun e => O.x (ix2 p e))
      (fun e => dhT O cy (ix2 p e) * (1 + scT O (ix2 0 e)) * O.g3 (ix2 0 e)) d := by
    unfold out12 Spec.bwd Spec.hat Spec.rms Spec.width Spec.eps
    unfold_payloads
    pointwise
  rw [e]
  simp only [h.ct, h.x, dhT_tile h hc hr, scT_apply, h.sc, h.g3]
  rfl

theorem out15_tile (h : IsTile O G r) (p : Fin 256) (d : Fin 1024) : out15 O (ix2 p d) = Spec.h2 G (256 * r + p.val) d := by
  have e : out15 O (ix2 p d) = Spec.hat (fun e => O.x (ix2 p e)) d * O.g3 (ix2 0 d) * (1 + scT O (ix2 0 d)) + shT O (ix2 0 d) := by
    unfold out15 Spec.hat Spec.rms Spec.width Spec.eps
    unfold_payloads
    pointwise
  rw [e]
  simp only [h.x, scT_apply, shT_apply, h.sc, h.sh, h.g3]
  rfl

theorem modTerm_tile (h : IsTile O G r) (hc : IsBelow cy G r) (hr : r < 32) (k : Fin 3) (p : Fin 256) (d : Fin 1024) :
    modTerm O cy k (ix2 p d) = Spec.modTerm G k (256 * r + p.val) d := by
  match k with
  | ⟨0, _⟩ => exact dhT_tile h hc hr p d
  | ⟨1, _⟩ =>
    have e : modTerm O cy ⟨1, by omega⟩ (ix2 p d) = dhT O cy (ix2 p d) * (Spec.hat (fun e => O.x (ix2 p e)) d * O.g3 (ix2 0 d)) := by
      unfold modTerm Spec.hat Spec.rms Spec.width Spec.eps
      simp only [one_ne_zero, if_false, if_true]
      unfold_payloads
      pointwise
    rw [e]
    simp only [h.x, dhT_tile h hc hr, h.g3]
    rfl
  | ⟨2, _⟩ =>
    have e : modTerm O cy ⟨2, by omega⟩ (ix2 p d) = O.ct (ix2 p d) * (Spec.hat (fun e => O.f (ix2 p e)) d * O.g4 (ix2 0 d)) := by
      unfold modTerm Spec.hat Spec.rms Spec.width Spec.eps
      simp only [OfNat.ofNat_ne_zero, OfNat.ofNat_ne_one, if_false, if_true]
      unfold_payloads
      pointwise
    rw [e]
    simp only [h.f, h.ct, h.g4]
    rfl

theorem out17_tile (h : IsTile O G r) (hc : IsBelow cy G r) (hr : r < 32) (a : Vec Ideal S1x1024 .f32) (d : Fin 1024) :
    out17 O cy a (ix2 0 d) = a (ix2 0 d) + ∑ p : Fin 256, Spec.g3Term G (256 * r + p.val) d := by
  have e : out17 O cy a (ix2 0 d) = a (ix2 0 d) + ∑ p : Fin 256, dhT O cy (ix2 p d) * (1 + scT O (ix2 0 d)) * Spec.hat (fun e => O.x (ix2 p e)) d := by
    unfold out17 Spec.hat Spec.rms Spec.width Spec.eps
    unfold_payloads
    pointwise
  rw [e]
  simp only [h.x, dhT_tile h hc hr, scT_apply, h.sc]
  rfl

theorem out18_tile (h : IsTile O G r) (a : Vec Ideal S1x1024 .f32) (d : Fin 1024) :
    out18 O a (ix2 0 d) = a (ix2 0 d) + ∑ p : Fin 256, Spec.g4Term G (256 * r + p.val) d := by
  have e : out18 O a (ix2 0 d) = a (ix2 0 d) + ∑ p : Fin 256, O.ct (ix2 p d) * gfT O (ix2 0 d) * Spec.hat (fun e => O.f (ix2 p e)) d := by
    unfold out18 Spec.hat Spec.rms Spec.width Spec.eps
    unfold_payloads
    pointwise
  rw [e]
  simp only [h.f, h.ct, gfT_apply, h.gf]
  rfl

/-! ### The blocks stored chunk by chunk -/

theorem emb3 {A B C a b c : ℕ} (o₀ o₁ o₂ : ℕ)
    (inb : ∀ x : Fin 3, (![o₀, o₁, o₂] : Fin 3 → ℕ) x + (![a, b, c] : Fin 3 → ℕ) x ≤ (⟨3, ![A, B, C]⟩ : Shape).size x)
    (i : Fin a) (j : Fin b) (k : Fin c) (i' : Fin A) (j' : Fin B) (k' : Fin C)
    (hi : i'.val = o₀ + i) (hj : j'.val = o₁ + j) (hk : k'.val = o₂ + k) :
    (Rect.unit (s := ⟨3, ![A, B, C]⟩) ![o₀, o₁, o₂] ![a, b, c] inb).emb (ix3 i j k) = ix3 i' j' k' := by
  funext x
  refine Fin.ext ((Rect.idx_unit_val (s := ⟨3, ![A, B, C]⟩) ![o₀, o₁, o₂] ![a, b, c] inb (ix3 i j k) x).trans ?_)
  match x with
  | ⟨0, _⟩ => exact hi.symm
  | ⟨1, _⟩ => exact hj.symm
  | ⟨2, _⟩ => exact hk.symm

theorem emb2 {A B a b : ℕ} (o₀ o₁ : ℕ)
    (inb : ∀ x : Fin 2, (![o₀, o₁] : Fin 2 → ℕ) x + (![a, b] : Fin 2 → ℕ) x ≤ (⟨2, ![A, B]⟩ : Shape).size x)
    (i : Fin a) (j : Fin b) (i' : Fin A) (j' : Fin B) (hi : i'.val = o₀ + i) (hj : j'.val = o₁ + j) :
    (Rect.unit (s := ⟨2, ![A, B]⟩) ![o₀, o₁] ![a, b] inb).emb (ix2 i j) = ix2 i' j' := by
  funext x
  refine Fin.ext ((Rect.idx_unit_val (s := ⟨2, ![A, B]⟩) ![o₀, o₁] ![a, b] inb (ix2 i j) x).trans ?_)
  match x with
  | ⟨0, _⟩ => exact hi.symm
  | ⟨1, _⟩ => exact hj.symm

theorem cast3' {a b : ℕ} {e : EltTy} (x : Vec Ideal ⟨2, ![a, b]⟩ e) (h : (⟨2, ![a, b]⟩ : Shape).ShapeCasts ⟨3, ![1, a, b]⟩)
    (u : Fin 1) (i : Fin a) (j : Fin b) : shapeCast ⟨3, ![1, a, b]⟩ x h (ix3 u i j) = x (ix2 i j) :=
  ValueIdx.shapeCast_ab_1ab_apply x h u i j

theorem mem_redro (j : Fin 8) : j ∈ redro := by revert j; decide

/-- The chunk of the up-projection's cotangent. -/
theorem out13_tile (h : IsTile O G r) (hc : IsBelow cy G r) (hr : r < 32) (j : Fin 8) (p : Fin 256) (q : Fin 704) :
    out13 O cy (ix3 j p q) = Spec.dup G j (256 * r + p.val) q := by
  unfold out13
  rw [← List.append_nil (List.map _ redro)]
  refine (View.canon_append_of_pieces (fun i => Spec.dup G (i 0) (256 * r + (i 1).val) (i 2)) [] _ ?_ (ix3 j p q) ?_).trans rfl
  · intro P hP x
    obtain ⟨j, -, rfl⟩ := List.mem_map.1 hP
    obtain ⟨a, p, q, rfl⟩ : ∃ (a : Fin 1) (p : Fin 256) (q : Fin 704), x = ix3 a p q := ⟨x 0, x 1, x 2, (ix3_eta x).symm⟩
    rw [emb3 _ _ _ _ a p q j p q (by omega) (by omega) (by omega)]
    exact ((ValueIdx.shapeCast_ab_1ab_apply _ _ _ _ _).trans (dupC_tile h hc hr j p q))
  · refine ⟨_, List.mem_map.2 ⟨j, mem_redro j, rfl⟩, (Rect.mem_set_unit (inb := inbU j)).2 fun x => ?_⟩
    match x with
    | ⟨0, _⟩ => exact ⟨le_refl _, Nat.lt_succ_self _⟩
    | ⟨1, _⟩ => exact ⟨Nat.zero_le _, (Nat.zero_add 256).symm ▸ p.isLt⟩
    | ⟨2, _⟩ => exact ⟨Nat.zero_le _, (Nat.zero_add 704).symm ▸ q.isLt⟩

/-- The carried rows for the next grid point: the tile's first eight rows. -/
theorem outS_tile (h : IsTile O G r) (L : List (View.Piece (Elt Ideal) S8x8x704 .f32)) (j : Fin 8) (p : Fin 8) (q : Fin 704) :
    outS O L (ix3 j p q) = Spec.dy G j (256 * r + p.val) q := by
  unfold outS
  refine (View.canon_append_of_pieces (fun i => Spec.dy G (i 0) (256 * r + (i 1).val) (i 2)) L _ ?_ (ix3 j p q) ?_).trans rfl
  · intro P hP x
    obtain ⟨j, -, rfl⟩ := List.mem_map.1 hP
    obtain ⟨a, p, q, rfl⟩ : ∃ (a : Fin 1) (p : Fin 8) (q : Fin 704), x = ix3 a p q := ⟨x 0, x 1, x 2, (ix3_eta x).symm⟩
    rw [emb3 _ _ _ _ a p q j p q (by omega) (by omega) (by omega)]
    show shapeCast S1x8x704 (extractStridedSlice S8x704 ![0, 0] (dyT O j) slices_S256x704_o0_0_S8x704) shapeCasts_S8x704_S1x8x704 (ix3 a p q) = _
    refine (cast3' (e := .f32) _ shapeCasts_S8x704_S1x8x704 a p q).trans ?_
    refine Eq.trans (congrArg (dyT O j) ?_) (dyT_tile h j ⟨p.val, by omega⟩ q)
    funext x
    match x with
    | ⟨0, _⟩ => exact Fin.ext (Nat.zero_add _)
    | ⟨1, _⟩ => exact Fin.ext (Nat.zero_add _)
  · refine ⟨_, List.mem_map.2 ⟨j, mem_redro j, rfl⟩, (Rect.mem_set_unit (inb := inbH j)).2 fun x => ?_⟩
    match x with
    | ⟨0, _⟩ => exact ⟨le_refl _, Nat.lt_succ_self _⟩
    | ⟨1, _⟩ => exact ⟨Nat.zero_le _, (Nat.zero_add 8).symm ▸ p.isLt⟩
    | ⟨2, _⟩ => exact ⟨Nat.zero_le _, (Nat.zero_add 704).symm ▸ q.isLt⟩

/-- The modulation's running rows: what they held and the tile's sums. -/
theorem out16_tile (h : IsTile O G r) (hc : IsBelow cy G r) (hr : r < 32) (a : Vec Ideal S3x1024 .f32)
    (L : List (View.Piece (Elt Ideal) S3x1024 .f32)) (k : Fin 3) (d : Fin 1024) :
    out16 O cy a L (ix2 k d) = a (ix2 k d) + ∑ p : Fin 256, Spec.modTerm G k (256 * r + p.val) d := by
  unfold out16
  refine (View.canon_append_of_pieces (fun i => a i + ∑ p : Fin 256, Spec.modTerm G (i 0) (256 * r + p.val) (i 1)) L _ ?_ (ix2 k d) ?_).trans rfl
  · intro P hP x
    obtain ⟨k, -, rfl⟩ := List.mem_map.1 hP
    obtain ⟨u, d, rfl⟩ : ∃ (u : Fin 1) (d : Fin 1024), x = ix2 u d := ⟨x 0, x 1, (ix2_eta x).symm⟩
    obtain rfl : u = 0 := Subsingleton.elim _ _
    rw [emb2 _ _ _ 0 d k d (by simp) (by simp)]
    refine (sumM_apply _ _ d).trans ?_
    simp only [modTerm_tile h hc hr]
    exact congrArg (· + _) ((congrFun (shapeCast_self (s := S1x1024) _ _) _).trans (ld2 _ _ _ _ _ _ _ _ (by simp) (by simp)))
  · refine ⟨_, List.mem_map.2 ⟨k, (by revert k; decide : ∀ k : Fin 3, k ∈ ([1, 0, 2] : List (Fin 3))) k, rfl⟩, (Rect.mem_set_unit (inb := inbD k)).2 fun x => ?_⟩
    match x with
    | ⟨0, _⟩ => exact ⟨le_refl _, Nat.lt_succ_self _⟩
    | ⟨1, _⟩ => exact ⟨Nat.zero_le _, (Nat.zero_add 1024).symm ▸ d.isLt⟩

/-- The bias's running rows. -/
theorem out19_tile (h : IsTile O G r) (a : Vec Ideal S8x704 .f32)
    (L : List (View.Piece (Elt Ideal) S8x704 .f32)) (j : Fin 8) (q : Fin 704) :
    out19 O a L (ix2 j q) = a (ix2 j q) + ∑ p : Fin 256, Spec.dy G j (256 * r + p.val) q := by
  unfold out19
  refine (View.canon_append_of_pieces (fun i => a i + ∑ p : Fin 256, Spec.dy G (i 0) (256 * r + p.val) (i 1)) L _ ?_ (ix2 j q) ?_).trans rfl
  · intro P hP x
    obtain ⟨k, -, rfl⟩ := List.mem_map.1 hP
    obtain ⟨u, d, rfl⟩ : ∃ (u : Fin 1) (d : Fin 704), x = ix2 u d := ⟨x 0, x 1, (ix2_eta x).symm⟩
    obtain rfl : u = 0 := Subsingleton.elim _ _
    rw [emb2 _ _ _ 0 d k d (by simp) (by simp)]
    refine (sumT_apply _ _ d).trans ?_
    simp only [dyT_tile h]
    exact congrArg (· + _) ((congrFun (shapeCast_self (s := S1x704) _ _) _).trans (ld2 _ _ _ _ _ _ _ _ (by simp) (by simp)))
  · refine ⟨_, List.mem_map.2 ⟨j, mem_redro j, rfl⟩, (Rect.mem_set_unit (inb := inbC j)).2 fun x => ?_⟩
    match x with
    | ⟨0, _⟩ => exact ⟨le_refl _, Nat.lt_succ_self _⟩
    | ⟨1, _⟩ => exact ⟨Nat.zero_le _, (Nat.zero_add 704).symm ▸ q.isLt⟩

/-- The taps' running rows. -/
theorem out20_tile (h : IsTile O G r) (hc : IsBelow cy G r) (hr : r < 32) (a : Vec Ideal S8x3x704 .f32)
    (L : List (View.Piece (Elt Ideal) S8x3x704 .f32)) (j : Fin 8) (k : Fin 3) (q : Fin 704) :
    out20 O cy a L (ix3 j k q) = a (ix3 j k q) + ∑ p : Fin 256, Spec.tapTerm G j k (256 * r + p.val) q := by
  unfold out20
  refine (View.canon_append_of_pieces (fun i => a i + ∑ p : Fin 256, Spec.tapTerm G (i 0) (i 1) (256 * r + p.val) (i 2)) L _ ?_ (ix3 j k q) ?_).trans rfl
  · intro P hP x
    obtain ⟨j, -, hP⟩ := List.mem_flatMap.1 hP
    obtain ⟨k, -, rfl⟩ := List.mem_map.1 hP
    obtain ⟨u, v, d, rfl⟩ : ∃ (u : Fin 1) (v : Fin 1) (d : Fin 704), x = ix3 u v d := ⟨x 0, x 1, x 2, (ix3_eta x).symm⟩
    obtain rfl : u = 0 := Subsingleton.elim _ _
    obtain rfl : v = 0 := Subsingleton.elim _ _
    rw [emb3 _ _ _ _ 0 0 d j k d (by simp) (by simp) (by simp)]
    refine (ValueIdx.shapeCast_ab_1ab_apply _ _ _ _ _).trans ((sumT_apply _ _ d).trans ?_)
    simp only [mulf_apply, tapDy_tile h hc hr, upT_apply, h.up]
    exact congrArg (· + _) ((cast3 _ _ _ _).trans (ld3 _ _ _ _ _ _ _ _ _ _ _ (by simp) (by simp) (by simp)))
  · refine ⟨_, List.mem_flatMap.2 ⟨j, mem_redro j, List.mem_map.2 ⟨k, (by revert k; decide : ∀ k : Fin 3, k ∈ ([2, 1, 0] : List (Fin 3))) k, rfl⟩⟩,
      (Rect.mem_set_unit (inb := inbT j k)).2 fun x => ?_⟩
    match x with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 704).symm ▸ q.isLt⟩

end Cert.KernelIdeal.Own
-- ==== Proof.Fold.lean ====
/-
  The grid's points in order: each point's blocks are a tile of the arrays that the region finds, so the carried rows
  and the running sums after each point are those of the formulas.
-/
module

public import proofs.«01_k».proof.Proof.Cases
public import proofs.«01_k».proof.Proof.TileValue

@[expose] public section

set_option maxRecDepth 16384

noncomputable section

namespace Cert.KernelIdeal.Own

open Cert.KernelIdeal Cert.KernelIdeal.Gen Idealize.ShloMosaic Idealize.ShloMosaic.TcCoe Idealize.SL.Sem
open Cert.Own
open Cert.Own.Spec (Data)

variable (m : (ℓ : Loc nD τ sig) → Buf (Elt Ideal) ℓ) (c : Dev nD)

/-- A matrix's row at a position, and a chunked array's, zero out of range. -/
def row (X : Vec Ideal S8192x1024 .f32) (s : ℕ) (d : Fin 1024) : EReal := if h : s < 8192 then X (ix2 ⟨s, h⟩ d) else 0
def row8 (X : Vec Ideal S8x8192x704 .f32) (j : Fin 8) (s : ℕ) (q : Fin 704) : EReal :=
  if h : s < 8192 then X (ix3 j ⟨s, h⟩ q) else 0

/-- The data that the region finds in the kernel's arrays. -/
def gAt : Data where
  ct := row (V m c main_arg10)
  f := row (V m c main_v47)
  x := row (V m c main_arg0)
  up := row8 (V m c main_v49)
  sh := fun d => (V m c main_v50 : Vec Ideal S6x1024 .f32) (ix2 3 d)
  sc := fun d => (V m c main_v50 : Vec Ideal S6x1024 .f32) (ix2 4 d)
  gf := fun d => (V m c main_v50 : Vec Ideal S6x1024 .f32) (ix2 5 d)
  g3 := fun d => (V m c main_arg4 : Vec Ideal S1x1024 .f32) (ix2 0 d)
  g4 := fun d => (V m c main_arg5 : Vec Ideal S1x1024 .f32) (ix2 0 d)
  wu := fun j d q => (V m c main_v53 : Vec Ideal S8x1024x704 .bf16) (ix3 j d q)
  cw := fun j k q => (V m c main_v55 : Vec Ideal S8x3x704 .f32) (ix3 j k q)
  cb := fun j q => (V m c main_v56 : Vec Ideal S8x704 .f32) (ix2 j q)
  wd := fun j q d => (V m c main_v57 : Vec Ideal S2816x1024 .bf16) (ix2 ⟨704 * j + q, by omega⟩ d)

theorem idx0 : ∀ t : Fin cfg0.N, win0_0.index t = ![31 - t.val, 0] := (by decide +kernel : ∀ t : Fin grid0.N, win0_0.index t = ![31 - t.val, 0])
theorem idx1 : ∀ t : Fin cfg0.N, win0_1.index t = ![31 - t.val, 0] := (by decide +kernel : ∀ t : Fin grid0.N, win0_1.index t = ![31 - t.val, 0])
theorem idx2 : ∀ t : Fin cfg0.N, win0_2.index t = ![31 - t.val, 0] := (by decide +kernel : ∀ t : Fin grid0.N, win0_2.index t = ![31 - t.val, 0])
theorem idx3 : ∀ t : Fin cfg0.N, win0_3.index t = ![0, 31 - t.val, 0] := (by decide +kernel : ∀ t : Fin grid0.N, win0_3.index t = ![0, 31 - t.val, 0])
theorem idx4 : ∀ t : Fin cfg0.N, win0_4.index t = ![0, 32 * (31 - t.val) - 1, 0] := (by decide +kernel : ∀ t : Fin grid0.N, win0_4.index t = ![0, 32 * (31 - t.val) - 1, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0, 0] := (by decide +kernel : ∀ t : Fin grid0.N, win0_9.index t = ![0, 0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])

/-- The factor that clears the halo: zero at the topmost tile, one elsewhere. -/
theorem keep_eq (t : Fin cfg0.N) : (k0_pay27 (Scalar.subi (31#32) (BitVec.ofNat 32 (grid0.coords t 0).val)) : Ideal .f32)
    = if 31 - t.val = 0 then (0 : EReal) else 1 := by
  have hb : Scalar.cmpi .sgt (Scalar.subi (31#32) (BitVec.ofNat 32 (grid0.coords t 0).val)) 0#32
      = if 31 - t.val = 0 then 0#1 else 1#1 := by
    revert t
    exact (by decide +kernel : ∀ t : Fin grid0.N, Scalar.cmpi .sgt (Scalar.subi (31#32) (BitVec.ofNat 32 (grid0.coords t 0).val)) 0#32
      = if 31 - t.val = 0 then 0#1 else 1#1)
  unfold k0_pay27
  show Scalar.select (Scalar.cmpi .sgt _ 0#32) (Ideal.ofBits .f32 0x3F800000#32) (Ideal.ofBits .f32 0x00000000#32) = _
  rw [hb]
  by_cases h : 31 - t.val = 0
  · rw [if_pos h, if_pos h]; exact Ideal.ofBits_zero_f32
  · rw [if_neg h, if_neg h]; exact Ideal.ofBits_one_f32

theorem N_eq : cfg0.N = 32 := by decide

/-! ### Each window's block -/

theorem iblk0 (t : Fin cfg0.N) (p : Fin 256) (d : Fin 1024) :
    (iblk m c 0 t : Vec Ideal S256x1024 .f32) (ix2 p d) = (gAt m c).ct (256 * (31 - t.val) + p.val) d := by
  unfold iblk
  rw [View.read_apply]
  show V m c main_arg10 _ = row (V m c main_arg10) _ _
  unfold row
  rw [dif_pos (by omega)]
  congr 1
  funext a
  apply Fin.ext
  match a with
  | ⟨0, _⟩ => show win0_0.index t 0 * 256 + 1 * p.val = _; rw [idx0]; show (31 - t.val) * 256 + 1 * p.val = 256 * (31 - t.val) + p.val; omega
  | ⟨1, _⟩ => show win0_0.index t 1 * 1024 + 1 * d.val = _; rw [idx0]; show 0 * 1024 + 1 * d.val = d.val; omega

theorem iblk1 (t : Fin cfg0.N) (p : Fin 256) (d : Fin 1024) :
    (iblk m c 1 t : Vec Ideal S256x1024 .f32) (ix2 p d) = (gAt m c).f (256 * (31 - t.val) + p.val) d := by
  unfold iblk
  rw [View.read_apply]
  show V m c main_v47 _ = row (V m c main_v47) _ _
  unfold row
  rw [dif_pos (by omega)]
  congr 1
  funext a
  apply Fin.ext
  match a with
  | ⟨0, _⟩ => show win0_1.index t 0 * 256 + 1 * p.val = _; rw [idx1]; show (31 - t.val) * 256 + 1 * p.val = 256 * (31 - t.val) + p.val; omega
  | ⟨1, _⟩ => show win0_1.index t 1 * 1024 + 1 * d.val = _; rw [idx1]; show 0 * 1024 + 1 * d.val = d.val; omega

theorem iblk2 (t : Fin cfg0.N) (p : Fin 256) (d : Fin 1024) :
    (iblk m c 2 t : Vec Ideal S256x1024 .f32) (ix2 p d) = (gAt m c).x (256 * (31 - t.val) + p.val) d := by
  unfold iblk
  rw [View.read_apply]
  show V m c main_arg0 _ = row (V m c main_arg0) _ _
  unfold row
  rw [dif_pos (by omega)]
  congr 1
  funext a
  apply Fin.ext
  match a with
  | ⟨0, _⟩ => show win0_2.index t 0 * 256 + 1 * p.val = _; rw [idx2]; show (31 - t.val) * 256 + 1 * p.val = 256 * (31 - t.val) + p.val; omega
  | ⟨1, _⟩ => show win0_2.index t 1 * 1024 + 1 * d.val = _; rw [idx2]; show 0 * 1024 + 1 * d.val = d.val; omega

theorem iblk3 (t : Fin cfg0.N) (j : Fin 8) (p : Fin 256) (q : Fin 704) :
    (iblk m c 3 t : Vec Ideal S8x256x704 .f32) (ix3 j p q) = (gAt m c).up j (256 * (31 - t.val) + p.val) q := by
  unfold iblk
  rw [View.read_apply]
  show V m c main_v49 _ = row8 (V m c main_v49) _ _ _
  unfold row8
  rw [dif_pos (by omega)]
  congr 1
  funext a
  apply Fin.ext
  match a with
  | ⟨0, _⟩ => show win0_3.index t 0 * 8 + 1 * j.val = _; rw [idx3]; show 0 * 8 + 1 * j.val = j.val; omega
  | ⟨1, _⟩ => show win0_3.index t 1 * 256 + 1 * p.val = _; rw [idx3]; show (31 - t.val) * 256 + 1 * p.val = 256 * (31 - t.val) + p.val; omega
  | ⟨2, _⟩ => show win0_3.index t 2 * 704 + 1 * q.val = _; rw [idx3]; show 0 * 704 + 1 * q.val = q.val; omega

theorem iblk4 (t : Fin cfg0.N) (hr : 31 - t.val ≠ 0) (j : Fin 8) (p : Fin 8) (q : Fin 704) :
    (iblk m c 4 t : Vec Ideal S8x8x704 .f32) (ix3 j p q) = (gAt m c).up j (256 * (31 - t.val) + p.val - 8) q := by
  unfold iblk
  rw [View.read_apply]
  show V m c main_v49 _ = row8 (V m c main_v49) _ _ _
  unfold row8
  rw [dif_pos (by omega)]
  congr 1
  funext a
  apply Fin.ext
  match a with
  | ⟨0, _⟩ => show win0_4.index t 0 * 8 + 1 * j.val = _; rw [idx4]; show 0 * 8 + 1 * j.val = j.val; omega
  | ⟨1, _⟩ => show win0_4.index t 1 * 8 + 1 * p.val = _; rw [idx4]; show (32 * (31 - t.val) - 1) * 8 + 1 * p.val = 256 * (31 - t.val) + p.val - 8; omega
  | ⟨2, _⟩ => show win0_4.index t 2 * 704 + 1 * q.val = _; rw [idx4]; show 0 * 704 + 1 * q.val = q.val; omega

theorem iblk5 (t : Fin cfg0.N) : (iblk m c 5 t : Vec Ideal S6x1024 .f32) = V m c main_v50 := by
  funext i
  unfold iblk
  rw [View.read_apply]
  show V m c main_v50 _ = V m c main_v50 _
  congr 1
  funext a
  apply Fin.ext
  match a with
  | ⟨0, _⟩ => show win0_5.index t 0 * 6 + 1 * (i 0).val = _; rw [idx5]; show 0 * 6 + 1 * (i 0).val = (i 0).val; omega
  | ⟨1, _⟩ => show win0_5.index t 1 * 1024 + 1 * (i 1).val = _; rw [idx5]; show 0 * 1024 + 1 * (i 1).val = (i 1).val; omega

theorem iblk6 (t : Fin cfg0.N) : (iblk m c 6 t : Vec Ideal S1x1024 .f32) = V m c main_arg4 := by
  funext i
  unfold iblk
  rw [View.read_apply]
  show V m c main_arg4 _ = V m c main_arg4 _
  congr 1
  funext a
  apply Fin.ext
  match a with
  | ⟨0, _⟩ => show win0_6.index t 0 * 1 + 1 * (i 0).val = _; rw [idx6]; show 0 * 1 + 1 * (i 0).val = (i 0).val; omega
  | ⟨1, _⟩ => show win0_6.index t 1 * 1024 + 1 * (i 1).val = _; rw [idx6]; show 0 * 1024 + 1 * (i 1).val = (i 1).val; omega

theorem iblk7 (t : Fin cfg0.N) : (iblk m c 7 t : Vec Ideal S1x1024 .f32) = V m c main_arg5 := by
  funext i
  unfold iblk
  rw [View.read_apply]
  show V m c main_arg5 _ = V m c main_arg5 _
  congr 1
  funext a
  apply Fin.ext
  match a with
  | ⟨0, _⟩ => show win0_7.index t 0 * 1 + 1 * (i 0).val = _; rw [idx7]; show 0 * 1 + 1 * (i 0).val = (i 0).val; omega
  | ⟨1, _⟩ => show win0_7.index t 1 * 1024 + 1 * (i 1).val = _; rw [idx7]; show 0 * 1024 + 1 * (i 1).val = (i 1).val; omega

theorem iblk8 (t : Fin cfg0.N) : (iblk m c 8 t : Vec Ideal S8x1024x704 .bf16) = V m c main_v53 := by
  funext i
  unfold iblk
  rw [View.read_apply]
  show V m c main_v53 _ = V m c main_v53 _
  congr 1
  funext a
  apply Fin.ext
  match a with
  | ⟨0, _⟩ => show win0_8.index t 0 * 8 + 1 * (i 0).val = _; rw [idx8]; show 0 * 8 + 1 * (i 0).val = (i 0).val; omega
  | ⟨1, _⟩ => show win0_8.index t 1 * 1024 + 1 * (i 1).val = _; rw [idx8]; show 0 * 1024 + 1 * (i 1).val = (i 1).val; omega
  | ⟨2, _⟩ => show win0_8.index t 2 * 704 + 1 * (i 2).val = _; rw [idx8]; show 0 * 704 + 1 * (i 2).val = (i 2).val; omega

theorem iblk9 (t : Fin cfg0.N) : (iblk m c 9 t : Vec Ideal S8x3x704 .f32) = V m c main_v55 := by
  funext i
  unfold iblk
  rw [View.read_apply]
  show V m c main_v55 _ = V m c main_v55 _
  congr 1
  funext a
  apply Fin.ext
  match a with
  | ⟨0, _⟩ => show win0_9.index t 0 * 8 + 1 * (i 0).val = _; rw [idx9]; show 0 * 8 + 1 * (i 0).val = (i 0).val; omega
  | ⟨1, _⟩ => show win0_9.index t 1 * 3 + 1 * (i 1).val = _; rw [idx9]; show 0 * 3 + 1 * (i 1).val = (i 1).val; omega
  | ⟨2, _⟩ => show win0_9.index t 2 * 704 + 1 * (i 2).val = _; rw [idx9]; show 0 * 704 + 1 * (i 2).val = (i 2).val; omega

theorem iblk10 (t : Fin cfg0.N) : (iblk m c 10 t : Vec Ideal S8x704 .f32) = V m c main_v56 := by
  funext i
  unfold iblk
  rw [View.read_apply]
  show V m c main_v56 _ = V m c main_v56 _
  congr 1
  funext a
  apply Fin.ext
  match a with
  | ⟨0, _⟩ => show win0_10.index t 0 * 8 + 1 * (i 0).val = _; rw [idx10]; show 0 * 8 + 1 * (i 0).val = (i 0).val; omega
  | ⟨1, _⟩ => show win0_10.index t 1 * 704 + 1 * (i 1).val = _; rw [idx10]; show 0 * 704 + 1 * (i 1).val = (i 1).val; omega

theorem iblk11 (t : Fin cfg0.N) : (iblk m c 11 t : Vec Ideal S2816x1024 .bf16) = V m c main_v57 := by
  funext i
  unfold iblk
  rw [View.read_apply]
  show V m c main_v57 _ = V m c main_v57 _
  congr 1
  funext a
  apply Fin.ext
  match a with
  | ⟨0, _⟩ => show win0_11.index t 0 * 2816 + 1 * (i 0).val = _; rw [idx11]; show 0 * 2816 + 1 * (i 0).val = (i 0).val; omega
  | ⟨1, _⟩ => show win0_11.index t 1 * 1024 + 1 * (i 1).val = _; rw [idx11]; show 0 * 1024 + 1 * (i 1).val = (i 1).val; omega

/-- The halo rows, cleared at the topmost tile. -/
theorem halo_mul (t : Fin cfg0.N) (j : Fin 8) (p : Fin 8) (q : Fin 704) :
    (opsAt m c t).halo (ix3 j p q) * (opsAt m c t).keep = if 31 - t.val = 0 then 0 else (gAt m c).up j (256 * (31 - t.val) + p.val - 8) q := by
  have hk : (opsAt m c t).keep = if 31 - t.val = 0 then (0 : EReal) else 1 := keep_eq t
  rw [hk]
  by_cases h : 31 - t.val = 0
  · rw [if_pos h, if_pos h]; exact mul_zero _
  · rw [if_neg h, if_neg h, show (opsAt m c t).halo (ix3 j p q) = _ from iblk4 m c t h j p q]; exact mul_one _

/-- Point `t`'s blocks are tile `31 - t` of what the region finds. -/
theorem isTile (t : Fin cfg0.N) : IsTile (opsAt m c t) (gAt m c) (31 - t.val) := by
  refine ⟨?_, ?_, ?_, ?_, halo_mul m c t, ?_, ?_, ?_, ?_, ?_, ?_, ?_, ?_, ?_⟩
  · dsimp only [opsAt]; exact iblk0 m c t
  · dsimp only [opsAt]; exact iblk1 m c t
  · dsimp only [opsAt]; exact iblk2 m c t
  · dsimp only [opsAt]; exact iblk3 m c t
  · dsimp only [opsAt, gAt]; exact fun d => congrFun (iblk5 m c t) (ix2 3 d)
  · dsimp only [opsAt, gAt]; exact fun d => congrFun (iblk5 m c t) (ix2 4 d)
  · dsimp only [opsAt, gAt]; exact fun d => congrFun (iblk5 m c t) (ix2 5 d)
  · dsimp only [opsAt, gAt]; exact fun d => congrFun (iblk6 m c t) (ix2 0 d)
  · dsimp only [opsAt, gAt]; exact fun d => congrFun (iblk7 m c t) (ix2 0 d)
  · dsimp only [opsAt, gAt]; exact fun j d q => congrFun (iblk8 m c t) (ix3 j d q)
  · dsimp only [opsAt, gAt]; exact fun j k q => congrFun (iblk9 m c t) (ix3 j k q)
  · dsimp only [opsAt, gAt]; exact fun j q => congrFun (iblk10 m c t) (ix2 j q)
  · dsimp only [opsAt, gAt]; exact fun j q d => congrFun (iblk11 m c t) (ix2 ⟨704 * j + q, by omega⟩ d)

/-! ### After each point -/

/-- A sum over the rows of the tiles taken so far: point `n` has taken tiles `31, …, 31 - n`. -/
def upTo (n : ℕ) (f : ℕ → EReal) : EReal := ∑ i ∈ Finset.range (n + 1), ∑ p : Fin 256, f (256 * (31 - i) + p.val)

theorem upTo_zero (f : ℕ → EReal) : upTo 0 f = ∑ p : Fin 256, f (256 * 31 + p.val) := by
  unfold upTo
  rw [Finset.sum_range_one]
theorem upTo_succ (n : ℕ) (f : ℕ → EReal) : upTo (n + 1) f = upTo n f + ∑ p : Fin 256, f (256 * (31 - (n + 1)) + p.val) :=
  Finset.sum_range_succ _ _

/-- What the carried rows and the running sums are after point `n`. -/
structure Inv (G : Data) (n : ℕ) (o : Outs Ideal) : Prop where
  mod : ∀ k d, o.2.2.2.2.1 (ix2 k d) = upTo n fun s => Spec.modTerm G k s d
  g3 : ∀ d, o.2.2.2.2.2.1 (ix2 0 d) = upTo n fun s => Spec.g3Term G s d
  g4 : ∀ d, o.2.2.2.2.2.2.1 (ix2 0 d) = upTo n fun s => Spec.g4Term G s d
  cb : ∀ j q, o.2.2.2.2.2.2.2.1 (ix2 j q) = upTo n fun s => Spec.dy G j s q
  cw : ∀ j k q, o.2.2.2.2.2.2.2.2.1 (ix3 j k q) = upTo n fun s => Spec.tapTerm G j k s q
  dy : ∀ (j : Fin 8) (p : Fin 8) (q : Fin 704), o.2.2.2.2.2.2.2.2.2 (ix3 j p q) = Spec.dy G j (256 * (31 - n) + p.val) q

theorem zero2 (i : S3x1024.Idx) : (k0_pay2 (F := Ideal)) i = (0 : EReal) := by unfold_payloads; pointwise
theorem zero3 (i : S1x1024.Idx) : (k0_pay3 (F := Ideal)) i = (0 : EReal) := by unfold_payloads; pointwise
theorem zero4 (i : S1x1024.Idx) : (k0_pay4 (F := Ideal)) i = (0 : EReal) := by unfold_payloads; pointwise
theorem zero5 (i : S8x704.Idx) : (k0_pay5 (F := Ideal)) i = (0 : EReal) := by unfold_payloads; pointwise
theorem zero6 (i : S8x3x704.Idx) : (k0_pay6 (F := Ideal)) i = (0 : EReal) := by unfold_payloads; pointwise
theorem zero7 (i : S8x8x704.Idx) : (k0_pay7 (F := Ideal)) i = (0 : EReal) := by unfold_payloads; pointwise

/-- Nothing lies below the last tile. -/
theorem below_A (G : Data) : IsBelow (k0_pay7 (F := Ideal)) G 31 := fun j p q => by
  rw [zero7, if_neg (by omega)]

/-- The first point. -/
theorem inv_A (t : Fin cfg0.N) (h0 : t.val % 32 = 0) (hn : t.val = 0) : Inv (gAt m c) 0 (stepA m c t h0) := by
  have hT := isTile m c t
  rw [hn] at hT
  have hB := below_A (gAt m c)
  constructor
  · intro k d
    dsimp only [stepA]
    refine (congrFun (oA16_eq m c t h0) (ix2 k d)).trans ((out16_tile hT hB (by omega) _ _ k d).trans ?_)
    rw [zero2, zero_add, upTo_zero]
  · intro d
    dsimp only [stepA]
    refine (congrFun (oA17_eq m c t h0) (ix2 0 d)).trans ((out17_tile hT hB (by omega) _ d).trans ?_)
    rw [zero3, zero_add, upTo_zero]
  · intro d
    dsimp only [stepA]
    refine (congrFun (oA18_eq m c t h0) (ix2 0 d)).trans ((out18_tile hT _ d).trans ?_)
    rw [zero4, zero_add, upTo_zero]
  · intro j q
    dsimp only [stepA]
    refine (congrFun (oA19_eq m c t h0) (ix2 j q)).trans ((out19_tile hT _ _ j q).trans ?_)
    rw [zero5, zero_add, upTo_zero]
  · intro j k q
    dsimp only [stepA]
    refine (congrFun (oA20_eq m c t h0) (ix3 j k q)).trans ((out20_tile hT hB (by omega) _ _ j k q).trans ?_)
    rw [zero6, zero_add, upTo_zero]
  · intro j p q
    dsimp only [stepA]
    exact (congrFun (sA0_eq m c t h0) (ix3 j p q)).trans (outS_tile hT _ j p q)

/-- The rows that a later point carries in. -/
theorem below_B {G : Data} {n : ℕ} {o : Outs Ideal} (hn : n + 1 < 32) (h : Inv G n o) :
    IsBelow o.2.2.2.2.2.2.2.2.2 G (31 - (n + 1)) := fun j p q => by
  rw [h.dy, if_pos (by omega)]
  congr 1
  omega

/-- A later point. -/
theorem inv_B (t : Fin cfg0.N) (h0 : ¬t.val % 32 = 0) (n : ℕ) (hn : t.val = n + 1) (o : Outs Ideal) (ho : Inv (gAt m c) n o) :
    Inv (gAt m c) (n + 1) (stepB m c t h0 o) := by
  have hT := isTile m c t
  have hlt : n + 1 < 32 := by have := Nat.lt_of_lt_of_eq t.isLt N_eq; omega
  rw [hn] at hT
  have hB := below_B hlt ho
  constructor
  · intro k d
    dsimp only [stepB]
    refine (congrFun (oB16_eq m c t h0 o) (ix2 k d)).trans ((out16_tile hT hB (by omega) _ _ k d).trans ?_)
    rw [ho.mod, upTo_succ]
  · intro d
    dsimp only [stepB]
    refine (congrFun (oB17_eq m c t h0 o) (ix2 0 d)).trans ((out17_tile hT hB (by omega) _ d).trans ?_)
    rw [ho.g3, upTo_succ]
  · intro d
    dsimp only [stepB]
    refine (congrFun (oB18_eq m c t h0 o) (ix2 0 d)).trans ((out18_tile hT _ d).trans ?_)
    rw [ho.g4, upTo_succ]
  · intro j q
    dsimp only [stepB]
    refine (congrFun (oB19_eq m c t h0 o) (ix2 j q)).trans ((out19_tile hT _ _ j q).trans ?_)
    rw [ho.cb, upTo_succ]
  · intro j k q
    dsimp only [stepB]
    refine (congrFun (oB20_eq m c t h0 o) (ix3 j k q)).trans ((out20_tile hT hB (by omega) _ _ j k q).trans ?_)
    rw [ho.cw, upTo_succ]
  · intro j p q
    dsimp only [stepB]
    exact (congrFun (sB0_eq m c t h0 o) (ix3 j p q)).trans (outS_tile hT _ j p q)

/-- After every point. -/
theorem inv (n : ℕ) : ∀ hn : n < cfg0.N, Inv (gAt m c) n (outsAt0 m c n hn) := by
  induction n with
  | zero =>
    intro hn
    rw [show outsAt0 m c 0 hn = _ from outsAt0_A m c ⟨0, hn⟩ rfl]
    exact inv_A m c ⟨0, hn⟩ rfl rfl
  | succ n ih =>
    intro hn
    have h0 : ¬(n + 1) % 32 = 0 := by have := hn; rw [N_eq] at this; omega
    rw [show outsAt0 m c (n + 1) hn = _ from outsAt0_B m c ⟨n + 1, hn⟩ h0]
    exact inv_B m c ⟨n + 1, hn⟩ h0 n rfl _ (ih _)

/-- The blocks written back at each point. -/
structure Blocks (G : Data) (n : ℕ) (o : Outs Ideal) : Prop where
  dx : ∀ p d, o.1 (ix2 p d) = Spec.dx G (256 * (31 - n) + p.val) d
  dup : ∀ j p q, o.2.1 (ix3 j p q) = Spec.dup G j (256 * (31 - n) + p.val) q
  df : ∀ p d, o.2.2.1 (ix2 p d) = Spec.df G (256 * (31 - n) + p.val) d
  h2 : ∀ p d, o.2.2.2.1 (ix2 p d) = Spec.h2 G (256 * (31 - n) + p.val) d

theorem blocks_A (t : Fin cfg0.N) (h0 : t.val % 32 = 0) (hn : t.val = 0) : Blocks (gAt m c) 0 (stepA m c t h0) := by
  have hT := isTile m c t
  rw [hn] at hT
  have hB := below_A (gAt m c)
  constructor
  · intro p d
    dsimp only [stepA]
    exact (congrFun (oA12_eq m c t h0) (ix2 p d)).trans (out12_tile hT hB (by omega) p d)
  · intro j p q
    dsimp only [stepA]
    exact (congrFun (oA13_eq m c t h0) (ix3 j p q)).trans (out13_tile hT hB (by omega) j p q)
  · intro p d
    dsimp only [stepA]
    exact (congrFun (oA14_eq m c t h0) (ix2 p d)).trans (dfT_tile hT p d)
  · intro p d
    dsimp only [stepA]
    exact (congrFun (oA15_eq m c t h0) (ix2 p d)).trans (out15_tile hT p d)

theorem blocks_B (t : Fin cfg0.N) (h0 : ¬t.val % 32 = 0) (n : ℕ) (hn : t.val = n + 1) (o : Outs Ideal) (ho : Inv (gAt m c) n o) :
    Blocks (gAt m c) (n + 1) (stepB m c t h0 o) := by
  have hT := isTile m c t
  have hlt : n + 1 < 32 := by have := Nat.lt_of_lt_of_eq t.isLt N_eq; omega
  rw [hn] at hT
  have hB := below_B hlt ho
  constructor
  · intro p d
    dsimp only [stepB]
    exact (congrFun (oB12_eq m c t h0 o) (ix2 p d)).trans (out12_tile hT hB (by omega) p d)
  · intro j p q
    dsimp only [stepB]
    exact (congrFun (oB13_eq m c t h0 o) (ix3 j p q)).trans (out13_tile hT hB (by omega) j p q)
  · intro p d
    dsimp only [stepB]
    exact (congrFun (oB14_eq m c t h0 o) (ix2 p d)).trans (dfT_tile hT p d)
  · intro p d
    dsimp only [stepB]
    exact (congrFun (oB15_eq m c t h0 o) (ix2 p d)).trans (out15_tile hT p d)

theorem blocks (n : ℕ) (hn : n < cfg0.N) : Blocks (gAt m c) n (outsAt0 m c n hn) := by
  cases n with
  | zero =>
    rw [show outsAt0 m c 0 hn = _ from outsAt0_A m c ⟨0, hn⟩ rfl]
    exact blocks_A m c ⟨0, hn⟩ rfl rfl
  | succ n =>
    have h0 : ¬(n + 1) % 32 = 0 := by have := hn; rw [N_eq] at this; omega
    rw [show outsAt0 m c (n + 1) hn = _ from outsAt0_B m c ⟨n + 1, hn⟩ h0]
    exact blocks_B m c ⟨n + 1, hn⟩ h0 n rfl _ (inv m c n _)

end Cert.KernelIdeal.Own
-- ==== Proof.Args.lean ====
/-
  The step's data from the arguments: the forward pass up to the saved up-projection and down-projection.
-/
module

public import proofs.«01_k».proof.Proof.Spec
public import Idealize.ShloMosaic.Lib.Pipeline.ValueKit.Acc

@[expose] public section

noncomputable section

namespace Cert.Own.Spec

open Idealize.ShloMosaic

/-- The arguments: input, modulation rows, gains, weights, taps and bias, and the cotangent of the sub-layer's result. -/
structure Args where
  x : Fin 8192 → Fin 1024 → EReal
  sh : Fin 1024 → EReal
  sc : Fin 1024 → EReal
  gf : Fin 1024 → EReal
  g3 : Fin 1024 → EReal
  g4 : Fin 1024 → EReal
  wu : Fin 1024 → Fin 5632 → EReal
  cw : Fin 3 → Fin 5632 → EReal
  cb : Fin 5632 → EReal
  wd : Fin 2816 → Fin 1024 → EReal
  ct : Fin 8192 → Fin 1024 → EReal

/-- Lane `q` of chunk `j`, of eight chunks and of four. -/
def lane (j : Fin 8) (q : Fin 704) : Fin 5632 := ⟨j.val * 704 + q.val, by omega⟩
def lane4 (j : Fin 4) (q : Fin 704) : Fin 2816 := ⟨j.val * 704 + q.val, by omega⟩

variable (A : Args)

/-- The up-projection's input and the up-projection. -/
def hRow (s : Fin 8192) (d : Fin 1024) : EReal := hat (A.x s) d * A.g3 d * (1 + A.sc d) + A.sh d
def upRow (s : Fin 8192) (l : Fin 5632) : EReal := ∑ d, hRow A s d * A.wu d l

/-- The data with the up-projection, without the down-projection. -/
def base : Data where
  ct s d := if h : s < 8192 then A.ct ⟨s, h⟩ d else 0
  f _ _ := 0
  x s d := if h : s < 8192 then A.x ⟨s, h⟩ d else 0
  up j s q := if h : s < 8192 then upRow A ⟨s, h⟩ (lane j q) else 0
  sh := A.sh
  sc := A.sc
  gf := A.gf
  g3 := A.g3
  g4 := A.g4
  wu j d q := A.wu d (lane j q)
  cw j k q := A.cw k (lane j q)
  cb j q := A.cb (lane j q)
  wd j q d := A.wd (lane4 j q) d

/-- The gated activation and the down-projection. -/
def act (j : Fin 4) (s : ℕ) (q : Fin 704) : EReal :=
  y (base A) (lo j) s q * Ideal.logistic (y (base A) (lo j) s q) * y (base A) (hi j) s q
def fRow (s : ℕ) (d : Fin 1024) : EReal := ∑ j : Fin 4, ∑ q : Fin 704, act A j s q * A.wd (lane4 j q) d

/-- All the data. -/
def data : Data := { base A with f := fun s d => if s < 8192 then fRow A s d else 0 }

/-- Data with equal parts are equal. -/
theorem Data.eq_of {G H : Data} (hct : G.ct = H.ct) (hf : G.f = H.f) (hx : G.x = H.x) (hup : G.up = H.up) (hsh : G.sh = H.sh) (hsc : G.sc = H.sc) (hgf : G.gf = H.gf) (hg3 : G.g3 = H.g3) (hg4 : G.g4 = H.g4) (hwu : G.wu = H.wu) (hcw : G.cw = H.cw) (hcb : G.cb = H.cb) (hwd : G.wd = H.wd) : G = H := by
  cases G; cases H
  dsimp only at *
  subst hct hf hx hup hsh hsc hgf hg3 hg4 hwu hcw hcb hwd
  rfl

theorem x_data (s : Fin 8192) : (data A).x s.val = A.x s := by
  funext d
  show (if h : s.val < 8192 then A.x ⟨s.val, h⟩ d else 0) = _
  rw [dif_pos s.isLt]
theorem ct_data (s : Fin 8192) : (data A).ct s.val = A.ct s := by
  funext d
  show (if h : s.val < 8192 then A.ct ⟨s.val, h⟩ d else 0) = _
  rw [dif_pos s.isLt]
theorem f_data (s : Fin 8192) : (data A).f s.val = fRow A s.val := by
  funext d
  show (if s.val < 8192 then fRow A s.val d else 0) = _
  rw [if_pos s.isLt]
theorem up_data (j : Fin 8) (s : Fin 8192) (q : Fin 704) : (data A).up j s.val q = upRow A s (lane j q) := by
  show (if h : s.val < 8192 then upRow A ⟨s.val, h⟩ (lane j q) else 0) = _
  rw [dif_pos s.isLt]
theorem up_out (j : Fin 8) {s : ℕ} (h : ¬s < 8192) (q : Fin 704) : (data A).up j s q = 0 := by
  show (if h : s < 8192 then upRow A ⟨s, h⟩ (lane j q) else 0) = _
  rw [dif_neg h]
theorem y_data : y (data A) = y (base A) := rfl

/-- The convolution from the flat up-projection. -/
theorem y_flat (j : Fin 8) (s : Fin 8192) (q : Fin 704) :
    y (data A) j s.val q = A.cb (lane j q)
      + (if h : s.val < 2 then 0 else upRow A ⟨s.val - 2, by omega⟩ (lane j q)) * A.cw 0 (lane j q)
      + (if h : 1 + s.val < 2 then 0 else upRow A ⟨1 + s.val - 2, by omega⟩ (lane j q)) * A.cw 1 (lane j q)
      + upRow A s (lane j q) * A.cw 2 (lane j q) := by
  unfold y
  rw [up_data]
  have e2 : upS (data A) 2 j s.val q = if h : s.val < 2 then 0 else upRow A ⟨s.val - 2, by omega⟩ (lane j q) := by
    unfold upS
    by_cases h : s.val < 2
    · rw [if_pos h, dif_pos h]
    · rw [if_neg h, dif_neg h]
      exact up_data A j ⟨s.val - 2, by omega⟩ q
  have e1 : upS (data A) 1 j s.val q = if h : 1 + s.val < 2 then 0 else upRow A ⟨1 + s.val - 2, by omega⟩ (lane j q) := by
    unfold upS
    by_cases h : s.val < 1
    · rw [if_pos h, dif_pos (by omega)]
    · rw [if_neg h, dif_neg (by omega)]
      refine (up_data A j ⟨s.val - 1, by omega⟩ q).trans ?_
      congr 1
      exact Fin.ext (show s.val - 1 = 1 + s.val - 2 by omega)
  rw [e1, e2]
  rfl

/-- Sums over flat lanes, chunk by chunk. -/
theorem sum_lane (g : Fin 5632 → EReal) : ∑ l, g l = ∑ j : Fin 8, ∑ q : Fin 704, g (lane j q) :=
  (Fin.sum_mul_add_fin 8 704 g).symm
theorem sum_lane4 (g : Fin 2816 → EReal) : ∑ l, g l = ∑ j : Fin 4, ∑ q : Fin 704, g (lane4 j q) :=
  (Fin.sum_mul_add_fin 4 704 g).symm

end Cert.Own.Spec
-- ==== Proof.Host.lean ====
/-
  What the kernel's region finds: the host's forward lines give the data of the arguments.
-/
module

public import proofs.«01_k».proof.Proof.Fold
public import proofs.«01_k».proof.Proof.Args
public import Idealize.ShloMosaic.Lib.Pipeline.ValueKit
public import Idealize.ShloMosaic.Lib.Claim
public import Idealize.ShloMosaic.Lib.StableHlo.ReadAt
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.KernelIdeal.Own

open Cert.KernelIdeal Cert.KernelIdeal.Gen Idealize.ShloMosaic Idealize.ShloMosaic.TcCoe Idealize.SL.Sem
open Cert.Own
open Cert.Own.Spec (Data)

variable (m : (ℓ : Loc nD τ sig) → Buf (Elt Ideal) ℓ) (c : Dev nD)

abbrev σ0 : Valuation τ sig (Elt Ideal) := fun b => m (c, b)
/-- The host's lines up to the activation, through it, and after it. -/
def U0 : Valuation τ sig (Elt Ideal) := StableHlo.after hostOps0 (σ0 m c)
def U1 : Valuation τ sig (Elt Ideal) := StableHlo.after hostOps0_1 (U0 m c)

theorem V_eq : V m c = fun b => StableHlo.after hostOps0_2 (U1 m c) (Proc.tc.devRef b) := by
  funext b
  unfold U1 U0
  show StableHlo.after [hostOps0, hostOps0_1, hostOps0_2].flatten (σ0 m c) (Proc.tc.devRef b) = _
  rw [List.flatten_cons, List.flatten_cons, List.flatten_cons, List.flatten_nil, List.append_nil, StableHlo.after_append, StableHlo.after_append]

/-- The arguments as launched. -/
def args : Spec.Args where
  x s d := (m ((c : Thread nD τ).loc main_arg0) : Vec Ideal S8192x1024 .f32) (ix2 s d)
  sh d := (m ((c : Thread nD τ).loc main_arg1) : Vec Ideal S1x1024 .f32) (ix2 0 d)
  sc d := (m ((c : Thread nD τ).loc main_arg2) : Vec Ideal S1x1024 .f32) (ix2 0 d)
  gf d := (m ((c : Thread nD τ).loc main_arg3) : Vec Ideal S1x1024 .f32) (ix2 0 d)
  g3 d := (m ((c : Thread nD τ).loc main_arg4) : Vec Ideal S1x1024 .f32) (ix2 0 d)
  g4 d := (m ((c : Thread nD τ).loc main_arg5) : Vec Ideal S1x1024 .f32) (ix2 0 d)
  wu d l := (m ((c : Thread nD τ).loc main_arg6) : Vec Ideal S1024x5632 .f32) (ix2 d l)
  cw k l := (m ((c : Thread nD τ).loc main_arg7) : Vec Ideal S3x5632 .f32) (ix2 k l)
  cb l := (m ((c : Thread nD τ).loc main_arg8) : Vec Ideal S1x5632 .f32) (ix2 0 l)
  wd l d := (m ((c : Thread nD τ).loc main_arg9) : Vec Ideal S2816x1024 .f32) (ix2 l d)
  ct s d := (m ((c : Thread nD τ).loc main_arg10) : Vec Ideal S8192x1024 .f32) (ix2 s d)

/-- The up-projection. -/
theorem v18 (s : Fin 8192) (l : Fin 5632) : (U0 m c (Proc.tc.devRef main_v18) : Vec Ideal S8192x5632 .f32) (ix2 s l) = Spec.upRow (args m c) s l := by
  unfold U0
  after_reads_at
  rfl

/-- The convolution. -/
theorem v42 (s : Fin 8192) (j : Fin 8) (q : Fin 704) :
    (U0 m c (Proc.tc.devRef main_v42) : Vec Ideal S8192x5632 .f32) (ix2 s (Spec.lane j q)) = Spec.y (Spec.data (args m c)) j s.val q := by
  rw [Spec.y_flat]
  unfold U0
  after_reads_at
  unfold StableHlo.upto
  after_reads_at
  rfl

/-- The gate and the value. -/
theorem v43 (s : Fin 8192) (j : Fin 4) (q : Fin 704) :
    (U0 m c (Proc.tc.devRef main_v43) : Vec Ideal S8192x2816 .f32) (ix2 s (Spec.lane4 j q)) = Spec.y (Spec.data (args m c)) (Spec.lo j) s.val q := by
  rw [← v42]
  unfold U0
  after_reads_at
  rfl
theorem v44_flat (s : Fin 8192) (l : Fin 2816) :
    (U0 m c (Proc.tc.devRef main_v44) : Vec Ideal S8192x2816 .f32) (ix2 s l)
      = (U0 m c (Proc.tc.devRef main_v42) : Vec Ideal S8192x5632 .f32) (ix2 s ⟨2816 + l.val, by omega⟩) := by
  unfold U0
  after_reads_at
theorem v44 (s : Fin 8192) (j : Fin 4) (q : Fin 704) :
    (U0 m c (Proc.tc.devRef main_v44) : Vec Ideal S8192x2816 .f32) (ix2 s (Spec.lane4 j q)) = Spec.y (Spec.data (args m c)) (Spec.hi j) s.val q := by
  have e : (⟨2816 + (Spec.lane4 j q).val, by omega⟩ : Fin 5632) = Spec.lane (Spec.hi j) q :=
    Fin.ext (show 2816 + (j.val * 704 + q.val) = (j.val + 4) * 704 + q.val by omega)
  rw [v44_flat, e, v42]

theorem arg9 : (U0 m c (Proc.tc.devRef main_arg9) : Vec Ideal S2816x1024 .f32) = m ((c : Thread nD τ).loc main_arg9) := by
  funext i
  unfold U0
  after_reads_at

/-- The down-projection. -/
theorem v47 (s : Fin 8192) (d : Fin 1024) : (V m c main_v47 : Vec Ideal S8192x1024 .f32) (ix2 s d) = Spec.fRow (args m c) s.val d := by
  rw [V_eq]
  unfold U1
  after_reads_at
  rw [arg9, Spec.sum_lane4]
  unfold Spec.fRow Spec.act
  refine Finset.sum_congr rfl fun j _ => Finset.sum_congr rfl fun q _ => ?_
  have a := v43 m c s j q
  have b := v44 m c s j q
  rw [Spec.y_data] at a b
  rw [← a, ← b]
  rfl

theorem v49 (j : Fin 8) (s : Fin 8192) (q : Fin 704) : (V m c main_v49 : Vec Ideal S8x8192x704 .f32) (ix3 j s q) = Spec.upRow (args m c) s (Spec.lane j q) := by
  rw [← v18, V_eq]
  unfold U1
  after_reads_at
  rfl

/-- The modulation rows, the weights in chunks, the taps and the bias. -/
theorem v50_3 (d : Fin 1024) : (V m c main_v50 : Vec Ideal S6x1024 .f32) (ix2 3 d) = (args m c).sh d := by
  rw [V_eq]; unfold U1 U0; after_reads_at; rfl
theorem v50_4 (d : Fin 1024) : (V m c main_v50 : Vec Ideal S6x1024 .f32) (ix2 4 d) = (args m c).sc d := by
  rw [V_eq]; unfold U1 U0; after_reads_at; rfl
theorem v50_5 (d : Fin 1024) : (V m c main_v50 : Vec Ideal S6x1024 .f32) (ix2 5 d) = (args m c).gf d := by
  rw [V_eq]; unfold U1 U0; after_reads_at; rfl
theorem v53 (j : Fin 8) (d : Fin 1024) (q : Fin 704) : (V m c main_v53 : Vec Ideal S8x1024x704 .bf16) (ix3 j d q) = (args m c).wu d (Spec.lane j q) := by
  rw [V_eq]; unfold U1 U0; after_reads_at; rfl
theorem v55 (j : Fin 8) (k : Fin 3) (q : Fin 704) : (V m c main_v55 : Vec Ideal S8x3x704 .f32) (ix3 j k q) = (args m c).cw k (Spec.lane j q) := by
  rw [V_eq]; unfold U1 U0; after_reads_at; rfl
theorem v56 (j : Fin 8) (q : Fin 704) : (V m c main_v56 : Vec Ideal S8x704 .f32) (ix2 j q) = (args m c).cb (Spec.lane j q) := by
  rw [V_eq]; unfold U1 U0; after_reads_at; rfl
theorem v57 (l : Fin 2816) (d : Fin 1024) : (V m c main_v57 : Vec Ideal S2816x1024 .bf16) (ix2 l d) = (args m c).wd l d := by
  rw [V_eq]; unfold U1 U0; after_reads_at; rfl

theorem a10 (s : Fin 8192) (d : Fin 1024) : (V m c main_arg10 : Vec Ideal S8192x1024 .f32) (ix2 s d) = (args m c).ct s d := by rw [V_main_arg10]; rfl
theorem a0 (s : Fin 8192) (d : Fin 1024) : (V m c main_arg0 : Vec Ideal S8192x1024 .f32) (ix2 s d) = (args m c).x s d := by rw [V_main_arg0]; rfl
theorem a4 (d : Fin 1024) : (V m c main_arg4 : Vec Ideal S1x1024 .f32) (ix2 0 d) = (args m c).g3 d := by rw [V_main_arg4]; rfl
theorem a5 (d : Fin 1024) : (V m c main_arg5 : Vec Ideal S1x1024 .f32) (ix2 0 d) = (args m c).g4 d := by rw [V_main_arg5]; rfl

theorem row_eq (X : Vec Ideal S8192x1024 .f32) (g : Fin 8192 → Fin 1024 → EReal) (h : ∀ s d, X (ix2 s d) = g s d) :
    row X = fun s d => if h : s < 8192 then g ⟨s, h⟩ d else 0 := by
  funext s d
  unfold row
  by_cases hs : s < 8192
  · rw [dif_pos hs, dif_pos hs, h]
  · rw [dif_neg hs, dif_neg hs]

/-- The region finds the data of the arguments. -/
theorem gAt_eq : gAt m c = Spec.data (args m c) := by
  refine Spec.Data.eq_of ?_ ?_ ?_ ?_ ?_ ?_ ?_ ?_ ?_ ?_ ?_ ?_ ?_
  · exact row_eq _ _ (a10 m c)
  · exact row_eq _ _ (v47 m c)
  · exact row_eq _ _ (a0 m c)
  · dsimp only [gAt]
    funext j s q
    unfold row8
    by_cases h : s < 8192
    · rw [dif_pos h, v49]
      exact (Spec.up_data (args m c) j ⟨s, h⟩ q).symm
    · rw [dif_neg h]
      exact (Spec.up_out (args m c) j h q).symm
  · dsimp only [gAt]; funext d; exact v50_3 m c d
  · dsimp only [gAt]; funext d; exact v50_4 m c d
  · dsimp only [gAt]; funext d; exact v50_5 m c d
  · dsimp only [gAt]; funext d; exact a4 m c d
  · dsimp only [gAt]; funext d; exact a5 m c d
  · dsimp only [gAt]; funext j d q; exact v53 m c j d q
  · dsimp only [gAt]; funext j k q; exact v55 m c j k q
  · dsimp only [gAt]; funext j q; exact v56 m c j q
  · dsimp only [gAt]
    funext j q d
    refine (v57 m c _ d).trans (congrArg (fun l => (args m c).wd l d) ?_)
    exact Fin.ext (show 704 * j.val + q.val = j.val * 704 + q.val by omega)

end Cert.KernelIdeal.Own
-- ==== Proof.IdealValue.lean ====
/-
  What the run of the idealized kernel leaves: each output's array by name, and the arguments as they were.
-/
module

public import proofs.«01_k».proof.Proof.IdealFrame
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v58_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v58_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v58_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v58_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v58_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v58_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v58_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v58_7) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v58_8) = (dats m 0 c).arrAt 20 cfg0.N :=
  (h c).1 20

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 0 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 0).trans (((dats m 0 c).arrAt_in 0 rfl _).trans ((A_eq m c 0).trans (V_main_arg10 m c)))

set_option maxHeartbeats 248760 in
/-- The run leaves each output's array at its final contents and the arguments unchanged. -/
theorem run_blocks : θ_run defs (onTc (τ := τ) (main (F := F))) ⟨m, fun _ => 0, ρ⟩ fun r => ∀ c : Dev nD,
      r.2.mem ((c : Thread nD τ).loc main_v58_0) = (dats m 0 c).arrAt 12 cfg0.N
      ∧ r.2.mem ((c : Thread nD τ).loc main_v58_1) = (dats m 0 c).arrAt 13 cfg0.N
      ∧ r.2.mem ((c : Thread nD τ).loc main_v58_2) = (dats m 0 c).arrAt 14 cfg0.N
      ∧ r.2.mem ((c : Thread nD τ).loc main_v58_3) = (dats m 0 c).arrAt 15 cfg0.N
      ∧ r.2.mem ((c : Thread nD τ).loc main_v58_4) = (dats m 0 c).arrAt 16 cfg0.N
      ∧ r.2.mem ((c : Thread nD τ).loc main_v58_5) = (dats m 0 c).arrAt 17 cfg0.N
      ∧ r.2.mem ((c : Thread nD τ).loc main_v58_6) = (dats m 0 c).arrAt 18 cfg0.N
      ∧ r.2.mem ((c : Thread nD τ).loc main_v58_7) = (dats m 0 c).arrAt 19 cfg0.N
      ∧ r.2.mem ((c : Thread nD τ).loc main_v58_8) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Own

end
-- ==== Proof.Final.lean ====
/-
  The kernel's output arrays after the run, element by element.
-/
module

public import proofs.«01_k».proof.Proof.Fold
public import proofs.«01_k».proof.Proof.IdealValue
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem
open Cert.Own
open Cert.Own.Spec (Data)

variable (m : (ℓ : Loc nD τ sig) → Buf (Elt Ideal) ℓ) (c : Dev nD)

/-- A sum over all rows. -/
def all (f : ℕ → EReal) : EReal := ∑ s : Fin 8192, f s.val

/-- After the last point every tile has been taken. -/
theorem upTo_last (f : ℕ → EReal) : upTo 31 f = all f := by
  unfold upTo all
  have e := Finset.sum_range_reflect (fun i => ∑ p : Fin 256, f (256 * i + p.val)) 32
  refine Eq.trans (Finset.sum_congr rfl fun i _ => ?_) (e.trans ?_)
  · rfl
  · rw [← Fin.sum_mul_add_fin 32 256 (fun l : Fin 8192 => f l.val), Finset.sum_range]
    exact Finset.sum_congr rfl fun i _ => Finset.sum_congr rfl fun p _ => by rw [Nat.mul_comm]

theorem idx12 : ∀ t : Fin cfg0.N, win0_12.index t = ![31 - t.val, 0] := (by decide +kernel : ∀ t : Fin grid0.N, win0_12.index t = ![31 - t.val, 0])
theorem idx13 : ∀ t : Fin cfg0.N, win0_13.index t = ![0, 31 - t.val, 0] := (by decide +kernel : ∀ t : Fin grid0.N, win0_13.index t = ![0, 31 - t.val, 0])
theorem idx14 : ∀ t : Fin cfg0.N, win0_14.index t = ![31 - t.val, 0] := (by decide +kernel : ∀ t : Fin grid0.N, win0_14.index t = ![31 - t.val, 0])
theorem idx15 : ∀ t : Fin cfg0.N, win0_15.index t = ![31 - t.val, 0] := (by decide +kernel : ∀ t : Fin grid0.N, win0_15.index t = ![31 - t.val, 0])
theorem idx16 : ∀ t : Fin cfg0.N, win0_16.index t = ![0, 0] := (by decide +kernel : ∀ t : Fin grid0.N, win0_16.index t = ![0, 0])
theorem idx17 : ∀ t : Fin cfg0.N, win0_17.index t = ![0, 0] := (by decide +kernel : ∀ t : Fin grid0.N, win0_17.index t = ![0, 0])
theorem idx18 : ∀ t : Fin cfg0.N, win0_18.index t = ![0, 0] := (by decide +kernel : ∀ t : Fin grid0.N, win0_18.index t = ![0, 0])
theorem idx19 : ∀ t : Fin cfg0.N, win0_19.index t = ![0, 0] := (by decide +kernel : ∀ t : Fin grid0.N, win0_19.index t = ![0, 0])
theorem idx20 : ∀ t : Fin cfg0.N, win0_20.index t = ![0, 0, 0] := (by decide +kernel : ∀ t : Fin grid0.N, win0_20.index t = ![0, 0, 0])

/-! ### The arrays written tile by tile: the cotangents of the block's input, of the up-projection and of the
    down-projection's result, and the modulated input -/

theorem arr12 : (dats m 0 c).arrAt 12 cfg0.N = (fun i => Spec.dx (gAt m c) (i 0).val (i 1) : Vec Ideal S8192x1024 .f32) := by
  refine (dats m 0 c).arrAt_eq_of_covers 12 _ (by decide +kernel) fun t hf y => ?_
  have e1 : ((win0_12.blk t).view.emb y 1 : Fin 1024) = y 1 := Fin.ext (by blk_simp; rw [idx12]; show 0 * 1024 + (y 1).val = (y 1).val; omega)
  blk_simp
  rw [after0_12, e1, show win0_12.index t 0 * 256 + (y 0).val = 256 * (31 - t.val) + (y 0).val from by rw [idx12]; show (31 - t.val) * 256 + _ = _; omega]
  exact (congrArg _ (eq_ix2 y)).trans ((blocks m c t.val t.isLt).dx (y 0) (y 1))

theorem arr13 : (dats m 0 c).arrAt 13 cfg0.N = (fun i => Spec.dup (gAt m c) (i 0) (i 1).val (i 2) : Vec Ideal S8x8192x704 .bf16) := by
  refine (dats m 0 c).arrAt_eq_of_covers 13 _ (by decide +kernel) fun t hf y => ?_
  have e0 : ((win0_13.blk t).view.emb y 0 : Fin 8) = y 0 := Fin.ext (by blk_simp; rw [idx13]; show 0 * 8 + (y 0).val = (y 0).val; omega)
  have e2 : ((win0_13.blk t).view.emb y 2 : Fin 704) = y 2 := Fin.ext (by blk_simp; rw [idx13]; show 0 * 704 + (y 2).val = (y 2).val; omega)
  blk_simp
  rw [after0_13, e0, e2, show win0_13.index t 1 * 256 + (y 1).val = 256 * (31 - t.val) + (y 1).val from by rw [idx13]; show (31 - t.val) * 256 + _ = _; omega]
  exact (congrArg _ (eq_ix3 y)).trans ((blocks m c t.val t.isLt).dup (y 0) (y 1) (y 2))

theorem arr14 : (dats m 0 c).arrAt 14 cfg0.N = (fun i => Spec.df (gAt m c) (i 0).val (i 1) : Vec Ideal S8192x1024 .bf16) := by
  refine (dats m 0 c).arrAt_eq_of_covers 14 _ (by decide +kernel) fun t hf y => ?_
  have e1 : ((win0_14.blk t).view.emb y 1 : Fin 1024) = y 1 := Fin.ext (by blk_simp; rw [idx14]; show 0 * 1024 + (y 1).val = (y 1).val; omega)
  blk_simp
  rw [after0_14, e1, show win0_14.index t 0 * 256 + (y 0).val = 256 * (31 - t.val) + (y 0).val from by rw [idx14]; show (31 - t.val) * 256 + _ = _; omega]
  exact (congrArg _ (eq_ix2 y)).trans ((blocks m c t.val t.isLt).df (y 0) (y 1))

theorem arr15 : (dats m 0 c).arrAt 15 cfg0.N = (fun i => Spec.h2 (gAt m c) (i 0).val (i 1) : Vec Ideal S8192x1024 .bf16) := by
  refine (dats m 0 c).arrAt_eq_of_covers 15 _ (by decide +kernel) fun t hf y => ?_
  have e1 : ((win0_15.blk t).view.emb y 1 : Fin 1024) = y 1 := Fin.ext (by blk_simp; rw [idx15]; show 0 * 1024 + (y 1).val = (y 1).val; omega)
  blk_simp
  rw [after0_15, e1, show win0_15.index t 0 * 256 + (y 0).val = 256 * (31 - t.val) + (y 0).val from by rw [idx15]; show (31 - t.val) * 256 + _ = _; omega]
  exact (congrArg _ (eq_ix2 y)).trans ((blocks m c t.val t.isLt).h2 (y 0) (y 1))

/-! ### The arrays summed over all rows: the cotangents of the modulation, of the gains, of the convolution's bias and taps -/

theorem arr16 : (dats m 0 c).arrAt 16 cfg0.N = (fun i => all fun s => Spec.modTerm (gAt m c) (i 0) s (i 1) : Vec Ideal S3x1024 .f32) := by
  refine (dats m 0 c).arrAt_eq_of_covers 16 _ (by decide +kernel) fun t hf y => ?_
  have ht : t.val = 31 := by have := (flush0_16 t).1 hf; have := Nat.lt_of_lt_of_eq t.isLt N_eq; omega
  have e0 : ((win0_16.blk t).view.emb y 0 : Fin 3) = y 0 := Fin.ext (by blk_simp; rw [idx16]; show 0 * 3 + (y 0).val = (y 0).val; omega)
  have e1 : ((win0_16.blk t).view.emb y 1 : Fin 1024) = y 1 := Fin.ext (by blk_simp; rw [idx16]; show 0 * 1024 + (y 1).val = (y 1).val; omega)
  blk_simp
  rw [after0_16, e0, e1]
  refine (congrArg _ (eq_ix2 y)).trans (((inv m c t.val t.isLt).mod (y 0) (y 1)).trans ?_)
  rw [ht]
  exact upTo_last _

theorem arr17 : (dats m 0 c).arrAt 17 cfg0.N = (fun i => all fun s => Spec.g3Term (gAt m c) s (i 1) : Vec Ideal S1x1024 .f32) := by
  refine (dats m 0 c).arrAt_eq_of_covers 17 _ (by decide +kernel) fun t hf y => ?_
  have ht : t.val = 31 := by have := (flush0_17 t).1 hf; have := Nat.lt_of_lt_of_eq t.isLt N_eq; omega
  have e1 : ((win0_17.blk t).view.emb y 1 : Fin 1024) = y 1 := Fin.ext (by blk_simp; rw [idx17]; show 0 * 1024 + (y 1).val = (y 1).val; omega)
  blk_simp
  rw [after0_17, e1]
  refine (congrArg _ ((eq_ix2 y).trans (congrArg (fun r : Fin 1 => ix2 r (y 1)) (Subsingleton.elim (α := Fin 1) (y 0) 0)))).trans (((inv m c t.val t.isLt).g3 (y 1)).trans ?_)
  rw [ht]
  exact upTo_last _

theorem arr18 : (dats m 0 c).arrAt 18 cfg0.N = (fun i => all fun s => Spec.g4Term (gAt m c) s (i 1) : Vec Ideal S1x1024 .f32) := by
  refine (dats m 0 c).arrAt_eq_of_covers 18 _ (by decide +kernel) fun t hf y => ?_
  have ht : t.val = 31 := by have := (flush0_18 t).1 hf; have := Nat.lt_of_lt_of_eq t.isLt N_eq; omega
  have e1 : ((win0_18.blk t).view.emb y 1 : Fin 1024) = y 1 := Fin.ext (by blk_simp; rw [idx18]; show 0 * 1024 + (y 1).val = (y 1).val; omega)
  blk_simp
  rw [after0_18, e1]
  refine (congrArg _ ((eq_ix2 y).trans (congrArg (fun r : Fin 1 => ix2 r (y 1)) (Subsingleton.elim (α := Fin 1) (y 0) 0)))).trans (((inv m c t.val t.isLt).g4 (y 1)).trans ?_)
  rw [ht]
  exact upTo_last _

theorem arr19 : (dats m 0 c).arrAt 19 cfg0.N = (fun i => all fun s => Spec.dy (gAt m c) (i 0) s (i 1) : Vec Ideal S8x704 .f32) := by
  refine (dats m 0 c).arrAt_eq_of_covers 19 _ (by decide +kernel) fun t hf y => ?_
  have ht : t.val = 31 := by have := (flush0_19 t).1 hf; have := Nat.lt_of_lt_of_eq t.isLt N_eq; omega
  have e0 : ((win0_19.blk t).view.emb y 0 : Fin 8) = y 0 := Fin.ext (by blk_simp; rw [idx19]; show 0 * 8 + (y 0).val = (y 0).val; omega)
  have e1 : ((win0_19.blk t).view.emb y 1 : Fin 704) = y 1 := Fin.ext (by blk_simp; rw [idx19]; show 0 * 704 + (y 1).val = (y 1).val; omega)
  blk_simp
  rw [after0_19, e0, e1]
  refine (congrArg _ (eq_ix2 y)).trans (((inv m c t.val t.isLt).cb (y 0) (y 1)).trans ?_)
  rw [ht]
  exact upTo_last _

theorem arr20 : (dats m 0 c).arrAt 20 cfg0.N = (fun i => all fun s => Spec.tapTerm (gAt m c) (i 0) (i 1) s (i 2) : Vec Ideal S8x3x704 .f32) := by
  refine (dats m 0 c).arrAt_eq_of_covers 20 _ (by decide +kernel) fun t hf y => ?_
  have ht : t.val = 31 := by have := (flush0_20 t).1 hf; have := Nat.lt_of_lt_of_eq t.isLt N_eq; omega
  have e0 : ((win0_20.blk t).view.emb y 0 : Fin 8) = y 0 := Fin.ext (by blk_simp; rw [idx20]; show 0 * 8 + (y 0).val = (y 0).val; omega)
  have e1 : ((win0_20.blk t).view.emb y 1 : Fin 3) = y 1 := Fin.ext (by blk_simp; rw [idx20]; show 0 * 3 + (y 1).val = (y 1).val; omega)
  have e2 : ((win0_20.blk t).view.emb y 2 : Fin 704) = y 2 := Fin.ext (by blk_simp; rw [idx20]; show 0 * 704 + (y 2).val = (y 2).val; omega)
  blk_simp
  rw [after0_20, e0, e1, e2]
  refine (congrArg _ (eq_ix3 y)).trans (((inv m c t.val t.isLt).cw (y 0) (y 1) (y 2)).trans ?_)
  rw [ht]
  exact upTo_last _

end Cert.KernelIdeal.Own
-- ==== Proof.Norm.lean ====
/-
  The normalisation's derivative in its two arrangements, equal for every row and cotangent of extended reals, and the
  gated activation's derivative in its two arrangements, equal for real numbers.
-/
module

public import proofs.«01_k».proof.Proof.Scalar

@[expose] public section

noncomputable section

namespace Cert.Own.Spec

open Idealize.ShloMosaic

/-- The mean square of a row with the small constant. -/
def ms (v : Fin 1024 → EReal) : EReal := Ideal.div (∑ e, v e * v e) width + eps

/-- The common factor of the derivative's two equal terms through the mean square. -/
def coef (v a : Fin 1024 → EReal) : EReal :=
  Ideal.div ((∑ e, v e * a e) * (Ideal.ofBits .f32 0xBF000000#32 * Ideal.div (rms v) (ms v))) width

/-- The normalisation's cotangent as the product rule writes it. -/
def vjp (v a : Fin 1024 → EReal) (d : Fin 1024) : EReal := (a d * rms v + v d * coef v a) + coef v a * v d

theorem mul_self_nonneg' (x : EReal) : 0 ≤ x * x := by
  induction x with
  | bot => simp
  | top => simp
  | coe r => exact_mod_cast mul_self_nonneg r

/-- The mean square with the small constant is infinite or a positive real number. -/
theorem ms_cases (v : Fin 1024 → EReal) : ms v = ⊤ ∨ ∃ p : ℝ, 0 < p ∧ ms v = (p : EReal) := by
  obtain ⟨e, he, hE⟩ := Scalar.eps_eq
  have h0 : 0 ≤ ∑ e, v e * v e := Finset.sum_nonneg fun e _ => mul_self_nonneg' (v e)
  unfold ms
  rw [Scalar.width_eq, hE, Ideal.div_coe (by norm_num)]
  generalize (∑ e, v e * v e) = S at h0
  induction S with
  | bot => simp at h0
  | top => left; rw [EReal.top_mul_coe_of_pos (by norm_num)]; rfl
  | coe r =>
    right
    refine ⟨r * (1 / 1024) + e, ?_, by push_cast; rfl⟩
    have : 0 ≤ r := by exact_mod_cast h0
    positivity

/-- Multiplication by a nonnegative real number distributes over a sum. -/
theorem sum_mul_coe {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert i s hi ih =>
    rw [Finset.sum_insert hi, Finset.sum_insert hi, ih,
      EReal.right_distrib_of_nonneg_of_ne_top (by exact_mod_cast hr) (EReal.coe_ne_top r)]

theorem neg_add_self (x : EReal) : -x + -x = -(x + x) := by
  induction x with
  | bot => rfl
  | top => rfl
  | coe r => norm_cast; ring

theorem add_self (x : EReal) (c : ℝ) (hc : 0 < c) : x * (c : EReal) + x * (c : EReal) = x * ((2 * c : ℝ) : EReal) := by
  induction x with
  | bot => rw [EReal.bot_mul_coe_of_pos hc, EReal.bot_mul_coe_of_pos (by positivity)]; rfl
  | top => rw [EReal.top_mul_coe_of_pos hc, EReal.top_mul_coe_of_pos (by positivity)]; rfl
  | coe r => norm_cast; ring

theorem vjp_eq (v a : Fin 1024 → EReal) (d : Fin 1024) : vjp v a d = bwd v a d := by
  rcases ms_cases v with h | ⟨p, hp, h⟩
  · have hr : rms v = 0 := by unfold rms; rw [show Ideal.div (∑ e, v e * v e) width + eps = ⊤ from h]; rfl
    have hd : Ideal.div 0 ⊤ = 0 := by rw [Ideal.div, if_neg (by simp)]; simp
    have hk : coef v a = 0 := by
      unfold coef
      rw [hr, h, hd, mul_zero, mul_zero, Scalar.width_eq, Ideal.div_coe (by norm_num), zero_mul]
    unfold vjp bwd
    rw [hr, hk]
    simp
  · obtain ⟨r, hr, hR⟩ : ∃ r : ℝ, 0 < r ∧ (r * r = 1 / p ∧ rms v = (r : EReal)) := by
      refine ⟨(Real.sqrt p)⁻¹, by positivity, ?_, ?_⟩
      · rw [← mul_inv, Real.mul_self_sqrt hp.le, one_div]
      · unfold rms
        rw [show Ideal.div (∑ e, v e * v e) width + eps = (p : EReal) from h, Ideal.rsqrt_coe, if_neg (by linarith), if_neg hp.ne']
    obtain ⟨hrr, hR⟩ := hR
    set S := ∑ e, v e * a e with hS
    have hc : coef v a = -(S * ((r * r * r / 2048 : ℝ) : EReal)) := by
      unfold coef
      rw [← hS, hR, h, Ideal.div_coe hp.ne', Scalar.neg_half_eq, Scalar.width_eq, Ideal.div_coe (by norm_num), ← hrr,
        mul_assoc, ← mul_neg]
      congr 1
      norm_cast
      ring
    have hs : ∑ e, a e * hat v e = S * (r : EReal) := by
      rw [hS, ← sum_mul_coe _ _ r hr.le]
      refine Finset.sum_congr rfl fun e _ => ?_
      unfold hat
      rw [hR, ← mul_assoc, mul_comm (a e)]
    unfold vjp bwd
    rw [hs, hc, hR, Scalar.width_eq, Ideal.div_coe (by norm_num)]
    unfold hat
    rw [hR, mul_comm (-(S * _)) (v d), add_assoc, mul_neg, neg_add_self, sub_eq_add_neg,
      EReal.left_distrib_of_nonneg_of_ne_top (by exact_mod_cast hr.le) (EReal.coe_ne_top r), mul_comm (a d), mul_neg]
    congr 2
    rw [show v d * (S * ((r * r * r / 2048 : ℝ) : EReal)) = (v d * S) * ((r * r * r / 2048 : ℝ) : EReal) from (mul_assoc _ _ _).symm,
      add_self _ _ (by positivity)]
    rw [show (r : EReal) * (v d * r * (S * r * ((1 / 1024 : ℝ) : EReal))) = v d * S * (r * (r * (r * ((1 / 1024 : ℝ) : EReal)))) by
      rw [mul_comm (r : EReal), mul_assoc (v d), mul_assoc (v d), mul_assoc (v d)]
      congr 1
      rw [mul_assoc S, mul_left_comm (r : EReal) S, mul_assoc S]
      congr 1
      norm_cast
      ring]
    congr 1
    norm_cast
    ring

/-- The gated activation's derivative in the gate, for real numbers. -/
theorem silu_eq {a u g : EReal} (ha : ∃ r : ℝ, a = r) (hu : ∃ r : ℝ, u = r) (hg : ∃ r : ℝ, g = r) :
    (a * u) * Ideal.logistic g + (g * (a * u)) * (Ideal.logistic g * (1 - Ideal.logistic g))
      = a * u * (Ideal.logistic g + g * Ideal.logistic g * (1 - Ideal.logistic g)) := by
  obtain ⟨a, rfl⟩ := ha
  obtain ⟨u, rfl⟩ := hu
  obtain ⟨g, rfl⟩ := hg
  rw [Ideal.logistic_coe, ← EReal.coe_one]
  norm_cast
  ring

end Cert.Own.Spec
-- ==== Proof.Ref.lean ====
/-
  The reference's stages read at an index, from its arguments to its nine results: each is the plain formula of `Spec.lean`
  and `Args.lean` for the arguments' rows.
-/
module

public import proofs.«01_k».proof.Proof.Gen.ReferenceIdeal.Read
public import proofs.«01_k».proof.Proof.Args
public import proofs.«01_k».proof.Proof.Norm
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.ReferenceIdeal.Own

open Cert.ReferenceIdeal Cert.ReferenceIdeal.Gen Cert.ReferenceIdeal.Read Idealize.ShloMosaic Idealize.ShloMosaic.TcCoe Idealize.SL.Sem
open Cert.Own

variable (x0 : (⟨S8192x1024, .f32⟩ : BufTy).Contents (Elt Ideal)) (x1 x2 x3 x4 x5 : (⟨S1x1024, .f32⟩ : BufTy).Contents (Elt Ideal))
  (x6 : (⟨S1024x5632, .f32⟩ : BufTy).Contents (Elt Ideal)) (x7 : (⟨S3x5632, .f32⟩ : BufTy).Contents (Elt Ideal))
  (x8 : (⟨S1x5632, .f32⟩ : BufTy).Contents (Elt Ideal)) (x9 : (⟨S2816x1024, .f32⟩ : BufTy).Contents (Elt Ideal))
  (x10 : (⟨S8192x1024, .f32⟩ : BufTy).Contents (Elt Ideal))

/-- The reference's arguments. -/
def rargs : Spec.Args where
  x s d := x0 (ix2 s d)
  sh d := x1 (ix2 0 d)
  sc d := x2 (ix2 0 d)
  gf d := x3 (ix2 0 d)
  g3 d := x4 (ix2 0 d)
  g4 d := x5 (ix2 0 d)
  wu d l := x6 (ix2 d l)
  cw k l := x7 (ix2 k l)
  cb l := x8 (ix2 0 l)
  wd l d := x9 (ix2 l d)
  ct s d := x10 (ix2 s d)

theorem r6 (s : Fin 8192) : val_main_v6 (F := Ideal) x0 (ix2 s 0) = Spec.ms (fun d => x0 (ix2 s d)) := by
  unfold val_main_v6 val_main_v5 val_main_cst_1 val_main_v4 val_main_v3 val_main_cst_0 val_main_v2 val_main_v1 val_main_cst val_main_v0
  pointwise
  rfl
theorem r7 (s : Fin 8192) : val_main_v7 (F := Ideal) x0 (ix2 s 0) = Spec.rms (fun d => x0 (ix2 s d)) := by
  unfold val_main_v7
  pointwise
  rw [r6]
  rfl
theorem r10 (s : Fin 8192) : val_main_v10 (F := Ideal) x0 (ix2 s 0)
    = Ideal.ofBits .f32 0xBF000000#32 * Ideal.div (Spec.rms (fun d => x0 (ix2 s d))) (Spec.ms (fun d => x0 (ix2 s d))) := by
  unfold val_main_v10 val_main_v9 val_main_cst_2 val_main_v8
  pointwise
  rw [r6, r7]
theorem r12 (s : Fin 8192) (d : Fin 1024) : val_main_v12 (F := Ideal) x0 (ix2 s d) = Spec.hat (fun d => x0 (ix2 s d)) d := by
  unfold val_main_v12 val_main_v11
  pointwise
  rw [r7]
  rfl
theorem r14 (s : Fin 8192) (d : Fin 1024) : val_main_v14 (F := Ideal) x0 x4 (ix2 s d) = Spec.hat (fun d => x0 (ix2 s d)) d * x4 (ix2 0 d) := by
  unfold val_main_v14 val_main_v13
  pointwise
  rw [r12]
theorem r20 (s : Fin 8192) (d : Fin 1024) : val_main_v20 (F := Ideal) x0 x1 x2 x4 (ix2 s d) = Spec.hRow (rargs x0 x1 x2 x3 x4 x5 x6 x7 x8 x9 x10) s d := by
  unfold val_main_v20 val_main_v19 val_main_v18 val_main_v17 val_main_v16 val_main_v15 val_main_cst_3 val_main_v14 val_main_v13
  pointwise
  rw [r12]
  rfl
theorem r21 (s : Fin 8192) (l : Fin 5632) : val_main_v21 (F := Ideal) x0 x1 x2 x4 x6 (ix2 s l) = Spec.upRow (rargs x0 x1 x2 x3 x4 x5 x6 x7 x8 x9 x10) s l := by
  unfold val_main_v21
  pointwise
  simp only [r20 x0 x1 x2 x3 x4 x5 x6 x7 x8 x9 x10]
  rfl
/-- The up-projection's rows after two rows of zeros. -/
theorem r24 (n : ℕ) (h : n < 8194) (j : Fin 8) (q : Fin 704) : val_main_v24 (F := Ideal) x0 x1 x2 x4 x6 (ix2 ⟨n, h⟩ (Spec.lane j q))
    = if n < 2 then 0 else (Spec.data (rargs x0 x1 x2 x3 x4 x5 x6 x7 x8 x9 x10)).up j (n - 2) q := by
  unfold val_main_v24 val_main_v23 val_main_cst_4
  pointwise
  simp only [r21 x0 x1 x2 x3 x4 x5 x6 x7 x8 x9 x10]
  by_cases h' : n < 2
  · rw [dif_pos h', if_pos h']
  · rw [dif_neg h', if_neg h']
    exact (Spec.up_data (rargs x0 x1 x2 x3 x4 x5 x6 x7 x8 x9 x10) j ⟨n - 2, by omega⟩ q).symm
theorem r48 (s : Fin 8192) (j : Fin 8) (q : Fin 704) :
    val_main_v48 (F := Ideal) x0 x1 x2 x4 x6 x7 x8 (ix2 s (Spec.lane j q)) = Spec.y (Spec.data (rargs x0 x1 x2 x3 x4 x5 x6 x7 x8 x9 x10)) j s.val q := by
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v24 val_main_v23 val_main_cst_4 val_main_v22
  rw [Spec.y_flat]
  pointwise
  simp only [r21 x0 x1 x2 x3 x4 x5 x6 x7 x8 x9 x10]
  rw [dif_neg (by omega : ¬ 2 + s.val < 2)]
  rw [show (⟨2 + s.val - 2, by omega⟩ : Fin 8192) = s from Fin.ext (by simp)]
  rfl
theorem r49 (s : Fin 8192) (j : Fin 4) (q : Fin 704) :
    val_main_v49 (F := Ideal) x0 x1 x2 x4 x6 x7 x8 (ix2 s (Spec.lane4 j q)) = Spec.y (Spec.data (rargs x0 x1 x2 x3 x4 x5 x6 x7 x8 x9 x10)) (Spec.lo j) s.val q := by
  unfold val_main_v49
  pointwise
  exact r48 x0 x1 x2 x3 x4 x5 x6 x7 x8 x9 x10 s (Spec.lo j) q
theorem r50 (s : Fin 8192) (j : Fin 4) (q : Fin 704) :
    val_main_v50 (F := Ideal) x0 x1 x2 x4 x6 x7 x8 (ix2 s (Spec.lane4 j q)) = Spec.y (Spec.data (rargs x0 x1 x2 x3 x4 x5 x6 x7 x8 x9 x10)) (Spec.hi j) s.val q := by
  unfold val_main_v50
  pointwise
  rw [← r48 x0 x1 x2 x3 x4 x5 x6 x7 x8 x9 x10 s (Spec.hi j) q]
  congr 1
  funext a
  match a with
  | 0 => rfl
  | 1 => exact Fin.ext (by simp [Spec.lane, Spec.lane4, Spec.hi]; ring)
theorem r51 (s : Fin 8192) (l : Fin 2816) :
    val_main_v51_2 (F := Ideal) x0 x1 x2 x4 x6 x7 x8 (ix2 s l) = Ideal.logistic (val_main_v49 (F := Ideal) x0 x1 x2 x4 x6 x7 x8 (ix2 s l)) := by
  unfold val_main_v51_2 val_main_call0_v4 val_main_call0_cst_0 val_main_call0_v3 val_main_call0_v2 val_main_call0_cst val_main_call0_v1 val_main_call0_v0
  pointwise
  rfl
theorem r53 (s : Fin 8192) (d : Fin 1024) : val_main_v53 (F := Ideal) x0 x1 x2 x4 x6 x7 x8 x9 (ix2 s d) = Spec.fRow (rargs x0 x1 x2 x3 x4 x5 x6 x7 x8 x9 x10) s d := by
  unfold val_main_v53
  pointwise
  rw [Spec.sum_lane4]
  refine Finset.sum_congr rfl fun j _ => Finset.sum_congr rfl fun q _ => ?_
  unfold val_main_v52 val_main_v51_0
  pointwise
  rw [r50 x0 x1 x2 x3 x4 x5 x6 x7 x8 x9 x10, r51, r49 x0 x1 x2 x3 x4 x5 x6 x7 x8 x9 x10]
  rfl
theorem r60 (s : Fin 8192) : val_main_v60 (F := Ideal) x0 x1 x2 x4 x6 x7 x8 x9 (ix2 s 0) = Spec.ms (fun d => Spec.fRow (rargs x0 x1 x2 x3 x4 x5 x6 x7 x8 x9 x10) s d) := by
  unfold val_main_v60 val_main_v59 val_main_cst_8 val_main_v58 val_main_v57 val_main_cst_7 val_main_v56 val_main_v55 val_main_cst_6 val_main_v54
  pointwise
  simp only [r53 x0 x1 x2 x3 x4 x5 x6 x7 x8 x9 x10]
  rfl
theorem r61 (s : Fin 8192) : val_main_v61 (F := Ideal) x0 x1 x2 x4 x6 x7 x8 x9 (ix2 s 0) = Spec.rms (fun d => Spec.fRow (rargs x0 x1 x2 x3 x4 x5 x6 x7 x8 x9 x10) s d) := by
  unfold val_main_v61
  pointwise
  rw [r60 x0 x1 x2 x3 x4 x5 x6 x7 x8 x9 x10]
  rfl
theorem r64 (s : Fin 8192) : val_main_v64 (F := Ideal) x0 x1 x2 x4 x6 x7 x8 x9 (ix2 s 0)
    = Ideal.ofBits .f32 0xBF000000#32 * Ideal.div (Spec.rms (fun d => Spec.fRow (rargs x0 x1 x2 x3 x4 x5 x6 x7 x8 x9 x10) s d)) (Spec.ms (fun d => Spec.fRow (rargs x0 x1 x2 x3 x4 x5 x6 x7 x8 x9 x10) s d)) := by
  unfold val_main_v64 val_main_v63 val_main_cst_9 val_main_v62
  pointwise
  rw [r60 x0 x1 x2 x3 x4 x5 x6 x7 x8 x9 x10, r61 x0 x1 x2 x3 x4 x5 x6 x7 x8 x9 x10]
theorem r66 (s : Fin 8192) (d : Fin 1024) : val_main_v66 (F := Ideal) x0 x1 x2 x4 x6 x7 x8 x9 (ix2 s d) = Spec.hat (fun d => Spec.fRow (rargs x0 x1 x2 x3 x4 x5 x6 x7 x8 x9 x10) s d) d := by
  unfold val_main_v66 val_main_v65
  pointwise
  rw [r61 x0 x1 x2 x3 x4 x5 x6 x7 x8 x9 x10, r53 x0 x1 x2 x3 x4 x5 x6 x7 x8 x9 x10]
  rfl
theorem r74 (s : Fin 8192) (d : Fin 1024) : val_main_v74 (F := Ideal) x3 x10 (ix2 s d) = x3 (ix2 0 d) * x10 (ix2 s d) := by
  unfold val_main_v74 val_main_v73 val_main_v72
  pointwise
theorem r82 (s : Fin 8192) (d : Fin 1024) : val_main_v82 (F := Ideal) x3 x5 x10 (ix2 s d) = x10 (ix2 s d) * x3 (ix2 0 d) * x5 (ix2 0 d) := by
  unfold val_main_v82 val_main_v81
  pointwise
  rw [r74, mul_comm (x3 _)]
theorem r92 (s : Fin 8192) (d : Fin 1024) : val_main_v92 (F := Ideal) x0 x1 x2 x3 x4 x5 x6 x7 x8 x9 x10 (ix2 s d)
    = Spec.coef (fun d => Spec.fRow (rargs x0 x1 x2 x3 x4 x5 x6 x7 x8 x9 x10) s d) (fun d => x10 (ix2 s d) * x3 (ix2 0 d) * x5 (ix2 0 d)) := by
  unfold val_main_v92 val_main_v91 val_main_cst_14 val_main_v90 val_main_v89 val_main_cst_13 val_main_v88 val_main_v85 val_main_v84 val_main_cst_12 val_main_v83
  pointwise
  simp only [r64 x0 x1 x2 x3 x4 x5 x6 x7 x8 x9 x10, r82, r53 x0 x1 x2 x3 x4 x5 x6 x7 x8 x9 x10, Fin.sum_univ_one]
  rfl
theorem r96 (s : Fin 8192) (d : Fin 1024) : val_main_v96 (F := Ideal) x0 x1 x2 x3 x4 x5 x6 x7 x8 x9 x10 (ix2 s d) = Spec.df (Spec.data (rargs x0 x1 x2 x3 x4 x5 x6 x7 x8 x9 x10)) s.val d := by
  unfold val_main_v96 val_main_v95 val_main_v94 val_main_v93 val_main_v87 val_main_v86
  pointwise
  rw [r92 x0 x1 x2 x3 x4 x5 x6 x7 x8 x9 x10, r61 x0 x1 x2 x3 x4 x5 x6 x7 x8 x9 x10, r82, r53 x0 x1 x2 x3 x4 x5 x6 x7 x8 x9 x10]
  have h := Spec.vjp_eq (fun d => Spec.fRow (rargs x0 x1 x2 x3 x4 x5 x6 x7 x8 x9 x10) s d) (fun d => x10 (ix2 s d) * x3 (ix2 0 d) * x5 (ix2 0 d)) d
  unfold Spec.df
  rw [Spec.f_data]
  simp only [Spec.ct_data]
  exact h
theorem r97 (s : Fin 8192) (j : Fin 4) (q : Fin 704) : val_main_v97 (F := Ideal) x0 x1 x2 x3 x4 x5 x6 x7 x8 x9 x10 (ix2 s (Spec.lane4 j q)) = Spec.dact (Spec.data (rargs x0 x1 x2 x3 x4 x5 x6 x7 x8 x9 x10)) j s.val q := by
  unfold val_main_v97
  pointwise
  simp only [r96 x0 x1 x2 x3 x4 x5 x6 x7 x8 x9 x10]
  rfl
theorem r98 (s : Fin 8192) (j : Fin 4) (q : Fin 704) : val_main_v98 (F := Ideal) x0 x1 x2 x3 x4 x5 x6 x7 x8 x9 x10 (ix2 s (Spec.lane4 j q)) = Spec.dv (Spec.data (rargs x0 x1 x2 x3 x4 x5 x6 x7 x8 x9 x10)) j s.val q := by
  unfold val_main_v98 val_main_v51_0
  pointwise
  rw [r97 x0 x1 x2 x3 x4 x5 x6 x7 x8 x9 x10, r51, r49 x0 x1 x2 x3 x4 x5 x6 x7 x8 x9 x10, mul_comm]
  rfl
theorem r100 (s : Fin 8192) (j : Fin 4) (q : Fin 704) : val_main_v100 (F := Ideal) x0 x1 x2 x3 x4 x5 x6 x7 x8 x9 x10 (ix2 s (Spec.lane4 j q))
    = (Spec.dact (Spec.data (rargs x0 x1 x2 x3 x4 x5 x6 x7 x8 x9 x10)) j s.val q * Spec.y (Spec.data (rargs x0 x1 x2 x3 x4 x5 x6 x7 x8 x9 x10)) (Spec.hi j) s.val q) * Ideal.logistic (Spec.y (Spec.data (rargs x0 x1 x2 x3 x4 x5 x6 x7 x8 x9 x10)) (Spec.lo j) s.val q)
      + (Spec.y (Spec.data (rargs x0 x1 x2 x3 x4 x5 x6 x7 x8 x9 x10)) (Spec.lo j) s.val q * (Spec.dact (Spec.data (rargs x0 x1 x2 x3 x4 x5 x6 x7 x8 x9 x10)) j s.val q * Spec.y (Spec.data (rargs x0 x1 x2 x3 x4 x5 x6 x7 x8 x9 x10)) (Spec.hi j) s.val q))
        * (Ideal.logistic (Spec.y (Spec.data (rargs x0 x1 x2 x3 x4 x5 x6 x7 x8 x9 x10)) (Spec.lo j) s.val q) * (1 - Ideal.logistic (Spec.y (Spec.data (rargs x0 x1 x2 x3 x4 x5 x6 x7 x8 x9 x10)) (Spec.lo j) s.val q))) := by
  unfold val_main_v100 val_main_call1_v2 val_main_call1_v1 val_main_call1_v0 val_main_v99 val_main_v51_1 val_main_call0_v7 val_main_call0_v6 val_main_call0_cst_1
  pointwise
  rw [r97 x0 x1 x2 x3 x4 x5 x6 x7 x8 x9 x10, r51, r49 x0 x1 x2 x3 x4 x5 x6 x7 x8 x9 x10, r50 x0 x1 x2 x3 x4 x5 x6 x7 x8 x9 x10]
/-- The reference's arrangement of the gate's derivative agrees with the kernel's. -/
def Agree (A : Spec.Args) : Prop := ∀ (s : Fin 8192) (j : Fin 4) (q : Fin 704),
  (Spec.dact (Spec.data A) j s.val q * Spec.y (Spec.data A) (Spec.hi j) s.val q) * Ideal.logistic (Spec.y (Spec.data A) (Spec.lo j) s.val q)
      + (Spec.y (Spec.data A) (Spec.lo j) s.val q * (Spec.dact (Spec.data A) j s.val q * Spec.y (Spec.data A) (Spec.hi j) s.val q))
        * (Ideal.logistic (Spec.y (Spec.data A) (Spec.lo j) s.val q) * (1 - Ideal.logistic (Spec.y (Spec.data A) (Spec.lo j) s.val q)))
    = Spec.dg (Spec.data A) j s.val q
theorem r103 (hA : Agree (rargs x0 x1 x2 x3 x4 x5 x6 x7 x8 x9 x10)) (s : Fin 8192) (j : Fin 8) (q : Fin 704) :
    val_main_v103 (F := Ideal) x0 x1 x2 x3 x4 x5 x6 x7 x8 x9 x10 (ix2 s (Spec.lane j q)) = Spec.dy (Spec.data (rargs x0 x1 x2 x3 x4 x5 x6 x7 x8 x9 x10)) j s.val q := by
  unfold val_main_v103 val_main_v102 val_main_cst_16 val_main_v101 val_main_cst_15
  pointwise
  unfold Spec.dy
  have hj := j.isLt
  have hq := q.isLt
  have hl : (Spec.lane j q).val = j.val * 704 + q.val := rfl
  by_cases h : j.val < 4
  · rw [dif_neg (by omega), dif_pos (by omega), dif_pos h, zero_add, ← hA s ⟨j.val, h⟩ q, ← r100 x0 x1 x2 x3 x4 x5 x6 x7 x8 x9 x10 s ⟨j.val, h⟩ q]
    rfl
  · rw [dif_pos (by omega), dif_neg (by omega), dif_neg h, add_zero, ← r98 x0 x1 x2 x3 x4 x5 x6 x7 x8 x9 x10 s ⟨j.val - 4, by omega⟩ q]
    congr 2
    exact Fin.ext (show j.val * 704 + q.val - 2816 = (j.val - 4) * 704 + q.val by omega)
theorem r108 (hA : Agree (rargs x0 x1 x2 x3 x4 x5 x6 x7 x8 x9 x10)) (s : Fin 8192) (j : Fin 8) (q : Fin 704) : val_main_v108 (F := Ideal) x0 x1 x2 x3 x4 x5 x6 x7 x8 x9 x10 (ix2 s (Spec.lane j q))
    = Spec.dy (Spec.data (rargs x0 x1 x2 x3 x4 x5 x6 x7 x8 x9 x10)) j s.val q * (Spec.data (rargs x0 x1 x2 x3 x4 x5 x6 x7 x8 x9 x10)).cw j 2 q := by
  unfold val_main_v108 val_main_v107 val_main_v45 val_main_v44 val_main_v43
  pointwise
  rw [r103 x0 x1 x2 x3 x4 x5 x6 x7 x8 x9 x10 hA]
  rfl
theorem r117 (hA : Agree (rargs x0 x1 x2 x3 x4 x5 x6 x7 x8 x9 x10)) (s : Fin 8192) (j : Fin 8) (q : Fin 704) : val_main_v117 (F := Ideal) x0 x1 x2 x3 x4 x5 x6 x7 x8 x9 x10 (ix2 s (Spec.lane j q))
    = Spec.dy (Spec.data (rargs x0 x1 x2 x3 x4 x5 x6 x7 x8 x9 x10)) j s.val q * (Spec.data (rargs x0 x1 x2 x3 x4 x5 x6 x7 x8 x9 x10)).cw j 1 q := by
  unfold val_main_v117 val_main_v116 val_main_v38 val_main_v37 val_main_v36
  pointwise
  rw [r103 x0 x1 x2 x3 x4 x5 x6 x7 x8 x9 x10 hA]
  rfl
theorem r131 (hA : Agree (rargs x0 x1 x2 x3 x4 x5 x6 x7 x8 x9 x10)) (s : Fin 8192) (j : Fin 8) (q : Fin 704) : val_main_v131 (F := Ideal) x0 x1 x2 x3 x4 x5 x6 x7 x8 x9 x10 (ix2 s (Spec.lane j q))
    = Spec.dy (Spec.data (rargs x0 x1 x2 x3 x4 x5 x6 x7 x8 x9 x10)) j s.val q * (Spec.data (rargs x0 x1 x2 x3 x4 x5 x6 x7 x8 x9 x10)).cw j 0 q := by
  unfold val_main_v131 val_main_v130 val_main_v29 val_main_v28 val_main_v27
  pointwise
  rw [r103 x0 x1 x2 x3 x4 x5 x6 x7 x8 x9 x10 hA]
  rfl
theorem r139 (hA : Agree (rargs x0 x1 x2 x3 x4 x5 x6 x7 x8 x9 x10)) (s : Fin 8192) (j : Fin 8) (q : Fin 704) :
    val_main_v139 (F := Ideal) x0 x1 x2 x3 x4 x5 x6 x7 x8 x9 x10 (ix2 s (Spec.lane j q)) = Spec.dup (Spec.data (rargs x0 x1 x2 x3 x4 x5 x6 x7 x8 x9 x10)) j s.val q := by
  unfold val_main_v139 val_main_v137 val_main_v136 val_main_cst_30 val_main_v123 val_main_v122 val_main_cst_24 val_main_v112 val_main_cst_20
  pointwise
  simp only [r108 x0 x1 x2 x3 x4 x5 x6 x7 x8 x9 x10 hA, r117 x0 x1 x2 x3 x4 x5 x6 x7 x8 x9 x10 hA, r131 x0 x1 x2 x3 x4 x5 x6 x7 x8 x9 x10 hA]
  have hs := s.isLt
  unfold Spec.dup Spec.dyS
  rw [dif_pos (by omega), show 2 + s.val - 2 = s.val by omega, show 2 + s.val - 1 = s.val + 1 by omega, show 2 + s.val = s.val + 2 by omega]
  congr 1
  · congr 1
    by_cases h : s.val + 1 < 8192
    · rw [dif_pos (by omega), if_pos h]
    · rw [dif_neg (by omega), if_neg h, zero_mul]
  · by_cases h : s.val + 2 < 8192
    · rw [dif_pos (by omega), if_pos h]
    · rw [dif_neg (by omega), if_neg h, zero_mul]
theorem r140 (hA : Agree (rargs x0 x1 x2 x3 x4 x5 x6 x7 x8 x9 x10)) (s : Fin 8192) (d : Fin 1024) : val_main_v140 (F := Ideal) x0 x1 x2 x3 x4 x5 x6 x7 x8 x9 x10 (ix2 s d) = Spec.dh (Spec.data (rargs x0 x1 x2 x3 x4 x5 x6 x7 x8 x9 x10)) s.val d := by
  unfold val_main_v140
  pointwise
  rw [Spec.sum_lane]
  simp only [r139 x0 x1 x2 x3 x4 x5 x6 x7 x8 x9 x10 hA]
  rfl
/-- A sum of products with rows `k` earlier is the sum of products with rows `k` later. -/
theorem shift_sum (n k : ℕ) (u v : ℕ → EReal) (hk : k ≤ n) :
    ∑ s : Fin n, (if s.val < k then 0 else u (s.val - k)) * v s.val = ∑ s : Fin n, (if s.val + k < n then v (s.val + k) else 0) * u s.val := by
  obtain ⟨m, rfl⟩ := Nat.exists_eq_add_of_le hk
  rw [← Finset.sum_range (fun s => (if s < k then 0 else u (s - k)) * v s),
    ← Finset.sum_range (fun s => (if s + k < k + m then v (s + k) else 0) * u s), Finset.sum_range_add, add_comm k m, Finset.sum_range_add,
    Finset.sum_eq_zero (fun i hi => by rw [if_pos (Finset.mem_range.1 hi), zero_mul]), zero_add]
  rw [Finset.sum_eq_zero (s := Finset.range k) (fun i hi => by rw [if_neg (by omega), zero_mul]), add_zero]
  refine Finset.sum_congr rfl fun i hi => ?_
  rw [if_neg (by omega), if_pos (by have := Finset.mem_range.1 hi; omega), show k + i - k = i by omega, mul_comm, add_comm k]
/-- One tap's cotangent: the rows `k` earlier against the convolution's cotangent. -/
theorem tap_sum (A : Spec.Args) (j : Fin 8) (k : Fin 3) (q : Fin 704) :
    ∑ s : Fin 8192, (if s.val + k.val < 2 then 0 else (Spec.data A).up j (s.val + k.val - 2) q) * Spec.dy (Spec.data A) j s.val q
      = ∑ s : Fin 8192, Spec.tapTerm (Spec.data A) j k s.val q := by
  have h := shift_sum 8192 (2 - k.val) (fun s => (Spec.data A).up j s q) (fun s => Spec.dy (Spec.data A) j s q) (by omega)
  refine Eq.trans (Finset.sum_congr rfl fun s _ => ?_) (h.trans (Finset.sum_congr rfl fun s _ => rfl))
  have hk := k.isLt
  by_cases h' : s.val + k.val < 2
  · rw [if_pos h', if_pos (by omega)]
  · rw [if_neg h', if_neg (by omega), show s.val + k.val - 2 = s.val - (2 - k.val) by omega]
theorem r110 (hA : Agree (rargs x0 x1 x2 x3 x4 x5 x6 x7 x8 x9 x10)) (j : Fin 8) (q : Fin 704) :
    val_main_v110 (F := Ideal) x0 x1 x2 x3 x4 x5 x6 x7 x8 x9 x10 (ix2 0 (Spec.lane j q)) = ∑ s : Fin 8192, Spec.tapTerm (Spec.data (rargs x0 x1 x2 x3 x4 x5 x6 x7 x8 x9 x10)) j 2 s.val q := by
  unfold val_main_v110 val_main_v109 val_main_cst_18 val_main_v106 val_main_v105 val_main_cst_17 val_main_v104 val_main_v42
  pointwise
  rw [Fin.sum_univ_one, ← tap_sum]
  refine Finset.sum_congr rfl fun s _ => ?_
  rw [r24 x0 x1 x2 x3 x4 x5 x6 x7 x8 x9 x10, r103 x0 x1 x2 x3 x4 x5 x6 x7 x8 x9 x10 hA, add_comm]
  rfl
theorem r119 (hA : Agree (rargs x0 x1 x2 x3 x4 x5 x6 x7 x8 x9 x10)) (j : Fin 8) (q : Fin 704) :
    val_main_v119 (F := Ideal) x0 x1 x2 x3 x4 x5 x6 x7 x8 x9 x10 (ix2 0 (Spec.lane j q)) = ∑ s : Fin 8192, Spec.tapTerm (Spec.data (rargs x0 x1 x2 x3 x4 x5 x6 x7 x8 x9 x10)) j 1 s.val q := by
  unfold val_main_v119 val_main_v118 val_main_cst_22 val_main_v115 val_main_v114 val_main_cst_21 val_main_v113 val_main_v35
  pointwise
  rw [Fin.sum_univ_one, ← tap_sum]
  refine Finset.sum_congr rfl fun s _ => ?_
  rw [r24 x0 x1 x2 x3 x4 x5 x6 x7 x8 x9 x10, r103 x0 x1 x2 x3 x4 x5 x6 x7 x8 x9 x10 hA, add_comm]
  rfl
theorem r133 (hA : Agree (rargs x0 x1 x2 x3 x4 x5 x6 x7 x8 x9 x10)) (j : Fin 8) (q : Fin 704) :
    val_main_v133 (F := Ideal) x0 x1 x2 x3 x4 x5 x6 x7 x8 x9 x10 (ix2 0 (Spec.lane j q)) = ∑ s : Fin 8192, Spec.tapTerm (Spec.data (rargs x0 x1 x2 x3 x4 x5 x6 x7 x8 x9 x10)) j 0 s.val q := by
  unfold val_main_v133 val_main_v132 val_main_cst_28 val_main_v129 val_main_v128 val_main_cst_27 val_main_v127 val_main_v26
  pointwise
  rw [Fin.sum_univ_one, ← tap_sum]
  refine Finset.sum_congr rfl fun s _ => ?_
  rw [r24 x0 x1 x2 x3 x4 x5 x6 x7 x8 x9 x10, r103 x0 x1 x2 x3 x4 x5 x6 x7 x8 x9 x10 hA]
  rfl
theorem r135 (hA : Agree (rargs x0 x1 x2 x3 x4 x5 x6 x7 x8 x9 x10)) (k : Fin 3) (j : Fin 8) (q : Fin 704) :
    val_main_v135 (F := Ideal) x0 x1 x2 x3 x4 x5 x6 x7 x8 x9 x10 (ix2 k (Spec.lane j q)) = ∑ s : Fin 8192, Spec.tapTerm (Spec.data (rargs x0 x1 x2 x3 x4 x5 x6 x7 x8 x9 x10)) j k s.val q := by
  unfold val_main_v135 val_main_v134 val_main_cst_29 val_main_v121 val_main_v120 val_main_cst_23 val_main_v111 val_main_cst_19
  pointwise
  match k with
  | 0 => exact (by simp : _ = _).trans (r133 x0 x1 x2 x3 x4 x5 x6 x7 x8 x9 x10 hA j q)
  | 1 => exact (by simp : _ = _).trans (r119 x0 x1 x2 x3 x4 x5 x6 x7 x8 x9 x10 hA j q)
  | 2 => exact (by simp : _ = _).trans (r110 x0 x1 x2 x3 x4 x5 x6 x7 x8 x9 x10 hA j q)
theorem r147 (hA : Agree (rargs x0 x1 x2 x3 x4 x5 x6 x7 x8 x9 x10)) (s : Fin 8192) (d : Fin 1024) : val_main_v147 (F := Ideal) x0 x1 x2 x3 x4 x5 x6 x7 x8 x9 x10 (ix2 s d) = Spec.dh (Spec.data (rargs x0 x1 x2 x3 x4 x5 x6 x7 x8 x9 x10)) s.val d * (1 + x2 (ix2 0 d)) := by
  unfold val_main_v147 val_main_v146 val_main_v16 val_main_v15 val_main_cst_3
  pointwise
  rw [r140 x0 x1 x2 x3 x4 x5 x6 x7 x8 x9 x10 hA]
theorem r152 (hA : Agree (rargs x0 x1 x2 x3 x4 x5 x6 x7 x8 x9 x10)) (s : Fin 8192) (d : Fin 1024) : val_main_v152 (F := Ideal) x0 x1 x2 x3 x4 x5 x6 x7 x8 x9 x10 (ix2 s d) = Spec.dh (Spec.data (rargs x0 x1 x2 x3 x4 x5 x6 x7 x8 x9 x10)) s.val d * (1 + x2 (ix2 0 d)) * x4 (ix2 0 d) := by
  unfold val_main_v152 val_main_v151
  pointwise
  rw [r147 x0 x1 x2 x3 x4 x5 x6 x7 x8 x9 x10 hA]
theorem r162 (hA : Agree (rargs x0 x1 x2 x3 x4 x5 x6 x7 x8 x9 x10)) (s : Fin 8192) (d : Fin 1024) : val_main_v162 (F := Ideal) x0 x1 x2 x3 x4 x5 x6 x7 x8 x9 x10 (ix2 s d)
    = Spec.coef (fun d => x0 (ix2 s d)) (fun d => Spec.dh (Spec.data (rargs x0 x1 x2 x3 x4 x5 x6 x7 x8 x9 x10)) s.val d * (1 + x2 (ix2 0 d)) * x4 (ix2 0 d)) := by
  unfold val_main_v162 val_main_v161 val_main_cst_36 val_main_v160 val_main_v159 val_main_cst_35 val_main_v158 val_main_v155 val_main_v154 val_main_cst_34 val_main_v153
  pointwise
  simp only [r152 x0 x1 x2 x3 x4 x5 x6 x7 x8 x9 x10 hA, r10, Fin.sum_univ_one]
  rfl

/-! The results. -/

theorem res0 (hA : Agree (rargs x0 x1 x2 x3 x4 x5 x6 x7 x8 x9 x10)) (s : Fin 8192) (d : Fin 1024) : val_main_v167 (F := Ideal) x0 x1 x2 x3 x4 x5 x6 x7 x8 x9 x10 (ix2 s d) = Spec.dx (Spec.data (rargs x0 x1 x2 x3 x4 x5 x6 x7 x8 x9 x10)) s.val d := by
  unfold val_main_v167 val_main_v166 val_main_v165 val_main_v164 val_main_v163 val_main_v157 val_main_v156
  pointwise
  rw [r162 x0 x1 x2 x3 x4 x5 x6 x7 x8 x9 x10 hA, r7, r152 x0 x1 x2 x3 x4 x5 x6 x7 x8 x9 x10 hA]
  have h := Spec.vjp_eq (fun d => x0 (ix2 s d)) (fun d => Spec.dh (Spec.data (rargs x0 x1 x2 x3 x4 x5 x6 x7 x8 x9 x10)) s.val d * (1 + x2 (ix2 0 d)) * x4 (ix2 0 d)) d
  unfold Spec.dx
  rw [Spec.x_data, Spec.ct_data]
  exact congrArg (x10 (ix2 s d) + ·) h
theorem res1 (hA : Agree (rargs x0 x1 x2 x3 x4 x5 x6 x7 x8 x9 x10)) (j : Fin 8) (s : Fin 8192) (q : Fin 704) : val_main_v170 (F := Ideal) x0 x1 x2 x3 x4 x5 x6 x7 x8 x9 x10 (ix3 j s q) = Spec.dup (Spec.data (rargs x0 x1 x2 x3 x4 x5 x6 x7 x8 x9 x10)) j s.val q := by
  unfold val_main_v170 val_main_v169 val_main_v168
  pointwise
  exact r139 x0 x1 x2 x3 x4 x5 x6 x7 x8 x9 x10 hA s j q
theorem res2 (s : Fin 8192) (d : Fin 1024) : val_main_v171 (F := Ideal) x0 x1 x2 x3 x4 x5 x6 x7 x8 x9 x10 (ix2 s d) = Spec.df (Spec.data (rargs x0 x1 x2 x3 x4 x5 x6 x7 x8 x9 x10)) s.val d := by
  unfold val_main_v171
  pointwise
  exact r96 x0 x1 x2 x3 x4 x5 x6 x7 x8 x9 x10 s d
theorem res3 (s : Fin 8192) (d : Fin 1024) : val_main_v172 (F := Ideal) x0 x1 x2 x4 (ix2 s d) = Spec.h2 (Spec.data (rargs x0 x1 x2 x3 x4 x5 x6 x7 x8 x9 x10)) s.val d := by
  unfold val_main_v172
  pointwise
  rw [r20 x0 x1 x2 x3 x4 x5 x6 x7 x8 x9 x10]
  unfold Spec.h2 Spec.hRow
  rw [Spec.x_data]
  rfl
theorem res4 (hA : Agree (rargs x0 x1 x2 x3 x4 x5 x6 x7 x8 x9 x10)) (k : Fin 3) (d : Fin 1024) : val_main_v173 (F := Ideal) x0 x1 x2 x3 x4 x5 x6 x7 x8 x9 x10 (ix2 k d) = ∑ s : Fin 8192, Spec.modTerm (Spec.data (rargs x0 x1 x2 x3 x4 x5 x6 x7 x8 x9 x10)) k s.val d := by
  unfold val_main_v173 val_main_v145 val_main_v144 val_main_cst_32 val_main_v143 val_main_v142 val_main_v141 val_main_cst_31 val_main_v77 val_main_v76 val_main_cst_10 val_main_v75 val_main_v72 val_main_v68 val_main_v67
  pointwise
  have hk := k.isLt
  unfold Spec.modTerm
  by_cases h0 : k.val = 0
  · rw [dif_pos (by omega)]
    simp only [if_pos h0]
    exact Finset.sum_congr rfl fun s _ => r140 x0 x1 x2 x3 x4 x5 x6 x7 x8 x9 x10 hA s d
  · rw [dif_neg (by omega)]
    simp only [if_neg h0]
    by_cases h1 : k.val = 1
    · rw [dif_pos (by omega)]
      simp only [if_pos h1]
      refine Finset.sum_congr rfl fun s _ => ?_
      rw [r14, r140 x0 x1 x2 x3 x4 x5 x6 x7 x8 x9 x10 hA, mul_comm, Spec.x_data]
      rfl
    · rw [dif_neg (by omega)]
      simp only [if_neg h1]
      refine Finset.sum_congr rfl fun s _ => ?_
      rw [r66 x0 x1 x2 x3 x4 x5 x6 x7 x8 x9 x10, Spec.f_data, Spec.ct_data]
      rfl
theorem res5 (hA : Agree (rargs x0 x1 x2 x3 x4 x5 x6 x7 x8 x9 x10)) (d : Fin 1024) : val_main_v150 (F := Ideal) x0 x1 x2 x3 x4 x5 x6 x7 x8 x9 x10 (ix2 0 d) = ∑ s : Fin 8192, Spec.g3Term (Spec.data (rargs x0 x1 x2 x3 x4 x5 x6 x7 x8 x9 x10)) s.val d := by
  unfold val_main_v150 val_main_v149 val_main_cst_33 val_main_v148
  pointwise
  refine Finset.sum_congr rfl fun s _ => ?_
  rw [r12, r147 x0 x1 x2 x3 x4 x5 x6 x7 x8 x9 x10 hA, mul_comm]
  unfold Spec.g3Term
  rw [Spec.x_data]
  rfl
theorem res6 (d : Fin 1024) : val_main_v80 (F := Ideal) x0 x1 x2 x3 x4 x6 x7 x8 x9 x10 (ix2 0 d) = ∑ s : Fin 8192, Spec.g4Term (Spec.data (rargs x0 x1 x2 x3 x4 x5 x6 x7 x8 x9 x10)) s.val d := by
  unfold val_main_v80 val_main_v79 val_main_cst_11 val_main_v78
  pointwise
  refine Finset.sum_congr rfl fun s _ => ?_
  rw [r66 x0 x1 x2 x3 x4 x5 x6 x7 x8 x9 x10, r74, mul_comm, mul_comm (x3 _)]
  unfold Spec.g4Term
  rw [Spec.f_data, Spec.ct_data]
  rfl
theorem res7 (hA : Agree (rargs x0 x1 x2 x3 x4 x5 x6 x7 x8 x9 x10)) (j : Fin 8) (q : Fin 704) : val_main_v174 (F := Ideal) x0 x1 x2 x3 x4 x5 x6 x7 x8 x9 x10 (ix2 j q) = ∑ s : Fin 8192, Spec.dy (Spec.data (rargs x0 x1 x2 x3 x4 x5 x6 x7 x8 x9 x10)) j s.val q := by
  unfold val_main_v174 val_main_v126 val_main_cst_26 val_main_v125 val_main_v124 val_main_cst_25
  pointwise
  rw [Fin.sum_univ_one]
  exact Finset.sum_congr rfl fun s _ => r103 x0 x1 x2 x3 x4 x5 x6 x7 x8 x9 x10 hA s j q
theorem res8 (hA : Agree (rargs x0 x1 x2 x3 x4 x5 x6 x7 x8 x9 x10)) (j : Fin 8) (k : Fin 3) (q : Fin 704) : val_main_v176 (F := Ideal) x0 x1 x2 x3 x4 x5 x6 x7 x8 x9 x10 (ix3 j k q) = ∑ s : Fin 8192, Spec.tapTerm (Spec.data (rargs x0 x1 x2 x3 x4 x5 x6 x7 x8 x9 x10)) j k s.val q := by
  unfold val_main_v176 val_main_v175
  pointwise
  exact r135 x0 x1 x2 x3 x4 x5 x6 x7 x8 x9 x10 hA k j q

end Cert.ReferenceIdeal.Own
-- ==== Proof.Real.lean ====
/-
  With real arguments (the input aside) everything up to the activation's cotangent is real, so the two arrangements of
  the gate's derivative agree.
-/
module

public import proofs.«01_k».proof.Proof.Args
public import proofs.«01_k».proof.Proof.Norm

@[expose] public section

noncomputable section

namespace Cert.Own.Spec

open Idealize.ShloMosaic

/-- A real number among the extended reals. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, by norm_cast⟩
theorem Real'.sub {x y : EReal} (hx : Real' x) (hy : Real' y) : Real' (x - y) := by
  obtain ⟨a, rfl⟩ := hx
  obtain ⟨b, rfl⟩ := hy
  exact ⟨a - b, by norm_cast⟩
theorem Real'.mul {x y : EReal} (hx : Real' x) (hy : Real' y) : Real' (x * y) := by
  obtain ⟨a, rfl⟩ := hx
  obtain ⟨b, rfl⟩ := hy
  exact ⟨a * b, by norm_cast⟩
theorem real_one : Real' 1 := ⟨1, by norm_cast⟩
theorem real_zero : Real' 0 := ⟨0, by norm_cast⟩
theorem Real'.sum {ι : Type} (s : Finset ι) {f : ι → EReal} (h : ∀ i, Real' (f i)) : Real' (∑ i ∈ s, f i) := by
  classical
  induction s using Finset.induction_on with
  | empty => exact real_zero
  | insert i s hi ih => rw [Finset.sum_insert hi]; exact (h i).add ih
theorem Real'.logistic {x : EReal} (hx : Real' x) : Real' (Ideal.logistic x) := by
  obtain ⟨a, rfl⟩ := hx
  exact ⟨_, Ideal.logistic_coe a⟩
theorem Real'.div_width {x : EReal} (hx : Real' x) : Real' (Ideal.div x width) := by
  rw [Scalar.width_eq, Ideal.div_coe (by norm_num)]
  exact hx.mul ⟨_, rfl⟩

/-- The reciprocal root mean square is real, and zero where the mean square is infinite. -/
theorem real_rms (v : Fin 1024 → EReal) : Real' (rms v) := by
  rcases ms_cases v with h | ⟨p, hp, h⟩
  · exact ⟨0, by unfold rms; rw [show Ideal.div (∑ e, v e * v e) width + eps = ⊤ from h]; rfl⟩
  · refine ⟨(Real.sqrt p)⁻¹, ?_⟩
    unfold rms
    rw [show Ideal.div (∑ e, v e * v e) width + eps = (p : EReal) from h, Ideal.rsqrt_coe, if_neg (by linarith), if_neg hp.ne']

/-- A normalised row is real, whatever the row. -/
theorem real_hat (v : Fin 1024 → EReal) (d : Fin 1024) : Real' (hat v d) := by
  by_cases hd : Real' (v d)
  · exact hd.mul (real_rms v)
  · have h2 : v d * v d = ⊤ := by
      generalize v d = x at hd
      induction x with
      | bot => simp
      | top => simp
      | coe r => exact absurd ⟨r, rfl⟩ hd
    have h3 : ∑ e, v e * v e = ⊤ := by
      refine top_le_iff.1 (h2 ▸ ?_)
      exact Finset.single_le_sum (f := fun e => v e * v e) (fun e _ => mul_self_nonneg' (v e)) (Finset.mem_univ d)
    obtain ⟨e, he, hE⟩ := Scalar.eps_eq
    have h : rms v = 0 := by
      unfold rms
      rw [h3, Scalar.width_eq, Ideal.div_coe (by norm_num), EReal.top_mul_coe_of_pos (by norm_num), hE]
      rfl
    unfold hat
    rw [h, mul_zero]
    exact real_zero

/-- The normalisation's cotangent is real where the incoming cotangent is. -/
theorem real_bwd (v a : Fin 1024 → EReal) (ha : ∀ d, Real' (a d)) (d : Fin 1024) : Real' (bwd v a d) :=
  (real_rms v).mul ((ha d).sub ((real_hat v d).mul (Real'.sum _ fun e => (ha e).mul (real_hat v e)).div_width))

/-- Every argument but the input is real. -/
structure Args.Finite (A : Args) : Prop where
  sh : ∀ d, Real' (A.sh d)
  sc : ∀ d, Real' (A.sc d)
  gf : ∀ d, Real' (A.gf d)
  g3 : ∀ d, Real' (A.g3 d)
  g4 : ∀ d, Real' (A.g4 d)
  wu : ∀ d l, Real' (A.wu d l)
  cw : ∀ k l, Real' (A.cw k l)
  cb : ∀ l, Real' (A.cb l)
  wd : ∀ l d, Real' (A.wd l d)
  ct : ∀ s d, Real' (A.ct s d)

variable {A : Args} (h : A.Finite)
include h

theorem real_hRow (s : Fin 8192) (d : Fin 1024) : Real' (hRow A s d) :=
  (((real_hat (A.x s) d).mul (h.g3 d)).mul (real_one.add (h.sc d))).add (h.sh d)
theorem real_upRow (s : Fin 8192) (l : Fin 5632) : Real' (upRow A s l) :=
  Real'.sum _ fun d => (real_hRow h s d).mul (h.wu d l)
theorem real_y (j : Fin 8) (s : Fin 8192) (q : Fin 704) : Real' (y (data A) j s.val q) := by
  rw [y_flat]
  refine (((h.cb _).add (Real'.mul ?_ (h.cw _ _))).add (Real'.mul ?_ (h.cw _ _))).add ((real_upRow h _ _).mul (h.cw _ _))
  · split
    · exact real_zero
    · exact real_upRow h _ _
  · split
    · exact real_zero
    · exact real_upRow h _ _
theorem real_dact (j : Fin 4) (s : Fin 8192) (q : Fin 704) : Real' (dact (data A) j s.val q) := by
  refine Real'.sum _ fun d => Real'.mul (real_bwd _ _ (fun e => ?_) d) (h.wd _ _)
  rw [ct_data]
  exact ((h.ct s e).mul (h.gf e)).mul (h.g4 e)

/-- The gate's derivative in the product rule's arrangement. -/
theorem dg_eq (s : Fin 8192) (j : Fin 4) (q : Fin 704) :
    (dact (data A) j s.val q * y (data A) (hi j) s.val q) * Ideal.logistic (y (data A) (lo j) s.val q)
      + (y (data A) (lo j) s.val q * (dact (data A) j s.val q * y (data A) (hi j) s.val q))
        * (Ideal.logistic (y (data A) (lo j) s.val q) * (1 - Ideal.logistic (y (data A) (lo j) s.val q)))
      = dg (data A) j s.val q :=
  silu_eq (real_dact h j s q) (real_y h (hi j) s q) (real_y h (lo j) s q)

end Cert.Own.Spec
-- ==== Proof.Value.lean ====
/-
  The value claim: both programs' results are the same formulas of the arguments.
-/
module

public import proofs.«01_k».proof.Defs
public import proofs.«01_k».proof.Proof.Host
public import proofs.«01_k».proof.Proof.Final
public import proofs.«01_k».proof.Proof.Ref
public import proofs.«01_k».proof.Proof.Real
public import proofs.«01_k».proof.Proof.Gen.Pre_finite
public import proofs.«01_k».proof.Proof.Gen.ReferenceIdeal.Run

@[expose] public section

set_option maxRecDepth 16384

noncomputable section

namespace Cert.Own

open Idealize.ShloMosaic Idealize.ShloMosaic.TcCoe Idealize.SL.Sem

/-- An extended real of absolute value below infinity is real. -/
theorem real_of_abs {x : EReal} (h : max x (-x) < ⊤) : Spec.Real' x := by
  induction x with
  | bot => simp at h
  | top => simp at h
  | coe r => exact ⟨r, rfl⟩

/-- Where the comparison of the absolute value with infinity is one, the entries are real. -/
theorem real_of_pre {s : Shape} (hb : Cert.Pre_finite.S_.BroadcastsInDim s (![] : Fin 0 → Fin s.rank)) (a : FVec Ideal s .f32)
    (h : cmpf (F := Ideal) .olt (Host.absf a) (broadcastInDim s ![] hb (constant Cert.Pre_finite.S_ .f32 0x7F800000#32)) = fun _ => 1#1)
    (i : s.Idx) : Spec.Real' (a i) := by
  have hi : Ideal.cmp .olt (max (a i) (-a i)) (Ideal.ofBits .f32 0x7F800000#32) = 1#1 := congrFun h i
  rw [show Ideal.ofBits .f32 0x7F800000#32 = ⊤ by simp [Ideal.ofBits, Ideal.ieee]] at hi
  refine real_of_abs ?_
  by_contra hn
  have hz : Ideal.cmp .olt (max (a i) (-a i)) ⊤ = 0#1 := by simp only [Ideal.cmp]; simp [hn]
  rw [hz] at hi
  exact absurd hi (by decide)

open Cert.KernelIdeal (nD τ sig) in
/-- The precondition's argument arrays but the input hold real numbers. -/
theorem finite_of_pre (m : (ℓ : Loc nD τ sig) → Buf (Elt Ideal) ℓ) (h : Cert.Pre_KernelIdeal_finite m) (c : Dev nD) :
    (Cert.KernelIdeal.Own.args m c).Finite := by
  obtain ⟨h1, h2, h3, h4, h5, h6, h7, h8, h9, h10⟩ := h c
  exact {
    sh := fun d => real_of_pre _ _ h1 _
    sc := fun d => real_of_pre _ _ h2 _
    gf := fun d => real_of_pre _ _ h3 _
    g3 := fun d => real_of_pre _ _ h4 _
    g4 := fun d => real_of_pre _ _ h5 _
    wu := fun d l => real_of_pre _ _ h6 _
    cw := fun k l => real_of_pre _ _ h7 _
    cb := fun l => real_of_pre _ _ h8 _
    wd := fun l d => real_of_pre _ _ h9 _
    ct := fun s d => real_of_pre _ _ h10 _ }

open Cert.KernelIdeal.Own (all)

/-! The results as arrays of formulas of the data. -/

def out0 (D : Spec.Data) : Vec Ideal Cert.KernelIdeal.S8192x1024 .f32 := fun i => Spec.dx D (i 0).val (i 1)
def out1 (D : Spec.Data) : Vec Ideal Cert.KernelIdeal.S8x8192x704 .bf16 := fun i => Spec.dup D (i 0) (i 1).val (i 2)
def out2 (D : Spec.Data) : Vec Ideal Cert.KernelIdeal.S8192x1024 .bf16 := fun i => Spec.df D (i 0).val (i 1)
def out3 (D : Spec.Data) : Vec Ideal Cert.KernelIdeal.S8192x1024 .bf16 := fun i => Spec.h2 D (i 0).val (i 1)
def out4 (D : Spec.Data) : Vec Ideal Cert.KernelIdeal.S3x1024 .f32 := fun i => all fun s => Spec.modTerm D (i 0) s (i 1)
def out5 (D : Spec.Data) : Vec Ideal Cert.KernelIdeal.S1x1024 .f32 := fun i => all fun s => Spec.g3Term D s (i 1)
def out6 (D : Spec.Data) : Vec Ideal Cert.KernelIdeal.S1x1024 .f32 := fun i => all fun s => Spec.g4Term D s (i 1)
def out7 (D : Spec.Data) : Vec Ideal Cert.KernelIdeal.S8x704 .f32 := fun i => all fun s => Spec.dy D (i 0) s (i 1)
def out8 (D : Spec.Data) : Vec Ideal Cert.KernelIdeal.S8x3x704 .f32 := fun i => all fun s => Spec.tapTerm D (i 0) (i 1) s (i 2)

section Reference

open Cert.ReferenceIdeal Cert.ReferenceIdeal.Read Cert.ReferenceIdeal.Own

variable (x0 : (⟨S8192x1024, .f32⟩ : BufTy).Contents (Elt Ideal)) (x1 x2 x3 x4 x5 : (⟨S1x1024, .f32⟩ : BufTy).Contents (Elt Ideal))
  (x6 : (⟨S1024x5632, .f32⟩ : BufTy).Contents (Elt Ideal)) (x7 : (⟨S3x5632, .f32⟩ : BufTy).Contents (Elt Ideal))
  (x8 : (⟨S1x5632, .f32⟩ : BufTy).Contents (Elt Ideal)) (x9 : (⟨S2816x1024, .f32⟩ : BufTy).Contents (Elt Ideal))
  (x10 : (⟨S8192x1024, .f32⟩ : BufTy).Contents (Elt Ideal))

/-! The reference's results are those arrays. -/

theorem ref0 (hA : Agree (rargs x0 x1 x2 x3 x4 x5 x6 x7 x8 x9 x10)) : val_main_v167 (F := Ideal) x0 x1 x2 x3 x4 x5 x6 x7 x8 x9 x10 = out0 (Spec.data (rargs x0 x1 x2 x3 x4 x5 x6 x7 x8 x9 x10)) := by
  funext i
  rw [eq_ix2 i]
  exact res0 x0 x1 x2 x3 x4 x5 x6 x7 x8 x9 x10 hA (i 0) (i 1)
theorem ref1 (hA : Agree (rargs x0 x1 x2 x3 x4 x5 x6 x7 x8 x9 x10)) : val_main_v170 (F := Ideal) x0 x1 x2 x3 x4 x5 x6 x7 x8 x9 x10 = out1 (Spec.data (rargs x0 x1 x2 x3 x4 x5 x6 x7 x8 x9 x10)) := by
  funext i
  rw [eq_ix3 i]
  exact res1 x0 x1 x2 x3 x4 x5 x6 x7 x8 x9 x10 hA (i 0) (i 1) (i 2)
theorem ref2 : val_main_v171 (F := Ideal) x0 x1 x2 x3 x4 x5 x6 x7 x8 x9 x10 = out2 (Spec.data (rargs x0 x1 x2 x3 x4 x5 x6 x7 x8 x9 x10)) := by
  funext i
  rw [eq_ix2 i]
  exact res2 x0 x1 x2 x3 x4 x5 x6 x7 x8 x9 x10 (i 0) (i 1)
theorem ref3 : val_main_v172 (F := Ideal) x0 x1 x2 x4 = out3 (Spec.data (rargs x0 x1 x2 x3 x4 x5 x6 x7 x8 x9 x10)) := by
  funext i
  rw [eq_ix2 i]
  exact res3 x0 x1 x2 x3 x4 x5 x6 x7 x8 x9 x10 (i 0) (i 1)
theorem ref4 (hA : Agree (rargs x0 x1 x2 x3 x4 x5 x6 x7 x8 x9 x10)) : val_main_v173 (F := Ideal) x0 x1 x2 x3 x4 x5 x6 x7 x8 x9 x10 = out4 (Spec.data (rargs x0 x1 x2 x3 x4 x5 x6 x7 x8 x9 x10)) := by
  funext i
  rw [eq_ix2 i]
  exact res4 x0 x1 x2 x3 x4 x5 x6 x7 x8 x9 x10 hA (i 0) (i 1)
theorem ref5 (hA : Agree (rargs x0 x1 x2 x3 x4 x5 x6 x7 x8 x9 x10)) : val_main_v150 (F := Ideal) x0 x1 x2 x3 x4 x5 x6 x7 x8 x9 x10 = out5 (Spec.data (rargs x0 x1 x2 x3 x4 x5 x6 x7 x8 x9 x10)) := by
  funext i
  obtain ⟨d, rfl⟩ : ∃ d : Fin 1024, i = ix2 0 d :=
    ⟨i 1, (eq_ix2 i).trans (congrArg (fun a : Fin 1 => ix2 a (i 1)) (Subsingleton.elim _ _))⟩
  exact res5 x0 x1 x2 x3 x4 x5 x6 x7 x8 x9 x10 hA d
theorem ref6 : val_main_v80 (F := Ideal) x0 x1 x2 x3 x4 x6 x7 x8 x9 x10 = out6 (Spec.data (rargs x0 x1 x2 x3 x4 x5 x6 x7 x8 x9 x10)) := by
  funext i
  obtain ⟨d, rfl⟩ : ∃ d : Fin 1024, i = ix2 0 d :=
    ⟨i 1, (eq_ix2 i).trans (congrArg (fun a : Fin 1 => ix2 a (i 1)) (Subsingleton.elim _ _))⟩
  exact res6 x0 x1 x2 x3 x4 x5 x6 x7 x8 x9 x10 d
theorem ref7 (hA : Agree (rargs x0 x1 x2 x3 x4 x5 x6 x7 x8 x9 x10)) : val_main_v174 (F := Ideal) x0 x1 x2 x3 x4 x5 x6 x7 x8 x9 x10 = out7 (Spec.data (rargs x0 x1 x2 x3 x4 x5 x6 x7 x8 x9 x10)) := by
  funext i
  rw [eq_ix2 i]
  exact res7 x0 x1 x2 x3 x4 x5 x6 x7 x8 x9 x10 hA (i 0) (i 1)
theorem ref8 (hA : Agree (rargs x0 x1 x2 x3 x4 x5 x6 x7 x8 x9 x10)) : val_main_v176 (F := Ideal) x0 x1 x2 x3 x4 x5 x6 x7 x8 x9 x10 = out8 (Spec.data (rargs x0 x1 x2 x3 x4 x5 x6 x7 x8 x9 x10)) := by
  funext i
  rw [eq_ix3 i]
  exact res8 x0 x1 x2 x3 x4 x5 x6 x7 x8 x9 x10 hA (i 0) (i 1) (i 2)

end Reference

open Cert.KernelIdeal Cert.KernelIdeal.Gen in
/-- The kernel leaves those arrays of its arguments, and the arguments as they were. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v58_0) = out0 (Spec.data (Own.args m c))
      ∧ r.2.mem ((c : Thread nD τ).loc main_v58_1) = out1 (Spec.data (Own.args m c))
      ∧ r.2.mem ((c : Thread nD τ).loc main_v58_2) = out2 (Spec.data (Own.args m c))
      ∧ r.2.mem ((c : Thread nD τ).loc main_v58_3) = out3 (Spec.data (Own.args m c))
      ∧ r.2.mem ((c : Thread nD τ).loc main_v58_4) = out4 (Spec.data (Own.args m c))
      ∧ r.2.mem ((c : Thread nD τ).loc main_v58_5) = out5 (Spec.data (Own.args m c))
      ∧ r.2.mem ((c : Thread nD τ).loc main_v58_6) = out6 (Spec.data (Own.args m c))
      ∧ r.2.mem ((c : Thread nD τ).loc main_v58_7) = out7 (Spec.data (Own.args m c))
      ∧ r.2.mem ((c : Thread nD τ).loc main_v58_8) = out8 (Spec.data (Own.args m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run _ _ _).mono (fun r h c => ?_) (Own.run_blocks m ρ)
  obtain ⟨h0, h1, h2, h3, h4, h5, h6, h7, h8, ha⟩ := h c
  have e0 := h0.trans (Own.arr12 m c)
  have e1 := h1.trans (Own.arr13 m c)
  have e2 := h2.trans (Own.arr14 m c)
  have e3 := h3.trans (Own.arr15 m c)
  have e4 := h4.trans (Own.arr16 m c)
  have e5 := h5.trans (Own.arr17 m c)
  have e6 := h6.trans (Own.arr18 m c)
  have e7 := h7.trans (Own.arr19 m c)
  have e8 := h8.trans (Own.arr20 m c)
  rw [Own.gAt_eq] at e0 e1 e2 e3 e4 e5 e6 e7 e8
  exact ⟨e0, e1, e2, e3, e4, e5, e6, e7, e8, ha⟩

open Cert.KernelIdeal.Own in
/-- From agreeing arguments both programs end with equal results. -/
theorem algebraic : Cert.algebraic_KernelIdeal_ReferenceIdeal_pre_finite := by
  intro m g m' g' hpre hargs
  refine ⟨fun c => out0 (Spec.data (args m c)), fun c => out1 (Spec.data (args m c)), fun c => out2 (Spec.data (args m c)), fun c => out3 (Spec.data (args m c)), fun c => out4 (Spec.data (args m c)), fun c => out5 (Spec.data (args m c)), fun c => out6 (Spec.data (args m c)), fun c => out7 (Spec.data (args m c)), fun c => out8 (Spec.data (args m c)), run_kernel m g, ?_⟩
  refine (θ_run _ _ _).mono (fun r h c => ?_) (Cert.ReferenceIdeal.Value.run (F := Ideal) m' g')
  obtain ⟨h0, h1, h2, h3, h4, h5, h6, h7, h8, ha⟩ := h c
  obtain ⟨a0, a1, a2, a3, a4, a5, a6, a7, a8, a9, a10⟩ := hargs c
  have hR : Cert.ReferenceIdeal.Own.rargs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = args m c := by
    rw [a0, a1, a2, a3, a4, a5, a6, a7, a8, a9, a10]
    rfl
  have hA : Cert.ReferenceIdeal.Own.Agree (args m c) := fun s j q => Spec.dg_eq (finite_of_pre m hpre c) s j q
  dsimp only
  rw [← hR] at hA ⊢
  exact ⟨(h0.trans (Cert.ReferenceIdeal.Read.val_main_v167_eq _)).trans (ref0 _ _ _ _ _ _ _ _ _ _ _ hA),
    (h1.trans (Cert.ReferenceIdeal.Read.val_main_v170_eq _)).trans (ref1 _ _ _ _ _ _ _ _ _ _ _ hA),
    (h2.trans (Cert.ReferenceIdeal.Read.val_main_v171_eq _)).trans (ref2 _ _ _ _ _ _ _ _ _ _ _),
    (h3.trans (Cert.ReferenceIdeal.Read.val_main_v172_eq _)).trans (ref3 _ _ _ _ _ _ _ _ _ _ _),
    (h4.trans (Cert.ReferenceIdeal.Read.val_main_v173_eq _)).trans (ref4 _ _ _ _ _ _ _ _ _ _ _ hA),
    (h5.trans (Cert.ReferenceIdeal.Read.val_main_v150_eq _)).trans (ref5 _ _ _ _ _ _ _ _ _ _ _ hA),
    (h6.trans (Cert.ReferenceIdeal.Read.val_main_v80_eq _)).trans (ref6 _ _ _ _ _ _ _ _ _ _ _),
    (h7.trans (Cert.ReferenceIdeal.Read.val_main_v174_eq _)).trans (ref7 _ _ _ _ _ _ _ _ _ _ _ hA),
    (h8.trans (Cert.ReferenceIdeal.Read.val_main_v176_eq _)).trans (ref8 _ _ _ _ _ _ _ _ _ _ _ hA),
    ha⟩

end Cert.Own
-- ==== Proof.Wgrad.lean ====
/-
  The gradient of the up-projection: a grid of two halves of the eight chunks of lanes by eight groups of 1024 rows. At
  a half's first group the block of the gradient is filled with zeros; at each group every chunk of the half adds the
  product of the chunk's cotangent, transposed, with the group's rows of the normalised input. After the last group the
  block is written out: at chunk `j`, lane `q`, input column `d` it holds the sum over the 8192 rows of the cotangent
  times the input. The reference takes that sum in one contraction. No side condition: both are the same sum.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.TileValue
public import proofs.«01_k».proof.Proof.Args
public import Idealize.ShloMosaic.Lib.Pipeline.ValueKit
public import Idealize.ShloMosaic.Lib.Pipeline.ValueKit.Acc
public import Idealize.ShloMosaic.Lib.Pipeline.ReadBack
public import Idealize.ShloMosaic.Lib.StableHlo.ReadAt
public import Idealize.ShloMosaic.Lib.ValueLayout
public import Idealize.ShloMosaic.Lib.Pipeline.ValueKit.Tiles
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.Kernel2Ideal.Own

open Cert.Kernel2Ideal Cert.Kernel2Ideal.Gen Idealize.ShloMosaic Idealize.ShloMosaic.TcCoe Idealize.SL.Sem

open Cert.KernelIdeal.Own (ld3 cast3 emb3)
open Cert.Own.Spec (lane)

variable (m : (ℓ : Loc nD τ sig) → Buf (Elt Ideal) ℓ) (c : Dev nD)

/-- Chunk `j` of the block of the gradient lies in it. -/
theorem inb (j : Fin 4) : ∀ a : Fin 3, (![j.val, 0, 0] : Fin 3 → ℕ) a + (![1, 704, 1024] : Fin 3 → ℕ) a ≤ S4x704x1024.size a := by
  have := j.isLt
  intro a; match a with
  | ⟨0, _⟩ => show j.val + 1 ≤ 4; omega
  | ⟨1, _⟩ => show 0 + 704 ≤ 704; omega
  | ⟨2, _⟩ => show 0 + 1024 ≤ 1024; omega
/-- Chunk `j` of the block of the cotangent lies in it. -/
theorem inbC (j : Fin 4) : ∀ a : Fin 3, (![j.val, 0, 0] : Fin 3 → ℕ) a + (![1, 1024, 704] : Fin 3 → ℕ) a ≤ S4x1024x704.size a := by
  have := j.isLt
  intro a; match a with
  | ⟨0, _⟩ => show j.val + 1 ≤ 4; omega
  | ⟨1, _⟩ => show 0 + 1024 ≤ 1024; omega
  | ⟨2, _⟩ => show 0 + 704 ≤ 704; omega

/-- The rows a grid point adds to chunk `j` of the block: what it held and the product of the cotangent's chunk,
    transposed, with the rows of the input. -/
def slot (x0 : Vec Ideal S1024x1024 .bf16) (x1 : Vec Ideal S4x1024x704 .bf16) (a : Vec Ideal S4x704x1024 .f32) (j : Fin 4) :
    FVec Ideal S1x704x1024 .f32 :=
  shapeCast S1x704x1024
    (addf (shapeCast S704x1024 (View.ld a (Rect.unit ![j.val, 0, 0] ![1, 704, 1024] (inb j)) : Vec Ideal S1x704x1024 .f32) shapeCasts_S1x704x1024_S704x1024)
      (matmul (F := Ideal) (φ₁ := .bf16) (φ₂ := .bf16) dot_S1024x704_S1024x1024_S704x1024_0_0_1_1_n_n none
        (shapeCast S1024x704 (View.ld x1 (Rect.unit ![j.val, 0, 0] ![1, 1024, 704] (inbC j)) : Vec Ideal S1x1024x704 .bf16) shapeCasts_S1x1024x704_S1024x704)
        (shapeCast S1024x1024 x0 shapeCasts_S1024x1024_S1024x1024) (constant S704x1024 .f32 0x00000000#32)))
    shapeCasts_S704x1024_S1x704x1024

/-- The block after a point: the four chunks laid over one another, the last one first, above what `L` laid. -/
def slots (x0 : Vec Ideal S1024x1024 .bf16) (x1 : Vec Ideal S4x1024x704 .bf16) (a : Vec Ideal S4x704x1024 .f32)
    (L : List (View.Piece (Elt Ideal) S4x704x1024 .f32)) : Vec Ideal S4x704x1024 .f32 :=
  View.canon ((([3, 2, 1, 0] : List (Fin 4)).map fun j => ⟨Rect.unit ![j.val, 0, 0] ![1, 704, 1024] (inb j), slot x0 x1 a j⟩) ++ L)

/-- At a later group the block after the point is the four chunks of it laid over what was there. -/
theorem outB_eq (t : Fin cfg0.N) (h0 : ¬t.val % 8 = 0) (xo : Vec Ideal S4x704x1024 .f32) :
    out0_B_2 c (grid0.coords t) (ms0_0 t) (hs0_0 t) (ms0_1 t) (hs0_1 t) (ms0_2 t) (hs0_2 t) (fun h => h0 ((hcond0_0 t).mp h)) (iblk m c 0 t) (iblk m c 1 t) xo
      = slots (iblk m c 0 t) (iblk m c 1 t) xo [] := by
  unfold out0_B_2
  frame_open
  frame_out
  unfold_payloads
  rfl

/-- At a half's first group the four chunks are laid over the zero fill. -/
theorem outA_eq (t : Fin cfg0.N) (h0 : t.val % 8 = 0) :
    out0_A_2 c (grid0.coords t) (ms0_0 t) (hs0_0 t) (ms0_1 t) (hs0_1 t) (ms0_2 t) (hs0_2 t) ((hcond0_0 t).mpr h0) (iblk m c 0 t) (iblk m c 1 t)
      = slots (iblk m c 0 t) (iblk m c 1 t) (k0_pay3 (F := Ideal)) [⟨Rect.unit ![0, 0, 0] S4x704x1024.size inb_S4x704x1024_S4x704x1024_0_0_0, (k0_pay3 (F := Ideal))⟩] := by
  unfold out0_A_2
  frame_open
  simp (disch := decide) only [↓View.readCov_skip, ↓View.readCov_fill]
  frame_out
  unfold_payloads
  rfl

/-- The product of the cotangent's chunk, transposed, with the rows of the input. -/
theorem prod_apply (a : FVec Ideal S1024x704 .bf16) (b : FVec Ideal S1024x1024 .bf16) (q : Fin 704) (d : Fin 1024) :
    matmul (F := Ideal) (φ₁ := .bf16) (φ₂ := .bf16) dot_S1024x704_S1024x1024_S704x1024_0_0_1_1_n_n none a b (constant S704x1024 .f32 0x00000000#32) (ix2 q d)
      = ∑ k : Fin 1024, a (ix2 k q) * b (ix2 k d) := by
  pointwise

/-- One chunk of the block after a grid point: what was there and the product over the point's rows. -/
theorem slot_apply (x0 : Vec Ideal S1024x1024 .bf16) (x1 : Vec Ideal S4x1024x704 .bf16) (a : Vec Ideal S4x704x1024 .f32) (j : Fin 4)
    (u : Fin 1) (q : Fin 704) (d : Fin 1024) :
    slot x0 x1 a j (ix3 u q d) = a (ix3 j q d) + ∑ k : Fin 1024, x1 (ix3 j k q) * x0 (ix2 k d) := by
  unfold slot
  rw [shapeCast_self]
  refine (ValueIdx.shapeCast_ab_1ab_apply _ _ _ _ _).trans ?_
  refine congrArg₂ (· + ·) ((cast3 _ _ _ _).trans (ld3 _ _ _ _ _ _ _ _ _ _ _ (by simp) (by simp) (by simp))) ((prod_apply _ _ q d).trans ?_)
  exact Finset.sum_congr rfl fun k _ => congrArg (· * _) ((cast3 _ _ _ _).trans (ld3 _ _ _ _ _ _ _ _ _ _ _ (by simp) (by simp) (by simp)))

/-- The four chunks laid over anything cover the block. -/
theorem slots_apply (x0 : Vec Ideal S1024x1024 .bf16) (x1 : Vec Ideal S4x1024x704 .bf16) (a : Vec Ideal S4x704x1024 .f32)
    (L : List (View.Piece (Elt Ideal) S4x704x1024 .f32)) (j : Fin 4) (q : Fin 704) (d : Fin 1024) :
    slots x0 x1 a L (ix3 j q d) = a (ix3 j q d) + ∑ k : Fin 1024, x1 (ix3 j k q) * x0 (ix2 k d) := by
  unfold slots
  refine (View.canon_append_of_pieces (fun i => a (ix3 (i 0) (i 1) (i 2)) + ∑ k : Fin 1024, x1 (ix3 (i 0) k (i 1)) * x0 (ix2 k (i 2))) L _ ?_ (ix3 j q d) ?_).trans rfl
  · intro P hP x
    obtain ⟨j, -, rfl⟩ := List.mem_map.1 hP
    obtain ⟨u, q, d, rfl⟩ : ∃ (u : Fin 1) (q : Fin 704) (d : Fin 1024), x = ix3 u q d := ⟨x 0, x 1, x 2, (ix3_eta x).symm⟩
    rw [emb3 _ _ _ _ u q d j q d (by omega) (by omega) (by omega)]
    exact slot_apply x0 x1 a j u q d
  · refine ⟨_, List.mem_map.2 ⟨j, (by revert j; decide : j ∈ ([3, 2, 1, 0] : List (Fin 4))), rfl⟩, (Rect.mem_set_unit (inb := inb j)).2 fun x => ?_⟩
    match x with
    | ⟨0, _⟩ => exact ⟨le_refl _, Nat.lt_succ_self _⟩
    | ⟨1, _⟩ => exact ⟨Nat.zero_le _, (Nat.zero_add 704).symm ▸ q.isLt⟩
    | ⟨2, _⟩ => exact ⟨Nat.zero_le _, (Nat.zero_add 1024).symm ▸ d.isLt⟩

/-! ### The blocks as rows of the arguments -/

/-- The group of rows the input's block holds at a point. -/
theorem idx0 : ∀ t : Fin cfg0.N, win0_0.index t = ![t.val % 8, 0] := (by decide +kernel : ∀ t : Fin grid0.N, win0_0.index t = ![t.val % 8, 0])
/-- The half and the group the cotangent's block holds at a point. -/
theorem idx1 : ∀ t : Fin cfg0.N, win0_1.index t = ![t.val / 8, t.val % 8, 0] := (by decide +kernel : ∀ t : Fin grid0.N, win0_1.index t = ![t.val / 8, t.val % 8, 0])
/-- The half the gradient's block holds at a point. -/
theorem idx2 : ∀ t : Fin cfg0.N, win0_2.index t = ![t.val / 8, 0, 0] := (by decide +kernel : ∀ t : Fin grid0.N, win0_2.index t = ![t.val / 8, 0, 0])
/-- The grid has sixteen points. -/
theorem N_eq : cfg0.N = 16 := N_0

/-- The input, cast, is the argument. -/
theorem v0 (s : Fin 8192) (d : Fin 1024) :
    (V m c main_v0 : Vec Ideal S8192x1024 .bf16) (ix2 s d) = (m ((c : Thread nD τ).loc main_arg0) : Vec Ideal S8192x1024 .f32) (ix2 s d) := by
  after_reads_at
/-- The cotangent by chunks: chunk `j`, row `s`, lane `q` is the argument at row `s` and column `704 j + q`. -/
theorem v3 (j : Fin 8) (s : Fin 8192) (q : Fin 704) :
    (V m c main_v3 : Vec Ideal S8x8192x704 .bf16) (ix3 j s q) = (m ((c : Thread nD τ).loc main_arg2) : Vec Ideal S8192x5632 .f32) (ix2 s (lane j q)) := by
  after_reads_at
  pointwise
  rfl

/-- The cotangent's entry at a row and a lane. -/
def ctAt (s : Fin 8192) (l : Fin 5632) : EReal := (m ((c : Thread nD τ).loc main_arg2) : Vec Ideal S8192x5632 .f32) (ix2 s l)
/-- The normalised input's entry at a row and a column. -/
def hAt (s : Fin 8192) (d : Fin 1024) : EReal := (m ((c : Thread nD τ).loc main_arg0) : Vec Ideal S8192x1024 .f32) (ix2 s d)
/-- Row `s`'s term of the gradient at chunk `j`, lane `q`, input column `d`. -/
def term (j : Fin 8) (q : Fin 704) (d : Fin 1024) (s : Fin 8192) : EReal := ctAt m c s (lane j q) * hAt m c s d

/-- The input's block at a point is its group of rows. -/
theorem iblk0 (t : Fin cfg0.N) (k d : Fin 1024) (s : Fin 8192) (hs : s.val = 1024 * (t.val % 8) + k.val) :
    (iblk m c 0 t : Vec Ideal S1024x1024 .bf16) (ix2 k d) = hAt m c s d := by
  unfold hAt
  rw [← v0 m c]
  unfold iblk
  rw [View.read_apply]
  show V m c main_v0 _ = _
  congr 1; funext a; apply Fin.ext
  match a with
  | ⟨0, _⟩ => show win0_0.index t 0 * 1024 + 1 * k.val = s.val; rw [idx0]; show t.val % 8 * 1024 + _ = _; omega
  | ⟨1, _⟩ => show win0_0.index t 1 * 1024 + 1 * d.val = d.val; rw [idx0]; show 0 * 1024 + _ = _; omega

/-- The cotangent's block at a point is its half's chunks of its group of rows. -/
theorem iblk1 (t : Fin cfg0.N) (q : Fin 4) (k : Fin 1024) (r : Fin 704) (j : Fin 8) (s : Fin 8192)
    (hj : j.val = 4 * (t.val / 8) + q.val) (hs : s.val = 1024 * (t.val % 8) + k.val) :
    (iblk m c 1 t : Vec Ideal S4x1024x704 .bf16) (ix3 q k r) = ctAt m c s (lane j r) := by
  unfold ctAt
  rw [← v3 m c]
  unfold iblk
  rw [View.read_apply]
  show V m c main_v3 _ = _
  congr 1; funext a; apply Fin.ext
  match a with
  | ⟨0, _⟩ => show win0_1.index t 0 * 4 + 1 * q.val = j.val; rw [idx1]; show t.val / 8 * 4 + _ = _; omega
  | ⟨1, _⟩ => show win0_1.index t 1 * 1024 + 1 * k.val = s.val; rw [idx1]; show t.val % 8 * 1024 + _ = _; omega
  | ⟨2, _⟩ => show win0_1.index t 2 * 704 + 1 * r.val = r.val; rw [idx1]; show 0 * 704 + _ = _; omega

/-- The sum of the rows done up to the `n`-th group of 1024 of a function of rows. -/
def upTo (n : ℕ) (f : Fin 8192 → EReal) : EReal := ∑ i ∈ Finset.range (n + 1), ∑ k : Fin 1024, f (Fin.ofNat 8192 (1024 * i + k.val))

/-- After the last group every row is done. -/
theorem upTo_last (f : Fin 8192 → EReal) : upTo 7 f = ∑ s, f s := by
  unfold upTo
  rw [← Fin.sum_mul_add_fin 8 1024 f, Finset.sum_range]
  refine Finset.sum_congr rfl fun i _ => Finset.sum_congr rfl fun k _ => congrArg f (Fin.ext ?_)
  show (1024 * i.val + k.val) % 8192 = i.val * 1024 + k.val
  omega

/-- One point's product is the sum of its rows' terms. -/
theorem point_sum (t : Fin cfg0.N) (q : Fin 4) (r : Fin 704) (d : Fin 1024) (j : Fin 8) (hj : j.val = 4 * (t.val / 8) + q.val) :
    (∑ k : Fin 1024, (show Vec Ideal S4x1024x704 .bf16 from iblk m c 1 t) (ix3 q k r) * (show Vec Ideal S1024x1024 .bf16 from iblk m c 0 t) (ix2 k d))
      = ∑ k : Fin 1024, term m c j r d (Fin.ofNat 8192 (1024 * (t.val % 8) + k.val)) := by
  refine Finset.sum_congr rfl fun k _ => ?_
  have hs : (Fin.ofNat 8192 (1024 * (t.val % 8) + k.val)).val = 1024 * (t.val % 8) + k.val := by
    show _ % 8192 = _
    omega
  exact congrArg₂ (fun a b : EReal => a * b) (iblk1 m c t q k r j _ hj hs) (iblk0 m c t k d _ hs)

/-- The first group's rows over the zero fill. -/
theorem first_sum (j : Fin 8) (q : Fin 4) (r : Fin 704) (d : Fin 1024) :
    k0_pay3 (F := Ideal) (ix3 q r d) + ∑ k : Fin 1024, term m c j r d (Fin.ofNat 8192 (1024 * 0 + k.val)) = upTo 0 (term m c j r d) := by
  rw [show k0_pay3 (F := Ideal) (ix3 q r d) = 0 by unfold k0_pay3; pointwise]
  unfold upTo
  simp only [zero_add, Finset.sum_range_one]

/-- After a point the block holds the sums over the groups of rows done so far. -/
theorem inv : ∀ (n : ℕ) (hn : n < cfg0.N) (q : Fin 4) (r : Fin 704) (d : Fin 1024) (j : Fin 8) (hj : j.val = 4 * (n / 8) + q.val),
    outsAt0 m c n hn (ix3 q r d) = upTo (n % 8) (term m c j r d) := by
  intro n
  induction n with
  | zero =>
    intro hn q r d j hj
    rw [outsAt0_A m c ⟨0, hn⟩ (by exact Nat.zero_mod 8), outA_eq, slots_apply, point_sum m c ⟨0, hn⟩ q r d j hj]
    · exact first_sum m c j q r d
    · exact Nat.zero_mod 8
  | succ n ih =>
    intro hn q r d j hj
    by_cases h0 : (n + 1) % 8 = 0
    · rw [outsAt0_A m c ⟨n + 1, hn⟩ (by exact h0), outA_eq, slots_apply, point_sum m c ⟨n + 1, hn⟩ q r d j hj]
      · rw [h0]
        exact first_sum m c j q r d
      · exact h0
    · have e : (n + 1) % 8 = n % 8 + 1 := by omega
      rw [outsAt0_B m c ⟨n + 1, hn⟩ h0, outB_eq, slots_apply, point_sum m c ⟨n + 1, hn⟩ q r d j hj]
      refine (congrArg (· + _) (ih _ q r d j (by omega))).trans ?_
      show _ + ∑ k : Fin 1024, term m c j r d (Fin.ofNat 8192 (1024 * ((n + 1) % 8) + k.val)) = _
      rw [e]
      unfold upTo
      exact (Finset.sum_range_succ _ _).symm

/-- The gradient: at chunk `j`, lane `q`, input column `d` the sum over the rows of the cotangent times the input. -/
def grad : Vec Ideal S8x704x1024 .f32 := fun i => ∑ s, term m c (i 0) (i 1) (i 2) s

/-- The gradient after the run. -/
theorem arr : (dats m 0 c).arrAt 2 cfg0.N = grad m c := by
  refine (dats m 0 c).arrAt_eq_of_covers 2 _ (by decide +kernel) fun t hf y => ?_
  have ht : t.val % 8 = 7 := (flush0_2 t).1 hf
  have e0 : ((win0_2.blk t).view.emb y 0 : Fin 8).val = 4 * (t.val / 8) + (y 0).val := by
    blk_simp; rw [idx2]; show t.val / 8 * 4 + (y 0).val = _; omega
  have e1 : ((win0_2.blk t).view.emb y 1 : Fin 704) = y 1 := Fin.ext (by blk_simp; rw [idx2]; show 0 * 704 + (y 1).val = (y 1).val; omega)
  have e2 : ((win0_2.blk t).view.emb y 2 : Fin 1024) = y 2 := Fin.ext (by blk_simp; rw [idx2]; show 0 * 1024 + (y 2).val = (y 2).val; omega)
  show (dats m 0 c).after 2 t y = ∑ s, term m c ((win0_2.blk t).view.emb y 0) ((win0_2.blk t).view.emb y 1) ((win0_2.blk t).view.emb y 2) s
  rw [after0_2, e1, e2, ← upTo_last, ← ht]
  exact (congrArg _ (eq_ix3 y)).trans (inv m c t.val t.isLt (y 0) (y 1) (y 2) _ e0)

end Cert.Kernel2Ideal.Own

namespace Cert.Reference2Ideal.Own
open Cert.Reference2Ideal Cert.Reference2Ideal.Gen Cert.Reference2Ideal.Read Idealize.ShloMosaic Idealize.ShloMosaic.TcCoe Idealize.SL.Sem
open Cert.Own.Spec (lane)

/-- The reference's gradient at a chunk, a lane and an input column. -/
theorem ref_apply (x0 : (⟨S8192x1024, .f32⟩ : BufTy).Contents (Elt Ideal)) (x2 : (⟨S8192x5632, .f32⟩ : BufTy).Contents (Elt Ideal))
    (j : Fin 8) (q : Fin 704) (d : Fin 1024) :
    val_main_v4 (F := Ideal) x0 x2 (ix3 j q d) = ∑ s : Fin 8192, x2 (ix2 s (lane j q)) * x0 (ix2 s d) := by
  unfold val_main_v4 val_main_v3 val_main_v2 val_main_v1
  pointwise
  rfl

end Cert.Reference2Ideal.Own

namespace Cert.Own
open Idealize.ShloMosaic Idealize.ShloMosaic.TcCoe Idealize.SL.Sem

/-- From agreeing arguments the launch and the reference end with one gradient. -/
theorem algebraic_wgrad : Cert.algebraic_Kernel2Ideal_Reference2Ideal := by
  intro m g m' g' _ hargs
  refine ⟨fun c => Cert.Kernel2Ideal.Own.grad m c, (θ_run _ _ _).mono (fun r h c => ?_) (Cert.Kernel2Ideal.Value.run_blocks m g), ?_⟩
  · exact ⟨(h c).1.trans (Cert.Kernel2Ideal.Own.arr m c), (h c).2⟩
  refine (θ_run _ _ _).mono (fun r h c => ⟨(h c).1.trans ((Cert.Reference2Ideal.Read.val_main_v4_eq _ _).trans ?_), (h c).2⟩)
    (Cert.Reference2Ideal.Value.run (F := Ideal) m' g')
  obtain ⟨a0, _, a2⟩ := hargs c
  rw [a0, a2]
  funext i
  rw [eq_ix3 i]
  exact Cert.Reference2Ideal.Own.ref_apply _ _ (i 0) (i 1) (i 2)

end Cert.Own
-- ==== Proof.FwdTile.lean ====
/-
  One grid point of the forward kernel, in vector operations over the blocks it loads: the norm and modulation, the
  up-projection of each column chunk, its causal convolution over the rows carried from the tile before, the gated
  activation, the down-projection, and the loss of the tile.
-/
module

public import proofs.«01_k».proof.Defs
public import proofs.«01_k».proof.Proof.Gen.Kernel3Ideal.Value
public import proofs.«01_k».proof.Proof.TileValue
public import proofs.«01_k».proof.Proof.Args
public import Idealize.ShloMosaic.Lib.Pipeline.ValueKit
public import Idealize.ShloMosaic.Lib.Pipeline.ValueKit.Acc
public import Idealize.ShloMosaic.Lib.Pipeline.ReadBack
public import Idealize.ShloMosaic.Lib.StableHlo.ReadAt
public import Idealize.ShloMosaic.Lib.ValueLayout
public import Idealize.ShloMosaic.Lib.Pipeline.ValueKit.Tiles
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.Kernel3Ideal.Own

open Cert.Kernel3Ideal Cert.Kernel3Ideal.Gen Idealize.ShloMosaic Idealize.ShloMosaic.TcCoe Idealize.SL.Sem
open Cert.KernelIdeal.Own (inbU inbH inbW inbC inbWU inbWD upRect haloRect shDn1 shDn2 tap0 tap1 tap2 sigT lo8 hi8 belowT redro sumM)

/-- The blocks one grid point loads: input, target, the modulation rows, the two norm gains, the up weight, the
    convolution's taps and bias, and the down weight. -/
structure Ops where
  x : Vec Ideal S256x1024 .f32
  tgt : Vec Ideal S256x1024 .f32
  md : Vec Ideal S6x1024 .f32
  g3 : Vec Ideal S1x1024 .f32
  g4 : Vec Ideal S1x1024 .f32
  wu : Vec Ideal S8x1024x704 .bf16
  cw : Vec Ideal S8x3x704 .f32
  cb : Vec Ideal S8x704 .f32
  wd : Vec Ideal S2816x1024 .bf16

theorem inbA (j : Fin 4) : ∀ a : Fin 3, (![j.val, 0, 0] : Fin 3 → ℕ) a + (![1, 256, 704] : Fin 3 → ℕ) a ≤ S4x256x704.size a := by
  have := j.isLt
  intro a; match a with
  | ⟨0, _⟩ => show j.val + 1 ≤ 4; omega
  | ⟨1, _⟩ => show 0 + 256 ≤ 256; omega
  | ⟨2, _⟩ => show 0 + 704 ≤ 704; omega

abbrev actRect (j : Fin 4) : Rect S4x256x704 := Rect.unit ![j.val, 0, 0] ![1, 256, 704] (inbA j)

variable (O : Ops) (cy : Vec Ideal S8x8x704 .f32)

/-- The normalised and modulated input. -/
def hT : FVec Ideal S256x1024 .bf16 :=
  k0_pay5 O.x (View.ld O.md (Rect.unit ![3, 0] ![1, 1024] inb_S6x1024_S1x1024_3_0))
    (View.ld O.md (Rect.unit ![4, 0] ![1, 1024] inb_S6x1024_S1x1024_4_0)) O.g3

/-- The up-projection of a chunk. -/
def upC (j : Fin 8) : FVec Ideal S256x704 .f32 :=
  matmul (φ₂ := .bf16) dot_S256x1024_S1024x704_S256x704_1_0_0_1_n_n none (hT O)
    (shapeCast S1024x704 (View.ld O.wu (Rect.unit ![j.val, 0, 0] ![1, 1024, 704] (inbWU j)) : Vec Ideal S1x1024x704 .bf16) shapeCasts_S1x1024x704_S1024x704)
    (constant S256x704 .f32 0x00000000#32)

/-- A chunk's taps and bias. -/
def cwC (j : Fin 8) : FVec Ideal S3x704 .f32 :=
  shapeCast S3x704 (View.ld O.cw (Rect.unit ![j.val, 0, 0] ![1, 3, 704] (inbW j)) : Vec Ideal S1x3x704 .f32) shapeCasts_S1x3x704_S3x704
def cbC (j : Fin 8) : FVec Ideal S1x704 .f32 :=
  shapeCast S1x704 (View.ld O.cb (Rect.unit ![j.val, 0] ![1, 704] (inbC j)) : Vec Ideal S1x704 .f32) shapeCasts_S1x704_S1x704

/-- The convolution of a chunk, over the rows carried from the tile before. -/
def yC (j : Fin 8) : FVec Ideal S256x704 .f32 :=
  addf (addf (addf (broadcastTo S256x704 (cbC O j) broadcasts_S1x704_S256x704)
      (mulf (shDn2 (upC O j) (belowT cy j)) (tap0 (cwC O j))))
      (mulf (shDn1 (upC O j) (belowT cy j)) (tap1 (cwC O j))))
    (mulf (upC O j) (tap2 (cwC O j)))

/-- The gated activation of a chunk. -/
def actC (j : Fin 4) : FVec Ideal S256x704 .bf16 :=
  truncf .bf16 (mulf (mulf (yC O cy (lo8 j)) (sigT (yC O cy (lo8 j)))) (yC O cy (hi8 j))) bitsLt_bf16_f32

/-- One chunk's share of the down-projection, added to what the chunks before gave. -/
def fStep (j : Fin 4) (a : FVec Ideal S256x704 .bf16) (acc : FVec Ideal S256x1024 .f32) : FVec Ideal S256x1024 .f32 :=
  addf acc (matmul (φ₂ := .bf16) dot_S256x704_S704x1024_S256x1024_1_0_0_1_n_n none a
    (shapeCast S704x1024 (View.ld O.wd (Rect.unit ![704 * j.val, 0] ![704, 1024] (inbWD j)) : Vec Ideal S704x1024 .bf16) shapeCasts_S704x1024_S704x1024)
    (constant S256x1024 .f32 0x00000000#32))

/-- The down-projection, over the four chunks in order. -/
def fC : FVec Ideal S256x1024 .f32 :=
  ([0, 1, 2, 3] : List (Fin 4)).foldl (fun acc j => fStep O j (actC O cy j) acc) k0_pay6

/-- The error of the sub-layer's result against the target, from the down-projection. -/
def errT (f : FVec Ideal S256x1024 .f32) : FVec Ideal S256x1024 .f32 :=
  subf (addf O.x (mulf
      (broadcastTo S256x1024 (k0_pay4 (View.ld O.md (Rect.unit ![5, 0] ![1, 1024] inb_S6x1024_S1x1024_5_0))) broadcasts_S1x1024_S256x1024)
      (mulf (mulf f (broadcastTo S256x1024 (rsqrt (addf (divf (shapeCast S256x1 (multiReduction .add [1] S256 (mulf f f) 0x00000000#32 reduces_S256x1024_S256 (.inl rfl) rfl) shapeCasts_S256_S256x1)
          (broadcast S256x1 (Scalar.ofBits .f32 0x44800000#32))) (broadcast S256x1 (Scalar.ofBits .f32 0x358637BD#32)))) broadcasts_S256x1_S256x1024))
        (broadcastTo S256x1024 O.g4 broadcasts_S1x1024_S256x1024)))) O.tgt

/-! ### What the body leaves in each buffer -/

/-- The up-projection, all chunks. -/
def out9 : Vec Ideal S8x256x704 .f32 :=
  View.canon (redro.map fun j => ⟨upRect j, shapeCast S1x256x704 (upC O j) shapeCasts_S256x704_S1x256x704⟩)
/-- The activation, all chunks. -/
def out10 : Vec Ideal S4x256x704 .bf16 :=
  View.canon (([3, 2, 1, 0] : List (Fin 4)).map fun j => ⟨actRect j, shapeCast S1x256x704 (actC O cy j) shapeCasts_S256x704_S1x256x704⟩)
/-- The cotangent of the sub-layer's result. -/
def out12 : Vec Ideal S256x1024 .f32 := k0_pay1 (errT O (fC O cy))
/-- The running row of squared errors. -/
def out13 (a : Vec Ideal S1x1024 .f32) : Vec Ideal S1x1024 .f32 := sumM (shapeCast S1x1024 a shapeCasts_S1x1024_S1x1024) (mulf (errT O (fC O cy)) (errT O (fC O cy)))
/-- The rows that the next grid point takes from the tile before. -/
def outS (L : List (View.Piece (Elt Ideal) S8x8x704 .f32)) : Vec Ideal S8x8x704 .f32 :=
  View.canon ((redro.map fun j =>
    ⟨haloRect j, shapeCast S1x8x704 (extractStridedSlice S8x704 ![248, 0] (upC O j) slices_S256x704_o248_0_S8x704) shapeCasts_S8x704_S1x8x704⟩) ++ L)

variable (m : (ℓ : Loc nD τ sig) → Buf (Elt Ideal) ℓ) (c : Dev nD)

/-- The blocks of grid point `t`. -/
def opsAt (t : Fin cfg0.N) : Ops where
  x := iblk m c 0 t
  tgt := iblk m c 1 t
  md := iblk m c 2 t
  g3 := iblk m c 3 t
  g4 := iblk m c 4 t
  wu := iblk m c 5 t
  cw := iblk m c 6 t
  cb := iblk m c 7 t
  wd := iblk m c 8 t

-- every buffer's contents are compared with the tile's functions
set_option maxHeartbeats 4000000

/-- After a later grid point: the tile's results, the running row and the carried rows over what the point before left. -/
theorem atB (t : Fin cfg0.N) (h0 : ¬t.val % 32 = 0) (a : Vec Ideal S1x1024 .f32) (cy : Vec Ideal S8x8x704 .f32)
    (ha : (outsAt0 m c (t.val - 1) (Nat.lt_of_le_of_lt (Nat.sub_le _ _) t.isLt)).2.2.2.2.1 = a)
    (hcy : (outsAt0 m c (t.val - 1) (Nat.lt_of_le_of_lt (Nat.sub_le _ _) t.isLt)).2.2.2.2.2 = cy) :
    outsAt0 m c t.val t.isLt = (out9 (opsAt m c t), out10 (opsAt m c t) cy, fC (opsAt m c t) cy,
      out12 (opsAt m c t) cy, out13 (opsAt m c t) cy a, outS (opsAt m c t) []) := by
  rw [outsAt0_B m c t h0, ha, hcy]
  clear ha hcy
  refine congrArg₂ Prod.mk ?_ (congrArg₂ Prod.mk ?_ (congrArg₂ Prod.mk ?_ (congrArg₂ Prod.mk ?_ (congrArg₂ Prod.mk ?_ ?_))))
  all_goals
    first | unfold out0_B_9 | unfold out0_B_10 | unfold out0_B_11 | unfold out0_B_12 | unfold out0_B_13 | unfold sout0_B_0
    frame_open
    frame_out
    try simp only [read_unread_whole]
    unfold_payloads
    simp only [out9, out10, fC, out12, out13, outS, redro, List.map, List.foldl, List.append_nil, List.cons_append,
      List.nil_append, sumM, errT, fStep, actC, yC, sigT, shDn1, shDn2, tap0, tap1, tap2, upC, hT, cwC, cbC, belowT, opsAt]
    rfl

/-- After the first grid point: the same over zeros. -/
theorem atA (t : Fin cfg0.N) (h0 : t.val % 32 = 0) :
    outsAt0 m c t.val t.isLt = (out9 (opsAt m c t), out10 (opsAt m c t) (k0_pay2 (F := Ideal)), fC (opsAt m c t) (k0_pay2 (F := Ideal)),
      out12 (opsAt m c t) (k0_pay2 (F := Ideal)), out13 (opsAt m c t) (k0_pay2 (F := Ideal)) (k0_pay3 (F := Ideal)),
      outS (opsAt m c t) [⟨Rect.unit ![0, 0, 0] S8x8x704.size inb_S8x8x704_S8x8x704_0_0_0, (k0_pay2 (F := Ideal))⟩]) := by
  rw [outsAt0_A m c t h0]
  refine congrArg₂ Prod.mk ?_ (congrArg₂ Prod.mk ?_ (congrArg₂ Prod.mk ?_ (congrArg₂ Prod.mk ?_ (congrArg₂ Prod.mk ?_ ?_))))
  all_goals
    first | unfold out0_A_9 | unfold out0_A_10 | unfold out0_A_11 | unfold out0_A_12 | unfold out0_A_13 | unfold sout0_A_0
    frame_open
    simp (disch := decide) only [↓View.readCov_skip, ↓View.readCov_fill]
    frame_out
    unfold_payloads
    simp only [out9, out10, fC, out12, out13, outS, redro, List.map, List.foldl, List.append_nil, List.cons_append,
      List.nil_append, sumM, errT, fStep, actC, yC, sigT, shDn1, shDn2, tap0, tap1, tap2, upC, hT, cwC, cbC, belowT, opsAt]
    rfl

end Cert.Kernel3Ideal.Own
end
-- ==== Proof.FwdPoint.lean ====
/-
  The forward tile's functions read at an index: each is the plain formula of the rows it is given, over the whole
  sequence's data.
-/
module

public import proofs.«01_k».proof.Proof.FwdTile

@[expose] public section

set_option maxRecDepth 16384

noncomputable section

namespace Cert.Kernel3Ideal.Own

open Cert.Kernel3Ideal Cert.Kernel3Ideal.Gen Idealize.ShloMosaic Idealize.ShloMosaic.TcCoe Idealize.SL.Sem
open Cert.KernelIdeal.Own (inbU inbH inbW inbC inbWU inbWD upRect haloRect shDn1 shDn2 tap0 tap1 tap2 sigT lo8 hi8 belowT redro sumM)

open Cert.Own Cert.Own.Spec
open Cert.KernelIdeal.Own (ld2 ld3 cast3 cast3' emb3 shDn1_apply shDn2_apply belowT_apply sigT_apply sumM_apply mem_redro)

/-! ### The tile's functions read at an index -/

/-- The gated activation, the sub-layer's result, and its error against the target `T`. -/
def actS (G : Data) (j : Fin 4) (s : ℕ) (q : Fin 704) : EReal := y G (lo j) s q * Ideal.logistic (y G (lo j) s q) * y G (hi j) s q
def x2 (G : Data) (s : ℕ) (d : Fin 1024) : EReal := G.x s d + G.gf d * (hat (G.f s) d * G.g4 d)
def err (G : Data) (T : ℕ → Fin 1024 → EReal) (s : ℕ) (d : Fin 1024) : EReal := x2 G s d - T s d

/-- The blocks `O` are tile `r` of the data `G` and of the target `T`; in these rows the data's up-projection and
    down-projection are the products of the data's own input and activation. -/
structure IsTile (O : Ops) (G : Data) (T : ℕ → Fin 1024 → EReal) (r : ℕ) : Prop where
  x : ∀ p d, O.x (ix2 p d) = G.x (256 * r + p.val) d
  tgt : ∀ p d, O.tgt (ix2 p d) = T (256 * r + p.val) d
  sh : ∀ d, O.md (ix2 3 d) = G.sh d
  sc : ∀ d, O.md (ix2 4 d) = G.sc d
  gf : ∀ d, O.md (ix2 5 d) = G.gf d
  g3 : ∀ d, O.g3 (ix2 0 d) = G.g3 d
  g4 : ∀ d, O.g4 (ix2 0 d) = G.g4 d
  wu : ∀ j d q, O.wu (ix3 j d q) = G.wu j d q
  cw : ∀ j k q, O.cw (ix3 j k q) = G.cw j k q
  cb : ∀ j q, O.cb (ix2 j q) = G.cb j q
  wd : ∀ (j : Fin 4) (q : Fin 704) d, O.wd (ix2 ⟨704 * j + q, by omega⟩ d) = G.wd j q d
  up : ∀ (j : Fin 8) (p : Fin 256) q, G.up j (256 * r + p.val) q = ∑ d, h2 G (256 * r + p.val) d * G.wu j d q
  f : ∀ (p : Fin 256) d, G.f (256 * r + p.val) d = ∑ j, ∑ q, actS G j (256 * r + p.val) q * G.wd j q d

/-- The carried rows are the up-projection's eight rows before tile `r`, zero before the sequence's start. -/
def IsAbove (cy : Vec Ideal S8x8x704 .f32) (G : Data) (r : ℕ) : Prop :=
  ∀ (j : Fin 8) (p : Fin 8) (q : Fin 704), cy (ix3 j p q) = if r = 0 then 0 else G.up j (256 * r + p.val - 8) q

variable {O : Ops} {cy : Vec Ideal S8x8x704 .f32} {G : Data} {T : ℕ → Fin 1024 → EReal} {r : ℕ}

theorem hT_tile (h : IsTile O G T r) (p : Fin 256) (d : Fin 1024) : hT O (ix2 p d) = h2 G (256 * r + p.val) d := by
  have e : hT O (ix2 p d) = hat (fun e => O.x (ix2 p e)) d * O.g3 (ix2 0 d) * (1 + O.md (ix2 4 d)) + O.md (ix2 3 d) := by
    unfold hT hat rms width eps
    unfold_payloads
    pointwise
  rw [e]
  simp only [h.x, h.sc, h.sh, h.g3]
  rfl

theorem upC_tile (h : IsTile O G T r) (j : Fin 8) (p : Fin 256) (q : Fin 704) : upC O j (ix2 p q) = G.up j (256 * r + p.val) q := by
  have hw : (shapeCast S1024x704 (View.ld O.wu (Rect.unit ![j.val, 0, 0] ![1, 1024, 704] (inbWU j)) : Vec Ideal S1x1024x704 .bf16) shapeCasts_S1x1024x704_S1024x704)
      = fun i => O.wu (ix3 j (i 0) (i 1)) := by
    funext i
    obtain ⟨a, b, rfl⟩ : ∃ a b, i = ix2 a b := ⟨i 0, i 1, (ix2_eta i).symm⟩
    exact (cast3 _ _ _ _).trans (ld3 _ _ _ _ _ _ _ _ _ _ _ (by simp) (by simp) (by simp))
  have e : upC O j (ix2 p q) = ∑ d, hT O (ix2 p d) * O.wu (ix3 j d q) := by
    unfold upC
    rw [hw]
    pointwise
  rw [e, h.up]
  simp only [hT_tile h, h.wu]

theorem cwC_apply (j : Fin 8) (k : Fin 3) (q : Fin 704) : cwC O j (ix2 k q) = O.cw (ix3 j k q) := by
  unfold cwC
  exact (cast3 _ _ _ _).trans (ld3 _ _ _ _ _ _ _ _ _ _ _ (by simp) (by simp) (by simp))
theorem cbC_apply (j : Fin 8) (q : Fin 704) : cbC O j (ix2 0 q) = O.cb (ix2 j q) := by
  unfold cbC
  exact (congrFun (shapeCast_self (s := S1x704) _ _) _).trans (ld2 _ _ _ _ _ _ _ _ (by simp) (by simp))

theorem upS2_tile (h : IsTile O G T r) (hc : IsAbove cy G r) (j : Fin 8) (p : Fin 256) (q : Fin 704) :
    shDn2 (upC O j) (belowT cy j) (ix2 p q) = upS G 2 j (256 * r + p.val) q := by
  rw [shDn2_apply]
  unfold upS
  by_cases hp : p.val < 2
  · rw [dif_pos hp, belowT_apply, hc]
    by_cases hr : r = 0
    · rw [if_pos hr, if_pos (by subst hr; omega)]
    · rw [if_neg hr, if_neg (by omega)]
      congr 1
  · rw [dif_neg hp, upC_tile h, if_neg (by omega)]
    congr 1
    show 256 * r + (p.val - 2) = _
    omega

theorem upS1_tile (h : IsTile O G T r) (hc : IsAbove cy G r) (j : Fin 8) (p : Fin 256) (q : Fin 704) :
    shDn1 (upC O j) (belowT cy j) (ix2 p q) = upS G 1 j (256 * r + p.val) q := by
  rw [shDn1_apply]
  unfold upS
  by_cases hp : p.val < 1
  · rw [dif_pos hp, belowT_apply, hc]
    by_cases hr : r = 0
    · rw [if_pos hr, if_pos (by subst hr; omega)]
    · rw [if_neg hr, if_neg (by omega)]
      congr 1
  · rw [dif_neg hp, upC_tile h, if_neg (by omega)]
    congr 1
    show 256 * r + (p.val - 1) = _
    omega

theorem yC_tile (h : IsTile O G T r) (hc : IsAbove cy G r) (j : Fin 8) (p : Fin 256) (q : Fin 704) :
    yC O cy j (ix2 p q) = y G j (256 * r + p.val) q := by
  have e : yC O cy j (ix2 p q) = cbC O j (ix2 0 q) + shDn2 (upC O j) (belowT cy j) (ix2 p q) * cwC O j (ix2 0 q)
      + shDn1 (upC O j) (belowT cy j) (ix2 p q) * cwC O j (ix2 1 q) + upC O j (ix2 p q) * cwC O j (ix2 2 q) := by
    unfold yC tap0 tap1 tap2
    pointwise
  rw [e, upS2_tile h hc, upS1_tile h hc, upC_tile h, cbC_apply, cwC_apply, cwC_apply, cwC_apply, h.cw, h.cw, h.cw, h.cb]
  rfl

theorem actC_tile (h : IsTile O G T r) (hc : IsAbove cy G r) (j : Fin 4) (p : Fin 256) (q : Fin 704) :
    actC O cy j (ix2 p q) = actS G j (256 * r + p.val) q := by
  have e : actC O cy j (ix2 p q) = yC O cy (lo8 j) (ix2 p q) * sigT (yC O cy (lo8 j)) (ix2 p q) * yC O cy (hi8 j) (ix2 p q) := by
    unfold actC
    pointwise
  rw [e, sigT_apply, Scalar.sigmoid_tanh, yC_tile h hc, yC_tile h hc]
  rfl

theorem fStep_apply (j : Fin 4) (a : FVec Ideal S256x704 .bf16) (acc : FVec Ideal S256x1024 .f32) (p : Fin 256) (d : Fin 1024) :
    fStep O j a acc (ix2 p d) = acc (ix2 p d) + ∑ q, a (ix2 p q) * O.wd (ix2 ⟨704 * j + q, by omega⟩ d) := by
  unfold fStep
  pointwise

theorem fC_tile (h : IsTile O G T r) (hc : IsAbove cy G r) (p : Fin 256) (d : Fin 1024) :
    fC O cy (ix2 p d) = G.f (256 * r + p.val) d := by
  rw [h.f]
  unfold fC
  simp only [List.foldl_cons, List.foldl_nil, fStep_apply]
  rw [show (k0_pay6 : FVec Ideal S256x1024 .f32) (ix2 p d) = 0 from by unfold_payloads; pointwise, zero_add, Fin.sum_univ_four]
  simp only [actC_tile h hc]
  have w : ∀ j : Fin 4, ∑ q, actS G j (256 * r + p.val) q * O.wd (ix2 ⟨704 * j + q, by omega⟩ d)
      = ∑ q, actS G j (256 * r + p.val) q * G.wd j q d := fun j => Finset.sum_congr rfl fun q _ => by rw [h.wd]
  exact congrArg₂ (· + ·) (congrArg₂ (· + ·) (congrArg₂ (· + ·) (w 0) (w 1)) (w 2)) (w 3)

theorem errT_tile (h : IsTile O G T r) (hc : IsAbove cy G r) (p : Fin 256) (d : Fin 1024) :
    errT O (fC O cy) (ix2 p d) = err G T (256 * r + p.val) d := by
  have e : ∀ f : FVec Ideal S256x1024 .f32, errT O f (ix2 p d)
      = O.x (ix2 p d) + O.md (ix2 5 d) * (hat (fun e => f (ix2 p e)) d * O.g4 (ix2 0 d)) - O.tgt (ix2 p d) := by
    intro f
    unfold errT hat rms width eps
    unfold_payloads
    pointwise
  rw [e]
  simp only [fC_tile h hc, h.x, h.gf, h.g4, h.tgt]
  rfl

/-! ### The blocks a grid point writes -/

theorem out12_tile (h : IsTile O G T r) (hc : IsAbove cy G r) (p : Fin 256) (d : Fin 1024) :
    out12 O cy (ix2 p d) = err G T (256 * r + p.val) d * Ideal.ofBits .f32 0x3A800000#32 := by
  rw [← errT_tile h hc]
  unfold out12
  generalize errT O (fC O cy) = v
  unfold_payloads
  pointwise

theorem out13_tile (h : IsTile O G T r) (hc : IsAbove cy G r) (a : Vec Ideal S1x1024 .f32) (d : Fin 1024) :
    out13 O cy a (ix2 0 d) = a (ix2 0 d) + ∑ p : Fin 256, err G T (256 * r + p.val) d * err G T (256 * r + p.val) d := by
  unfold out13
  refine (sumM_apply _ _ d).trans ?_
  simp only [mulf_apply, errT_tile h hc]
  exact congrArg (· + _) (congrFun (shapeCast_self (s := S1x1024) _ _) _)

/-- The chunk of the up-projection. -/
theorem out9_tile (h : IsTile O G T r) (j : Fin 8) (p : Fin 256) (q : Fin 704) :
    out9 O (ix3 j p q) = G.up j (256 * r + p.val) q := by
  unfold out9
  rw [← List.append_nil (List.map _ redro)]
  refine (View.canon_append_of_pieces (fun i => G.up (i 0) (256 * r + (i 1).val) (i 2)) [] _ ?_ (ix3 j p q) ?_).trans rfl
  · intro P hP x
    obtain ⟨j, -, rfl⟩ := List.mem_map.1 hP
    obtain ⟨a, p, q, rfl⟩ : ∃ (a : Fin 1) (p : Fin 256) (q : Fin 704), x = ix3 a p q := ⟨x 0, x 1, x 2, (ix3_eta x).symm⟩
    rw [emb3 _ _ _ _ a p q j p q (by omega) (by omega) (by omega)]
    exact ((ValueIdx.shapeCast_ab_1ab_apply _ _ _ _ _).trans (upC_tile h j p q))
  · refine ⟨_, List.mem_map.2 ⟨j, mem_redro j, rfl⟩, (Rect.mem_set_unit (inb := inbU j)).2 fun x => ?_⟩
    match x with
    | ⟨0, _⟩ => exact ⟨le_refl _, Nat.lt_succ_self _⟩
    | ⟨1, _⟩ => exact ⟨Nat.zero_le _, (Nat.zero_add 256).symm ▸ p.isLt⟩
    | ⟨2, _⟩ => exact ⟨Nat.zero_le _, (Nat.zero_add 704).symm ▸ q.isLt⟩

/-- The chunk of the activation. -/
theorem out10_tile (h : IsTile O G T r) (hc : IsAbove cy G r) (j : Fin 4) (p : Fin 256) (q : Fin 704) :
    out10 O cy (ix3 j p q) = actS G j (256 * r + p.val) q := by
  unfold out10
  rw [← List.append_nil (List.map _ _)]
  refine (View.canon_append_of_pieces (fun i => actS G (i 0) (256 * r + (i 1).val) (i 2)) [] _ ?_ (ix3 j p q) ?_).trans rfl
  · intro P hP x
    obtain ⟨j, -, rfl⟩ := List.mem_map.1 hP
    obtain ⟨a, p, q, rfl⟩ : ∃ (a : Fin 1) (p : Fin 256) (q : Fin 704), x = ix3 a p q := ⟨x 0, x 1, x 2, (ix3_eta x).symm⟩
    rw [emb3 _ _ _ _ a p q j p q (by omega) (by omega) (by omega)]
    exact ((ValueIdx.shapeCast_ab_1ab_apply _ _ _ _ _).trans (actC_tile h hc j p q))
  · refine ⟨_, List.mem_map.2 ⟨j, (by revert j; decide : ∀ j : Fin 4, j ∈ ([3, 2, 1, 0] : List (Fin 4))) j, rfl⟩, (Rect.mem_set_unit (inb := inbA j)).2 fun x => ?_⟩
    match x with
    | ⟨0, _⟩ => exact ⟨le_refl _, Nat.lt_succ_self _⟩
    | ⟨1, _⟩ => exact ⟨Nat.zero_le _, (Nat.zero_add 256).symm ▸ p.isLt⟩
    | ⟨2, _⟩ => exact ⟨Nat.zero_le _, (Nat.zero_add 704).symm ▸ q.isLt⟩

/-- The carried rows for the next grid point: the tile's last eight rows. -/
theorem outS_tile (h : IsTile O G T r) (L : List (View.Piece (Elt Ideal) S8x8x704 .f32)) : IsAbove (outS O L) G (r + 1) := by
  intro j p q
  rw [if_neg (by omega)]
  unfold outS
  refine (View.canon_append_of_pieces (fun i => G.up (i 0) (256 * (r + 1) + (i 1).val - 8) (i 2)) L _ ?_ (ix3 j p q) ?_).trans rfl
  · intro P hP x
    obtain ⟨j, -, rfl⟩ := List.mem_map.1 hP
    obtain ⟨a, p, q, rfl⟩ : ∃ (a : Fin 1) (p : Fin 8) (q : Fin 704), x = ix3 a p q := ⟨x 0, x 1, x 2, (ix3_eta x).symm⟩
    rw [emb3 _ _ _ _ a p q j p q (by omega) (by omega) (by omega)]
    show shapeCast S1x8x704 (extractStridedSlice S8x704 ![248, 0] (upC O j) slices_S256x704_o248_0_S8x704) shapeCasts_S8x704_S1x8x704 (ix3 a p q) = _
    refine (cast3' (e := .f32) _ shapeCasts_S8x704_S1x8x704 a p q).trans ?_
    refine Eq.trans (congrArg (upC O j) ?_) ((upC_tile h j ⟨248 + p.val, by omega⟩ q).trans ?_)
    · funext x
      match x with
      | ⟨0, _⟩ => rfl
      | ⟨1, _⟩ => exact Fin.ext (Nat.zero_add _)
    · exact congrArg (fun s => G.up j s q) (by show 256 * r + (248 + p.val) = 256 * (r + 1) + p.val - 8; omega)
  · refine ⟨_, List.mem_map.2 ⟨j, mem_redro j, rfl⟩, (Rect.mem_set_unit (inb := inbH j)).2 fun x => ?_⟩
    match x with
    | ⟨0, _⟩ => exact ⟨le_refl _, Nat.lt_succ_self _⟩
    | ⟨1, _⟩ => exact ⟨Nat.zero_le _, (Nat.zero_add 8).symm ▸ p.isLt⟩
    | ⟨2, _⟩ => exact ⟨Nat.zero_le _, (Nat.zero_add 704).symm ▸ q.isLt⟩

end Cert.Kernel3Ideal.Own
end
-- ==== Proof.FwdFold.lean ====
/-
  The forward kernel's grid: 32 tiles of 256 positions from the first to the last. Each window's block is a tile of the
  data of the arguments. After each point the carried rows are the up-projection's last eight rows of the tile, and the
  loss row holds the squared errors summed over the rows done so far. So the arrays the run leaves are the plain formulas.
-/
module

public import proofs.«01_k».proof.Proof.FwdPoint
public import proofs.«01_k».proof.Proof.Scalar

@[expose] public section

set_option maxRecDepth 16384

noncomputable section

namespace Cert.Kernel3Ideal.Own

open Cert.Kernel3Ideal Cert.Kernel3Ideal.Gen Idealize.ShloMosaic Idealize.ShloMosaic.TcCoe Idealize.SL.Sem
open Cert.Own
open Cert.Own.Spec (Data lane lane4)

variable (m : (ℓ : Loc nD τ sig) → Buf (Elt Ideal) ℓ) (c : Dev nD)

/-- The arguments as launched; the forward pass takes no cotangent. -/
def args : Spec.Args where
  x s d := (m ((c : Thread nD τ).loc main_arg0) : Vec Ideal S8192x1024 .f32) (ix2 s d)
  sh d := (m ((c : Thread nD τ).loc main_arg2) : Vec Ideal S1x1024 .f32) (ix2 0 d)
  sc d := (m ((c : Thread nD τ).loc main_arg3) : Vec Ideal S1x1024 .f32) (ix2 0 d)
  gf d := (m ((c : Thread nD τ).loc main_arg4) : Vec Ideal S1x1024 .f32) (ix2 0 d)
  g3 d := (m ((c : Thread nD τ).loc main_arg5) : Vec Ideal S1x1024 .f32) (ix2 0 d)
  g4 d := (m ((c : Thread nD τ).loc main_arg6) : Vec Ideal S1x1024 .f32) (ix2 0 d)
  wu d l := (m ((c : Thread nD τ).loc main_arg7) : Vec Ideal S1024x5632 .f32) (ix2 d l)
  cw k l := (m ((c : Thread nD τ).loc main_arg8) : Vec Ideal S3x5632 .f32) (ix2 k l)
  cb l := (m ((c : Thread nD τ).loc main_arg9) : Vec Ideal S1x5632 .f32) (ix2 0 l)
  wd l d := (m ((c : Thread nD τ).loc main_arg10) : Vec Ideal S2816x1024 .f32) (ix2 l d)
  ct _ _ := 0

/-- A target's row at a position, zero out of range. -/
def rowT (X : Vec Ideal S8192x1024 .f32) (s : ℕ) (d : Fin 1024) : EReal := if h : s < 8192 then X (ix2 ⟨s, h⟩ d) else 0

/-- The target as launched. -/
abbrev tgtAt : ℕ → Fin 1024 → EReal := rowT (m ((c : Thread nD τ).loc main_arg1))

theorem x_at (s : ℕ) (h : s < 8192) (d : Fin 1024) : (m ((c : Thread nD τ).loc main_arg0) : Vec Ideal S8192x1024 .f32) (ix2 ⟨s, h⟩ d)
    = (Spec.data (args m c)).x s d := (congrFun (Spec.x_data (args m c) ⟨s, h⟩) d).symm

/-! ### The arrays the host lays out -/

theorem v0_3 (d : Fin 1024) : (V m c main_v0 : Vec Ideal S6x1024 .f32) (ix2 3 d) = (args m c).sh d := by
  after_reads_at
  rfl
theorem v0_4 (d : Fin 1024) : (V m c main_v0 : Vec Ideal S6x1024 .f32) (ix2 4 d) = (args m c).sc d := by
  after_reads_at
  rfl
theorem v0_5 (d : Fin 1024) : (V m c main_v0 : Vec Ideal S6x1024 .f32) (ix2 5 d) = (args m c).gf d := by
  after_reads_at
  rfl
theorem v3 (j : Fin 8) (d : Fin 1024) (q : Fin 704) : (V m c main_v3 : Vec Ideal S8x1024x704 .bf16) (ix3 j d q) = (args m c).wu d (lane j q) := by
  after_reads_at
  rfl
theorem v5 (j : Fin 8) (k : Fin 3) (q : Fin 704) : (V m c main_v5 : Vec Ideal S8x3x704 .f32) (ix3 j k q) = (args m c).cw k (lane j q) := by
  after_reads_at
  rfl
theorem v6 (j : Fin 8) (q : Fin 704) : (V m c main_v6 : Vec Ideal S8x704 .f32) (ix2 j q) = (args m c).cb (lane j q) := by
  after_reads_at
  rfl
theorem v7 (l : Fin 2816) (d : Fin 1024) : (V m c main_v7 : Vec Ideal S2816x1024 .bf16) (ix2 l d) = (args m c).wd l d := by
  after_reads_at
  rfl

/-! ### Each window's block -/

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, t.val, 0] := (by decide +kernel : ∀ t : Fin grid0.N, win0_9.index t = ![0, t.val, 0])
theorem idx10 : ∀ t : Fin cfg0.N, win0_10.index t = ![0, t.val, 0] := (by decide +kernel : ∀ t : Fin grid0.N, win0_10.index t = ![0, t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![0, 0] := (by decide +kernel : ∀ t : Fin grid0.N, win0_13.index t = ![0, 0])

theorem N_eq : cfg0.N = 32 := by decide

theorem in_range (t : Fin cfg0.N) (p : Fin 256) : 256 * t.val + p.val < 8192 := by
  have := Nat.lt_of_lt_of_eq t.isLt N_eq
  omega

theorem iblk0 (t : Fin cfg0.N) (p : Fin 256) (d : Fin 1024) :
    (iblk m c 0 t : Vec Ideal S256x1024 .f32) (ix2 p d) = (Spec.data (args m c)).x (256 * t.val + p.val) d := by
  rw [← x_at m c _ (in_range t p)]
  unfold iblk
  rw [View.read_apply]
  show V m c main_arg0 _ = _
  rw [V_main_arg0]
  congr 1; funext a; apply Fin.ext
  match a with
  | ⟨0, _⟩ => show win0_0.index t 0 * 256 + 1 * p.val = 256 * t.val + p.val; rw [idx0]; show t.val * 256 + _ = _; omega
  | ⟨1, _⟩ => show win0_0.index t 1 * 1024 + 1 * d.val = d.val; rw [idx0]; show 0 * 1024 + _ = _; omega

theorem iblk1 (t : Fin cfg0.N) (p : Fin 256) (d : Fin 1024) :
    (iblk m c 1 t : Vec Ideal S256x1024 .f32) (ix2 p d) = tgtAt m c (256 * t.val + p.val) d := by
  unfold tgtAt rowT
  rw [dif_pos (in_range t p)]
  unfold iblk
  rw [View.read_apply]
  show V m c main_arg1 _ = _
  rw [V_main_arg1]
  congr 1; funext a; apply Fin.ext
  match a with
  | ⟨0, _⟩ => show win0_1.index t 0 * 256 + 1 * p.val = 256 * t.val + p.val; rw [idx1]; show t.val * 256 + _ = _; omega
  | ⟨1, _⟩ => show win0_1.index t 1 * 1024 + 1 * d.val = d.val; rw [idx1]; show 0 * 1024 + _ = _; omega

theorem iblk2 (t : Fin cfg0.N) : (iblk m c 2 t : Vec Ideal S6x1024 .f32) = V m c main_v0 := by
  funext i
  unfold iblk
  rw [View.read_apply]
  show V m c main_v0 _ = V m c main_v0 _
  congr 1; funext a; apply Fin.ext
  match a with
  | ⟨0, _⟩ => show win0_2.index t 0 * 6 + 1 * (i 0).val = _; rw [idx2]; show 0 * 6 + 1 * (i 0).val = (i 0).val; omega
  | ⟨1, _⟩ => show win0_2.index t 1 * 1024 + 1 * (i 1).val = _; rw [idx2]; show 0 * 1024 + 1 * (i 1).val = (i 1).val; omega

theorem iblk3 (t : Fin cfg0.N) : (iblk m c 3 t : Vec Ideal S1x1024 .f32) = m ((c : Thread nD τ).loc main_arg5) := by
  rw [← V_main_arg5 m c]
  funext i
  unfold iblk
  rw [View.read_apply]
  show V m c main_arg5 _ = V m c main_arg5 _
  congr 1; funext a; apply Fin.ext
  match a with
  | ⟨0, _⟩ => show win0_3.index t 0 * 1 + 1 * (i 0).val = _; rw [idx3]; show 0 * 1 + 1 * (i 0).val = (i 0).val; omega
  | ⟨1, _⟩ => show win0_3.index t 1 * 1024 + 1 * (i 1).val = _; rw [idx3]; show 0 * 1024 + 1 * (i 1).val = (i 1).val; omega

theorem iblk4 (t : Fin cfg0.N) : (iblk m c 4 t : Vec Ideal S1x1024 .f32) = m ((c : Thread nD τ).loc main_arg6) := by
  rw [← V_main_arg6 m c]
  funext i
  unfold iblk
  rw [View.read_apply]
  show V m c main_arg6 _ = V m c main_arg6 _
  congr 1; funext a; apply Fin.ext
  match a with
  | ⟨0, _⟩ => show win0_4.index t 0 * 1 + 1 * (i 0).val = _; rw [idx4]; show 0 * 1 + 1 * (i 0).val = (i 0).val; omega
  | ⟨1, _⟩ => show win0_4.index t 1 * 1024 + 1 * (i 1).val = _; rw [idx4]; show 0 * 1024 + 1 * (i 1).val = (i 1).val; omega

theorem iblk5 (t : Fin cfg0.N) : (iblk m c 5 t : Vec Ideal S8x1024x704 .bf16) = V m c main_v3 := by
  funext i
  unfold iblk
  rw [View.read_apply]
  show V m c main_v3 _ = V m c main_v3 _
  congr 1; funext a; apply Fin.ext
  match a with
  | ⟨0, _⟩ => show win0_5.index t 0 * 8 + 1 * (i 0).val = _; rw [idx5]; show 0 * 8 + 1 * (i 0).val = (i 0).val; omega
  | ⟨1, _⟩ => show win0_5.index t 1 * 1024 + 1 * (i 1).val = _; rw [idx5]; show 0 * 1024 + 1 * (i 1).val = (i 1).val; omega
  | ⟨2, _⟩ => show win0_5.index t 2 * 704 + 1 * (i 2).val = _; rw [idx5]; show 0 * 704 + 1 * (i 2).val = (i 2).val; omega

theorem iblk6 (t : Fin cfg0.N) : (iblk m c 6 t : Vec Ideal S8x3x704 .f32) = V m c main_v5 := by
  funext i
  unfold iblk
  rw [View.read_apply]
  show V m c main_v5 _ = V m c main_v5 _
  congr 1; funext a; apply Fin.ext
  match a with
  | ⟨0, _⟩ => show win0_6.index t 0 * 8 + 1 * (i 0).val = _; rw [idx6]; show 0 * 8 + 1 * (i 0).val = (i 0).val; omega
  | ⟨1, _⟩ => show win0_6.index t 1 * 3 + 1 * (i 1).val = _; rw [idx6]; show 0 * 3 + 1 * (i 1).val = (i 1).val; omega
  | ⟨2, _⟩ => show win0_6.index t 2 * 704 + 1 * (i 2).val = _; rw [idx6]; show 0 * 704 + 1 * (i 2).val = (i 2).val; omega

theorem iblk7 (t : Fin cfg0.N) : (iblk m c 7 t : Vec Ideal S8x704 .f32) = V m c main_v6 := by
  funext i
  unfold iblk
  rw [View.read_apply]
  show V m c main_v6 _ = V m c main_v6 _
  congr 1; funext a; apply Fin.ext
  match a with
  | ⟨0, _⟩ => show win0_7.index t 0 * 8 + 1 * (i 0).val = _; rw [idx7]; show 0 * 8 + 1 * (i 0).val = (i 0).val; omega
  | ⟨1, _⟩ => show win0_7.index t 1 * 704 + 1 * (i 1).val = _; rw [idx7]; show 0 * 704 + 1 * (i 1).val = (i 1).val; omega

theorem iblk8 (t : Fin cfg0.N) : (iblk m c 8 t : Vec Ideal S2816x1024 .bf16) = V m c main_v7 := by
  funext i
  unfold iblk
  rw [View.read_apply]
  show V m c main_v7 _ = V m c main_v7 _
  congr 1; funext a; apply Fin.ext
  match a with
  | ⟨0, _⟩ => show win0_8.index t 0 * 2816 + 1 * (i 0).val = _; rw [idx8]; show 0 * 2816 + 1 * (i 0).val = (i 0).val; omega
  | ⟨1, _⟩ => show win0_8.index t 1 * 1024 + 1 * (i 1).val = _; rw [idx8]; show 0 * 1024 + 1 * (i 1).val = (i 1).val; omega

/-- The up-projection at a tile's row is the product of the row's normalised input with the weight. -/
theorem up_row (A : Spec.Args) (j : Fin 8) (s : Fin 8192) (q : Fin 704) :
    (Spec.data A).up j s.val q = ∑ d, Spec.h2 (Spec.data A) s.val d * (Spec.data A).wu j d q := by
  rw [Spec.up_data]
  unfold Spec.upRow Spec.hRow Spec.h2
  rw [Spec.x_data]
  rfl

/-- The down-projection at a row is the product of the row's activation with the weight. -/
theorem f_row (A : Spec.Args) (s : Fin 8192) (d : Fin 1024) :
    (Spec.data A).f s.val d = ∑ j, ∑ q, actS (Spec.data A) j s.val q * (Spec.data A).wd j q d := by
  rw [Spec.f_data]
  unfold Spec.fRow Spec.act actS
  rw [Spec.y_data]
  rfl

theorem wd_at (t : Fin cfg0.N) (j : Fin 4) (q : Fin 704) (d : Fin 1024) :
    (iblk m c 8 t : Vec Ideal S2816x1024 .bf16) (ix2 ⟨704 * j + q, by omega⟩ d) = (Spec.data (args m c)).wd j q d := by
  rw [iblk8, v7]
  exact congrArg (fun l => (args m c).wd l d) (Fin.ext (show 704 * j.val + q.val = j.val * 704 + q.val by omega))

/-- The blocks of a grid point are its tile of the arguments' data and of the target. -/
theorem tile (t : Fin cfg0.N) : IsTile (opsAt m c t) (Spec.data (args m c)) (tgtAt m c) t.val := by
  constructor
  · intro p d; exact iblk0 m c t p d
  · intro p d; exact iblk1 m c t p d
  · intro d; exact (congrFun (iblk2 m c t) _).trans (v0_3 m c d)
  · intro d; exact (congrFun (iblk2 m c t) _).trans (v0_4 m c d)
  · intro d; exact (congrFun (iblk2 m c t) _).trans (v0_5 m c d)
  · intro d; exact congrFun (iblk3 m c t) _
  · intro d; exact congrFun (iblk4 m c t) _
  · intro j d q; exact (congrFun (iblk5 m c t) _).trans (v3 m c j d q)
  · intro j d q; exact (congrFun (iblk6 m c t) _).trans (v5 m c j d q)
  · intro j q; exact (congrFun (iblk7 m c t) _).trans (v6 m c j q)
  · intro j q d; exact wd_at m c t j q d
  · intro j p q; exact up_row (args m c) j ⟨256 * t.val + p.val, in_range t p⟩ q
  · intro p d; exact f_row (args m c) ⟨256 * t.val + p.val, in_range t p⟩ d

/-! ### What the grid points leave -/

/-- The sum of the rows done up to the `n`-th tile of a function of rows. -/
def upTo (n : ℕ) (f : ℕ → EReal) : EReal := ∑ i ∈ Finset.range (n + 1), ∑ p : Fin 256, f (256 * i + p.val)

/-- After the last tile every row is done. -/
theorem upTo_last (f : ℕ → EReal) : upTo 31 f = ∑ s : Fin 8192, f s.val := by
  unfold upTo
  rw [← Fin.sum_mul_add_fin 32 256 (fun s : Fin 8192 => f s.val), Finset.sum_range]
  exact Finset.sum_congr rfl fun i _ => Finset.sum_congr rfl fun p _ => by rw [Nat.mul_comm]

/-- A row's squared error in a column. -/
abbrev sq (d : Fin 1024) (s : ℕ) : EReal := err (Spec.data (args m c)) (tgtAt m c) s d * err (Spec.data (args m c)) (tgtAt m c) s d

/-- What holds of a point's written-out blocks, its loss row and its carried rows. -/
structure Left (n : ℕ) (o : Vec Ideal S8x256x704 .f32 × Vec Ideal S4x256x704 .bf16 × Vec Ideal S256x1024 .f32 × Vec Ideal S256x1024 .f32 × Vec Ideal S1x1024 .f32 × Vec Ideal S8x8x704 .f32) : Prop where
  up : ∀ j p q, o.1 (ix3 j p q) = (Spec.data (args m c)).up j (256 * n + p.val) q
  act : ∀ j p q, o.2.1 (ix3 j p q) = actS (Spec.data (args m c)) j (256 * n + p.val) q
  f : ∀ p d, o.2.2.1 (ix2 p d) = (Spec.data (args m c)).f (256 * n + p.val) d
  dx : ∀ p d, o.2.2.2.1 (ix2 p d) = err (Spec.data (args m c)) (tgtAt m c) (256 * n + p.val) d * Ideal.ofBits .f32 0x3A800000#32
  loss : ∀ d, o.2.2.2.2.1 (ix2 0 d) = upTo n (sq m c d)
  above : IsAbove o.2.2.2.2.2 (Spec.data (args m c)) (n + 1)

/-- A point after which the tile's functions stand leaves the plain formulas. -/
theorem left_of (t : Fin cfg0.N) (a : Vec Ideal S1x1024 .f32) (cy : Vec Ideal S8x8x704 .f32) (L : List (View.Piece (Elt Ideal) S8x8x704 .f32))
    (hc : IsAbove cy (Spec.data (args m c)) t.val)
    (ha : ∀ d, a (ix2 0 d) + ∑ p : Fin 256, sq m c d (256 * t.val + p.val) = upTo t.val (sq m c d)) :
    Left m c t.val (out9 (opsAt m c t), out10 (opsAt m c t) cy, fC (opsAt m c t) cy, out12 (opsAt m c t) cy, out13 (opsAt m c t) cy a, outS (opsAt m c t) L) := by
  have h := tile m c t
  generalize opsAt m c t = O at h ⊢
  constructor
  · intro j p q; dsimp only; exact out9_tile h j p q
  · intro j p q; dsimp only; exact out10_tile h hc j p q
  · intro p d; dsimp only; exact fC_tile h hc p d
  · intro p d; dsimp only; exact out12_tile h hc p d
  · intro d; dsimp only; exact (out13_tile h hc a d).trans (ha d)
  · dsimp only; exact outS_tile h L

/-- Every point leaves them. -/
theorem left : ∀ (n : ℕ) (hn : n < cfg0.N), Left m c n (outsAt0 m c n hn) := by
  intro n
  induction n with
  | zero =>
    intro hn
    rw [atA m c ⟨0, hn⟩ (by exact Nat.zero_mod 32)]
    refine left_of m c ⟨0, hn⟩ _ _ _ (fun j p q => ?_) fun d => ?_
    · rw [if_pos rfl]
      unfold k0_pay2
      pointwise
    · rw [show k0_pay3 (F := Ideal) (ix2 0 d) = 0 by unfold k0_pay3; pointwise]
      unfold upTo
      simp only [zero_add, Finset.sum_range_one]
  | succ n ih =>
    intro hn
    have h := ih (by omega)
    have h0 : ¬(n + 1) % 32 = 0 := by have := Nat.lt_of_lt_of_eq hn N_eq; omega
    rw [atB m c ⟨n + 1, hn⟩ h0 _ _ rfl rfl]
    refine left_of m c ⟨n + 1, hn⟩ _ _ _ h.above fun d => ?_
    refine (congrArg (· + _) (h.loss d)).trans ?_
    unfold upTo
    exact (Finset.sum_range_succ _ _).symm

/-! ### The arrays the run leaves -/

/-- The up-projection, the gated activation, the down-projection, the loss's cotangent of the result, and the squared
    errors summed over the positions. -/
def res0 (A : Spec.Args) : Vec Ideal S8x8192x704 .f32 := fun i => (Spec.data A).up (i 0) (i 1).val (i 2)
def res1 (A : Spec.Args) : Vec Ideal S4x8192x704 .bf16 := fun i => actS (Spec.data A) (i 0) (i 1).val (i 2)
def res2 (A : Spec.Args) : Vec Ideal S8192x1024 .f32 := fun i => (Spec.data A).f (i 0).val (i 1)
def res3 (A : Spec.Args) (X : Vec Ideal S8192x1024 .f32) : Vec Ideal S8192x1024 .f32 := fun i =>
  err (Spec.data A) (rowT X) (i 0).val (i 1) * Ideal.ofBits .f32 0x3A800000#32
def res4 (A : Spec.Args) (X : Vec Ideal S8192x1024 .f32) : Vec Ideal S1x1024 .f32 := fun i =>
  ∑ s : Fin 8192, err (Spec.data A) (rowT X) s.val (i 1) * err (Spec.data A) (rowT X) s.val (i 1)

theorem arr9 : (dats m 0 c).arrAt 9 cfg0.N = res0 (args m c) := by
  refine (dats m 0 c).arrAt_eq_of_covers 9 _ (by decide +kernel) fun t hf y => ?_
  have e0 : ((win0_9.blk t).view.emb y 0 : Fin 8) = y 0 := Fin.ext (by blk_simp; rw [idx9]; show 0 * 8 + (y 0).val = (y 0).val; omega)
  have e2 : ((win0_9.blk t).view.emb y 2 : Fin 704) = y 2 := Fin.ext (by blk_simp; rw [idx9]; show 0 * 704 + (y 2).val = (y 2).val; omega)
  unfold res0
  blk_simp
  rw [after0_9, e0, e2, show win0_9.index t 1 * 256 + (y 1).val = 256 * t.val + (y 1).val from by rw [idx9]; show t.val * 256 + _ = _; omega]
  exact (congrArg _ (eq_ix3 y)).trans ((left m c t.val t.isLt).up (y 0) (y 1) (y 2))

theorem arr10 : (dats m 0 c).arrAt 10 cfg0.N = res1 (args m c) := by
  refine (dats m 0 c).arrAt_eq_of_covers 10 _ (by decide +kernel) fun t hf y => ?_
  have e0 : ((win0_10.blk t).view.emb y 0 : Fin 4) = y 0 := Fin.ext (by blk_simp; rw [idx10]; show 0 * 4 + (y 0).val = (y 0).val; omega)
  have e2 : ((win0_10.blk t).view.emb y 2 : Fin 704) = y 2 := Fin.ext (by blk_simp; rw [idx10]; show 0 * 704 + (y 2).val = (y 2).val; omega)
  unfold res1
  blk_simp
  rw [after0_10, e0, e2, show win0_10.index t 1 * 256 + (y 1).val = 256 * t.val + (y 1).val from by rw [idx10]; show t.val * 256 + _ = _; omega]
  exact (congrArg _ (eq_ix3 y)).trans ((left m c t.val t.isLt).act (y 0) (y 1) (y 2))

theorem arr11 : (dats m 0 c).arrAt 11 cfg0.N = res2 (args m c) := by
  refine (dats m 0 c).arrAt_eq_of_covers 11 _ (by decide +kernel) fun t hf y => ?_
  have e1 : ((win0_11.blk t).view.emb y 1 : Fin 1024) = y 1 := Fin.ext (by blk_simp; rw [idx11]; show 0 * 1024 + (y 1).val = (y 1).val; omega)
  unfold res2
  blk_simp
  rw [after0_11, e1, show win0_11.index t 0 * 256 + (y 0).val = 256 * t.val + (y 0).val from by rw [idx11]; show t.val * 256 + _ = _; omega]
  exact (congrArg _ (eq_ix2 y)).trans ((left m c t.val t.isLt).f (y 0) (y 1))

theorem arr12 : (dats m 0 c).arrAt 12 cfg0.N = res3 (args m c) (m ((c : Thread nD τ).loc main_arg1)) := by
  refine (dats m 0 c).arrAt_eq_of_covers 12 _ (by decide +kernel) fun t hf y => ?_
  have e1 : ((win0_12.blk t).view.emb y 1 : Fin 1024) = y 1 := Fin.ext (by blk_simp; rw [idx12]; show 0 * 1024 + (y 1).val = (y 1).val; omega)
  unfold res3
  blk_simp
  rw [after0_12, e1, show win0_12.index t 0 * 256 + (y 0).val = 256 * t.val + (y 0).val from by rw [idx12]; show t.val * 256 + _ = _; omega]
  exact (congrArg _ (eq_ix2 y)).trans ((left m c t.val t.isLt).dx (y 0) (y 1))

theorem arr13 : (dats m 0 c).arrAt 13 cfg0.N = res4 (args m c) (m ((c : Thread nD τ).loc main_arg1)) := by
  refine (dats m 0 c).arrAt_eq_of_covers 13 _ (by decide +kernel) fun t hf y => ?_
  have ht : t.val = 31 := by have := (flush0_13 t).1 hf; have := Nat.lt_of_lt_of_eq t.isLt N_eq; omega
  have e1 : ((win0_13.blk t).view.emb y 1 : Fin 1024) = y 1 := Fin.ext (by blk_simp; rw [idx13]; show 0 * 1024 + (y 1).val = (y 1).val; omega)
  unfold res4
  blk_simp
  rw [after0_13, e1]
  refine (congrArg _ ((eq_ix2 y).trans (congrArg (fun r : Fin 1 => ix2 r (y 1)) (Subsingleton.elim (α := Fin 1) (y 0) 0)))).trans (((left m c t.val t.isLt).loss (y 1)).trans ?_)
  rw [ht]
  exact upTo_last _

end Cert.Kernel3Ideal.Own
end
-- ==== Proof.FwdRef.lean ====
/-
  The forward reference's stages read at an index, and its five results against the kernel's arrays. No side condition:
  both take the same sums; the loss's cotangent differs only in how the constants are multiplied.
-/
module

public import proofs.«01_k».proof.Proof.FwdFold
public import proofs.«01_k».proof.Proof.Norm
public import proofs.«01_k».proof.Proof.Gen.Reference3Ideal.Run
public import proofs.«01_k».proof.Proof.Gen.Reference3Ideal.Read

@[expose] public section

set_option maxRecDepth 16384

noncomputable section

namespace Cert.Reference3Ideal.Own

open Cert.Reference3Ideal Cert.Reference3Ideal.Gen Cert.Reference3Ideal.Read Idealize.ShloMosaic Idealize.ShloMosaic.TcCoe Idealize.SL.Sem
open Cert.Own
open Cert.Kernel3Ideal.Own (actS err rowT res0 res1 res2 res3 res4)

variable (x0 x1 : (⟨S8192x1024, .f32⟩ : BufTy).Contents (Elt Ideal)) (x2 x3 x4 x5 x6 : (⟨S1x1024, .f32⟩ : BufTy).Contents (Elt Ideal))
  (x7 : (⟨S1024x5632, .f32⟩ : BufTy).Contents (Elt Ideal)) (x8 : (⟨S3x5632, .f32⟩ : BufTy).Contents (Elt Ideal))
  (x9 : (⟨S1x5632, .f32⟩ : BufTy).Contents (Elt Ideal)) (x10 : (⟨S2816x1024, .f32⟩ : BufTy).Contents (Elt Ideal))

/-- The reference's arguments. -/
def rargs : Spec.Args where
  x s d := x0 (ix2 s d)
  sh d := x2 (ix2 0 d)
  sc d := x3 (ix2 0 d)
  gf d := x4 (ix2 0 d)
  g3 d := x5 (ix2 0 d)
  g4 d := x6 (ix2 0 d)
  wu d l := x7 (ix2 d l)
  cw k l := x8 (ix2 k l)
  cb l := x9 (ix2 0 l)
  wd l d := x10 (ix2 l d)
  ct _ _ := 0

/-- The normalised and modulated input. -/
theorem r7 (s : Fin 8192) : val_main_v7 (F := Ideal) x0 (ix2 s 0) = Spec.rms (fun d => x0 (ix2 s d)) := by
  unfold val_main_v7 val_main_v6 val_main_v5 val_main_v4 val_main_v3 val_main_v2 val_main_v1 val_main_v0 val_main_cst_1 val_main_cst_0 val_main_cst
  pointwise
  rfl
theorem r17 (s : Fin 8192) (d : Fin 1024) : val_main_v17 (F := Ideal) x0 x2 x3 x5 (ix2 s d) = Spec.hRow (rargs x0 x2 x3 x4 x5 x6 x7 x8 x9 x10) s d := by
  unfold val_main_v17 val_main_v16 val_main_v15 val_main_v14 val_main_v13 val_main_v12 val_main_v11 val_main_v10 val_main_v9 val_main_v8 val_main_cst_2
  pointwise
  rw [r7]
  rfl
/-- The up-projection. -/
theorem r18 (s : Fin 8192) (l : Fin 5632) : val_main_v18 (F := Ideal) x0 x2 x3 x5 x7 (ix2 s l) = Spec.upRow (rargs x0 x2 x3 x4 x5 x6 x7 x8 x9 x10) s l := by
  unfold val_main_v18
  pointwise
  simp only [r17 x0 x2 x3 x4 x5 x6 x7 x8 x9 x10]
  rfl

/-- A column of the value's half. -/
theorem hi_lane (j : Fin 4) (q : Fin 704) (h : 2816 + (Spec.lane4 j q).val < 5632) : (⟨2816 + (Spec.lane4 j q).val, h⟩ : Fin 5632) = Spec.lane (Spec.hi j) q :=
  Fin.ext (show 2816 + (j.val * 704 + q.val) = (j.val + 4) * 704 + q.val by omega)

/-- The convolution of the gate's half. -/
theorem r45 (s : Fin 8192) (j : Fin 4) (q : Fin 704) :
    val_main_v45 (F := Ideal) x0 x2 x3 x5 x7 x8 x9 (ix2 s (Spec.lane4 j q)) = Spec.y (Spec.data (rargs x0 x2 x3 x4 x5 x6 x7 x8 x9 x10)) (Spec.lo j) s.val q := by
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_cst_3
  rw [Spec.y_flat]
  pointwise
  simp only [r18 x0 x2 x3 x4 x5 x6 x7 x8 x9 x10]
  rfl
/-- The convolution of the value's half. -/
theorem r72 (s : Fin 8192) (j : Fin 4) (q : Fin 704) :
    val_main_v72 (F := Ideal) x0 x2 x3 x5 x7 x8 x9 (ix2 s (Spec.lane4 j q)) = Spec.y (Spec.data (rargs x0 x2 x3 x4 x5 x6 x7 x8 x9 x10)) (Spec.hi j) s.val q := by
  unfold val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_cst_4
  rw [Spec.y_flat]
  pointwise
  simp only [r18 x0 x2 x3 x4 x5 x6 x7 x8 x9 x10, hi_lane]
  rfl
/-- The gated activation. -/
theorem r74 (s : Fin 8192) (j : Fin 4) (q : Fin 704) :
    val_main_v74 (F := Ideal) x0 x2 x3 x5 x7 x8 x9 (ix2 s (Spec.lane4 j q)) = actS (Spec.data (rargs x0 x2 x3 x4 x5 x6 x7 x8 x9 x10)) j s.val q := by
  unfold val_main_v74 val_main_v73 val_main_call0_v5 val_main_call0_v4 val_main_call0_cst_0 val_main_call0_v3 val_main_call0_v2 val_main_call0_cst val_main_call0_v1 val_main_call0_v0
  pointwise
  rw [r45 x0 x2 x3 x4 x5 x6 x7 x8 x9 x10, r72 x0 x2 x3 x4 x5 x6 x7 x8 x9 x10]
  rfl
/-- The down-projection. -/
theorem r75 (s : Fin 8192) (d : Fin 1024) : val_main_v75 (F := Ideal) x0 x2 x3 x5 x7 x8 x9 x10 (ix2 s d) = (Spec.data (rargs x0 x2 x3 x4 x5 x6 x7 x8 x9 x10)).f s.val d := by
  rw [Cert.Kernel3Ideal.Own.f_row]
  unfold val_main_v75
  pointwise
  rw [Spec.sum_lane4]
  refine Finset.sum_congr rfl fun j _ => Finset.sum_congr rfl fun q _ => ?_
  rw [r74 x0 x2 x3 x4 x5 x6 x7 x8 x9 x10]
  rfl
theorem r83 (s : Fin 8192) : val_main_v83 (F := Ideal) x0 x2 x3 x5 x7 x8 x9 x10 (ix2 s 0) = Spec.rms ((Spec.data (rargs x0 x2 x3 x4 x5 x6 x7 x8 x9 x10)).f s.val) := by
  unfold val_main_v83 val_main_v82 val_main_v81 val_main_v80 val_main_v79 val_main_v78 val_main_v77 val_main_v76 val_main_cst_5 val_main_cst_6 val_main_cst_7
  pointwise
  simp only [r75 x0 x2 x3 x4 x5 x6 x7 x8 x9 x10]
  rfl
/-- The sub-layer's result. -/
theorem r90 (s : Fin 8192) (d : Fin 1024) : val_main_v90 (F := Ideal) x0 x2 x3 x4 x5 x6 x7 x8 x9 x10 (ix2 s d) = Cert.Kernel3Ideal.Own.x2 (Spec.data (rargs x0 x2 x3 x4 x5 x6 x7 x8 x9 x10)) s.val d := by
  unfold val_main_v90 val_main_v89 val_main_v88 val_main_v87 val_main_v86 val_main_v85 val_main_v84
  pointwise
  rw [r83 x0 x2 x3 x4 x5 x6 x7 x8 x9 x10, r75 x0 x2 x3 x4 x5 x6 x7 x8 x9 x10]
  unfold Cert.Kernel3Ideal.Own.x2
  rw [Spec.x_data]
  rfl
/-- Its error against the target. -/
theorem r91 (s : Fin 8192) (d : Fin 1024) : val_main_v91 (F := Ideal) x0 x1 x2 x3 x4 x5 x6 x7 x8 x9 x10 (ix2 s d) = err (Spec.data (rargs x0 x2 x3 x4 x5 x6 x7 x8 x9 x10)) (rowT x1) s.val d := by
  unfold val_main_v91
  pointwise
  rw [r90]
  unfold err rowT
  rw [dif_pos s.isLt]
theorem r111 (s : Fin 8192) (d : Fin 1024) : val_main_v111 (F := Ideal) x0 x1 x2 x3 x4 x5 x6 x7 x8 x9 x10 (ix2 s d) = err (Spec.data (rargs x0 x2 x3 x4 x5 x6 x7 x8 x9 x10)) (rowT x1) s.val d :=
  r91 x0 x1 x2 x3 x4 x5 x6 x7 x8 x9 x10 s d

/-- The constants of the mean's derivative: a half over the width, times two, is a thousand and twenty-fourth. -/
theorem consts (e : EReal) : Ideal.div (Ideal.ofBits .f32 0x3F000000#32) (Ideal.ofBits .f32 0x44800000#32) * (Ideal.ofBits .f32 0x40000000#32 * e)
    = e * Ideal.ofBits .f32 0x3A800000#32 := by
  have h1 : Ideal.ofBits .f32 0x40000000#32 = ((2 : ℝ) : EReal) := by simp [Ideal.ofBits, Ideal.ieee, -EReal.coe_mul]; norm_num
  have h2 : Ideal.ofBits .f32 0x3A800000#32 = ((1 / 1024 : ℝ) : EReal) := by simp [Ideal.ofBits, Ideal.ieee, -EReal.coe_mul]; norm_num
  have h3 : Ideal.ofBits .f32 0x44800000#32 = ((1024 : ℝ) : EReal) := Scalar.width_eq
  rw [Scalar.half_eq, h1, h2, h3, Ideal.div_coe (by norm_num), ← mul_assoc, ← EReal.coe_mul, ← EReal.coe_mul, mul_comm]
  congr 2
  norm_num

/-! ### The five results -/

theorem ref0 : val_main_v107 (F := Ideal) x0 x2 x3 x5 x7 = res0 (rargs x0 x2 x3 x4 x5 x6 x7 x8 x9 x10) := by
  funext i
  rw [eq_ix3 i]
  unfold val_main_v107 val_main_v106
  pointwise
  exact (r18 x0 x2 x3 x4 x5 x6 x7 x8 x9 x10 (i 1) (Spec.lane (i 0) (i 2))).trans (Spec.up_data (rargs x0 x2 x3 x4 x5 x6 x7 x8 x9 x10) (i 0) (i 1) (i 2)).symm
theorem ref1 : val_main_v110 (F := Ideal) x0 x2 x3 x5 x7 x8 x9 = res1 (rargs x0 x2 x3 x4 x5 x6 x7 x8 x9 x10) := by
  funext i
  rw [eq_ix3 i]
  unfold val_main_v110 val_main_v109 val_main_v108
  pointwise
  exact r74 x0 x2 x3 x4 x5 x6 x7 x8 x9 x10 (i 1) (i 0) (i 2)
theorem ref2 : val_main_v75 (F := Ideal) x0 x2 x3 x5 x7 x8 x9 x10 = res2 (rargs x0 x2 x3 x4 x5 x6 x7 x8 x9 x10) := by
  funext i
  rw [eq_ix2 i]
  exact r75 x0 x2 x3 x4 x5 x6 x7 x8 x9 x10 (i 0) (i 1)
theorem ref3 : val_main_v105 (F := Ideal) x0 x1 x2 x3 x4 x5 x6 x7 x8 x9 x10 = res3 (rargs x0 x2 x3 x4 x5 x6 x7 x8 x9 x10) x1 := by
  funext i
  obtain ⟨s, d, rfl⟩ : ∃ (s : Fin 8192) (d : Fin 1024), i = ix2 s d := ⟨i 0, i 1, eq_ix2 i⟩
  unfold val_main_v105 val_main_v104 val_main_v103 val_main_v102 val_main_v101 val_main_v100 val_main_v94 val_main_v93 val_main_cst_8 val_main_cst_13 val_main_cst_14 val_main_cst_15
  pointwise
  rw [r91]
  exact consts _
theorem ref4 : val_main_v114 (F := Ideal) x0 x1 x2 x3 x4 x5 x6 x7 x8 x9 x10 = res4 (rargs x0 x2 x3 x4 x5 x6 x7 x8 x9 x10) x1 := by
  funext i
  obtain ⟨d, rfl⟩ : ∃ d : Fin 1024, i = ix2 0 d :=
    ⟨i 1, (eq_ix2 i).trans (congrArg (fun a : Fin 1 => ix2 a (i 1)) (Subsingleton.elim _ _))⟩
  unfold val_main_v114 val_main_v113 val_main_v112 val_main_cst_16
  pointwise
  simp only [r111]
  rfl

end Cert.Reference3Ideal.Own

namespace Cert.Own
open Idealize.ShloMosaic Idealize.ShloMosaic.TcCoe Idealize.SL.Sem
open Cert.Kernel3Ideal.Own (res0 res1 res2 res3 res4)

/-- From agreeing arguments the forward kernel and the reference end with equal results. -/
theorem algebraic_fwd : Cert.algebraic_Kernel3Ideal_Reference3Ideal := by
  intro m g m' g' _ hargs
  refine ⟨fun c => res0 (Cert.Kernel3Ideal.Own.args m c), fun c => res1 (Cert.Kernel3Ideal.Own.args m c), fun c => res2 (Cert.Kernel3Ideal.Own.args m c),
    fun c => res3 (Cert.Kernel3Ideal.Own.args m c) (m ((c.tc : Thread Cert.Kernel3Ideal.nD Cert.Kernel3Ideal.τ).loc Cert.Kernel3Ideal.main_arg1)),
    fun c => res4 (Cert.Kernel3Ideal.Own.args m c) (m ((c.tc : Thread Cert.Kernel3Ideal.nD Cert.Kernel3Ideal.τ).loc Cert.Kernel3Ideal.main_arg1)),
    (θ_run _ _ _).mono (fun r h c => ?_) (Cert.Kernel3Ideal.Value.run_blocks m g), ?_⟩
  · obtain ⟨h0, h1, h2, h3, h4, ha⟩ := h c
    exact ⟨h0.trans (Cert.Kernel3Ideal.Own.arr9 m c), h1.trans (Cert.Kernel3Ideal.Own.arr10 m c), h2.trans (Cert.Kernel3Ideal.Own.arr11 m c),
      h3.trans (Cert.Kernel3Ideal.Own.arr12 m c), h4.trans (Cert.Kernel3Ideal.Own.arr13 m c), ha⟩
  refine (θ_run _ _ _).mono (fun r h c => ?_) (Cert.Reference3Ideal.Value.run (F := Ideal) m' g')
  obtain ⟨h0, h1, h2, h3, h4, ha⟩ := h c
  obtain ⟨a0, a1, a2, a3, a4, a5, a6, a7, a8, a9, a10⟩ := hargs c
  have hR : Cert.Reference3Ideal.Own.rargs (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) = Cert.Kernel3Ideal.Own.args m c := by
    rw [a0, a2, a3, a4, a5, a6, a7, a8, a9, a10]
    rfl
  dsimp only
  rw [← hR, ← a1]
  exact ⟨(h0.trans (Cert.Reference3Ideal.Read.val_main_v107_eq _)).trans (Cert.Reference3Ideal.Own.ref0 _ _ _ _ _ _ _ _ _ _),
    (h1.trans (Cert.Reference3Ideal.Read.val_main_v110_eq _)).trans (Cert.Reference3Ideal.Own.ref1 _ _ _ _ _ _ _ _ _ _),
    (h2.trans (Cert.Reference3Ideal.Read.val_main_v75_eq _)).trans (Cert.Reference3Ideal.Own.ref2 _ _ _ _ _ _ _ _ _ _),
    (h3.trans (Cert.Reference3Ideal.Read.val_main_v105_eq _)).trans (Cert.Reference3Ideal.Own.ref3 _ _ _ _ _ _ _ _ _ _ _),
    (h4.trans (Cert.Reference3Ideal.Read.val_main_v114_eq _)).trans (Cert.Reference3Ideal.Own.ref4 _ _ _ _ _ _ _ _ _ _ _),
    ha⟩

end Cert.Own
end
-- ==== Proof.Update.lean ====
/-
  The optimiser's launch, over two weights at a time beside the modulation's: from agreeing arguments each launch and its
  reference end with the same results. The steps of the weights are one text on both sides, once the host's constants,
  quotients and square roots are read as the kernel's. Two results are not: the gradient of the modulation's weight, which
  the reference has as the transpose of the product the other way round (`grad_eq`), and the loss, half of a 1024th of a
  sum against a 2048th of it (`half_mean`, `loss_eq`). The two are proved at the first pair of weights; the other launches
  have the same texts for them.
-/
module

public import proofs.«01_k».proof.Defs
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import Idealize.ShloMosaic.Lib.Pipeline.ValueKit
public import Idealize.ShloMosaic.Lib.StableHlo.ReadAt
public import Idealize.ShloMosaic.Lib.ValueLayout
public import Idealize.ShloMosaic.Lib.Pointwise.Tactic
public import Idealize.ShloMosaic.Lib.Pointwise.Reshape
public import Idealize.ShloMosaic.Lib.Pointwise.Contract
public import Idealize.ShloMosaic.Lib.Pointwise.Reduce
public import Idealize.ShloMosaic.Lib.Pointwise.Select

@[expose] public section

set_option maxRecDepth 16384

noncomputable section

namespace Cert.Own.Update

open Cert.Kernel4Ideal Cert.Kernel4Ideal.Gen Idealize.ShloMosaic Idealize.ShloMosaic.TcCoe Idealize.SL.Sem
open Cert.Reference4Ideal.Read (val_main_v2 val_main_v2_apply val_main_v1_apply val_main_v78 val_main_v75_apply)

/-- A constant laid over a whole array by the host is the kernel's. -/
theorem splat {s u : Shape} (d : Fin u.rank → Fin s.rank) (h : u.BroadcastsInDim s d) (b : BitVec 32) :
    broadcastInDim s d h (constant (F := Ideal) u .f32 b) = broadcast s (Scalar.ofBits (F := Ideal) .f32 b) := rfl

/-- Over the extended reals the host's quotient is the kernel's. -/
theorem quotient {s : Shape} (x y : FVec Ideal s .f32) : Host.divf x y = divf x y := rfl

/-- Over the extended reals the host's square root is the kernel's. -/
theorem root {s : Shape} (x : FVec Ideal s .f32) : Host.sqrt x = sqrt x := rfl

/-- The kernel's gradient of the modulation's weight: the product over the sixteen rows. -/
theorem grad_apply (a : Vec Ideal S16x1024 .f32) (b : Vec Ideal S16x768 .f32) (p : Fin 1024) (q : Fin 768) :
    k0_pay8 (F := Ideal) a b (ix2 p q) = ∑ k : Fin 16, a (ix2 k p) * b (ix2 k q) := by
  unfold k0_pay8
  pointwise

/-- The reference's gradient of the modulation's weight is the kernel's: its factors the other way round, transposed. -/
theorem grad_eq (a : Vec Ideal S16x1024 .f32) (b : Vec Ideal S16x768 .f32) : val_main_v2 (F := Ideal) a b = k0_pay8 (F := Ideal) a b := by
  funext i
  obtain ⟨p, q, rfl⟩ : ∃ (p : Fin 1024) (q : Fin 768), i = ix2 p q := ⟨i 0, i 1, eq_ix2 i⟩
  rw [val_main_v2_apply, val_main_v1_apply]
  refine Eq.trans ?_ (grad_apply a b p q).symm
  refine Finset.sum_congr rfl fun k _ => (mul_comm _ _).trans ?_
  refine congrArg₂ (· * ·) (congrArg a ?_) (congrArg b ?_) <;>
    (funext x; match x with | ⟨0, _⟩ => rfl | ⟨1, _⟩ => rfl)

/-- The kernel's loss: the sum of the lanes over 2048. -/
theorem loss_apply (x : Vec Ideal S1x1024 .f32) (i : S1x1.Idx) :
    k0_pay1 (F := Ideal) x i = (∑ j : S1x1024.Idx, x j) * Ideal.ofBits .f32 0x3A000000#32 := by
  unfold k0_pay1
  exact congrArg (· * Ideal.ofBits .f32 0x3A000000#32)
    (Ideal.multiReduction_add_total x _ reduces_S1x1024_S1 (fun b => by fin_cases b; rfl) _ _ _)

/-- A 2048th of a sum is half of its 1024th, also when the sum is infinite. -/
theorem half_mean (x : EReal) : x * Ideal.ofBits .f32 0x3A000000#32
    = Ideal.ofBits .f32 0x3F000000#32 * Ideal.div (Ideal.ofBits .f32 0x00000000#32 + x) (Ideal.ofBits .f32 0x44800000#32) := by
  have h1 : Ideal.ofBits .f32 0x3F000000#32 = ((1 / 2 : ℝ) : EReal) := by simp [Ideal.ofBits, Ideal.ieee, -EReal.coe_mul]; norm_num
  have h2 : Ideal.ofBits .f32 0x3A000000#32 = ((1 / 2048 : ℝ) : EReal) := by simp [Ideal.ofBits, Ideal.ieee, -EReal.coe_mul]; norm_num
  have h3 : Ideal.ofBits .f32 0x44800000#32 = ((1024 : ℝ) : EReal) := by simp [Ideal.ofBits, Ideal.ieee, -EReal.coe_mul]; norm_num
  have h0 : Ideal.ofBits .f32 0x00000000#32 = 0 := by simp [Ideal.ofBits, Ideal.ieee]
  rw [h0, h1, h2, h3, zero_add, Ideal.div_coe (by norm_num), mul_left_comm, ← EReal.coe_mul]
  congr 2
  norm_num

/-- The reference's loss is the kernel's. -/
theorem loss_eq (x : Vec Ideal S1x1024 .f32) : val_main_v78 (F := Ideal) x = k0_pay1 (F := Ideal) x := by
  funext i
  rw [loss_apply, half_mean]
  exact congrArg (fun z => Ideal.ofBits .f32 0x3F000000#32 * Ideal.div z (Ideal.ofBits .f32 0x44800000#32)) (val_main_v75_apply x _)

end Cert.Own.Update

namespace Cert.Own

open Idealize.ShloMosaic Idealize.ShloMosaic.TcCoe Idealize.SL.Sem Cert.Own.Update

/-- From agreeing arguments the launch over `w_in` and `w_out` and its reference end with the same results. -/
theorem algebraic_update : Cert.algebraic_Kernel4Ideal_Reference4Ideal := by
  intro m g m' g' _ hargs
  refine ⟨_, _, _, _, _, _, _, _, _, _, _, _, _, Cert.Kernel4Ideal.Value.run m g, ?_⟩
  refine (θ_run _ _ _).mono (fun r h c => ?_) (Cert.Reference4Ideal.Value.run (F := Ideal) m' g')
  have a := hargs c
  have e := h c
  rw [Cert.Reference4Ideal.Read.val_main_v2_eq, Cert.Reference4Ideal.Read.val_main_v78_eq] at e
  simp only [a, grad_eq, loss_eq, splat, quotient, root] at e
  simp only [a]
  exact e

/-- From agreeing arguments the launch over `b_ada` and a gain and its reference end with the same results. -/
theorem algebraic_update_b_ada : Cert.algebraic_Kernel5Ideal_Reference5Ideal := by
  intro m g m' g' _ hargs
  refine ⟨_, _, _, _, _, _, _, _, _, _, _, _, _, Cert.Kernel5Ideal.Value.run m g, ?_⟩
  refine (θ_run _ _ _).mono (fun r h c => ?_) (Cert.Reference5Ideal.Value.run (F := Ideal) m' g')
  have a := hargs c
  have e := h c
  rw [Cert.Reference5Ideal.Read.val_main_v2_eq, Cert.Reference5Ideal.Read.val_main_v78_eq] at e
  simp only [a,
    show ∀ a b, Cert.Reference5Ideal.Read.val_main_v2 (F := Ideal) a b = Cert.Kernel5Ideal.Gen.k0_pay8 (F := Ideal) a b from grad_eq,
    show ∀ x, Cert.Reference5Ideal.Read.val_main_v78 (F := Ideal) x = Cert.Kernel5Ideal.Gen.k0_pay1 (F := Ideal) x from loss_eq, splat, quotient, root] at e
  simp only [a]
  exact e

/-- From agreeing arguments the launch over `w_spatial` and `b_spatial` and its reference end with the same results. -/
theorem algebraic_update_spatial : Cert.algebraic_Kernel6Ideal_Reference6Ideal := by
  intro m g m' g' _ hargs
  refine ⟨_, _, _, _, _, _, _, _, _, _, _, _, _, Cert.Kernel6Ideal.Value.run m g, ?_⟩
  refine (θ_run _ _ _).mono (fun r h c => ?_) (Cert.Reference6Ideal.Value.run (F := Ideal) m' g')
  have a := hargs c
  have e := h c
  rw [Cert.Reference6Ideal.Read.val_main_v2_eq, Cert.Reference6Ideal.Read.val_main_v78_eq] at e
  simp only [a,
    show ∀ a b, Cert.Reference6Ideal.Read.val_main_v2 (F := Ideal) a b = Cert.Kernel6Ideal.Gen.k0_pay9 (F := Ideal) a b from grad_eq,
    show ∀ x, Cert.Reference6Ideal.Read.val_main_v78 (F := Ideal) x = Cert.Kernel6Ideal.Gen.k0_pay2 (F := Ideal) x from loss_eq, splat, quotient, root] at e
  simp only [a]
  exact e

/-- From agreeing arguments the launch over `conv_w` and `conv_b` and its reference end with the same results. -/
theorem algebraic_update_conv : Cert.algebraic_Kernel7Ideal_Reference7Ideal := by
  intro m g m' g' _ hargs
  refine ⟨_, _, _, _, _, _, _, _, _, _, _, _, _, Cert.Kernel7Ideal.Value.run m g, ?_⟩
  refine (θ_run _ _ _).mono (fun r h c => ?_) (Cert.Reference7Ideal.Value.run (F := Ideal) m' g')
  have a := hargs c
  have e := h c
  rw [Cert.Reference7Ideal.Read.val_main_v2_eq, Cert.Reference7Ideal.Read.val_main_v78_eq] at e
  simp only [a,
    show ∀ a b, Cert.Reference7Ideal.Read.val_main_v2 (F := Ideal) a b = Cert.Kernel7Ideal.Gen.k0_pay8 (F := Ideal) a b from grad_eq,
    show ∀ x, Cert.Reference7Ideal.Read.val_main_v78 (F := Ideal) x = Cert.Kernel7Ideal.Gen.k0_pay1 (F := Ideal) x from loss_eq, splat, quotient, root] at e
  simp only [a]
  exact e

/-- From agreeing arguments the launch over `pool_scale` and a gain and its reference end with the same results. -/
theorem algebraic_update_pool_scale : Cert.algebraic_Kernel8Ideal_Reference8Ideal := by
  intro m g m' g' _ hargs
  refine ⟨_, _, _, _, _, _, _, _, _, _, _, _, _, Cert.Kernel8Ideal.Value.run m g, ?_⟩
  refine (θ_run _ _ _).mono (fun r h c => ?_) (Cert.Reference8Ideal.Value.run (F := Ideal) m' g')
  have a := hargs c
  have e := h c
  rw [Cert.Reference8Ideal.Read.val_main_v2_eq, Cert.Reference8Ideal.Read.val_main_v78_eq] at e
  simp only [a,
    show ∀ a b, Cert.Reference8Ideal.Read.val_main_v2 (F := Ideal) a b = Cert.Kernel8Ideal.Gen.k0_pay8 (F := Ideal) a b from grad_eq,
    show ∀ x, Cert.Reference8Ideal.Read.val_main_v78 (F := Ideal) x = Cert.Kernel8Ideal.Gen.k0_pay1 (F := Ideal) x from loss_eq, splat, quotient, root] at e
  simp only [a]
  exact e

end Cert.Own
-- ==== Proof.Total.lean ====
module

public import proofs.«01_k».proof.Proof.Gen.Kernel9Ideal.Frame
public import proofs.«01_k».proof.Proof.Gen.Kernel9.Frame
public import proofs.«01_k».proof.Proof.Point
public import Idealize.ShloMosaic.Lib.Pipeline.ValueKit
public import Idealize.ShloMosaic.Lib.Pipeline.ReadBack
public import Idealize.ShloMosaic.Lib.StableHlo.ReadAt
public import Idealize.ShloMosaic.Lib.ValueLayout
public import Idealize.ShloMosaic.Lib.Pointwise.Tactic
public import Idealize.ShloMosaic.Lib.Pointwise.Reshape
public import Idealize.ShloMosaic.Lib.Pointwise.Select

/-!
  The total of a weight's gradient and the weight's update: the device's own partial sum, at the place its two coordinates
  give, and the three received ones are added in this order, and the total moves the two moments and the weight. The kernel
  does this for the up-projection and the down-projection at once, in four blocks of rows. `outs` reads one block, `arr10`
  to `arr17` the results, and `run` the launch; `ok` is that the place always points inside the partial sums.
-/

@[expose] public section

set_option maxRecDepth 16384

noncomputable section

namespace Cert.Own.Total
open Idealize.ShloMosaic Idealize.ShloMosaic.TcCoe Idealize.SL.Sem

/-- Where a coordinate of the device points, once it is clipped to 0 and 1. -/
def clip (x : BitVec 32) : BitVec 32 := IntOp.minsi 1#32 (IntOp.maxsi 0#32 x)

/-- A coordinate clipped to 0 and 1 is 1 where it is positive and 0 elsewhere. -/
theorem clip_toNat (x : BitVec 32) : (clip x).toNat = if 0 < x.toInt then 1 else 0 := by
  unfold clip
  simp only [IntOp.minsi, IntOp.maxsi, BitVec.slt_eq_decide, decide_eq_true_eq]
  have h0 : (0#32 : BitVec 32).toInt = 0 := rfl
  have h1 : (1#32 : BitVec 32).toInt = 1 := rfl
  rw [h0, h1]
  by_cases h : x.toInt < 0
  · rw [if_pos h, h0, if_neg (by omega), if_neg (by omega)]; rfl
  · rw [if_neg h]
    by_cases h2 : 1 < x.toInt
    · rw [if_pos h2, if_pos (by omega)]; rfl
    · rw [if_neg h2]
      by_cases h3 : 0 < x.toInt
      · rw [if_pos h3]
        have : x.toInt = 1 := by omega
        rw [show x = 1#32 from BitVec.eq_of_toInt_eq (by rw [this]; rfl)]; rfl
      · rw [if_neg h3]
        have : x.toInt = 0 := by omega
        rw [show x = 0#32 from BitVec.eq_of_toInt_eq (by rw [this]; rfl)]; rfl

/-- A clipped coordinate is 0 or 1. -/
theorem clip_lt (x : BitVec 32) : (clip x).toNat < 2 := by
  rw [clip_toNat]; split <;> omega

/-- The row of a clipped coordinate: the second where it is positive, the first elsewhere. -/
def pick (x : BitVec 32) : Fin 2 := if 0 < x.toInt then 1 else 0

/-- A clipped coordinate is its row's number. -/
theorem clip_pick (x : BitVec 32) : (clip x).toNat = (pick x).val := by
  rw [clip_toNat]; unfold pick; split <;> rfl

/-- The total of a block: the device's own partial sum and the three received ones, in this order. -/
def blockTotal {b : ℕ} (s : Vec Ideal ⟨4, ![1, 1, b, 1024]⟩ .f32) (r : Vec Ideal ⟨3, ![3, b, 1024]⟩ .bf16) : FVec Ideal ⟨2, ![b, 1024]⟩ .f32 :=
  fun i => (s (ix4 0 0 (i 0) (i 1)) + r (ix3 0 (i 0) (i 1)) + r (ix3 1 (i 0) (i 1)) + r (ix3 2 (i 0) (i 1)) : EReal)

/-- The total of a weight: the partial sum at the device's place and the three received ones, in this order. -/
def total {n : ℕ} (p : IVec ⟨1, ![3]⟩ 32) (s : Vec Ideal ⟨4, ![2, 2, n, 1024]⟩ .f32) (r : Vec Ideal ⟨3, ![3, n, 1024]⟩ .bf16) : FVec Ideal ⟨2, ![n, 1024]⟩ .f32 :=
  fun i => (s (ix4 (pick (p (ix1 0))) (pick (p (ix1 1))) (i 0) (i 1)) + r (ix3 0 (i 0) (i 1)) + r (ix3 1 (i 0) (i 1)) + r (ix3 2 (i 0) (i 1)) : EReal)

/-- The step's first moment. -/
def first {s : Shape} (x g : FVec Ideal s .f32) : FVec Ideal s .f32 :=
  addf (mulf (broadcast s (Scalar.ofBits .f32 0x3F666666#32)) x) (mulf (broadcast s (Scalar.ofBits .f32 0x3DCCCCCD#32)) g)

/-- The step's second moment. -/
def second {s : Shape} (x g : FVec Ideal s .f32) : FVec Ideal s .f32 :=
  addf (mulf (broadcast s (Scalar.ofBits .f32 0x3F7FBE77#32)) x) (mulf (broadcast s (Scalar.ofBits .f32 0x3A83126F#32)) (mulf g g))

/-- The step of a weight. -/
def step {s : Shape} (w g x v : FVec Ideal s .f32) : FVec Ideal s .f32 :=
  mulf (broadcast s (Scalar.ofBits .f32 0xBA83126F#32))
    (addf (divf (divf (first x g) (broadcast s (Scalar.ofBits .f32 0x3F26BD02#32)))
        (addf (sqrt (divf (second v g) (broadcast s (Scalar.ofBits .f32 0x3C231ACC#32)))) (broadcast s (Scalar.ofBits .f32 0x322BCC77#32))))
      (mulf (broadcast s (Scalar.ofBits .f32 0x3C23D70A#32)) w))

/-- Equal arrays agree at equal places. -/
theorem moved {s : Shape} {f g : s.Idx → EReal} {i j : s.Idx} (h : f = g) (e : i = j) : f i = g j := by
  rw [h, e]

/-- A block's total at an entry is the weight's where the block's sums are. -/
theorem blockTotal_at {b n : ℕ} {s : Vec Ideal ⟨4, ![1, 1, b, 1024]⟩ .f32} {r : Vec Ideal ⟨3, ![3, b, 1024]⟩ .bf16} {p : IVec ⟨1, ![3]⟩ 32}
    {s' : Vec Ideal ⟨4, ![2, 2, n, 1024]⟩ .f32} {r' : Vec Ideal ⟨3, ![3, n, 1024]⟩ .bf16} {y : (⟨2, ![b, 1024]⟩ : Shape).Idx} {z : (⟨2, ![n, 1024]⟩ : Shape).Idx}
    (h0 : s (ix4 0 0 (y 0) (y 1)) = s' (ix4 (pick (p (ix1 0))) (pick (p (ix1 1))) (z 0) (z 1)))
    (h2 : ∀ k : Fin 3, r (ix3 k (y 0) (y 1)) = r' (ix3 k (z 0) (z 1))) : blockTotal s r y = total p s' r' z :=
  congrArg₂ (fun a b : EReal => a + b) (congrArg₂ (fun a b : EReal => a + b) (congrArg₂ (fun a b : EReal => a + b) h0 (h2 0)) (h2 1)) (h2 2)

section entries
variable {s u : Shape} {w g x v : FVec Ideal s .f32} {w' g' x' v' : FVec Ideal u .f32} {i : s.Idx} {j : u.Idx}

/-- The first moment at an entry is of the moment and the gradient there. -/
theorem first_at (hx : x i = x' j) (hg : g i = g' j) : first x g i = first x' g' j :=
  congrArg₂ (fun a b : EReal => Ideal.ofBits .f32 0x3F666666#32 * a + Ideal.ofBits .f32 0x3DCCCCCD#32 * b) hx hg

/-- The second moment at an entry is of the moment and the gradient there. -/
theorem second_at (hx : x i = x' j) (hg : g i = g' j) : second x g i = second x' g' j :=
  congrArg₂ (fun a b : EReal => Ideal.ofBits .f32 0x3F7FBE77#32 * a + Ideal.ofBits .f32 0x3A83126F#32 * (b * b)) hx hg

/-- The step at an entry is of the weight, the gradient and the moments there. -/
theorem step_at (hw : w i = w' j) (hg : g i = g' j) (hx : x i = x' j) (hv : v i = v' j) : step w g x v i = step w' g' x' v' j := by
  show (Ideal.ofBits .f32 0xBA83126F#32 * (Ideal.div (Ideal.div (first x g i) _) (sqrt (F := Ideal) (divf (second v g) _) i + _) + _ * w i) : EReal) = _
  rw [first_at hx hg, hw]
  have e := second_at hv hg
  show (Ideal.ofBits .f32 0xBA83126F#32 * (Ideal.div _ (Ideal.sqrt (Ideal.div (second v g i) _) + _) + _) : EReal) = _
  rw [e]
  rfl

end entries

/-- The kernel's total of a block: its casts drop the axes of one entry. -/
theorem blockTotal_eq {b : ℕ} (s : Vec Ideal ⟨4, ![1, 1, b, 1024]⟩ .f32) (r : Vec Ideal ⟨3, ![3, b, 1024]⟩ .bf16)
    (h4 : (⟨4, ![1, 1, b, 1024]⟩ : Shape).ShapeCasts ⟨2, ![b, 1024]⟩) (h3 : (⟨3, ![1, b, 1024]⟩ : Shape).ShapeCasts ⟨2, ![b, 1024]⟩)
    (hb : FTy.bits .bf16 < FTy.bits .f32)
    (inb : ∀ k : Fin 3, ∀ x : Fin 3, (![k.val, 0, 0] : Fin 3 → ℕ) x + (![1, b, 1024] : Fin 3 → ℕ) x ≤ (⟨3, ![3, b, 1024]⟩ : Shape).size x) :
    addf (addf (addf (shapeCast ⟨2, ![b, 1024]⟩ s h4)
        (extf (F := Ideal) .f32 (shapeCast ⟨2, ![b, 1024]⟩ (View.ld r (Rect.unit (s := ⟨3, ![3, b, 1024]⟩) ![0, 0, 0] ![1, b, 1024] (inb 0))) h3) hb))
        (extf (F := Ideal) .f32 (shapeCast ⟨2, ![b, 1024]⟩ (View.ld r (Rect.unit (s := ⟨3, ![3, b, 1024]⟩) ![1, 0, 0] ![1, b, 1024] (inb 1))) h3) hb))
        (extf (F := Ideal) .f32 (shapeCast ⟨2, ![b, 1024]⟩ (View.ld r (Rect.unit (s := ⟨3, ![3, b, 1024]⟩) ![2, 0, 0] ![1, b, 1024] (inb 2))) h3) hb)
      = blockTotal s r := by
  funext i
  obtain ⟨p, q, rfl⟩ : ∃ (p : Fin b) (q : Fin 1024), i = ix2 p q := ⟨i 0, i 1, eq_ix2 i⟩
  have e (k : Fin 3) : shapeCast ⟨2, ![b, 1024]⟩ (View.ld r (Rect.unit (s := ⟨3, ![3, b, 1024]⟩) ![k.val, 0, 0] ![1, b, 1024] (inb k))) h3 (ix2 p q) = r (ix3 k p q) :=
    (Cert.KernelIdeal.Own.cast3 (e := .bf16) _ _ _ _).trans (Cert.KernelIdeal.Own.ld3 _ _ _ _ _ _ _ _ _ _ _ (by simp) (by simp) (by simp))
  have e4 : shapeCast ⟨2, ![b, 1024]⟩ s h4 (ix2 p q) = s (ix4 0 0 p q) :=
    shapeCast_apply s h4 (ix2 p q) (ix4 0 0 p q) (by rw [Shape.rowMajor_val_four, Shape.rowMajor_val_two]; show ((0 * 1 + 0) * b + p.val) * 1024 + q.val = p.val * 1024 + q.val; omega)
  exact congrArg₂ (fun a b : EReal => a + b) (congrArg₂ (fun a b : EReal => a + b) (congrArg₂ (fun a b : EReal => a + b) e4 (e 0)) (e 1)) (e 2)

end Cert.Own.Total

namespace Cert.Kernel9Ideal.Own
open Cert.Kernel9Ideal Cert.Kernel9Ideal.Gen Idealize.ShloMosaic Idealize.ShloMosaic.TcCoe Idealize.SL.Sem
open Cert.Own.Total

variable {F : FTy → Type} [FloatOps F]
variable (m : (ℓ : Loc nD τ sig) → Buf (Elt F) ℓ)

/-- The launch's table is the place, clipped. -/
theorem table (j : S3.Idx) : (tbl m 0 : IVec S3 32) j = clip ((m (((0 : Dev nD) : Thread nD τ).loc main_arg0) : IVec S3 32) j) := by
  show (V m 0 main_v0 : IVec S3 32) j = _
  after_reads_at
  rfl

/-- A grid point is one of four. -/
theorem row_lt (i : grid0.Coords) : (BitVec.ofNat 32 (i 0).val).toNat < 4 := by
  have h : (i 0).val < 4 := (i 0).isLt
  rw [BitVec.toNat_ofNat]; omega

/-- Tables of zeros and ones point inside the partial sums. -/
theorem ok_of (pf : pre0.Contents (Elt F)) (h : ∀ j : S3.Idx, ((pf 0 : IVec S3 32) j).toNat < 2) : ok0 pf := by
  refine ⟨fun i => ⟨fun a => ?_, .inl rfl⟩, fun i => ⟨fun a => ?_, .inl rfl⟩⟩ <;> have e := row_lt i
  · match a with
    | ⟨0, _⟩ => exact (Nat.mul_one _).trans_le (h _)
    | ⟨1, _⟩ => exact (Nat.mul_one _).trans_le (h _)
    | ⟨2, _⟩ => show ((BitVec.ofNat 32 (i 0).val).toNat + 1) * 176 ≤ 704; omega
    | ⟨3, _⟩ => show (0 + 1) * 1024 ≤ 1024; omega
  · match a with
    | ⟨0, _⟩ => exact (Nat.mul_one _).trans_le (h _)
    | ⟨1, _⟩ => exact (Nat.mul_one _).trans_le (h _)
    | ⟨2, _⟩ => show ((BitVec.ofNat 32 (i 0).val).toNat + 1) * 88 ≤ 352; omega
    | ⟨3, _⟩ => show (0 + 1) * 1024 ≤ 1024; omega

/-- The place points inside the partial sums. -/
theorem ok : Ok m := ok_of (tbl m) fun j => by rw [table]; exact clip_lt _

section value
variable (m : (ℓ : Loc nD τ sig) → Buf (Elt Ideal) ℓ) (c : Dev nD)

/-- Three stretches of a block of three lie in it. -/
theorem inbR {b : ℕ} (k : Fin 3) : ∀ x : Fin 3, (![k.val, 0, 0] : Fin 3 → ℕ) x + (![1, b, 1024] : Fin 3 → ℕ) x ≤ (⟨3, ![3, b, 1024]⟩ : Shape).size x := by
  have := k.isLt
  intro x; match x with
  | ⟨0, _⟩ => show k.val + 1 ≤ 3; omega
  | ⟨1, _⟩ => exact (Nat.zero_add b).le
  | ⟨2, _⟩ => exact (Nat.zero_add 1024).le

/-- The kernel's total of a block of the up-projection. -/
theorem pay4 (x0 : Vec Ideal S1x1x176x1024 .f32) (x2 : Vec Ideal S3x176x1024 .bf16) :
    k0_pay4 (F := Ideal) x0 (View.ld x2 (Rect.unit ![0, 0, 0] ![1, 176, 1024] inb_S3x176x1024_S1x176x1024_0_0_0))
        (View.ld x2 (Rect.unit ![1, 0, 0] ![1, 176, 1024] inb_S3x176x1024_S1x176x1024_1_0_0))
        (View.ld x2 (Rect.unit ![2, 0, 0] ![1, 176, 1024] inb_S3x176x1024_S1x176x1024_2_0_0)) = blockTotal (b := 176) x0 x2 :=
  blockTotal_eq (b := 176) x0 x2 shapeCasts_S1x1x176x1024_S176x1024 shapeCasts_S1x176x1024_S176x1024 bitsLt_bf16_f32 inbR

/-- The kernel's total of a block of the down-projection. -/
theorem pay9 (x1 : Vec Ideal S1x1x88x1024 .f32) (x3 : Vec Ideal S3x88x1024 .bf16) :
    k0_pay9 (F := Ideal) x1 (View.ld x3 (Rect.unit ![0, 0, 0] ![1, 88, 1024] inb_S3x88x1024_S1x88x1024_0_0_0))
        (View.ld x3 (Rect.unit ![1, 0, 0] ![1, 88, 1024] inb_S3x88x1024_S1x88x1024_1_0_0))
        (View.ld x3 (Rect.unit ![2, 0, 0] ![1, 88, 1024] inb_S3x88x1024_S1x88x1024_2_0_0)) = blockTotal (b := 88) x1 x3 :=
  blockTotal_eq (b := 88) x1 x3 shapeCasts_S1x1x88x1024_S88x1024 shapeCasts_S1x88x1024_S88x1024 bitsLt_bf16_f32 inbR

section pay
variable (a : Vec Ideal S1x1x176x1024 .f32) (b₀ b₁ b₂ : Vec Ideal S1x176x1024 .bf16) (w x v : Vec Ideal S176x1024 .f32)
/-- The kernel's first moment of a block of the up-projection. -/
theorem pay5 : k0_pay5 (F := Ideal) a b₀ b₁ b₂ x = first x (k0_pay4 a b₀ b₁ b₂) := rfl
/-- Its second moment. -/
theorem pay6 : k0_pay6 (F := Ideal) a b₀ b₁ b₂ v = second v (k0_pay4 a b₀ b₁ b₂) := rfl
/-- Its step. -/
theorem pay8 : k0_pay8 (F := Ideal) w (k0_pay6 a b₀ b₁ b₂ v) (k0_pay7 a b₀ b₁ b₂ x) (FloatOps.ofBits .f32 1008933580#32)
    = step w (k0_pay4 a b₀ b₁ b₂) x v := rfl
variable (g' w' x' v' : Vec Ideal S88x1024 .f32)
/-- The kernel's first moment of a block of the down-projection. -/
theorem pay1 : k0_pay1 (F := Ideal) g' x' = first x' g' := rfl
/-- Its second moment. -/
theorem pay2 : k0_pay2 (F := Ideal) g' v' = second v' g' := rfl
/-- Its step. -/
theorem pay3 : k0_pay3 (F := Ideal) g' w' x' v' = step w' g' x' v' := rfl
end pay

/-- What the launch writes at a point: the totals, the steps and the moments of the blocks there. -/
theorem outs (t : Fin (cfgM m (ok m)).N) : outsAt0 m (ok m) c t
    = (blockTotal (b := 176) (iblk m (ok m) c 0 t) (iblk m (ok m) c 2 t),
       blockTotal (b := 88) (iblk m (ok m) c 1 t) (iblk m (ok m) c 3 t),
       step (s := S176x1024) (iblk m (ok m) c 4 t) (blockTotal (b := 176) (iblk m (ok m) c 0 t) (iblk m (ok m) c 2 t)) (iblk m (ok m) c 6 t) (iblk m (ok m) c 8 t),
       step (s := S88x1024) (iblk m (ok m) c 5 t) (blockTotal (b := 88) (iblk m (ok m) c 1 t) (iblk m (ok m) c 3 t)) (iblk m (ok m) c 7 t) (iblk m (ok m) c 9 t),
       first (s := S176x1024) (iblk m (ok m) c 6 t) (blockTotal (b := 176) (iblk m (ok m) c 0 t) (iblk m (ok m) c 2 t)),
       first (s := S88x1024) (iblk m (ok m) c 7 t) (blockTotal (b := 88) (iblk m (ok m) c 1 t) (iblk m (ok m) c 3 t)),
       second (s := S176x1024) (iblk m (ok m) c 8 t) (blockTotal (b := 176) (iblk m (ok m) c 0 t) (iblk m (ok m) c 2 t)),
       second (s := S88x1024) (iblk m (ok m) c 9 t) (blockTotal (b := 88) (iblk m (ok m) c 1 t) (iblk m (ok m) c 3 t))) := by
  unfold outsAt0
  generalize iblk m (ok m) c 0 t = x0
  generalize iblk m (ok m) c 1 t = x1
  generalize iblk m (ok m) c 2 t = x2
  generalize iblk m (ok m) c 3 t = x3
  generalize iblk m (ok m) c 4 t = x4
  generalize iblk m (ok m) c 5 t = x5
  generalize iblk m (ok m) c 6 t = x6
  generalize iblk m (ok m) c 7 t = x7
  generalize iblk m (ok m) c 8 t = x8
  generalize iblk m (ok m) c 9 t = x9
  have r0 := (hs0_0 m (ok m) t).read_unread x0
  have r1 := (hs0_1 m (ok m) t).read_unread x1
  have r2 := (hs0_2 m (ok m) t).read_unread x2
  have r3 := (hs0_3 m (ok m) t).read_unread x3
  have r4 := (hs0_4 m (ok m) t).read_unread x4
  have r5 := (hs0_5 m (ok m) t).read_unread x5
  have r6 := (hs0_6 m (ok m) t).read_unread x6
  have r7 := (hs0_7 m (ok m) t).read_unread x7
  have r8 := (hs0_8 m (ok m) t).read_unread x8
  have r9 := (hs0_9 m (ok m) t).read_unread x9
  refine Prod.ext ?_ (Prod.ext ?_ (Prod.ext ?_ (Prod.ext ?_ (Prod.ext ?_ (Prod.ext ?_ (Prod.ext ?_ ?_)))))) <;> dsimp only
  · unfold out0_A_10; frame_open; frame_out
    rw [r0, r2]
    exact pay4 x0 x2
  · unfold out0_A_11; frame_open; frame_out
    rw [r1, r3]
    exact pay9 x1 x3
  · unfold out0_A_12; frame_open; frame_out
    rw [r0, r2, r4, r6, r8]
    exact (pay8 _ _ _ _ x4 x6 x8).trans (congrArg (fun g => step x4 g x6 x8) (pay4 x0 x2))
  · unfold out0_A_13; frame_open; frame_out
    rw [r1, r3, r5, r7, r9]
    exact (pay3 _ x5 x7 x9).trans (congrArg (fun g => step x5 g x7 x9) (pay9 x1 x3))
  · unfold out0_A_14; frame_open; frame_out
    rw [r0, r2, r6]
    exact (pay5 _ _ _ _ x6).trans (congrArg (first x6) (pay4 x0 x2))
  · unfold out0_A_15; frame_open; frame_out
    rw [r1, r3, r7]
    exact (pay1 _ x7).trans (congrArg (first x7) (pay9 x1 x3))
  · unfold out0_A_16; frame_open; frame_out
    rw [r0, r2, r8]
    exact (pay6 _ _ _ _ x8).trans (congrArg (second x8) (pay4 x0 x2))
  · unfold out0_A_17; frame_open; frame_out
    rw [r1, r3, r9]
    exact (pay2 _ x9).trans (congrArg (second x9) (pay9 x1 x3))

/-- The device's place. -/
abbrev argP : IVec S3 32 := m ((c : Thread nD τ).loc main_arg0)
/-- The total of the up-projection's gradient. -/
abbrev totalUp : FVec Ideal S704x1024 .f32 := total (n := 704) (argP m c) (m ((c : Thread nD τ).loc main_arg1)) (m ((c : Thread nD τ).loc main_arg3))

/-- The total of the down-projection's gradient. -/
abbrev totalDown : FVec Ideal S352x1024 .f32 := total (n := 352) (argP m c) (m ((c : Thread nD τ).loc main_arg2)) (m ((c : Thread nD τ).loc main_arg4))

/-- The table's word of an axis is the device's row. -/
theorem word (k : Fin 3) : ((tbl m 0 : IVec S3 32) (ix1 k)).toNat = (pick (argP m 0 (ix1 k))).val := by
  rw [table, clip_pick]

section place
variable (pf : pre0.Contents (Elt Ideal)) (h : ok0 pf) (t : Fin (cfg0 ⟨pf, h⟩).N) (p q : Fin 2)
variable (hp : ((pf 0 : IVec S3 32) (ix1 0)).toNat = p.val) (hq : ((pf 0 : IVec S3 32) (ix1 1)).toNat = q.val)

/-- Where a block's entry lies in the up-projection. -/
abbrev upAt (y : S176x1024.Idx) : S704x1024.Idx := (((cfg0 ⟨pf, h⟩).win 10).blk t).view.emb y

/-- Where a block's entry lies in the down-projection. -/
abbrev downAt (y : S88x1024.Idx) : S352x1024.Idx := (((cfg0 ⟨pf, h⟩).win 11).blk t).view.emb y

/-- The place's first row, as the index map of the partial sums reads it from a table. -/
theorem at_first : pf.at 0 (Rect.unit (s := S3) ![0] S1.size inb_S3_S1_0) numel1_S1 = (pf 0 : IVec S3 32) (ix1 0) :=
  congrArg (pf 0 : IVec S3 32) (funext fun a => Fin.ext (by match a with | ⟨0, _⟩ => rfl))

/-- Its second row. -/
theorem at_second : pf.at 0 (Rect.unit (s := S3) ![1] S1.size inb_S3_S1_1) numel1_S1 = (pf 0 : IVec S3 32) (ix1 1) :=
  congrArg (pf 0 : IVec S3 32) (funext fun a => Fin.ext (by match a with | ⟨0, _⟩ => rfl))

include hp in
/-- The index map's first row is the device's. -/
theorem row_first : (pf.at 0 (Rect.unit (s := S3) ![0] S1.size inb_S3_S1_0) numel1_S1 : BitVec 32).toNat * 1 + 1 * 0 = p.val := by
  rw [at_first, hp]; omega

include hq in
/-- Its second row is the device's. -/
theorem row_second : (pf.at 0 (Rect.unit (s := S3) ![1] S1.size inb_S3_S1_1) numel1_S1 : BitVec 32).toNat * 1 + 1 * 0 = q.val := by
  rw [at_second, hq]; omega

include hp hq in
/-- The up-projection's block of partial sums is the device's, at the block's rows. -/
theorem own_up (y : S176x1024.Idx) : ((((cfg0 ⟨pf, h⟩).win 0).blk t).view.emb (ix4 (0 : Fin 1) (0 : Fin 1) (y 0 : Fin 176) (y 1 : Fin 1024)) : S2x2x704x1024.Idx)
    = ix4 p q (upAt pf h t y 0 : Fin 704) (upAt pf h t y 1 : Fin 1024) := by
  funext a; apply Fin.ext
  match a with
  | ⟨0, _⟩ => exact row_first pf p hp
  | ⟨1, _⟩ => exact row_second pf q hq
  | ⟨2, _⟩ => rfl
  | ⟨3, _⟩ => rfl

include hp hq in
/-- The down-projection's block of partial sums is the device's, at the block's rows. -/
theorem own_down (y : S88x1024.Idx) : ((((cfg0 ⟨pf, h⟩).win 1).blk t).view.emb (ix4 (0 : Fin 1) (0 : Fin 1) (y 0 : Fin 88) (y 1 : Fin 1024)) : S2x2x352x1024.Idx)
    = ix4 p q (downAt pf h t y 0 : Fin 352) (downAt pf h t y 1 : Fin 1024) := by
  funext a; apply Fin.ext
  match a with
  | ⟨0, _⟩ => exact row_first pf p hp
  | ⟨1, _⟩ => exact row_second pf q hq
  | ⟨2, _⟩ => rfl
  | ⟨3, _⟩ => rfl

/-- The up-projection's block of received sums is of the same rows. -/
theorem received_up (y : S176x1024.Idx) (k : Fin 3) : ((((cfg0 ⟨pf, h⟩).win 2).blk t).view.emb (ix3 k (y 0 : Fin 176) (y 1 : Fin 1024)) : S3x704x1024.Idx)
    = ix3 k (upAt pf h t y 0 : Fin 704) (upAt pf h t y 1 : Fin 1024) := by
  funext a; apply Fin.ext
  match a with
  | ⟨0, _⟩ => show 0 * 3 + 1 * k.val = k.val; omega
  | ⟨1, _⟩ => rfl
  | ⟨2, _⟩ => rfl

/-- The down-projection's block of received sums is of the same rows. -/
theorem received_down (y : S88x1024.Idx) (k : Fin 3) : ((((cfg0 ⟨pf, h⟩).win 3).blk t).view.emb (ix3 k (y 0 : Fin 88) (y 1 : Fin 1024)) : S3x352x1024.Idx)
    = ix3 k (downAt pf h t y 0 : Fin 352) (downAt pf h t y 1 : Fin 1024) := by
  funext a; apply Fin.ext
  match a with
  | ⟨0, _⟩ => show 0 * 3 + 1 * k.val = k.val; omega
  | ⟨1, _⟩ => rfl
  | ⟨2, _⟩ => rfl

end place

section blocks
variable (t : Fin (cfgM m (ok m)).N)

/-- A block's total at an entry is the up-projection's there. -/
theorem total_up (y : S176x1024.Idx) :
    blockTotal (b := 176) (iblk m (ok m) c 0 t) (iblk m (ok m) c 2 t) y = totalUp m c (upAt (tbl m) (ok m) t y) := by
  obtain rfl : c = 0 := Subsingleton.elim _ _
  have h0 := moved (f := (V m 0 main_arg1 : S2x2x704x1024.Idx → EReal)) (V_main_arg1 m 0) (own_up (tbl m) (ok m) t _ _ (word m 0) (word m 1) y)
  have h2 (k : Fin 3) := moved (f := (V m 0 main_arg3 : S3x704x1024.Idx → EReal)) (V_main_arg3 m 0) (received_up (tbl m) (ok m) t y k)
  exact blockTotal_at (b := 176) (n := 704) h0 h2

/-- A block's total at an entry is the down-projection's there. -/
theorem total_down (y : S88x1024.Idx) :
    blockTotal (b := 88) (iblk m (ok m) c 1 t) (iblk m (ok m) c 3 t) y = totalDown m c (downAt (tbl m) (ok m) t y) := by
  obtain rfl : c = 0 := Subsingleton.elim _ _
  have h0 := moved (f := (V m 0 main_arg2 : S2x2x352x1024.Idx → EReal)) (V_main_arg2 m 0) (own_down (tbl m) (ok m) t _ _ (word m 0) (word m 1) y)
  have h2 (k : Fin 3) := moved (f := (V m 0 main_arg4 : S3x352x1024.Idx → EReal)) (V_main_arg4 m 0) (received_down (tbl m) (ok m) t y k)
  exact blockTotal_at (b := 88) (n := 352) h0 h2

/-- The up-projection's block of its weight is its block's rows. -/
theorem row4 (y : S176x1024.Idx) : (iblk m (ok m) c 4 t : S176x1024.Idx → EReal) y
    = (m ((c : Thread nD τ).loc main_arg5) : FVec Ideal S704x1024 .f32) (upAt (tbl m) (ok m) t y) :=
  congrFun (V_main_arg5 m c) _

/-- The down-projection's block of its weight is its block's rows. -/
theorem row5 (y : S88x1024.Idx) : (iblk m (ok m) c 5 t : S88x1024.Idx → EReal) y
    = (m ((c : Thread nD τ).loc main_arg6) : FVec Ideal S352x1024 .f32) (downAt (tbl m) (ok m) t y) :=
  congrFun (V_main_arg6 m c) _

/-- The up-projection's block of its first moment is its block's rows. -/
theorem row6 (y : S176x1024.Idx) : (iblk m (ok m) c 6 t : S176x1024.Idx → EReal) y
    = (m ((c : Thread nD τ).loc main_arg7) : FVec Ideal S704x1024 .f32) (upAt (tbl m) (ok m) t y) :=
  congrFun (V_main_arg7 m c) _

/-- The down-projection's block of its first moment is its block's rows. -/
theorem row7 (y : S88x1024.Idx) : (iblk m (ok m) c 7 t : S88x1024.Idx → EReal) y
    = (m ((c : Thread nD τ).loc main_arg8) : FVec Ideal S352x1024 .f32) (downAt (tbl m) (ok m) t y) :=
  congrFun (V_main_arg8 m c) _

/-- The up-projection's block of its second moment is its block's rows. -/
theorem row8 (y : S176x1024.Idx) : (iblk m (ok m) c 8 t : S176x1024.Idx → EReal) y
    = (m ((c : Thread nD τ).loc main_arg9) : FVec Ideal S704x1024 .f32) (upAt (tbl m) (ok m) t y) :=
  congrFun (V_main_arg9 m c) _

/-- The down-projection's block of its second moment is its block's rows. -/
theorem row9 (y : S88x1024.Idx) : (iblk m (ok m) c 9 t : S88x1024.Idx → EReal) y
    = (m ((c : Thread nD τ).loc main_arg10) : FVec Ideal S352x1024 .f32) (downAt (tbl m) (ok m) t y) :=
  congrFun (V_main_arg10 m c) _

end blocks

/-- The up-projection's gradient, as the launch leaves it. -/
theorem arr10 : (dats m (ok m) 0 c).arrAt 10 (cfgM m (ok m)).N = (totalUp m c : FVec Ideal S704x1024 .f32) := by
  refine (dats m (ok m) 0 c).arrAt_eq_of_covers 10 _ (of_decide_eq_true (by sl_kernel_rfl)) fun t _ y => ?_
  show (dats m (ok m) 0 c).after 10 t y = (totalUp m c : FVec Ideal S704x1024 .f32) (upAt (tbl m) (ok m) t y)
  rw [after0_10, outs]
  exact total_up m c t y

/-- The down-projection's gradient, as the launch leaves it. -/
theorem arr11 : (dats m (ok m) 0 c).arrAt 11 (cfgM m (ok m)).N = (totalDown m c : FVec Ideal S352x1024 .f32) := by
  refine (dats m (ok m) 0 c).arrAt_eq_of_covers 11 _ (of_decide_eq_true (by sl_kernel_rfl)) fun t _ y => ?_
  show (dats m (ok m) 0 c).after 11 t y = (totalDown m c : FVec Ideal S352x1024 .f32) (downAt (tbl m) (ok m) t y)
  rw [after0_11, outs]
  exact total_down m c t y

/-- The up-projection's step, as the launch leaves it. -/
theorem arr12 : (dats m (ok m) 0 c).arrAt 12 (cfgM m (ok m)).N = (step (m ((c : Thread nD τ).loc main_arg5)) (totalUp m c) (m ((c : Thread nD τ).loc main_arg7)) (m ((c : Thread nD τ).loc main_arg9)) : FVec Ideal S704x1024 .f32) := by
  refine (dats m (ok m) 0 c).arrAt_eq_of_covers 12 _ (of_decide_eq_true (by sl_kernel_rfl)) fun t _ y => ?_
  show (dats m (ok m) 0 c).after 12 t y = (step (m ((c : Thread nD τ).loc main_arg5)) (totalUp m c) (m ((c : Thread nD τ).loc main_arg7)) (m ((c : Thread nD τ).loc main_arg9)) : FVec Ideal S704x1024 .f32) (upAt (tbl m) (ok m) t y)
  rw [after0_12, outs]
  exact step_at (row4 m c t y) (total_up m c t y) (row6 m c t y) (row8 m c t y)

/-- The down-projection's step, as the launch leaves it. -/
theorem arr13 : (dats m (ok m) 0 c).arrAt 13 (cfgM m (ok m)).N = (step (m ((c : Thread nD τ).loc main_arg6)) (totalDown m c) (m ((c : Thread nD τ).loc main_arg8)) (m ((c : Thread nD τ).loc main_arg10)) : FVec Ideal S352x1024 .f32) := by
  refine (dats m (ok m) 0 c).arrAt_eq_of_covers 13 _ (of_decide_eq_true (by sl_kernel_rfl)) fun t _ y => ?_
  show (dats m (ok m) 0 c).after 13 t y = (step (m ((c : Thread nD τ).loc main_arg6)) (totalDown m c) (m ((c : Thread nD τ).loc main_arg8)) (m ((c : Thread nD τ).loc main_arg10)) : FVec Ideal S352x1024 .f32) (downAt (tbl m) (ok m) t y)
  rw [after0_13, outs]
  exact step_at (row5 m c t y) (total_down m c t y) (row7 m c t y) (row9 m c t y)

/-- The up-projection's first moment, as the launch leaves it. -/
theorem arr14 : (dats m (ok m) 0 c).arrAt 14 (cfgM m (ok m)).N = (first (m ((c : Thread nD τ).loc main_arg7)) (totalUp m c) : FVec Ideal S704x1024 .f32) := by
  refine (dats m (ok m) 0 c).arrAt_eq_of_covers 14 _ (of_decide_eq_true (by sl_kernel_rfl)) fun t _ y => ?_
  show (dats m (ok m) 0 c).after 14 t y = (first (m ((c : Thread nD τ).loc main_arg7)) (totalUp m c) : FVec Ideal S704x1024 .f32) (upAt (tbl m) (ok m) t y)
  rw [after0_14, outs]
  exact first_at (row6 m c t y) (total_up m c t y)

/-- The down-projection's first moment, as the launch leaves it. -/
theorem arr15 : (dats m (ok m) 0 c).arrAt 15 (cfgM m (ok m)).N = (first (m ((c : Thread nD τ).loc main_arg8)) (totalDown m c) : FVec Ideal S352x1024 .f32) := by
  refine (dats m (ok m) 0 c).arrAt_eq_of_covers 15 _ (of_decide_eq_true (by sl_kernel_rfl)) fun t _ y => ?_
  show (dats m (ok m) 0 c).after 15 t y = (first (m ((c : Thread nD τ).loc main_arg8)) (totalDown m c) : FVec Ideal S352x1024 .f32) (downAt (tbl m) (ok m) t y)
  rw [after0_15, outs]
  exact first_at (row7 m c t y) (total_down m c t y)

/-- The up-projection's second moment, as the launch leaves it. -/
theorem arr16 : (dats m (ok m) 0 c).arrAt 16 (cfgM m (ok m)).N = (second (m ((c : Thread nD τ).loc main_arg9)) (totalUp m c) : FVec Ideal S704x1024 .f32) := by
  refine (dats m (ok m) 0 c).arrAt_eq_of_covers 16 _ (of_decide_eq_true (by sl_kernel_rfl)) fun t _ y => ?_
  show (dats m (ok m) 0 c).after 16 t y = (second (m ((c : Thread nD τ).loc main_arg9)) (totalUp m c) : FVec Ideal S704x1024 .f32) (upAt (tbl m) (ok m) t y)
  rw [after0_16, outs]
  exact second_at (row8 m c t y) (total_up m c t y)

/-- The down-projection's second moment, as the launch leaves it. -/
theorem arr17 : (dats m (ok m) 0 c).arrAt 17 (cfgM m (ok m)).N = (second (m ((c : Thread nD τ).loc main_arg10)) (totalDown m c) : FVec Ideal S352x1024 .f32) := by
  refine (dats m (ok m) 0 c).arrAt_eq_of_covers 17 _ (of_decide_eq_true (by sl_kernel_rfl)) fun t _ y => ?_
  show (dats m (ok m) 0 c).after 17 t y = (second (m ((c : Thread nD τ).loc main_arg10)) (totalDown m c) : FVec Ideal S352x1024 .f32) (downAt (tbl m) (ok m) t y)
  rw [after0_17, outs]
  exact second_at (row9 m c t y) (total_down m c t y)

/-- The run leaves the totals, the steps and the moments of the two weights, and the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v1_0) = (totalUp m c : FVec Ideal S704x1024 .f32)
      ∧ r.2.mem ((c : Thread nD τ).loc main_v1_2) = (step (m ((c : Thread nD τ).loc main_arg5)) (totalUp m c) (m ((c : Thread nD τ).loc main_arg7)) (m ((c : Thread nD τ).loc main_arg9)) : FVec Ideal S704x1024 .f32)
      ∧ r.2.mem ((c : Thread nD τ).loc main_v1_4) = (first (m ((c : Thread nD τ).loc main_arg7)) (totalUp m c) : FVec Ideal S704x1024 .f32)
      ∧ r.2.mem ((c : Thread nD τ).loc main_v1_6) = (second (m ((c : Thread nD τ).loc main_arg9)) (totalUp m c) : FVec Ideal S704x1024 .f32)
      ∧ r.2.mem ((c : Thread nD τ).loc main_v1_1) = (totalDown m c : FVec Ideal S352x1024 .f32)
      ∧ r.2.mem ((c : Thread nD τ).loc main_v1_3) = (step (m ((c : Thread nD τ).loc main_arg6)) (totalDown m c) (m ((c : Thread nD τ).loc main_arg8)) (m ((c : Thread nD τ).loc main_arg10)) : FVec Ideal S352x1024 .f32)
      ∧ r.2.mem ((c : Thread nD τ).loc main_v1_5) = (first (m ((c : Thread nD τ).loc main_arg8)) (totalDown m c) : FVec Ideal S352x1024 .f32)
      ∧ r.2.mem ((c : Thread nD τ).loc main_v1_7) = (second (m ((c : Thread nD τ).loc main_arg10)) (totalDown m c) : FVec Ideal S352x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨((h.1 c).1 10).trans (arr10 m c), ((h.1 c).1 12).trans (arr12 m c), ((h.1 c).1 14).trans (arr14 m c), ((h.1 c).1 16).trans (arr16 m c), ((h.1 c).1 11).trans (arr11 m c), ((h.1 c).1 13).trans (arr13 m c), ((h.1 c).1 15).trans (arr15 m c), ((h.1 c).1 17).trans (arr17 m c), h.2 c⟩)
    (θ_run_and (run_main m ρ (ok m)) (unchanged m ρ (ok m)))

end value

end Cert.Kernel9Ideal.Own

namespace Cert.Kernel9.Own
open Cert.Kernel9 Cert.Kernel9.Gen Idealize.ShloMosaic Idealize.ShloMosaic.TcCoe Idealize.SL.Sem
open Cert.Own.Total

variable {F : FTy → Type} [FloatOps F]
variable (m : (ℓ : Loc nD τ sig) → Buf (Elt F) ℓ)

/-- The table of the kernel's own launch is the place, clipped. -/
theorem table (j : S3.Idx) : (tbl m 0 : IVec S3 32) j = clip ((m (((0 : Dev nD) : Thread nD τ).loc main_arg0) : IVec S3 32) j) := by
  show (V m 0 main_v0 : IVec S3 32) j = _
  after_reads_at
  rfl

/-- Its place points inside the partial sums. -/
theorem ok : Ok m := Cert.Kernel9Ideal.Own.ok_of (tbl m) fun j => (congrArg BitVec.toNat (table m j)).trans_lt (clip_lt _)

end Cert.Kernel9.Own
-- ==== Proof.Stages.lean ====
module

public import proofs.«01_k».proof.Defs
public import proofs.«01_k».proof.Proof.Gen.Reference9Ideal
public import proofs.«01_k».proof.Proof.Total
public import Idealize.ShloMosaic.Lib.StableHlo.RunRead

/-!
  The reference of the total and the update, run in four stretches: the total of the up-projection's gradient, that of the
  down-projection's, and the moments and the step of either. Each stretch is read from any contents it is started with.
-/

@[expose] public section

set_option maxRecDepth 8192

noncomputable section

namespace Cert.Own.Total
open Idealize.ShloMosaic Idealize.ShloMosaic.TcCoe Idealize.SL.Sem

/-- A choice by a coordinate being positive is the row the coordinate picks. -/
theorem choose {t : Shape} {α : Type} (p : IVec ⟨1, ![3]⟩ 32) (k : Fin 3) (o : ℕ) (ho : k.val = o) (hs : (⟨1, ![3]⟩ : Shape).Slices ![o] ⟨1, ![1]⟩)
    (hc : (⟨1, ![1]⟩ : Shape).ShapeCasts ⟨0, ![]⟩) (hb : (⟨0, ![]⟩ : Shape).BroadcastsInDim t ![]) (f : Fin 2 → α) (x y : t.Idx → α) (i : t.Idx)
    (hx : x i = f 1) (hy : y i = f 0) :
    select (broadcastInDim t ![] hb (cmpi .sgt (shapeCast ⟨0, ![]⟩ (extractStridedSlice ⟨1, ![1]⟩ ![o] p hs) hc) (constantI ⟨0, ![]⟩ 32 0#32))) x y i
      = f (pick (p (ix1 k))) := by
  have e (q : (⟨1, ![1]⟩ : Shape).Idx) : extractStridedSlice ⟨1, ![1]⟩ ![o] p hs q = p (ix1 k) :=
    extractStridedSlice_apply ![o] p hs q (ix1 k) fun a => by
      match a with
      | ⟨0, _⟩ =>
        have h1 : (q 0).val < 1 := (q 0).isLt
        show k.val = o + (q 0).val
        omega
  show Scalar.select (IntOp.cmpi .sgt (extractStridedSlice ⟨1, ![1]⟩ ![o] p hs _) 0#32) (x i) (y i) = _
  rw [e, hx, hy]
  unfold pick IntOp.cmpi
  simp only [BitVec.slt_eq_decide]
  rw [show (0#32 : BitVec 32).toInt = 0 from rfl]
  by_cases h : 0 < (p (ix1 k)).toInt
  · rw [if_pos h, decide_eq_true h]; rfl
  · rw [if_neg h, decide_eq_false h]; rfl

/-- One of three planes, or of two, at an entry. -/
theorem plane3 {N n : ℕ} {α : Type} (x : (⟨3, ![N, n, 1024]⟩ : Shape).Idx → α) (k : Fin N) (o : ℕ) (ho : k.val = o)
    (hs : (⟨3, ![N, n, 1024]⟩ : Shape).Slices ![o, 0, 0] ⟨3, ![1, n, 1024]⟩) (hc : (⟨3, ![1, n, 1024]⟩ : Shape).ShapeCasts ⟨2, ![n, 1024]⟩) (a : Fin n) (b : Fin 1024) :
    shapeCast ⟨2, ![n, 1024]⟩ (extractStridedSlice ⟨3, ![1, n, 1024]⟩ ![o, 0, 0] x hs) hc (ix2 a b) = x (ix3 k a b) :=
  (ValueIdx.shapeCast_1ab_ab_apply _ hc a b).trans (extractStridedSlice_apply ![o, 0, 0] x hs (ix3 0 a b) (ix3 k a b) fun x => by
    match x with
    | ⟨0, _⟩ => show k.val = o + 0; omega
    | ⟨1, _⟩ => exact (Nat.zero_add a.val).symm
    | ⟨2, _⟩ => exact (Nat.zero_add b.val).symm)

/-- One of the two halves of the partial sums at an entry. -/
theorem plane4 {n : ℕ} {α : Type} (x : (⟨4, ![2, 2, n, 1024]⟩ : Shape).Idx → α) (k : Fin 2) (o : ℕ) (ho : k.val = o)
    (hs : (⟨4, ![2, 2, n, 1024]⟩ : Shape).Slices ![o, 0, 0, 0] ⟨4, ![1, 2, n, 1024]⟩) (hc : (⟨4, ![1, 2, n, 1024]⟩ : Shape).ShapeCasts ⟨3, ![2, n, 1024]⟩)
    (l : Fin 2) (a : Fin n) (b : Fin 1024) :
    shapeCast ⟨3, ![2, n, 1024]⟩ (extractStridedSlice ⟨4, ![1, 2, n, 1024]⟩ ![o, 0, 0, 0] x hs) hc (ix3 l a b) = x (ix4 k l a b) :=
  (ValueIdx.shapeCast_1abc_abc_apply _ hc l a b).trans (extractStridedSlice_apply ![o, 0, 0, 0] x hs (ix4 0 l a b) (ix4 k l a b) fun x => by
    match x with
    | ⟨0, _⟩ => show k.val = o + 0; omega
    | ⟨1, _⟩ => exact (Nat.zero_add l.val).symm
    | ⟨2, _⟩ => exact (Nat.zero_add a.val).symm
    | ⟨3, _⟩ => exact (Nat.zero_add b.val).symm)

/-- The reference's total: the device's own partial sum, chosen by its two coordinates, and the three received ones. -/
theorem total_eq {n : ℕ} (p : IVec ⟨1, ![3]⟩ 32) (s : Vec Ideal ⟨4, ![2, 2, n, 1024]⟩ .f32) (r : Vec Ideal ⟨3, ![3, n, 1024]⟩ .bf16)
    (h0 : (⟨1, ![3]⟩ : Shape).Slices ![0] ⟨1, ![1]⟩) (h1 : (⟨1, ![3]⟩ : Shape).Slices ![1] ⟨1, ![1]⟩)
    (hc : (⟨1, ![1]⟩ : Shape).ShapeCasts ⟨0, ![]⟩) (b3 : (⟨0, ![]⟩ : Shape).BroadcastsInDim ⟨3, ![2, n, 1024]⟩ ![])
    (b2 : (⟨0, ![]⟩ : Shape).BroadcastsInDim ⟨2, ![n, 1024]⟩ ![])
    (s1 : (⟨4, ![2, 2, n, 1024]⟩ : Shape).Slices ![1, 0, 0, 0] ⟨4, ![1, 2, n, 1024]⟩) (s0 : (⟨4, ![2, 2, n, 1024]⟩ : Shape).Slices ![0, 0, 0, 0] ⟨4, ![1, 2, n, 1024]⟩)
    (c4 : (⟨4, ![1, 2, n, 1024]⟩ : Shape).ShapeCasts ⟨3, ![2, n, 1024]⟩)
    (p1 : (⟨3, ![2, n, 1024]⟩ : Shape).Slices ![1, 0, 0] ⟨3, ![1, n, 1024]⟩) (p0 : (⟨3, ![2, n, 1024]⟩ : Shape).Slices ![0, 0, 0] ⟨3, ![1, n, 1024]⟩)
    (r0 : (⟨3, ![3, n, 1024]⟩ : Shape).Slices ![0, 0, 0] ⟨3, ![1, n, 1024]⟩) (r1 : (⟨3, ![3, n, 1024]⟩ : Shape).Slices ![1, 0, 0] ⟨3, ![1, n, 1024]⟩)
    (r2 : (⟨3, ![3, n, 1024]⟩ : Shape).Slices ![2, 0, 0] ⟨3, ![1, n, 1024]⟩) (c3 : (⟨3, ![1, n, 1024]⟩ : Shape).ShapeCasts ⟨2, ![n, 1024]⟩)
    (hb : FTy.bits .bf16 < FTy.bits .f32) (row : (⟨3, ![2, n, 1024]⟩ : Shape).Idx → EReal)
    (hrow : row = select (broadcastInDim ⟨3, ![2, n, 1024]⟩ ![] b3 (cmpi .sgt (shapeCast ⟨0, ![]⟩ (extractStridedSlice ⟨1, ![1]⟩ ![0] p h0) hc) (constantI ⟨0, ![]⟩ 32 0#32)))
        (shapeCast ⟨3, ![2, n, 1024]⟩ (extractStridedSlice ⟨4, ![1, 2, n, 1024]⟩ ![1, 0, 0, 0] s s1) c4)
        (shapeCast ⟨3, ![2, n, 1024]⟩ (extractStridedSlice ⟨4, ![1, 2, n, 1024]⟩ ![0, 0, 0, 0] s s0) c4)) :
    addf (F := Ideal) (φ := .f32) (addf (F := Ideal) (φ := .f32) (addf (F := Ideal) (φ := .f32)
        (select (broadcastInDim ⟨2, ![n, 1024]⟩ ![] b2 (cmpi .sgt (shapeCast ⟨0, ![]⟩ (extractStridedSlice ⟨1, ![1]⟩ ![1] p h1) hc) (constantI ⟨0, ![]⟩ 32 0#32)))
          (shapeCast ⟨2, ![n, 1024]⟩ (extractStridedSlice ⟨3, ![1, n, 1024]⟩ ![1, 0, 0] row p1) c3)
          (shapeCast ⟨2, ![n, 1024]⟩ (extractStridedSlice ⟨3, ![1, n, 1024]⟩ ![0, 0, 0] row p0) c3))
        (extf (F := Ideal) .f32 (shapeCast ⟨2, ![n, 1024]⟩ (extractStridedSlice ⟨3, ![1, n, 1024]⟩ ![0, 0, 0] r r0) c3) hb))
        (extf (F := Ideal) .f32 (shapeCast ⟨2, ![n, 1024]⟩ (extractStridedSlice ⟨3, ![1, n, 1024]⟩ ![1, 0, 0] r r1) c3) hb))
        (extf (F := Ideal) .f32 (shapeCast ⟨2, ![n, 1024]⟩ (extractStridedSlice ⟨3, ![1, n, 1024]⟩ ![2, 0, 0] r r2) c3) hb)
      = total p s r := by
  funext i
  obtain ⟨a, b, rfl⟩ : ∃ (a : Fin n) (b : Fin 1024), i = ix2 a b := ⟨i 0, i 1, eq_ix2 i⟩
  have e (l : Fin 2) : row (ix3 l a b) = s (ix4 (pick (p (ix1 0))) l a b) := by
    rw [hrow]
    exact choose p 0 0 rfl h0 hc b3 (fun k => s (ix4 k l a b)) _ _ (ix3 l a b) (plane4 s 1 1 rfl s1 c4 l a b) (plane4 s 0 0 rfl s0 c4 l a b)
  have o := choose p 1 1 rfl h1 hc b2 (fun l => s (ix4 (pick (p (ix1 0))) l a b)) _ _ (ix2 a b)
    ((plane3 row 1 1 rfl p1 c3 a b).trans (e 1)) ((plane3 row 0 0 rfl p0 c3 a b).trans (e 0))
  exact congrArg₂ (fun a b : EReal => a + b) (congrArg₂ (fun a b : EReal => a + b) (congrArg₂ (fun a b : EReal => a + b) o
    (plane3 r 0 0 rfl r0 c3 a b)) (plane3 r 1 1 rfl r1 c3 a b)) (plane3 r 2 2 rfl r2 c3 a b)

end Cert.Own.Total

namespace Cert.Reference9Ideal.Own
open Cert.Reference9Ideal Cert.Reference9Ideal.Gen Idealize.ShloMosaic Idealize.ShloMosaic.TcCoe Idealize.SL.Sem Idealize.ShloMosaic.StableHlo
open Cert.Own.Total

section ops
variable {F : FTy → Type} [FloatOps F]

/-- The operations of the up-projection's total. -/
abbrev ownUp : List (HloOp τ sig (Elt F)) :=
  [ unary main_arg0 main_v0 ((extractStridedSlice S1 ![0] · slices_S3_S1_0) : (⟨S3, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    binary main_v1 main_c main_v2 (cmpi .sgt : (⟨S_, .i32⟩ : BufTy).Contents (Elt F) → (⟨S_, .i32⟩ : BufTy).Contents (Elt F) → (⟨S_, .i1⟩ : BufTy).Contents (Elt F)),
    unary main_arg1 main_v3 ((extractStridedSlice S1x2x704x1024 ![1, 0, 0, 0] · slices_S2x2x704x1024_S1x2x704x1024_1_0_0_0) : (⟨S2x2x704x1024, .f32⟩ : BufTy).Contents (Elt F) → (⟨S1x2x704x1024, .f32⟩ : BufTy).Contents (Elt F)),
    reshape main_v3 main_v4 (rfl : (.f32 : EltTy) = .f32) shapeCasts_S1x2x704x1024_S2x704x1024,
    unary main_arg1 main_v5 ((extractStridedSlice S1x2x704x1024 ![0, 0, 0, 0] · slices_S2x2x704x1024_S1x2x704x1024_0_0_0_0) : (⟨S2x2x704x1024, .f32⟩ : BufTy).Contents (Elt F) → (⟨S1x2x704x1024, .f32⟩ : BufTy).Contents (Elt F)),
    reshape main_v5 main_v6 (rfl : (.f32 : EltTy) = .f32) shapeCasts_S1x2x704x1024_S2x704x1024,
    ternary main_v2 main_v4 main_v6 main_v7 ((fun p a b => select (broadcastInDim S2x704x1024 ![] bcast_S_S2x704x1024 p) a b) : (⟨S_, .i1⟩ : BufTy).Contents (Elt F) → (⟨S2x704x1024, .f32⟩ : BufTy).Contents (Elt F) → (⟨S2x704x1024, .f32⟩ : BufTy).Contents (Elt F) → (⟨S2x704x1024, .f32⟩ : BufTy).Contents (Elt F)),
    unary main_arg0 main_v8 ((extractStridedSlice S1 ![1] · slices_S3_S1_1) : (⟨S3, .i32⟩ : BufTy).Contents (Elt F) → (⟨S1, .i32⟩ : BufTy).Contents (Elt F)),
    reshape main_v8 main_v9 (rfl : (.i32 : EltTy) = .i32) shapeCasts_S1_S_,
    nullary main_c_0 (constantI S_ 32 0#32),
    binary main_v9 main_c_0 main_v10 (cmpi .sgt : (⟨S_, .i32⟩ : BufTy).Contents (Elt F) → (⟨S_, .i32⟩ : BufTy).Contents (Elt F) → (⟨S_, .i1⟩ : BufTy).Contents (Elt F)),
    unary main_v7 main_v11 ((extractStridedSlice S1x704x1024 ![1, 0, 0] · slices_S2x704x1024_S1x704x1024_1_0_0) : (⟨S2x704x1024, .f32⟩ : BufTy).Contents (Elt F) → (⟨S1x704x1024, .f32⟩ : BufTy).Contents (Elt F)),
    reshape main_v11 main_v12 (rfl : (.f32 : EltTy) = .f32) shapeCasts_S1x704x1024_S704x1024,
    unary main_v7 main_v13 ((extractStridedSlice S1x704x1024 ![0, 0, 0] · slices_S2x704x1024_S1x704x1024_0_0_0) : (⟨S2x704x1024, .f32⟩ : BufTy).Contents (Elt F) → (⟨S1x704x1024, .f32⟩ : BufTy).Contents (Elt F)),
    reshape main_v13 main_v14 (rfl : (.f32 : EltTy) = .f32) shapeCasts_S1x704x1024_S704x1024,
    ternary main_v10 main_v12 main_v14 main_v15 ((fun p a b => select (broadcastInDim S704x1024 ![] bcast_S_S704x1024 p) a b) : (⟨S_, .i1⟩ : BufTy).Contents (Elt F) → (⟨S704x1024, .f32⟩ : BufTy).Contents (Elt F) → (⟨S704x1024, .f32⟩ : BufTy).Contents (Elt F) → (⟨S704x1024, .f32⟩ : BufTy).Contents (Elt F)),
    unary main_arg3 main_v16 ((extractStridedSlice S1x704x1024 ![0, 0, 0] · slices_S3x704x1024_S1x704x1024_0_0_0) : (⟨S3x704x1024, .bf16⟩ : BufTy).Contents (Elt F) → (⟨S1x704x1024, .bf16⟩ : BufTy).Contents (Elt F)),
    reshape main_v16 main_v17 (rfl : (.bf16 : EltTy) = .bf16) shapeCasts_S1x704x1024_S704x1024,
    unary main_v17 main_v18 ((extf .f32 · bitsLt_bf16_f32) : (⟨S704x1024, .bf16⟩ : BufTy).Contents (Elt F) → (⟨S704x1024, .f32⟩ : BufTy).Contents (Elt F)),
    binary main_v15 main_v18 main_v19 (addf : (⟨S704x1024, .f32⟩ : BufTy).Contents (Elt F) → (⟨S704x1024, .f32⟩ : BufTy).Contents (Elt F) → (⟨S704x1024, .f32⟩ : BufTy).Contents (Elt F)),
    unary main_arg3 main_v20 ((extractStridedSlice S1x704x1024 ![1, 0, 0] · slices_S3x704x1024_S1x704x1024_1_0_0) : (⟨S3x704x1024, .bf16⟩ : BufTy).Contents (Elt F) → (⟨S1x704x1024, .bf16⟩ : BufTy).Contents (Elt F)),
    reshape main_v20 main_v21 (rfl : (.bf16 : EltTy) = .bf16) shapeCasts_S1x704x1024_S704x1024,
    unary main_v21 main_v22 ((extf .f32 · bitsLt_bf16_f32) : (⟨S704x1024, .bf16⟩ : BufTy).Contents (Elt F) → (⟨S704x1024, .f32⟩ : BufTy).Contents (Elt F)),
    binary main_v19 main_v22 main_v23 (addf : (⟨S704x1024, .f32⟩ : BufTy).Contents (Elt F) → (⟨S704x1024, .f32⟩ : BufTy).Contents (Elt F) → (⟨S704x1024, .f32⟩ : BufTy).Contents (Elt F)),
    unary main_arg3 main_v24 ((extractStridedSlice S1x704x1024 ![2, 0, 0] · slices_S3x704x1024_S1x704x1024_2_0_0) : (⟨S3x704x1024, .bf16⟩ : BufTy).Contents (Elt F) → (⟨S1x704x1024, .bf16⟩ : BufTy).Contents (Elt F)),
    reshape main_v24 main_v25 (rfl : (.bf16 : EltTy) = .bf16) shapeCasts_S1x704x1024_S704x1024,
    unary main_v25 main_v26 ((extf .f32 · bitsLt_bf16_f32) : (⟨S704x1024, .bf16⟩ : BufTy).Contents (Elt F) → (⟨S704x1024, .f32⟩ : BufTy).Contents (Elt F)),
    binary main_v23 main_v26 main_v27 (addf : (⟨S704x1024, .f32⟩ : BufTy).Contents (Elt F) → (⟨S704x1024, .f32⟩ : BufTy).Contents (Elt F) → (⟨S704x1024, .f32⟩ : BufTy).Contents (Elt F)) ]

/-- What they write. -/
abbrev ownUpW : List (Ref sig .tc) :=
  [main_v0, main_v1, main_c, main_v2, main_v3, main_v4, main_v5, main_v6, main_v7, main_v8, main_v9, main_c_0, main_v10, main_v11, main_v12, main_v13, main_v14, main_v15, main_v16, main_v17, main_v18, main_v19, main_v20, main_v21, main_v22, main_v23, main_v24, main_v25, main_v26, main_v27]

/-- The operations of the down-projection's total. -/
abbrev ownDown : List (HloOp τ sig (Elt F)) :=
  [ unary main_arg0 main_v28 ((extractStridedSlice S1 ![0] · slices_S3_S1_0) : (⟨S3, .i32⟩ : BufTy).Contents (Elt F) → (⟨S1, .i32⟩ : BufTy).Contents (Elt F)),
    reshape main_v28 main_v29 (rfl : (.i32 : EltTy) = .i32) shapeCasts_S1_S_,
    nullary main_c_1 (constantI S_ 32 0#32),
    binary main_v29 main_c_1 main_v30 (cmpi .sgt : (⟨S_, .i32⟩ : BufTy).Contents (Elt F) → (⟨S_, .i32⟩ : BufTy).Contents (Elt F) → (⟨S_, .i1⟩ : BufTy).Contents (Elt F)),
    unary main_arg2 main_v31 ((extractStridedSlice S1x2x352x1024 ![1, 0, 0, 0] · slices_S2x2x352x1024_S1x2x352x1024_1_0_0_0) : (⟨S2x2x352x1024, .f32⟩ : BufTy).Contents (Elt F) → (⟨S1x2x352x1024, .f32⟩ : BufTy).Contents (Elt F)),
    reshape main_v31 main_v32 (rfl : (.f32 : EltTy) = .f32) shapeCasts_S1x2x352x1024_S2x352x1024,
    unary main_arg2 main_v33 ((extractStridedSlice S1x2x352x1024 ![0, 0, 0, 0] · slices_S2x2x352x1024_S1x2x352x1024_0_0_0_0) : (⟨S2x2x352x1024, .f32⟩ : BufTy).Contents (Elt F) → (⟨S1x2x352x1024, .f32⟩ : BufTy).Contents (Elt F)),
    reshape main_v33 main_v34 (rfl : (.f32 : EltTy) = .f32) shapeCasts_S1x2x352x1024_S2x352x1024,
    ternary main_v30 main_v32 main_v34 main_v35 ((fun p a b => select (broadcastInDim S2x352x1024 ![] bcast_S_S2x352x1024 p) a b) : (⟨S_, .i1⟩ : BufTy).Contents (Elt F) → (⟨S2x352x1024, .f32⟩ : BufTy).Contents (Elt F) → (⟨S2x352x1024, .f32⟩ : BufTy).Contents (Elt F) → (⟨S2x352x1024, .f32⟩ : BufTy).Contents (Elt F)),
    unary main_arg0 main_v36 ((extractStridedSlice S1 ![1] · slices_S3_S1_1) : (⟨S3, .i32⟩ : BufTy).Contents (Elt F) → (⟨S1, .i32⟩ : BufTy).Contents (Elt F)),
    reshape main_v36 main_v37 (rfl : (.i32 : EltTy) = .i32) shapeCasts_S1_S_,
    nullary main_c_2 (constantI S_ 32 0#32),
    binary main_v37 main_c_2 main_v38 (cmpi .sgt : (⟨S_, .i32⟩ : BufTy).Contents (Elt F) → (⟨S_, .i32⟩ : BufTy).Contents (Elt F) → (⟨S_, .i1⟩ : BufTy).Contents (Elt F)),
    unary main_v35 main_v39 ((extractStridedSlice S1x352x1024 ![1, 0, 0] · slices_S2x352x1024_S1x352x1024_1_0_0) : (⟨S2x352x1024, .f32⟩ : BufTy).Contents (Elt F) → (⟨S1x352x1024, .f32⟩ : BufTy).Contents (Elt F)),
    reshape main_v39 main_v40 (rfl : (.f32 : EltTy) = .f32) shapeCasts_S1x352x1024_S352x1024,
    unary main_v35 main_v41 ((extractStridedSlice S1x352x1024 ![0, 0, 0] · slices_S2x352x1024_S1x352x1024_0_0_0) : (⟨S2x352x1024, .f32⟩ : BufTy).Contents (Elt F) → (⟨S1x352x1024, .f32⟩ : BufTy).Contents (Elt F)),
    reshape main_v41 main_v42 (rfl : (.f32 : EltTy) = .f32) shapeCasts_S1x352x1024_S352x1024,
    ternary main_v38 main_v40 main_v42 main_v43 ((fun p a b => select (broadcastInDim S352x1024 ![] bcast_S_S352x1024 p) a b) : (⟨S_, .i1⟩ : BufTy).Contents (Elt F) → (⟨S352x1024, .f32⟩ : BufTy).Contents (Elt F) → (⟨S352x1024, .f32⟩ : BufTy).Contents (Elt F) → (⟨S352x1024, .f32⟩ : BufTy).Contents (Elt F)),
    unary main_arg4 main_v44 ((extractStridedSlice S1x352x1024 ![0, 0, 0] · slices_S3x352x1024_S1x352x1024_0_0_0) : (⟨S3x352x1024, .bf16⟩ : BufTy).Contents (Elt F) → (⟨S1x352x1024, .bf16⟩ : BufTy).Contents (Elt F)),
    reshape main_v44 main_v45 (rfl : (.bf16 : EltTy) = .bf16) shapeCasts_S1x352x1024_S352x1024,
    unary main_v45 main_v46 ((extf .f32 · bitsLt_bf16_f32) : (⟨S352x1024, .bf16⟩ : BufTy).Contents (Elt F) → (⟨S352x1024, .f32⟩ : BufTy).Contents (Elt F)),
    binary main_v43 main_v46 main_v47 (addf : (⟨S352x1024, .f32⟩ : BufTy).Contents (Elt F) → (⟨S352x1024, .f32⟩ : BufTy).Contents (Elt F) → (⟨S352x1024, .f32⟩ : BufTy).Contents (Elt F)),
    unary main_arg4 main_v48 ((extractStridedSlice S1x352x1024 ![1, 0, 0] · slices_S3x352x1024_S1x352x1024_1_0_0) : (⟨S3x352x1024, .bf16⟩ : BufTy).Contents (Elt F) → (⟨S1x352x1024, .bf16⟩ : BufTy).Contents (Elt F)),
    reshape main_v48 main_v49 (rfl : (.bf16 : EltTy) = .bf16) shapeCasts_S1x352x1024_S352x1024,
    unary main_v49 main_v50 ((extf .f32 · bitsLt_bf16_f32) : (⟨S352x1024, .bf16⟩ : BufTy).Contents (Elt F) → (⟨S352x1024, .f32⟩ : BufTy).Contents (Elt F)),
    binary main_v47 main_v50 main_v51 (addf : (⟨S352x1024, .f32⟩ : BufTy).Contents (Elt F) → (⟨S352x1024, .f32⟩ : BufTy).Contents (Elt F) → (⟨S352x1024, .f32⟩ : BufTy).Contents (Elt F)),
    unary main_arg4 main_v52 ((extractStridedSlice S1x352x1024 ![2, 0, 0] · slices_S3x352x1024_S1x352x1024_2_0_0) : (⟨S3x352x1024, .bf16⟩ : BufTy).Contents (Elt F) → (⟨S1x352x1024, .bf16⟩ : BufTy).Contents (Elt F)),
    reshape main_v52 main_v53 (rfl : (.bf16 : EltTy) = .bf16) shapeCasts_S1x352x1024_S352x1024,
    unary main_v53 main_v54 ((extf .f32 · bitsLt_bf16_f32) : (⟨S352x1024, .bf16⟩ : BufTy).Contents (Elt F) → (⟨S352x1024, .f32⟩ : BufTy).Contents (Elt F)),
    binary main_v51 main_v54 main_v55 (addf : (⟨S352x1024, .f32⟩ : BufTy).Contents (Elt F) → (⟨S352x1024, .f32⟩ : BufTy).Contents (Elt F) → (⟨S352x1024, .f32⟩ : BufTy).Contents (Elt F)) ]

/-- What they write. -/
abbrev ownDownW : List (Ref sig .tc) :=
  [main_v28, main_v29, main_c_1, main_v30, main_v31, main_v32, main_v33, main_v34, main_v35, main_v36, main_v37, main_c_2, main_v38, main_v39, main_v40, main_v41, main_v42, main_v43, main_v44, main_v45, main_v46, main_v47, main_v48, main_v49, main_v50, main_v51, main_v52, main_v53, main_v54, main_v55]

/-- The operations of the up-projection's moments and step. -/
abbrev moveUp : List (HloOp τ sig (Elt F)) :=
  [ nullary main_cst (constant S_ .f32 0x3F666666#32),
    unary main_cst main_v56 (broadcastInDim S704x1024 ![] bcast_S_S704x1024 : (⟨S_, .f32⟩ : BufTy).Contents (Elt F) → (⟨S704x1024, .f32⟩ : BufTy).Contents (Elt F)),
    binary main_v56 main_arg7 main_v57 (mulf : (⟨S704x1024, .f32⟩ : BufTy).Contents (Elt F) → (⟨S704x1024, .f32⟩ : BufTy).Contents (Elt F) → (⟨S704x1024, .f32⟩ : BufTy).Contents (Elt F)),
    nullary main_cst_3 (constant S_ .f32 0x3DCCCCCD#32),
    unary main_cst_3 main_v58 (broadcastInDim S704x1024 ![] bcast_S_S704x1024 : (⟨S_, .f32⟩ : BufTy).Contents (Elt F) → (⟨S704x1024, .f32⟩ : BufTy).Contents (Elt F)),
    binary main_v58 main_v27 main_v59 (mulf : (⟨S704x1024, .f32⟩ : BufTy).Contents (Elt F) → (⟨S704x1024, .f32⟩ : BufTy).Contents (Elt F) → (⟨S704x1024, .f32⟩ : BufTy).Contents (Elt F)),
    binary main_v57 main_v59 main_v60 (addf : (⟨S704x1024, .f32⟩ : BufTy).Contents (Elt F) → (⟨S704x1024, .f32⟩ : BufTy).Contents (Elt F) → (⟨S704x1024, .f32⟩ : BufTy).Contents (Elt F)),
    nullary main_cst_4 (constant S_ .f32 0x3F7FBE77#32),
    unary main_cst_4 main_v61 (broadcastInDim S704x1024 ![] bcast_S_S704x1024 : (⟨S_, .f32⟩ : BufTy).Contents (Elt F) → (⟨S704x1024, .f32⟩ : BufTy).Contents (Elt F)),
    binary main_v61 main_arg9 main_v62 (mulf : (⟨S704x1024, .f32⟩ : BufTy).Contents (Elt F) → (⟨S704x1024, .f32⟩ : BufTy).Contents (Elt F) → (⟨S704x1024, .f32⟩ : BufTy).Contents (Elt F)),
    binary main_v27 main_v27 main_v63 (mulf : (⟨S704x1024, .f32⟩ : BufTy).Contents (Elt F) → (⟨S704x1024, .f32⟩ : BufTy).Contents (Elt F) → (⟨S704x1024, .f32⟩ : BufTy).Contents (Elt F)),
    nullary main_cst_5 (constant S_ .f32 0x3A83126F#32),
    unary main_cst_5 main_v64 (broadcastInDim S704x1024 ![] bcast_S_S704x1024 : (⟨S_, .f32⟩ : BufTy).Contents (Elt F) → (⟨S704x1024, .f32⟩ : BufTy).Contents (Elt F)),
    binary main_v64 main_v63 main_v65 (mulf : (⟨S704x1024, .f32⟩ : BufTy).Contents (Elt F) → (⟨S704x1024, .f32⟩ : BufTy).Contents (Elt F) → (⟨S704x1024, .f32⟩ : BufTy).Contents (Elt F)),
    binary main_v62 main_v65 main_v66 (addf : (⟨S704x1024, .f32⟩ : BufTy).Contents (Elt F) → (⟨S704x1024, .f32⟩ : BufTy).Contents (Elt F) → (⟨S704x1024, .f32⟩ : BufTy).Contents (Elt F)),
    nullary main_cst_6 (constant S_ .f32 0x3F26BD02#32),
    unary main_cst_6 main_v67 (broadcastInDim S704x1024 ![] bcast_S_S704x1024 : (⟨S_, .f32⟩ : BufTy).Contents (Elt F) → (⟨S704x1024, .f32⟩ : BufTy).Contents (Elt F)),
    binary main_v60 main_v67 main_v68 (Host.divf : (⟨S704x1024, .f32⟩ : BufTy).Contents (Elt F) → (⟨S704x1024, .f32⟩ : BufTy).Contents (Elt F) → (⟨S704x1024, .f32⟩ : BufTy).Contents (Elt F)),
    nullary main_cst_7 (constant S_ .f32 0x3C231ACC#32),
    unary main_cst_7 main_v69 (broadcastInDim S704x1024 ![] bcast_S_S704x1024 : (⟨S_, .f32⟩ : BufTy).Contents (Elt F) → (⟨S704x1024, .f32⟩ : BufTy).Contents (Elt F)),
    binary main_v66 main_v69 main_v70 (Host.divf : (⟨S704x1024, .f32⟩ : BufTy).Contents (Elt F) → (⟨S704x1024, .f32⟩ : BufTy).Contents (Elt F) → (⟨S704x1024, .f32⟩ : BufTy).Contents (Elt F)),
    unary main_v70 main_v71 (Host.sqrt : (⟨S704x1024, .f32⟩ : BufTy).Contents (Elt F) → (⟨S704x1024, .f32⟩ : BufTy).Contents (Elt F)),
    nullary main_cst_8 (constant S_ .f32 0x322BCC77#32),
    unary main_cst_8 main_v72 (broadcastInDim S704x1024 ![] bcast_S_S704x1024 : (⟨S_, .f32⟩ : BufTy).Contents (Elt F) → (⟨S704x1024, .f32⟩ : BufTy).Contents (Elt F)),
    binary main_v71 main_v72 main_v73 (addf : (⟨S704x1024, .f32⟩ : BufTy).Contents (Elt F) → (⟨S704x1024, .f32⟩ : BufTy).Contents (Elt F) → (⟨S704x1024, .f32⟩ : BufTy).Contents (Elt F)),
    binary main_v68 main_v73 main_v74 (Host.divf : (⟨S704x1024, .f32⟩ : BufTy).Contents (Elt F) → (⟨S704x1024, .f32⟩ : BufTy).Contents (Elt F) → (⟨S704x1024, .f32⟩ : BufTy).Contents (Elt F)),
    nullary main_cst_9 (constant S_ .f32 0x3C23D70A#32),
    unary main_cst_9 main_v75 (broadcastInDim S704x1024 ![] bcast_S_S704x1024 : (⟨S_, .f32⟩ : BufTy).Contents (Elt F) → (⟨S704x1024, .f32⟩ : BufTy).Contents (Elt F)),
    binary main_v75 main_arg5 main_v76 (mulf : (⟨S704x1024, .f32⟩ : BufTy).Contents (Elt F) → (⟨S704x1024, .f32⟩ : BufTy).Contents (Elt F) → (⟨S704x1024, .f32⟩ : BufTy).Contents (Elt F)),
    binary main_v74 main_v76 main_v77 (addf : (⟨S704x1024, .f32⟩ : BufTy).Contents (Elt F) → (⟨S704x1024, .f32⟩ : BufTy).Contents (Elt F) → (⟨S704x1024, .f32⟩ : BufTy).Contents (Elt F)),
    nullary main_cst_10 (constant S_ .f32 0xBA83126F#32),
    unary main_cst_10 main_v78 (broadcastInDim S704x1024 ![] bcast_S_S704x1024 : (⟨S_, .f32⟩ : BufTy).Contents (Elt F) → (⟨S704x1024, .f32⟩ : BufTy).Contents (Elt F)),
    binary main_v78 main_v77 main_v79 (mulf : (⟨S704x1024, .f32⟩ : BufTy).Contents (Elt F) → (⟨S704x1024, .f32⟩ : BufTy).Contents (Elt F) → (⟨S704x1024, .f32⟩ : BufTy).Contents (Elt F)) ]

/-- What they write. -/
abbrev moveUpW : List (Ref sig .tc) :=
  [main_cst, main_v56, main_v57, main_cst_3, main_v58, main_v59, main_v60, main_cst_4, main_v61, main_v62, main_v63, main_cst_5, main_v64, main_v65, main_v66, main_cst_6, main_v67, main_v68, main_cst_7, main_v69, main_v70, main_v71, main_cst_8, main_v72, main_v73, main_v74, main_cst_9, main_v75, main_v76, main_v77, main_cst_10, main_v78, main_v79]

/-- The operations of the down-projection's moments and step. -/
abbrev moveDown : List (HloOp τ sig (Elt F)) :=
  [ nullary main_cst_11 (constant S_ .f32 0x3F666666#32),
    unary main_cst_11 main_v80 (broadcastInDim S352x1024 ![] bcast_S_S352x1024 : (⟨S_, .f32⟩ : BufTy).Contents (Elt F) → (⟨S352x1024, .f32⟩ : BufTy).Contents (Elt F)),
    binary main_v80 main_arg8 main_v81 (mulf : (⟨S352x1024, .f32⟩ : BufTy).Contents (Elt F) → (⟨S352x1024, .f32⟩ : BufTy).Contents (Elt F) → (⟨S352x1024, .f32⟩ : BufTy).Contents (Elt F)),
    nullary main_cst_12 (constant S_ .f32 0x3DCCCCCD#32),
    unary main_cst_12 main_v82 (broadcastInDim S352x1024 ![] bcast_S_S352x1024 : (⟨S_, .f32⟩ : BufTy).Contents (Elt F) → (⟨S352x1024, .f32⟩ : BufTy).Contents (Elt F)),
    binary main_v82 main_v55 main_v83 (mulf : (⟨S352x1024, .f32⟩ : BufTy).Contents (Elt F) → (⟨S352x1024, .f32⟩ : BufTy).Contents (Elt F) → (⟨S352x1024, .f32⟩ : BufTy).Contents (Elt F)),
    binary main_v81 main_v83 main_v84 (addf : (⟨S352x1024, .f32⟩ : BufTy).Contents (Elt F) → (⟨S352x1024, .f32⟩ : BufTy).Contents (Elt F) → (⟨S352x1024, .f32⟩ : BufTy).Contents (Elt F)),
    nullary main_cst_13 (constant S_ .f32 0x3F7FBE77#32),
    unary main_cst_13 main_v85 (broadcastInDim S352x1024 ![] bcast_S_S352x1024 : (⟨S_, .f32⟩ : BufTy).Contents (Elt F) → (⟨S352x1024, .f32⟩ : BufTy).Contents (Elt F)),
    binary main_v85 main_arg10 main_v86 (mulf : (⟨S352x1024, .f32⟩ : BufTy).Contents (Elt F) → (⟨S352x1024, .f32⟩ : BufTy).Contents (Elt F) → (⟨S352x1024, .f32⟩ : BufTy).Contents (Elt F)),
    binary main_v55 main_v55 main_v87 (mulf : (⟨S352x1024, .f32⟩ : BufTy).Contents (Elt F) → (⟨S352x1024, .f32⟩ : BufTy).Contents (Elt F) → (⟨S352x1024, .f32⟩ : BufTy).Contents (Elt F)),
    nullary main_cst_14 (constant S_ .f32 0x3A83126F#32),
    unary main_cst_14 main_v88 (broadcastInDim S352x1024 ![] bcast_S_S352x1024 : (⟨S_, .f32⟩ : BufTy).Contents (Elt F) → (⟨S352x1024, .f32⟩ : BufTy).Contents (Elt F)),
    binary main_v88 main_v87 main_v89 (mulf : (⟨S352x1024, .f32⟩ : BufTy).Contents (Elt F) → (⟨S352x1024, .f32⟩ : BufTy).Contents (Elt F) → (⟨S352x1024, .f32⟩ : BufTy).Contents (Elt F)),
    binary main_v86 main_v89 main_v90 (addf : (⟨S352x1024, .f32⟩ : BufTy).Contents (Elt F) → (⟨S352x1024, .f32⟩ : BufTy).Contents (Elt F) → (⟨S352x1024, .f32⟩ : BufTy).Contents (Elt F)),
    nullary main_cst_15 (constant S_ .f32 0x3F26BD02#32),
    unary main_cst_15 main_v91 (broadcastInDim S352x1024 ![] bcast_S_S352x1024 : (⟨S_, .f32⟩ : BufTy).Contents (Elt F) → (⟨S352x1024, .f32⟩ : BufTy).Contents (Elt F)),
    binary main_v84 main_v91 main_v92 (Host.divf : (⟨S352x1024, .f32⟩ : BufTy).Contents (Elt F) → (⟨S352x1024, .f32⟩ : BufTy).Contents (Elt F) → (⟨S352x1024, .f32⟩ : BufTy).Contents (Elt F)),
    nullary main_cst_16 (constant S_ .f32 0x3C231ACC#32),
    unary main_cst_16 main_v93 (broadcastInDim S352x1024 ![] bcast_S_S352x1024 : (⟨S_, .f32⟩ : BufTy).Contents (Elt F) → (⟨S352x1024, .f32⟩ : BufTy).Contents (Elt F)),
    binary main_v90 main_v93 main_v94 (Host.divf : (⟨S352x1024, .f32⟩ : BufTy).Contents (Elt F) → (⟨S352x1024, .f32⟩ : BufTy).Contents (Elt F) → (⟨S352x1024, .f32⟩ : BufTy).Contents (Elt F)),
    unary main_v94 main_v95 (Host.sqrt : (⟨S352x1024, .f32⟩ : BufTy).Contents (Elt F) → (⟨S352x1024, .f32⟩ : BufTy).Contents (Elt F)),
    nullary main_cst_17 (constant S_ .f32 0x322BCC77#32),
    unary main_cst_17 main_v96 (broadcastInDim S352x1024 ![] bcast_S_S352x1024 : (⟨S_, .f32⟩ : BufTy).Contents (Elt F) → (⟨S352x1024, .f32⟩ : BufTy).Contents (Elt F)),
    binary main_v95 main_v96 main_v97 (addf : (⟨S352x1024, .f32⟩ : BufTy).Contents (Elt F) → (⟨S352x1024, .f32⟩ : BufTy).Contents (Elt F) → (⟨S352x1024, .f32⟩ : BufTy).Contents (Elt F)),
    binary main_v92 main_v97 main_v98 (Host.divf : (⟨S352x1024, .f32⟩ : BufTy).Contents (Elt F) → (⟨S352x1024, .f32⟩ : BufTy).Contents (Elt F) → (⟨S352x1024, .f32⟩ : BufTy).Contents (Elt F)),
    nullary main_cst_18 (constant S_ .f32 0x3C23D70A#32),
    unary main_cst_18 main_v99 (broadcastInDim S352x1024 ![] bcast_S_S352x1024 : (⟨S_, .f32⟩ : BufTy).Contents (Elt F) → (⟨S352x1024, .f32⟩ : BufTy).Contents (Elt F)),
    binary main_v99 main_arg6 main_v100 (mulf : (⟨S352x1024, .f32⟩ : BufTy).Contents (Elt F) → (⟨S352x1024, .f32⟩ : BufTy).Contents (Elt F) → (⟨S352x1024, .f32⟩ : BufTy).Contents (Elt F)),
    binary main_v98 main_v100 main_v101 (addf : (⟨S352x1024, .f32⟩ : BufTy).Contents (Elt F) → (⟨S352x1024, .f32⟩ : BufTy).Contents (Elt F) → (⟨S352x1024, .f32⟩ : BufTy).Contents (Elt F)),
    nullary main_cst_19 (constant S_ .f32 0xBA83126F#32),
    unary main_cst_19 main_v102 (broadcastInDim S352x1024 ![] bcast_S_S352x1024 : (⟨S_, .f32⟩ : BufTy).Contents (Elt F) → (⟨S352x1024, .f32⟩ : BufTy).Contents (Elt F)),
    binary main_v102 main_v101 main_v103 (mulf : (⟨S352x1024, .f32⟩ : BufTy).Contents (Elt F) → (⟨S352x1024, .f32⟩ : BufTy).Contents (Elt F) → (⟨S352x1024, .f32⟩ : BufTy).Contents (Elt F)) ]

/-- What they write. -/
abbrev moveDownW : List (Ref sig .tc) :=
  [main_cst_11, main_v80, main_v81, main_cst_12, main_v82, main_v83, main_v84, main_cst_13, main_v85, main_v86, main_v87, main_cst_14, main_v88, main_v89, main_v90, main_cst_15, main_v91, main_v92, main_cst_16, main_v93, main_v94, main_v95, main_cst_17, main_v96, main_v97, main_v98, main_cst_18, main_v99, main_v100, main_v101, main_cst_19, main_v102, main_v103]

/-- The reference is its four stretches, one after the other. -/
abbrev all : List (HloOp τ sig (Elt F)) := ownUp ++ (ownDown ++ (moveUp ++ moveDown))

set_option maxRecDepth 8192 in
set_option maxHeartbeats 4000000 in
/-- The reference's program is the list of its stretches' operations. -/
theorem main_all (c : Dev nD) : main (F := F) c = seq all := rfl
/-- The reference scopes no buffer. -/
theorem no_refs : (Finset.univ.filter fun b : Ref sig .tc => b.isScoped) = ∅ := by decide
/-- It scopes no semaphore. -/
theorem no_sems : (Finset.univ.filter fun sm : SemLoc sig => sm.isScoped .tc) = ∅ := by decide
set_option maxRecDepth 8192 in
/-- Its operations stay in its buffers. -/
theorem all_sub : (all : List (HloOp τ sig (Elt F))).Forall fun op => op.bufs ⊆ tcRefs τ sig :=
  ⟨unary_bufs_sub .., reshape_bufs_sub .., nullary_bufs_sub .., binary_bufs_sub .., unary_bufs_sub .., reshape_bufs_sub .., unary_bufs_sub .., reshape_bufs_sub .., ternary_bufs_sub .., unary_bufs_sub .., reshape_bufs_sub .., nullary_bufs_sub .., binary_bufs_sub .., unary_bufs_sub .., reshape_bufs_sub .., unary_bufs_sub .., reshape_bufs_sub .., ternary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., nullary_bufs_sub .., binary_bufs_sub .., unary_bufs_sub .., reshape_bufs_sub .., unary_bufs_sub .., reshape_bufs_sub .., ternary_bufs_sub .., unary_bufs_sub .., reshape_bufs_sub .., nullary_bufs_sub .., binary_bufs_sub .., unary_bufs_sub .., reshape_bufs_sub .., unary_bufs_sub .., reshape_bufs_sub .., ternary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- Two stretches, one after the other. -/
theorem after_two (a b : List (HloOp τ sig (Elt F))) (V : Valuation τ sig (Elt F)) : after (a ++ b) V = after b (after a V) := by
  induction a generalizing V with
  | nil => rfl
  | cons op l ih => exact ih _

variable (V : Valuation τ sig (Elt F)) {r : Ref sig .tc}

/-- What the stretch does not write it leaves as it was. -/
theorem ownUp_keeps (h : r ∉ ownUpW) : after ownUp V (Proc.devRef .tc r) = V (Proc.devRef .tc r) :=
  after_unwritten ownUpW rfl h V

/-- What the stretch does not write it leaves as it was. -/
theorem ownDown_keeps (h : r ∉ ownDownW) : after ownDown V (Proc.devRef .tc r) = V (Proc.devRef .tc r) :=
  after_unwritten ownDownW rfl h V

/-- What the stretch does not write it leaves as it was. -/
theorem moveUp_keeps (h : r ∉ moveUpW) : after moveUp V (Proc.devRef .tc r) = V (Proc.devRef .tc r) :=
  after_unwritten moveUpW rfl h V

/-- What the stretch does not write it leaves as it was. -/
theorem moveDown_keeps (h : r ∉ moveDownW) : after moveDown V (Proc.devRef .tc r) = V (Proc.devRef .tc r) :=
  after_unwritten moveDownW rfl h V

end ops

section value
variable (V : Valuation τ sig (Elt Ideal))

/-- The up-projection's total. -/
theorem ownUp_total : (after ownUp V (Proc.devRef .tc main_v27) : FVec Ideal S704x1024 .f32)
    = total (n := 704) (V (Proc.devRef .tc main_arg0)) (V (Proc.devRef .tc main_arg1)) (V (Proc.devRef .tc main_arg3)) := by
  simp only [ownUp]
  after_results_simp
  exact total_eq (n := 704) _ _ _ slices_S3_S1_0 slices_S3_S1_1 shapeCasts_S1_S_ bcast_S_S2x704x1024 bcast_S_S704x1024 slices_S2x2x704x1024_S1x2x704x1024_1_0_0_0
    slices_S2x2x704x1024_S1x2x704x1024_0_0_0_0 shapeCasts_S1x2x704x1024_S2x704x1024 slices_S2x704x1024_S1x704x1024_1_0_0 slices_S2x704x1024_S1x704x1024_0_0_0
    slices_S3x704x1024_S1x704x1024_0_0_0 slices_S3x704x1024_S1x704x1024_1_0_0 slices_S3x704x1024_S1x704x1024_2_0_0 shapeCasts_S1x704x1024_S704x1024 bitsLt_bf16_f32 _ rfl

/-- Its first moment. -/
theorem moveUp_first : (after moveUp V (Proc.devRef .tc main_v60) : FVec Ideal S704x1024 .f32) = first (s := S704x1024) (V (Proc.devRef .tc main_arg7)) (V (Proc.devRef .tc main_v27)) := by
  simp only [moveUp]
  after_results_simp
  rfl

/-- Its second moment. -/
theorem moveUp_second : (after moveUp V (Proc.devRef .tc main_v66) : FVec Ideal S704x1024 .f32) = second (s := S704x1024) (V (Proc.devRef .tc main_arg9)) (V (Proc.devRef .tc main_v27)) := by
  simp only [moveUp]
  after_results_simp
  rfl

/-- Its step. -/
theorem moveUp_step : (after moveUp V (Proc.devRef .tc main_v79) : FVec Ideal S704x1024 .f32) = step (s := S704x1024) (V (Proc.devRef .tc main_arg5)) (V (Proc.devRef .tc main_v27)) (V (Proc.devRef .tc main_arg7)) (V (Proc.devRef .tc main_arg9)) := by
  simp only [moveUp]
  after_results_simp
  rfl

/-- The down-projection's total. -/
theorem ownDown_total : (after ownDown V (Proc.devRef .tc main_v55) : FVec Ideal S352x1024 .f32)
    = total (n := 352) (V (Proc.devRef .tc main_arg0)) (V (Proc.devRef .tc main_arg2)) (V (Proc.devRef .tc main_arg4)) := by
  simp only [ownDown]
  after_results_simp
  exact total_eq (n := 352) _ _ _ slices_S3_S1_0 slices_S3_S1_1 shapeCasts_S1_S_ bcast_S_S2x352x1024 bcast_S_S352x1024 slices_S2x2x352x1024_S1x2x352x1024_1_0_0_0
    slices_S2x2x352x1024_S1x2x352x1024_0_0_0_0 shapeCasts_S1x2x352x1024_S2x352x1024 slices_S2x352x1024_S1x352x1024_1_0_0 slices_S2x352x1024_S1x352x1024_0_0_0
    slices_S3x352x1024_S1x352x1024_0_0_0 slices_S3x352x1024_S1x352x1024_1_0_0 slices_S3x352x1024_S1x352x1024_2_0_0 shapeCasts_S1x352x1024_S352x1024 bitsLt_bf16_f32 _ rfl

/-- Its first moment. -/
theorem moveDown_first : (after moveDown V (Proc.devRef .tc main_v84) : FVec Ideal S352x1024 .f32) = first (s := S352x1024) (V (Proc.devRef .tc main_arg8)) (V (Proc.devRef .tc main_v55)) := by
  simp only [moveDown]
  after_results_simp
  rfl

/-- Its second moment. -/
theorem moveDown_second : (after moveDown V (Proc.devRef .tc main_v90) : FVec Ideal S352x1024 .f32) = second (s := S352x1024) (V (Proc.devRef .tc main_arg10)) (V (Proc.devRef .tc main_v55)) := by
  simp only [moveDown]
  after_results_simp
  rfl

/-- Its step. -/
theorem moveDown_step : (after moveDown V (Proc.devRef .tc main_v103) : FVec Ideal S352x1024 .f32) = step (s := S352x1024) (V (Proc.devRef .tc main_arg6)) (V (Proc.devRef .tc main_v55)) (V (Proc.devRef .tc main_arg8)) (V (Proc.devRef .tc main_arg10)) := by
  simp only [moveDown]
  after_results_simp
  rfl

/-- The contents once both totals are formed. -/
abbrev mid : Valuation τ sig (Elt Ideal) := after ownDown (after ownUp V)

/-- The totals' stretches leave what they do not write. -/
theorem mid_keeps {r : Ref sig .tc} (h : r ∉ ownUpW) (h' : r ∉ ownDownW) : mid V (Proc.devRef .tc r) = V (Proc.devRef .tc r) :=
  (ownDown_keeps _ h').trans (ownUp_keeps V h)

/-- The up-projection's total, once both totals are formed. -/
theorem mid_up : (mid V (Proc.devRef .tc main_v27) : FVec Ideal S704x1024 .f32)
    = total (n := 704) (V (Proc.devRef .tc main_arg0)) (V (Proc.devRef .tc main_arg1)) (V (Proc.devRef .tc main_arg3)) :=
  (ownDown_keeps _ (by decide)).trans (ownUp_total V)

/-- The down-projection's total, once both totals are formed. -/
theorem mid_down : (mid V (Proc.devRef .tc main_v55) : FVec Ideal S352x1024 .f32)
    = total (n := 352) (V (Proc.devRef .tc main_arg0)) (V (Proc.devRef .tc main_arg2)) (V (Proc.devRef .tc main_arg4)) := by
  rw [mid, ownDown_total, ownUp_keeps V (r := main_arg0) (by decide), ownUp_keeps V (r := main_arg2) (by decide), ownUp_keeps V (r := main_arg4) (by decide)]

/-- What the last stretch does not write is as the up-projection's left it. -/
theorem all_up {r : Ref sig .tc} (h : r ∉ moveDownW) : after all V (Proc.devRef .tc r) = after moveUp (mid V) (Proc.devRef .tc r) := by
  rw [all, after_two, after_two, after_two]
  exact moveDown_keeps _ h

/-- What neither of the last two writes is as the totals left it. -/
theorem all_mid {r : Ref sig .tc} (h : r ∉ moveDownW) (h' : r ∉ moveUpW) : after all V (Proc.devRef .tc r) = mid V (Proc.devRef .tc r) :=
  (all_up V h).trans (moveUp_keeps _ h')

/-- What no stretch writes is as it was. -/
theorem all_keeps {r : Ref sig .tc} (h : r ∉ moveDownW) (h' : r ∉ moveUpW) (a : r ∉ ownUpW) (b : r ∉ ownDownW) :
    after all V (Proc.devRef .tc r) = V (Proc.devRef .tc r) :=
  (all_mid V h h').trans (mid_keeps V a b)

/-- The last stretch is run from what the up-projection's left. -/
theorem all_down (r : Ref sig .tc) : after all V (Proc.devRef .tc r) = after moveDown (after moveUp (mid V)) (Proc.devRef .tc r) := by
  rw [all, after_two, after_two, after_two]

/-- The up-projection's stretch leaves an argument of the last one. -/
theorem up_keeps {r : Ref sig .tc} (h' : r ∉ moveUpW) (a : r ∉ ownUpW) (b : r ∉ ownDownW) :
    after moveUp (mid V) (Proc.devRef .tc r) = V (Proc.devRef .tc r) :=
  (moveUp_keeps _ h').trans (mid_keeps V a b)

/-- The down-projection's total, as the last stretch finds it. -/
theorem up_down : (after moveUp (mid V) (Proc.devRef .tc main_v55) : FVec Ideal S352x1024 .f32)
    = total (n := 352) (V (Proc.devRef .tc main_arg0)) (V (Proc.devRef .tc main_arg2)) (V (Proc.devRef .tc main_arg4)) :=
  (moveUp_keeps _ (by decide)).trans (mid_down V)

end value

variable (m : (ℓ : Loc nD τ sig) → Buf (Elt Ideal) ℓ) (c : Dev nD)

/-- The device's place. -/
abbrev argP : IVec S3 32 := m ((c : Thread nD τ).loc main_arg0)
/-- The total of the up-projection's gradient. -/
abbrev totalUp : FVec Ideal S704x1024 .f32 := total (n := 704) (argP m c) (m ((c : Thread nD τ).loc main_arg1)) (m ((c : Thread nD τ).loc main_arg3))
/-- The total of the down-projection's gradient. -/
abbrev totalDown : FVec Ideal S352x1024 .f32 := total (n := 352) (argP m c) (m ((c : Thread nD τ).loc main_arg2)) (m ((c : Thread nD τ).loc main_arg4))

/-- The run leaves the totals, the steps and the moments of the two weights, and the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v27) = (totalUp m c : FVec Ideal S704x1024 .f32)
      ∧ r.2.mem ((c : Thread nD τ).loc main_v79) = (step (m ((c : Thread nD τ).loc main_arg5)) (totalUp m c) (m ((c : Thread nD τ).loc main_arg7)) (m ((c : Thread nD τ).loc main_arg9)) : FVec Ideal S704x1024 .f32)
      ∧ r.2.mem ((c : Thread nD τ).loc main_v60) = (first (m ((c : Thread nD τ).loc main_arg7)) (totalUp m c) : FVec Ideal S704x1024 .f32)
      ∧ r.2.mem ((c : Thread nD τ).loc main_v66) = (second (m ((c : Thread nD τ).loc main_arg9)) (totalUp m c) : FVec Ideal S704x1024 .f32)
      ∧ r.2.mem ((c : Thread nD τ).loc main_v55) = (totalDown m c : FVec Ideal S352x1024 .f32)
      ∧ r.2.mem ((c : Thread nD τ).loc main_v103) = (step (m ((c : Thread nD τ).loc main_arg6)) (totalDown m c) (m ((c : Thread nD τ).loc main_arg8)) (m ((c : Thread nD τ).loc main_arg10)) : FVec Ideal S352x1024 .f32)
      ∧ r.2.mem ((c : Thread nD τ).loc main_v84) = (first (m ((c : Thread nD τ).loc main_arg8)) (totalDown m c) : FVec Ideal S352x1024 .f32)
      ∧ r.2.mem ((c : Thread nD τ).loc main_v90) = (second (m ((c : Thread nD τ).loc main_arg10)) (totalDown m c) : FVec Ideal S352x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c main_v27).trans ((all_mid (launchContents m c) (by decide) (by decide)).trans (mid_up _)),
      (h c main_v79).trans (((all_up (launchContents m c) (by decide)).trans (moveUp_step _)).trans (by rw [mid_up, mid_keeps (launchContents m c) (r := main_arg5) (by decide) (by decide), mid_keeps (launchContents m c) (r := main_arg7) (by decide) (by decide), mid_keeps (launchContents m c) (r := main_arg9) (by decide) (by decide)])),
      (h c main_v60).trans (((all_up (launchContents m c) (by decide)).trans (moveUp_first _)).trans (by rw [mid_up, mid_keeps (launchContents m c) (r := main_arg7) (by decide) (by decide)])),
      (h c main_v66).trans (((all_up (launchContents m c) (by decide)).trans (moveUp_second _)).trans (by rw [mid_up, mid_keeps (launchContents m c) (r := main_arg9) (by decide) (by decide)])),
      (h c main_v55).trans ((all_mid (launchContents m c) (by decide) (by decide)).trans (mid_down _)),
      (h c main_v103).trans (((all_down (launchContents m c) _).trans (moveDown_step _)).trans (by rw [up_down, up_keeps (launchContents m c) (r := main_arg6) (by decide) (by decide) (by decide), up_keeps (launchContents m c) (r := main_arg8) (by decide) (by decide) (by decide), up_keeps (launchContents m c) (r := main_arg10) (by decide) (by decide) (by decide)])),
      (h c main_v84).trans (((all_down (launchContents m c) _).trans (moveDown_first _)).trans (by rw [up_down, up_keeps (launchContents m c) (r := main_arg8) (by decide) (by decide) (by decide)])),
      (h c main_v90).trans (((all_down (launchContents m c) _).trans (moveDown_second _)).trans (by rw [up_down, up_keeps (launchContents m c) (r := main_arg10) (by decide) (by decide) (by decide)])),
      (h c main_arg0).trans (all_keeps _ (by decide) (by decide) (by decide) (by decide)),
      (h c main_arg1).trans (all_keeps _ (by decide) (by decide) (by decide) (by decide)),
      (h c main_arg2).trans (all_keeps _ (by decide) (by decide) (by decide) (by decide)),
      (h c main_arg3).trans (all_keeps _ (by decide) (by decide) (by decide) (by decide)),
      (h c main_arg4).trans (all_keeps _ (by decide) (by decide) (by decide) (by decide)),
      (h c main_arg5).trans (all_keeps _ (by decide) (by decide) (by decide) (by decide)),
      (h c main_arg6).trans (all_keeps _ (by decide) (by decide) (by decide) (by decide)),
      (h c main_arg7).trans (all_keeps _ (by decide) (by decide) (by decide) (by decide)),
      (h c main_arg8).trans (all_keeps _ (by decide) (by decide) (by decide) (by decide)),
      (h c main_arg9).trans (all_keeps _ (by decide) (by decide) (by decide) (by decide)),
      (h c main_arg10).trans (all_keeps _ (by decide) (by decide) (by decide) (by decide))⟩)
    (run_seq no_refs no_sems defs main (fun _ => all) main_all (fun _ => all_sub) m ρ)

end Cert.Reference9Ideal.Own

namespace Cert.Own
open Idealize.ShloMosaic Idealize.ShloMosaic.TcCoe Idealize.SL.Sem

/-- On equal arguments the kernel and the reference of the gradients' totals and the update of the two weights leave equal
    totals, steps and moments. -/
theorem algebraic_total : Cert.algebraic_Kernel9Ideal_Reference9Ideal := by
  intro m g m' g' _ hargs
  refine ⟨_, _, _, _, _, _, _, _, Cert.Kernel9Ideal.Own.run m g, ?_⟩
  refine (θ_run _ _ _).mono (fun r h c => ?_) (Cert.Reference9Ideal.Own.run m' g')
  have a := hargs c
  have e := h c
  simp only [a, Cert.Reference9Ideal.Own.totalUp, Cert.Reference9Ideal.Own.totalDown] at e
  simp only [a, Cert.Kernel9Ideal.Own.totalUp, Cert.Kernel9Ideal.Own.totalDown]
  exact e

end Cert.Own
-- ==== Proof.lean ====
/-
  The claims of the certificate. The kernel is the backward step of the feed-forward sub-layer: from the cotangent of
  the sub-layer's result it computes the cotangents of the input, of the up- and the down-projection, of the modulation
  rows, the gains, the convolution's taps and bias, in one launch over tiles of the sequence taken from the last to the
  first. Its frame, at any float values, is one theorem, cited at the words and at the extended reals. The value claim
  (`Cert.Own.algebraic`) compares its nine results with the product rule's derivative of the plain forward pass: both are
  the formulas of `Cert.Own.Spec`. The second kernel sums the up-projection's gradient over the sequence; its value claim
  (`Cert.Own.algebraic_wgrad`) compares it with the one contraction of the cotangent with the input. The third is the
  forward step of the same sub-layer with the loss; its value claim (`Cert.Own.algebraic_fwd`) compares its five results
  with the plain forward pass and the loss's derivative. The fourth to the eighth are the optimiser's launch at two
  weights each, with the modulation's weight and the loss; their value claims (`Cert.Own.algebraic_update` and the four
  beside it) compare them with the plain optimiser's step, a derivative and the plain loss. The ninth adds the device's
  partial sum of a gradient to the received ones and moves two weights by the total; its value claim
  (`Cert.Own.algebraic_total`) compares it with the plain sum and the plain optimiser's step.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.IdealFrame
public import proofs.«01_k».proof.Proof.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Wgrad
public import proofs.«01_k».proof.Proof.FwdRef
public import proofs.«01_k».proof.Proof.Update
public import proofs.«01_k».proof.Proof.Total
public import proofs.«01_k».proof.Proof.Stages
public import Idealize.ShloMosaic.Adequacy
public import Idealize.ShloMosaic.Init

@[expose] public section

-- the two programs are compared statement by statement
set_option maxHeartbeats 8000000

noncomputable section

namespace Cert.Proof

open Idealize.ShloMosaic Idealize.SL.Sem

/-- The two body tables are one: at the one label, the two kernel functions of the same text at the same buffers. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀))
    (funext fun l => funext fun a => ?_)
  match l, a with
  | 0, (t, s) =>
    dsimp only
    rfl

/-- The two programs' tables, with the launch's region and pipeline, are one. -/
theorem defs_eq : Cert.Kernel.defs (F := Bits) = Cert.KernelIdeal.defs (F := Bits) := by
  unfold Cert.Kernel.defs Cert.KernelIdeal.defs
  exact congrArg (Pipeline.defs (Cert.Kernel.pcfgs (F := Bits))) bodies_eq

/-- The two host programs are one. -/
theorem main_eq : Cert.Kernel.main (F := Bits) = Cert.KernelIdeal.main (F := Bits) := rfl

/-- The kernel over words runs, leaves its arguments and returns every counter to zero, from any memory: the two
    programs have one text, so this is the idealized kernel's run read at the words. -/
theorem frame_kernel : Cert.quiescent_Kernel := by
  intro m ρ _
  rw [defs_eq, main_eq]
  exact Cert.KernelIdeal.Own.frame (F := Bits) m ρ

/-- The idealized kernel runs, leaves its arguments and returns every counter to zero, from any memory. -/
theorem frame_ideal : Cert.quiescent_KernelIdeal := fun m ρ _ => Cert.KernelIdeal.Own.frame (F := Ideal) m ρ

/-- The reference runs, leaves its arguments and returns every counter to zero, from any memory. -/
theorem frame_reference : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- The second kernel over words runs, leaves its arguments and returns every counter to zero, from any memory. -/
theorem frame_kernel2 : Cert.quiescent_Kernel2 := fun m ρ _ => Cert.Kernel2.Gen.frame m ρ

/-- The second kernel, idealized, runs, leaves its arguments and returns every counter to zero, from any memory. -/
theorem frame_ideal2 : Cert.quiescent_Kernel2Ideal := fun m ρ _ => Cert.Kernel2Ideal.Gen.frame m ρ

/-- The second reference runs, leaves its arguments and returns every counter to zero, from any memory. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The third kernel over words runs, leaves its arguments and returns every counter to zero, from any memory. -/
theorem frame_kernel3 : Cert.quiescent_Kernel3 := fun m ρ _ => Cert.Kernel3.Gen.frame m ρ

/-- The third kernel, idealized, runs, leaves its arguments and returns every counter to zero, from any memory. -/
theorem frame_ideal3 : Cert.quiescent_Kernel3Ideal := fun m ρ _ => Cert.Kernel3Ideal.Gen.frame m ρ

/-- The third reference runs, leaves its arguments and returns every counter to zero, from any memory. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The fourth kernel over words runs, leaves its arguments and returns every counter to zero, from any memory. -/
theorem frame_kernel4 : Cert.quiescent_Kernel4 := fun m ρ _ => Cert.Kernel4.Gen.frame m ρ

/-- The fourth kernel, idealized, runs, leaves its arguments and returns every counter to zero, from any memory. -/
theorem frame_ideal4 : Cert.quiescent_Kernel4Ideal := fun m ρ _ => Cert.Kernel4Ideal.Gen.frame m ρ

/-- The fourth reference runs, leaves its arguments and returns every counter to zero, from any memory. -/
theorem frame_reference4 : Cert.quiescent_Reference4Ideal := fun m ρ _ =>
  (θ_run Cert.Reference4Ideal.defs _ _).mono
    (fun r h => ⟨fun c => (h c).2.2.2.2.2.2.2.2.2.2.2.2.2, sem_eq_zero_of_no_sems (by decide) r.2⟩)
    (Cert.Reference4Ideal.Value.run (F := Ideal) m ρ)

/-- The fifth kernel over words runs, leaves its arguments and returns every counter to zero, from any memory. -/
theorem frame_kernel5 : Cert.quiescent_Kernel5 := fun m ρ _ => Cert.Kernel5.Gen.frame m ρ

/-- The fifth kernel, idealized, runs, leaves its arguments and returns every counter to zero, from any memory. -/
theorem frame_ideal5 : Cert.quiescent_Kernel5Ideal := fun m ρ _ => Cert.Kernel5Ideal.Gen.frame m ρ

/-- The fifth reference runs, leaves its arguments and returns every counter to zero, from any memory. -/
theorem frame_reference5 : Cert.quiescent_Reference5Ideal := fun m ρ _ =>
  (θ_run Cert.Reference5Ideal.defs _ _).mono
    (fun r h => ⟨fun c => (h c).2.2.2.2.2.2.2.2.2.2.2.2.2, sem_eq_zero_of_no_sems (by decide) r.2⟩)
    (Cert.Reference5Ideal.Value.run (F := Ideal) m ρ)

/-- The sixth kernel over words runs, leaves its arguments and returns every counter to zero, from any memory. -/
theorem frame_kernel6 : Cert.quiescent_Kernel6 := fun m ρ _ => Cert.Kernel6.Gen.frame m ρ

/-- The sixth kernel, idealized, runs, leaves its arguments and returns every counter to zero, from any memory. -/
theorem frame_ideal6 : Cert.quiescent_Kernel6Ideal := fun m ρ _ => Cert.Kernel6Ideal.Gen.frame m ρ

/-- The sixth reference runs, leaves its arguments and returns every counter to zero, from any memory. -/
theorem frame_reference6 : Cert.quiescent_Reference6Ideal := fun m ρ _ =>
  (θ_run Cert.Reference6Ideal.defs _ _).mono
    (fun r h => ⟨fun c => (h c).2.2.2.2.2.2.2.2.2.2.2.2.2, sem_eq_zero_of_no_sems (by decide) r.2⟩)
    (Cert.Reference6Ideal.Value.run (F := Ideal) m ρ)

/-- The seventh kernel over words runs, leaves its arguments and returns every counter to zero, from any memory. -/
theorem frame_kernel7 : Cert.quiescent_Kernel7 := fun m ρ _ => Cert.Kernel7.Gen.frame m ρ

/-- The seventh kernel, idealized, runs, leaves its arguments and returns every counter to zero, from any memory. -/
theorem frame_ideal7 : Cert.quiescent_Kernel7Ideal := fun m ρ _ => Cert.Kernel7Ideal.Gen.frame m ρ

/-- The seventh reference runs, leaves its arguments and returns every counter to zero, from any memory. -/
theorem frame_reference7 : Cert.quiescent_Reference7Ideal := fun m ρ _ =>
  (θ_run Cert.Reference7Ideal.defs _ _).mono
    (fun r h => ⟨fun c => (h c).2.2.2.2.2.2.2.2.2.2.2.2.2, sem_eq_zero_of_no_sems (by decide) r.2⟩)
    (Cert.Reference7Ideal.Value.run (F := Ideal) m ρ)

/-- The eighth kernel over words runs, leaves its arguments and returns every counter to zero, from any memory. -/
theorem frame_kernel8 : Cert.quiescent_Kernel8 := fun m ρ _ => Cert.Kernel8.Gen.frame m ρ

/-- The eighth kernel, idealized, runs, leaves its arguments and returns every counter to zero, from any memory. -/
theorem frame_ideal8 : Cert.quiescent_Kernel8Ideal := fun m ρ _ => Cert.Kernel8Ideal.Gen.frame m ρ

/-- The eighth reference runs, leaves its arguments and returns every counter to zero, from any memory. -/
theorem frame_reference8 : Cert.quiescent_Reference8Ideal := fun m ρ _ =>
  (θ_run Cert.Reference8Ideal.defs _ _).mono
    (fun r h => ⟨fun c => (h c).2.2.2.2.2.2.2.2.2.2.2.2.2, sem_eq_zero_of_no_sems (by decide) r.2⟩)
    (Cert.Reference8Ideal.Value.run (F := Ideal) m ρ)

/-- The ninth kernel over words runs, leaves its arguments and returns every counter to zero, from any memory. -/
theorem frame_kernel9 : Cert.quiescent_Kernel9 := fun m ρ _ => Cert.Kernel9.Gen.frame m ρ (Cert.Kernel9.Own.ok m)

/-- The ninth kernel, idealized, runs, leaves its arguments and returns every counter to zero, from any memory. -/
theorem frame_ideal9 : Cert.quiescent_Kernel9Ideal := fun m ρ _ => Cert.Kernel9Ideal.Gen.frame m ρ (Cert.Kernel9Ideal.Own.ok m)

/-- The ninth reference runs, leaves its arguments and returns every counter to zero, from any memory. -/
theorem frame_reference9 : Cert.quiescent_Reference9Ideal := fun m ρ _ =>
  (θ_run Cert.Reference9Ideal.defs _ _).mono
    (fun r h => ⟨fun c => (h c).2.2.2.2.2.2.2.2, sem_eq_zero_of_no_sems (by decide) r.2⟩)
    (Cert.Reference9Ideal.Own.run m ρ)

/-- Every claim of the certificate: the nine programs' frames, their kernels kept by idealization, and their values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, frame_kernel, frame_ideal, fun m ρ _ => frame_ideal m ρ trivial, frame_reference,
  fun m ρ _ => frame_reference m ρ trivial, frame_kernel2, frame_ideal2, frame_reference2, frame_kernel3, frame_ideal3,
  frame_reference3, frame_kernel4, frame_ideal4, frame_reference4,
  frame_kernel5, frame_ideal5, frame_reference5, frame_kernel6, frame_ideal6, frame_reference6,
  frame_kernel7, frame_ideal7, frame_reference7, frame_kernel8, frame_ideal8, frame_reference8,
  frame_kernel9, frame_ideal9, frame_reference9,
  trivial, Cert.Own.algebraic, trivial, Cert.Own.algebraic_wgrad, trivial, Cert.Own.algebraic_fwd, trivial,
  Cert.Own.algebraic_update, trivial, Cert.Own.algebraic_update_b_ada, trivial, Cert.Own.algebraic_update_spatial, trivial,
  Cert.Own.algebraic_update_conv, trivial, Cert.Own.algebraic_update_pool_scale, trivial, Cert.Own.algebraic_total⟩

end Cert.Proof

end
